-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v62) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v12)) (v1 : (c : Dev Cert.Kernel9Ideal.nD) → Buf (Elt Ideal) ((c.tc : Thread Cert.Kernel9Ideal.nD Cert.Kernel9Ideal.τ).loc Cert.Kernel9Ideal.main_v16)) (v2 : (c : Dev Cert.Kernel9Ideal.nD) → Buf (Elt Ideal) ((c.tc : Thread Cert.Kernel9Ideal.nD Cert.Kernel9Ideal.τ).loc Cert.Kernel9Ideal.main_v20)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = v0 c
          ∧ r.2.mem ((c.tc : Thread Cert.Kernel9Ideal.nD Cert.Kernel9Ideal.τ).loc Cert.Kernel9Ideal.main_v16) = v1 c
          ∧ r.2.mem ((c.tc : Thread Cert.Kernel9Ideal.nD Cert.Kernel9Ideal.τ).loc Cert.Kernel9Ideal.main_v20) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v2_0) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v15)) (v1 : (c : Dev Cert.Kernel10Ideal.nD) → Buf (Elt Ideal) ((c.tc : Thread Cert.Kernel10Ideal.nD Cert.Kernel10Ideal.τ).loc Cert.Kernel10Ideal.main_v19)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_v19) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S2x4x16400x64 : Shape := ⟨4, ![2, 4, 16400, 64]⟩
abbrev S2x16400x64 : Shape := ⟨3, ![2, 16400, 64]⟩
abbrev S16400x512 : Shape := ⟨2, ![16400, 512]⟩
abbrev S_ : Shape := ⟨0, ![]⟩

class Facts : Prop where
  bcast_S_S2x4x16400x64 : S_.BroadcastsInDim S2x4x16400x64 (![] : Fin 0 → Fin S2x4x16400x64.rank)
  bcast_S_S2x16400x64 : S_.BroadcastsInDim S2x16400x64 (![] : Fin 0 → Fin S2x16400x64.rank)
  bcast_S_S16400x512 : S_.BroadcastsInDim S16400x512 (![] : Fin 0 → Fin S16400x512.rank)

variable [Facts]

def fn {F : FTy → Type} [FloatOps F] (main_arg0 : FVec F S2x4x16400x64 .f32) (main_arg1 : FVec F S2x16400x64 .f32) (main_arg2 : FVec F S2x16400x64 .f32) (main_arg3 : FVec F S16400x512 .f32) : IVec S2x4x16400x64 1 × IVec S2x16400x64 1 × IVec S2x16400x64 1 × IVec S16400x512 1 :=
  let main_v0 : FVec F S2x4x16400x64 .f32 := Host.absf main_arg0
  let main_cst : FVec F S_ .f32 := constant S_ .f32 0x7F800000#32
  let main_v1 : FVec F S2x4x16400x64 .f32 := broadcastInDim S2x4x16400x64 ![] bcast_S_S2x4x16400x64 main_cst
  let main_v2 : IVec S2x4x16400x64 1 := cmpf .olt main_v0 main_v1
  let main_v3 : FVec F S2x16400x64 .f32 := Host.absf main_arg1
  let main_cst_0 : FVec F S_ .f32 := constant S_ .f32 0x7F800000#32
  let main_v4 : FVec F S2x16400x64 .f32 := broadcastInDim S2x16400x64 ![] bcast_S_S2x16400x64 main_cst_0
  let main_v5 : IVec S2x16400x64 1 := cmpf .olt main_v3 main_v4
  let main_v6 : FVec F S2x16400x64 .f32 := Host.absf main_arg2
  let main_cst_1 : FVec F S_ .f32 := constant S_ .f32 0x7F800000#32
  let main_v7 : FVec F S2x16400x64 .f32 := broadcastInDim S2x16400x64 ![] bcast_S_S2x16400x64 main_cst_1
  let main_v8 : IVec S2x16400x64 1 := cmpf .olt main_v6 main_v7
  let main_v9 : FVec F S16400x512 .f32 := Host.absf main_arg3
  let main_cst_2 : FVec F S_ .f32 := constant S_ .f32 0x7F800000#32
  let main_v10 : FVec F S16400x512 .f32 := broadcastInDim S16400x512 ![] bcast_S_S16400x512 main_cst_2
  let main_v11 : IVec S16400x512 1 := cmpf .olt main_v9 main_v10
  (main_v2, main_v5, main_v8, main_v11)
-- ==== Kernel.lean ====
abbrev S2x4x16400x64 : Shape := ⟨4, ![2, 4, 16400, 64]⟩
abbrev S2x16400x64 : Shape := ⟨3, ![2, 16400, 64]⟩
abbrev S16400x512 : Shape := ⟨2, ![16400, 512]⟩
abbrev S2x4x16400x16400 : Shape := ⟨4, ![2, 4, 16400, 16400]⟩
abbrev S_ : Shape := ⟨0, ![]⟩
abbrev S2x4x16400 : Shape := ⟨3, ![2, 4, 16400]⟩
abbrev S2x4x16400x1 : Shape := ⟨4, ![2, 4, 16400, 1]⟩
abbrev S16400x2x4x64 : Shape := ⟨4, ![16400, 2, 4, 64]⟩
abbrev S2x4x16400x2x1x32 : Shape := ⟨6, ![2, 4, 16400, 2, 1, 32]⟩
abbrev S2x4x16400x2x2x32 : Shape := ⟨6, ![2, 4, 16400, 2, 2, 32]⟩
abbrev S8x16400x128 : Shape := ⟨3, ![8, 16400, 128]⟩
abbrev S8x16896x128 : Shape := ⟨3, ![8, 16896, 128]⟩
abbrev S2x16400x2x32 : Shape := ⟨4, ![2, 16400, 2, 32]⟩
abbrev S16400x2x2x32 : Shape := ⟨4, ![16400, 2, 2, 32]⟩
abbrev S16400x128 : Shape := ⟨2, ![16400, 128]⟩
abbrev S16896x128 : Shape := ⟨2, ![16896, 128]⟩
abbrev S2x16896x128 : Shape := ⟨3, ![2, 16896, 128]⟩
abbrev S8x128x16896 : Shape := ⟨3, ![8, 128, 16896]⟩
abbrev S33x512x128 : Shape := ⟨3, ![33, 512, 128]⟩
abbrev S33x128x512 : Shape := ⟨3, ![33, 128, 512]⟩
abbrev S16896x512 : Shape := ⟨2, ![16896, 512]⟩
abbrev S2x4x16896 : Shape := ⟨3, ![2, 4, 16896]⟩
abbrev S8x1x16896 : Shape := ⟨3, ![8, 1, 16896]⟩
abbrev S4x384x128 : Shape := ⟨3, ![4, 384, 128]⟩
abbrev S4x128x384 : Shape := ⟨3, ![4, 128, 384]⟩
abbrev S384x256 : Shape := ⟨2, ![384, 256]⟩
abbrev S4x1x384 : Shape := ⟨3, ![4, 1, 384]⟩
abbrev S128x1536 : Shape := ⟨2, ![128, 1536]⟩
abbrev S3 : Shape := ⟨1, ![3]⟩
abbrev S1 : Shape := ⟨1, ![1]⟩
abbrev S1x16896x128 : Shape := ⟨3, ![1, 16896, 128]⟩
abbrev S1x128x384 : Shape := ⟨3, ![1, 128, 384]⟩
abbrev S128x384 : Shape := ⟨2, ![128, 384]⟩
abbrev S256x384 : Shape := ⟨2, ![256, 384]⟩
abbrev S64x384 : Shape := ⟨2, ![64, 384]⟩
abbrev S64x1536 : Shape := ⟨2, ![64, 1536]⟩
abbrev S1536 : Shape := ⟨1, ![1536]⟩
abbrev S1x1536 : Shape := ⟨2, ![1, 1536]⟩
abbrev S1536x128 : Shape := ⟨2, ![1536, 128]⟩
abbrev S1x1x384 : Shape := ⟨3, ![1, 1, 384]⟩
abbrev S1x384 : Shape := ⟨2, ![1, 384]⟩
abbrev S512x128 : Shape := ⟨2, ![512, 128]⟩
abbrev S1x128x512 : Shape := ⟨3, ![1, 128, 512]⟩
abbrev S128x512 : Shape := ⟨2, ![128, 512]⟩
abbrev S512x1536 : Shape := ⟨2, ![512, 1536]⟩
abbrev S2x16400x128 : Shape := ⟨3, ![2, 16400, 128]⟩
abbrev S2x16400x2x2x32 : Shape := ⟨5, ![2, 16400, 2, 2, 32]⟩
abbrev S1x4x16400x2x1x32 : Shape := ⟨6, ![1, 4, 16400, 2, 1, 32]⟩
abbrev S1x4x16400x2x32 : Shape := ⟨5, ![1, 4, 16400, 2, 32]⟩
abbrev S2x4x16400x2x32 : Shape := ⟨5, ![2, 4, 16400, 2, 32]⟩
abbrev S1x16400x2x1x32 : Shape := ⟨5, ![1, 16400, 2, 1, 32]⟩
abbrev S1x16400x2x32 : Shape := ⟨4, ![1, 16400, 2, 32]⟩

abbrev nBuf : Space → Nat
  | .hbm => 81
  | .vmem => 18
  | .smem => 0
  | _ => 0

abbrev bufTy : (tb : Table) → Fin (tcTables nBuf tb) → BufTy
  | .hbm, ⟨0, _⟩ => ⟨S2x4x16400x64, .f32⟩
  | .hbm, ⟨1, _⟩ => ⟨S2x16400x64, .f32⟩
  | .hbm, ⟨2, _⟩ => ⟨S2x16400x64, .f32⟩
  | .hbm, ⟨3, _⟩ => ⟨S16400x512, .f32⟩
  | .hbm, ⟨4, _⟩ => ⟨S2x4x16400x16400, .f32⟩
  | .hbm, ⟨5, _⟩ => ⟨S_, .f32⟩
  | .hbm, ⟨6, _⟩ => ⟨S2x4x16400x16400, .f32⟩
  | .hbm, ⟨7, _⟩ => ⟨S2x4x16400x16400, .f32⟩
  | .hbm, ⟨8, _⟩ => ⟨S_, .f32⟩
  | .hbm, ⟨9, _⟩ => ⟨S2x4x16400, .f32⟩
  | .hbm, ⟨10, _⟩ => ⟨S2x4x16400x1, .f32⟩
  | .hbm, ⟨11, _⟩ => ⟨S2x4x16400x16400, .f32⟩
  | .hbm, ⟨12, _⟩ => ⟨S2x4x16400x16400, .f32⟩
  | .hbm, ⟨13, _⟩ => ⟨S2x4x16400x16400, .f32⟩
  | .hbm, ⟨14, _⟩ => ⟨S_, .f32⟩
  | .hbm, ⟨15, _⟩ => ⟨S2x4x16400, .f32⟩
  | .hbm, ⟨16, _⟩ => ⟨S2x4x16400, .f32⟩
  | .hbm, ⟨17, _⟩ => ⟨S2x4x16400, .f32⟩
  | .hbm, ⟨18, _⟩ => ⟨S2x4x16400x1, .f32⟩
  | .hbm, ⟨19, _⟩ => ⟨S2x4x16400x16400, .f32⟩
  | .hbm, ⟨20, _⟩ => ⟨S2x4x16400x16400, .f32⟩
  | .hbm, ⟨21, _⟩ => ⟨S2x4x16400x64, .f32⟩
  | .hbm, ⟨22, _⟩ => ⟨S16400x2x4x64, .f32⟩
  | .hbm, ⟨23, _⟩ => ⟨S16400x512, .f32⟩
  | .hbm, ⟨24, _⟩ => ⟨S_, .f32⟩
  | .hbm, ⟨25, _⟩ => ⟨S2x4x16400x64, .f32⟩
  | .hbm, ⟨26, _⟩ => ⟨S2x4x16400x64, .f32⟩
  | .hbm, ⟨27, _⟩ => ⟨S2x4x16400x64, .bf16⟩
  | .hbm, ⟨28, _⟩ => ⟨S2x4x16400x2x1x32, .bf16⟩
  | .hbm, ⟨29, _⟩ => ⟨S2x4x16400x2x2x32, .i32⟩
  | .hbm, ⟨30, _⟩ => ⟨S2x4x16400x2x2x32, .i32⟩
  | .hbm, ⟨31, _⟩ => ⟨S2x4x16400x2x2x32, .i1⟩
  | .hbm, ⟨32, _⟩ => ⟨S2x4x16400x2x2x32, .bf16⟩
  | .hbm, ⟨33, _⟩ => ⟨S_, .bf16⟩
  | .hbm, ⟨34, _⟩ => ⟨S2x4x16400x2x2x32, .bf16⟩
  | .hbm, ⟨35, _⟩ => ⟨S2x4x16400x2x2x32, .bf16⟩
  | .hbm, ⟨36, _⟩ => ⟨S8x16400x128, .bf16⟩
  | .hbm, ⟨37, _⟩ => ⟨S_, .bf16⟩
  | .hbm, ⟨38, _⟩ => ⟨S8x16896x128, .bf16⟩
  | .hbm, ⟨39, _⟩ => ⟨S2x16400x64, .bf16⟩
  | .hbm, ⟨40, _⟩ => ⟨S2x16400x2x32, .bf16⟩
  | .hbm, ⟨41, _⟩ => ⟨S16400x2x2x32, .bf16⟩
  | .hbm, ⟨42, _⟩ => ⟨S16400x128, .bf16⟩
  | .hbm, ⟨43, _⟩ => ⟨S_, .bf16⟩
  | .hbm, ⟨44, _⟩ => ⟨S16896x128, .bf16⟩
  | .hbm, ⟨45, _⟩ => ⟨S2x16400x64, .bf16⟩
  | .hbm, ⟨46, _⟩ => ⟨S_, .bf16⟩
  | .hbm, ⟨47, _⟩ => ⟨S2x16896x128, .bf16⟩
  | .hbm, ⟨48, _⟩ => ⟨S8x128x16896, .bf16⟩
  | .hbm, ⟨49, _⟩ => ⟨S33x512x128, .bf16⟩
  | .hbm, ⟨50, _⟩ => ⟨S33x128x512, .bf16⟩
  | .hbm, ⟨51, _⟩ => ⟨S_, .f32⟩
  | .hbm, ⟨52, _⟩ => ⟨S16896x512, .f32⟩
  | .hbm, ⟨53, _⟩ => ⟨S_, .f32⟩
  | .hbm, ⟨54, _⟩ => ⟨S16896x512, .f32⟩
  | .hbm, ⟨55, _⟩ => ⟨S_, .f32⟩
  | .hbm, ⟨56, _⟩ => ⟨S2x4x16896, .f32⟩
  | .hbm, ⟨57, _⟩ => ⟨S8x1x16896, .f32⟩
  | .hbm, ⟨58, _⟩ => ⟨S8x16896x128, .f32⟩
  | .hbm, ⟨59, _⟩ => ⟨S2x16896x128, .f32⟩
  | .hbm, ⟨60, _⟩ => ⟨S2x16896x128, .f32⟩
  | .hbm, ⟨61, _⟩ => ⟨S8x16400x128, .f32⟩
  | .hbm, ⟨62, _⟩ => ⟨S2x4x16400x2x2x32, .f32⟩
  | .hbm, ⟨63, _⟩ => ⟨S2x16400x128, .f32⟩
  | .hbm, ⟨64, _⟩ => ⟨S2x16400x2x2x32, .f32⟩
  | .hbm, ⟨65, _⟩ => ⟨S1x4x16400x2x1x32, .f32⟩
  | .hbm, ⟨66, _⟩ => ⟨S1x4x16400x2x32, .f32⟩
  | .hbm, ⟨67, _⟩ => ⟨S1x4x16400x2x1x32, .f32⟩
  | .hbm, ⟨68, _⟩ => ⟨S1x4x16400x2x32, .f32⟩
  | .hbm, ⟨69, _⟩ => ⟨S2x4x16400x2x32, .f32⟩
  | .hbm, ⟨70, _⟩ => ⟨S2x4x16400x64, .f32⟩
  | .hbm, ⟨71, _⟩ => ⟨S_, .f32⟩
  | .hbm, ⟨72, _⟩ => ⟨S2x4x16400x64, .f32⟩
  | .hbm, ⟨73, _⟩ => ⟨S2x4x16400x64, .f32⟩
  | .hbm, ⟨74, _⟩ => ⟨S1x16400x2x1x32, .f32⟩
  | .hbm, ⟨75, _⟩ => ⟨S1x16400x2x32, .f32⟩
  | .hbm, ⟨76, _⟩ => ⟨S1x16400x2x1x32, .f32⟩
  | .hbm, ⟨77, _⟩ => ⟨S1x16400x2x32, .f32⟩
  | .hbm, ⟨78, _⟩ => ⟨S2x16400x2x32, .f32⟩
  | .hbm, ⟨79, _⟩ => ⟨S2x16400x64, .f32⟩
  | .hbm, ⟨80, _⟩ => ⟨S2x16400x64, .f32⟩
  | .local _ .vmem, ⟨0, _⟩ => ⟨S4x384x128, .bf16⟩
  | .local _ .vmem, ⟨1, _⟩ => ⟨S4x384x128, .bf16⟩
  | .local _ .vmem, ⟨2, _⟩ => ⟨S4x128x384, .bf16⟩
  | .local _ .vmem, ⟨3, _⟩ => ⟨S4x128x384, .bf16⟩
  | .local _ .vmem, ⟨4, _⟩ => ⟨S384x256, .f32⟩
  | .local _ .vmem, ⟨5, _⟩ => ⟨S384x256, .f32⟩
  | .local _ .vmem, ⟨6, _⟩ => ⟨S384x256, .f32⟩
  | .local _ .vmem, ⟨7, _⟩ => ⟨S384x256, .f32⟩
  | .local _ .vmem, ⟨8, _⟩ => ⟨S4x1x384, .f32⟩
  | .local _ .vmem, ⟨9, _⟩ => ⟨S4x1x384, .f32⟩
  | .local _ .vmem, ⟨10, _⟩ => ⟨S4x384x128, .f32⟩
  | .local _ .vmem, ⟨11, _⟩ => ⟨S4x384x128, .f32⟩
  | .local _ .vmem, ⟨12, _⟩ => ⟨S16896x128, .bf16⟩
  | .local _ .vmem, ⟨13, _⟩ => ⟨S33x128x512, .bf16⟩
  | .local _ .vmem, ⟨14, _⟩ => ⟨S16896x128, .bf16⟩
  | .local _ .vmem, ⟨15, _⟩ => ⟨S16896x128, .f32⟩
  | .local _ .vmem, ⟨16, _⟩ => ⟨S16896x128, .f32⟩
  | .local _ .vmem, ⟨17, _⟩ => ⟨S128x1536, .f32⟩
  | _, _ => ⟨S2x4x16400x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 44], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_69 : BitVec 32 := 0#32
  let c0_i32_70 : BitVec 32 := 0#32
  ![arg0.toNat, 0, 0]
@[reducible] def k0_t1_loop : Scf.Loop 32 :=
  let c1_i32 : BitVec 32 := 1#32
  let c32_i32 : BitVec 32 := 32#32
  let v97 : BitVec 32 := Scalar.addi c1_i32 c32_i32
  let c1_i32_59 : BitVec 32 := 1#32
  ⟨c1_i32, v97, c1_i32_59⟩
def k0_mult1 (k0_t1 : Fin k0_t1_loop.trips) : BitVec 32 :=
  let c1_i32 : BitVec 32 := 1#32
  let c1_i32_59 : BitVec 32 := 1#32
  let arg20 : BitVec 32 := Scf.iv c1_i32 c1_i32_59 k0_t1
  let c512_i32 : BitVec 32 := 512#32
  let v105 : BitVec 32 := Scalar.muli arg20 c512_i32
  v105
def k0_off2 (k0_t1 : Fin k0_t1_loop.trips) : Fin 2 → Nat :=
  let c1_i32 : BitVec 32 := 1#32
  let c1_i32_59 : BitVec 32 := 1#32
  let arg20 : BitVec 32 := Scf.iv c1_i32 c1_i32_59 k0_t1
  let c512_i32 : BitVec 32 := 512#32
  let v105 : BitVec 32 := Scalar.muli arg20 c512_i32
  let v106 : BitVec 32 := v105
  let v107 : Index := Scalar.indexCast v106
  let c0_67 : Index := 0#32
  ![v107.toNat, 0]
def k0_off3 (k0_t1 : Fin k0_t1_loop.trips) : Fin 3 → Nat :=
  let c1_i32 : BitVec 32 := 1#32
  let c1_i32_59 : BitVec 32 := 1#32
  let arg20 : BitVec 32 := Scf.iv c1_i32 c1_i32_59 k0_t1
  let v109 : Index := Scalar.indexCast arg20
  let c0_68 : Index := 0#32
  let c0_69 : Index := 0#32
  ![v109.toNat, 0, 0]
def k0_cond2 (i : grid0.Coords) : BitVec 1 :=
  let arg1 : BitVec 32 := BitVec.ofNat 32 (i 1).val
  let c43_i32 : BitVec 32 := 43#32
  let v102 : BitVec 1 := Scalar.cmpi .eq arg1 c43_i32
  let v103 : BitVec 32 := Scalar.extui v102
  let c0_i32_66 : BitVec 32 := 0#32
  let v104 : BitVec 1 := Scalar.cmpi .ne v103 c0_i32_66
  v104

def k0_off4 (i : grid0.Coords) : Fin 3 → Nat :=
  let arg0 : BitVec 32 := BitVec.ofNat 32 (i 0).val
  let c0_i32_68 : BitVec 32 := 0#32
  let c0_i32_69 : BitVec 32 := 0#32
  ![arg0.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4x16400x64 : Shape := ⟨4, ![2, 4, 16400, 64]⟩
abbrev S2x16400x64 : Shape := ⟨3, ![2, 16400, 64]⟩
abbrev S16400x512 : Shape := ⟨2, ![16400, 512]⟩
abbrev S2x4x16400x16400 : Shape := ⟨4, ![2, 4, 16400, 16400]⟩
abbrev S_ : Shape := ⟨0, ![]⟩
abbrev S2x4x16400 : Shape := ⟨3, ![2, 4, 16400]⟩
abbrev S2x4x16400x1 : Shape := ⟨4, ![2, 4, 16400, 1]⟩
abbrev S16400x2x4x64 : Shape := ⟨4, ![16400, 2, 4, 64]⟩
abbrev S2x64x16400 : Shape := ⟨3, ![2, 64, 16400]⟩

abbrev nBuf : Space → Nat
  | .hbm => 73
  | .vmem => 0
  | .smem => 0
  | _ => 0

abbrev bufTy : (tb : Table) → Fin (tcTables nBuf tb) → BufTy
  | .hbm, ⟨0, _⟩ => ⟨S2x4x16400x64, .f32⟩
  | .hbm, ⟨1, _⟩ => ⟨S2x16400x64, .f32⟩
  | .hbm, ⟨2, _⟩ => ⟨S2x16400x64, .f32⟩
  | .hbm, ⟨3, _⟩ => ⟨S16400x512, .f32⟩
  | .hbm, ⟨4, _⟩ => ⟨S2x4x16400x16400, .f32⟩
  | .hbm, ⟨5, _⟩ => ⟨S_, .f32⟩
  | .hbm, ⟨6, _⟩ => ⟨S2x4x16400x16400, .f32⟩
  | .hbm, ⟨7, _⟩ => ⟨S2x4x16400x16400, .f32⟩
  | .hbm, ⟨8, _⟩ => ⟨S_, .f32⟩
  | .hbm, ⟨9, _⟩ => ⟨S2x4x16400, .f32⟩
  | .hbm, ⟨10, _⟩ => ⟨S2x4x16400x1, .f32⟩
  | .hbm, ⟨11, _⟩ => ⟨S2x4x16400x16400, .f32⟩
  | .hbm, ⟨12, _⟩ => ⟨S2x4x16400x16400, .i1⟩
  | .hbm, ⟨13, _⟩ => ⟨S2x4x16400x16400, .f32⟩
  | .hbm, ⟨14, _⟩ => ⟨S_, .f32⟩
  | .hbm, ⟨15, _⟩ => ⟨S2x4x16400, .f32⟩
  | .hbm, ⟨16, _⟩ => ⟨S_, .f32⟩
  | .hbm, ⟨17, _⟩ => ⟨S2x4x16400, .f32⟩
  | .hbm, ⟨18, _⟩ => ⟨S2x4x16400, .f32⟩
  | .hbm, ⟨19, _⟩ => ⟨S_, .f32⟩
  | .hbm, ⟨20, _⟩ => ⟨S2x4x16400, .f32⟩
  | .hbm, ⟨21, _⟩ => ⟨S2x4x16400, .i1⟩
  | .hbm, ⟨22, _⟩ => ⟨S_, .f32⟩
  | .hbm, ⟨23, _⟩ => ⟨S2x4x16400, .f32⟩
  | .hbm, ⟨24, _⟩ => ⟨S2x4x16400, .i1⟩
  | .hbm, ⟨25, _⟩ => ⟨S_, .f32⟩
  | .hbm, ⟨26, _⟩ => ⟨S2x4x16400, .f32⟩
  | .hbm, ⟨27, _⟩ => ⟨S_, .f32⟩
  | .hbm, ⟨28, _⟩ => ⟨S2x4x16400, .f32⟩
  | .hbm, ⟨29, _⟩ => ⟨S_, .f32⟩
  | .hbm, ⟨30, _⟩ => ⟨S2x4x16400, .f32⟩
  | .hbm, ⟨31, _⟩ => ⟨S2x4x16400, .f32⟩
  | .hbm, ⟨32, _⟩ => ⟨S2x4x16400, .f32⟩
  | .hbm, ⟨33, _⟩ => ⟨S2x4x16400x1, .f32⟩
  | .hbm, ⟨34, _⟩ => ⟨S2x4x16400x16400, .f32⟩
  | .hbm, ⟨35, _⟩ => ⟨S2x4x16400x16400, .f32⟩
  | .hbm, ⟨36, _⟩ => ⟨S2x4x16400x16400, .f32⟩
  | .hbm, ⟨37, _⟩ => ⟨S_, .f32⟩
  | .hbm, ⟨38, _⟩ => ⟨S2x4x16400, .f32⟩
  | .hbm, ⟨39, _⟩ => ⟨S2x4x16400x1, .f32⟩
  | .hbm, ⟨40, _⟩ => ⟨S2x4x16400x16400, .f32⟩
  | .hbm, ⟨41, _⟩ => ⟨S2x4x16400x16400, .f32⟩
  | .hbm, ⟨42, _⟩ => ⟨S2x4x16400x1, .f32⟩
  | .hbm, ⟨43, _⟩ => ⟨S_, .f32⟩
  | .hbm, ⟨44, _⟩ => ⟨S2x4x16400x1, .f32⟩
  | .hbm, ⟨45, _⟩ => ⟨S2x4x16400x1, .f32⟩
  | .hbm, ⟨46, _⟩ => ⟨S2x4x16400x64, .f32⟩
  | .hbm, ⟨47, _⟩ => ⟨S16400x2x4x64, .f32⟩
  | .hbm, ⟨48, _⟩ => ⟨S16400x512, .f32⟩
  | .hbm, ⟨49, _⟩ => ⟨S16400x2x4x64, .f32⟩
  | .hbm, ⟨50, _⟩ => ⟨S2x4x16400x64, .f32⟩
  | .hbm, ⟨51, _⟩ => ⟨S2x64x16400, .f32⟩
  | .hbm, ⟨52, _⟩ => ⟨S2x16400x64, .f32⟩
  | .hbm, ⟨53, _⟩ => ⟨S2x4x16400x16400, .f32⟩
  | .hbm, ⟨54, _⟩ => ⟨S2x4x16400x16400, .f32⟩
  | .hbm, ⟨55, _⟩ => ⟨S2x4x16400x16400, .f32⟩
  | .hbm, ⟨56, _⟩ => ⟨S2x4x16400x16400, .f32⟩
  | .hbm, ⟨57, _⟩ => ⟨S_, .f32⟩
  | .hbm, ⟨58, _⟩ => ⟨S2x4x16400, .f32⟩
  | .hbm, ⟨59, _⟩ => ⟨S2x4x16400x1, .f32⟩
  | .hbm, ⟨60, _⟩ => ⟨S2x4x16400x1, .f32⟩
  | .hbm, ⟨61, _⟩ => ⟨S2x4x16400x16400, .f32⟩
  | .hbm, ⟨62, _⟩ => ⟨S2x4x16400x16400, .f32⟩
  | .hbm, ⟨63, _⟩ => ⟨S_, .f32⟩
  | .hbm, ⟨64, _⟩ => ⟨S2x4x16400, .f32⟩
  | .hbm, ⟨65, _⟩ => ⟨S2x4x16400x16400, .f32⟩
  | .hbm, ⟨66, _⟩ => ⟨S2x4x16400x16400, .f32⟩
  | .hbm, ⟨67, _⟩ => ⟨S2x4x16400x16400, .f32⟩
  | .hbm, ⟨68, _⟩ => ⟨S_, .f32⟩
  | .hbm, ⟨69, _⟩ => ⟨S2x4x16400x16400, .f32⟩
  | .hbm, ⟨70, _⟩ => ⟨S2x4x16400x16400, .f32⟩
  | .hbm, ⟨71, _⟩ => ⟨S2x16400x64, .f32⟩
  | .hbm, ⟨72, _⟩ => ⟨S2x4x16400x64, .f32⟩
  | _, _ => ⟨S2x4x16400x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel2.lean ====
abbrev S16400x2816 : Shape := ⟨2, ![16400, 2816]⟩
abbrev S1024x2816 : Shape := ⟨2, ![1024, 2816]⟩
abbrev S_ : Shape := ⟨0, ![]⟩
abbrev S16896x2816 : Shape := ⟨2, ![16896, 2816]⟩
abbrev S16896x4x704 : Shape := ⟨3, ![16896, 4, 704]⟩
abbrev S4x16896x704 : Shape := ⟨3, ![4, 16896, 704]⟩
abbrev S1024x4x704 : Shape := ⟨3, ![1024, 4, 704]⟩
abbrev S4x1024x704 : Shape := ⟨3, ![4, 1024, 704]⟩
abbrev S16896x1024 : Shape := ⟨2, ![16896, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S16400x1024 : Shape := ⟨2, ![16400, 1024]⟩

abbrev nBuf : Space → Nat
  | .hbm => 22
  | .vmem => 8
  | .smem => 0
  | _ => 0

abbrev bufTy : (tb : Table) → Fin (tcTables nBuf tb) → BufTy
  | .hbm, ⟨0, _⟩ => ⟨S16400x2816, .f32⟩
  | .hbm, ⟨1, _⟩ => ⟨S16400x2816, .f32⟩
  | .hbm, ⟨2, _⟩ => ⟨S1024x2816, .f32⟩
  | .hbm, ⟨3, _⟩ => ⟨S1024x2816, .f32⟩
  | .hbm, ⟨4, _⟩ => ⟨S16400x2816, .bf16⟩
  | .hbm, ⟨5, _⟩ => ⟨S_, .bf16⟩
  | .hbm, ⟨6, _⟩ => ⟨S16896x2816, .bf16⟩
  | .hbm, ⟨7, _⟩ => ⟨S16896x4x704, .bf16⟩
  | .hbm, ⟨8, _⟩ => ⟨S4x16896x704, .bf16⟩
  | .hbm, ⟨9, _⟩ => ⟨S16400x2816, .bf16⟩
  | .hbm, ⟨10, _⟩ => ⟨S_, .bf16⟩
  | .hbm, ⟨11, _⟩ => ⟨S16896x2816, .bf16⟩
  | .hbm, ⟨12, _⟩ => ⟨S16896x4x704, .bf16⟩
  | .hbm, ⟨13, _⟩ => ⟨S4x16896x704, .bf16⟩
  | .hbm, ⟨14, _⟩ => ⟨S1024x2816, .bf16⟩
  | .hbm, ⟨15, _⟩ => ⟨S1024x4x704, .bf16⟩
  | .hbm, ⟨16, _⟩ => ⟨S4x1024x704, .bf16⟩
  | .hbm, ⟨17, _⟩ => ⟨S1024x2816, .bf16⟩
  | .hbm, ⟨18, _⟩ => ⟨S1024x4x704, .bf16⟩
  | .hbm, ⟨19, _⟩ => ⟨S4x1024x704, .bf16⟩
  | .hbm, ⟨20, _⟩ => ⟨S16896x1024, .f32⟩
  | .hbm, ⟨21, _⟩ => ⟨S16400x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | _, _ => ⟨S16400x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16400x2816 : Shape := ⟨2, ![16400, 2816]⟩
abbrev S1024x2816 : Shape := ⟨2, ![1024, 2816]⟩
abbrev S_ : Shape := ⟨0, ![]⟩
abbrev S16400x1024 : Shape := ⟨2, ![16400, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16400x2816, .f32⟩
  | .hbm, ⟨1, _⟩ => ⟨S16400x2816, .f32⟩
  | .hbm, ⟨2, _⟩ => ⟨S1024x2816, .f32⟩
  | .hbm, ⟨3, _⟩ => ⟨S1024x2816, .f32⟩
  | .hbm, ⟨4, _⟩ => ⟨S_, .f32⟩
  | .hbm, ⟨5, _⟩ => ⟨S16400x1024, .f32⟩
  | .hbm, ⟨6, _⟩ => ⟨S16400x2816, .f32⟩
  | .hbm, ⟨7, _⟩ => ⟨S16400x2816, .f32⟩
  | .hbm, ⟨8, _⟩ => ⟨S16400x1024, .f32⟩
  | .hbm, ⟨9, _⟩ => ⟨S16400x1024, .f32⟩
  | .hbm, ⟨10, _⟩ => ⟨S16400x1024, .f32⟩
  | _, _ => ⟨S16400x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel3.lean ====
abbrev S16400x1024 : Shape := ⟨2, ![16400, 1024]⟩
abbrev S16400x2816 : Shape := ⟨2, ![16400, 2816]⟩
abbrev S_ : Shape := ⟨0, ![]⟩
abbrev S16896x1024 : Shape := ⟨2, ![16896, 1024]⟩
abbrev S16896x2816 : Shape := ⟨2, ![16896, 2816]⟩
abbrev S16896x4x704 : Shape := ⟨3, ![16896, 4, 704]⟩
abbrev S4x16896x704 : Shape := ⟨3, ![4, 16896, 704]⟩
abbrev S4x1024x704 : Shape := ⟨3, ![4, 1024, 704]⟩
abbrev S512x1024 : Shape := ⟨2, ![512, 1024]⟩
abbrev S4x512x704 : Shape := ⟨3, ![4, 512, 704]⟩
abbrev S1024x512 : Shape := ⟨2, ![1024, 512]⟩
abbrev S1x1024x704 : Shape := ⟨3, ![1, 1024, 704]⟩
abbrev S1024x704 : Shape := ⟨2, ![1024, 704]⟩
abbrev S1x512x704 : Shape := ⟨3, ![1, 512, 704]⟩
abbrev S512x704 : Shape := ⟨2, ![512, 704]⟩
abbrev S1024x4x704 : Shape := ⟨3, ![1024, 4, 704]⟩
abbrev S1024x2816 : Shape := ⟨2, ![1024, 2816]⟩

abbrev nBuf : Space → Nat
  | .hbm => 13
  | .vmem => 5
  | .smem => 0
  | _ => 0

abbrev bufTy : (tb : Table) → Fin (tcTables nBuf tb) → BufTy
  | .hbm, ⟨0, _⟩ => ⟨S16400x1024, .f32⟩
  | .hbm, ⟨1, _⟩ => ⟨S16400x2816, .f32⟩
  | .hbm, ⟨2, _⟩ => ⟨S16400x1024, .bf16⟩
  | .hbm, ⟨3, _⟩ => ⟨S_, .bf16⟩
  | .hbm, ⟨4, _⟩ => ⟨S16896x1024, .bf16⟩
  | .hbm, ⟨5, _⟩ => ⟨S16400x2816, .bf16⟩
  | .hbm, ⟨6, _⟩ => ⟨S_, .bf16⟩
  | .hbm, ⟨7, _⟩ => ⟨S16896x2816, .bf16⟩
  | .hbm, ⟨8, _⟩ => ⟨S16896x4x704, .bf16⟩
  | .hbm, ⟨9, _⟩ => ⟨S4x16896x704, .bf16⟩
  | .hbm, ⟨10, _⟩ => ⟨S4x1024x704, .f32⟩
  | .hbm, ⟨11, _⟩ => ⟨S1024x4x704, .f32⟩
  | .hbm, ⟨12, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S16400x1024 : Shape := ⟨2, ![16400, 1024]⟩
abbrev S16400x2816 : Shape := ⟨2, ![16400, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x2816, .f32⟩
  | .hbm, ⟨2, _⟩ => ⟨S_, .f32⟩
  | .hbm, ⟨3, _⟩ => ⟨S1024x2816, .f32⟩
  | .hbm, ⟨4, _⟩ => ⟨S16400x2816, .f32⟩
  | .hbm, ⟨5, _⟩ => ⟨S2816x1024, .f32⟩
  | .hbm, ⟨6, _⟩ => ⟨S1024x2816, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16400x2816 : Shape := ⟨2, ![16400, 2816]⟩
abbrev S16400x1024 : Shape := ⟨2, ![16400, 1024]⟩
abbrev S_ : Shape := ⟨0, ![]⟩
abbrev S16896x1024 : Shape := ⟨2, ![16896, 1024]⟩
abbrev S16896x2816 : Shape := ⟨2, ![16896, 2816]⟩
abbrev S16896x4x704 : Shape := ⟨3, ![16896, 4, 704]⟩
abbrev S4x16896x704 : Shape := ⟨3, ![4, 16896, 704]⟩
abbrev S4x704x1024 : Shape := ⟨3, ![4, 704, 1024]⟩
abbrev S512x1024 : Shape := ⟨2, ![512, 1024]⟩
abbrev S4x512x704 : Shape := ⟨3, ![4, 512, 704]⟩
abbrev S1x704x1024 : Shape := ⟨3, ![1, 704, 1024]⟩
abbrev S704x1024 : Shape := ⟨2, ![704, 1024]⟩
abbrev S1x512x704 : Shape := ⟨3, ![1, 512, 704]⟩
abbrev S512x704 : Shape := ⟨2, ![512, 704]⟩
abbrev S2816x1024 : Shape := ⟨2, ![2816, 1024]⟩

abbrev nBuf : Space → Nat
  | .hbm => 11
  | .vmem => 5
  | .smem => 0
  | _ => 0

abbrev bufTy : (tb : Table) → Fin (tcTables nBuf tb) → BufTy
  | .hbm, ⟨0, _⟩ => ⟨S16400x2816, .f32⟩
  | .hbm, ⟨1, _⟩ => ⟨S16400x1024, .f32⟩
  | .hbm, ⟨2, _⟩ => ⟨S_, .f32⟩
  | .hbm, ⟨3, _⟩ => ⟨S16896x1024, .f32⟩
  | .hbm, ⟨4, _⟩ => ⟨S16400x2816, .bf16⟩
  | .hbm, ⟨5, _⟩ => ⟨S_, .bf16⟩
  | .hbm, ⟨6, _⟩ => ⟨S16896x2816, .bf16⟩
  | .hbm, ⟨7, _⟩ => ⟨S16896x4x704, .bf16⟩
  | .hbm, ⟨8, _⟩ => ⟨S4x16896x704, .bf16⟩
  | .hbm, ⟨9, _⟩ => ⟨S4x704x1024, .f32⟩
  | .hbm, ⟨10, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x704x1024, .f32⟩
  | _, _ => ⟨S16400x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S16400x2816 : Shape := ⟨2, ![16400, 2816]⟩
abbrev S16400x1024 : Shape := ⟨2, ![16400, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S16400x2816, .f32⟩
  | .hbm, ⟨1, _⟩ => ⟨S16400x1024, .f32⟩
  | .hbm, ⟨2, _⟩ => ⟨S_, .f32⟩
  | .hbm, ⟨3, _⟩ => ⟨S2816x1024, .f32⟩
  | .hbm, ⟨4, _⟩ => ⟨S16400x1024, .f32⟩
  | .hbm, ⟨5, _⟩ => ⟨S_, .f32⟩
  | .hbm, ⟨6, _⟩ => ⟨S16400x1024, .f32⟩
  | .hbm, ⟨7, _⟩ => ⟨S16400x1024, .f32⟩
  | .hbm, ⟨8, _⟩ => ⟨S_, .f32⟩
  | .hbm, ⟨9, _⟩ => ⟨S16400x1024, .f32⟩
  | .hbm, ⟨10, _⟩ => ⟨S16400x1024, .f32⟩
  | .hbm, ⟨11, _⟩ => ⟨S1024x2816, .f32⟩
  | .hbm, ⟨12, _⟩ => ⟨S2816x1024, .f32⟩
  | _, _ => ⟨S16400x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S16400x5376 : Shape := ⟨2, ![16400, 5376]⟩
abbrev S1024x5376 : Shape := ⟨2, ![1024, 5376]⟩
abbrev S_ : Shape := ⟨0, ![]⟩
abbrev S16896x5376 : Shape := ⟨2, ![16896, 5376]⟩
abbrev S16896x1024 : Shape := ⟨2, ![16896, 1024]⟩
abbrev S512x1792 : Shape := ⟨2, ![512, 1792]⟩
abbrev S1024x1792 : Shape := ⟨2, ![1024, 1792]⟩
abbrev S512x1024 : Shape := ⟨2, ![512, 1024]⟩
abbrev S16400x1024 : Shape := ⟨2, ![16400, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16400x5376, .f32⟩
  | .hbm, ⟨1, _⟩ => ⟨S1024x5376, .f32⟩
  | .hbm, ⟨2, _⟩ => ⟨S16400x5376, .bf16⟩
  | .hbm, ⟨3, _⟩ => ⟨S_, .bf16⟩
  | .hbm, ⟨4, _⟩ => ⟨S16896x5376, .bf16⟩
  | .hbm, ⟨5, _⟩ => ⟨S1024x5376, .bf16⟩
  | .hbm, ⟨6, _⟩ => ⟨S16896x1024, .f32⟩
  | .hbm, ⟨7, _⟩ => ⟨S16400x1024, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S1024x1792, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16400x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 33, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16400x5376 : Shape := ⟨2, ![16400, 5376]⟩
abbrev S1024x5376 : Shape := ⟨2, ![1024, 5376]⟩
abbrev S_ : Shape := ⟨0, ![]⟩
abbrev S16400x1024 : Shape := ⟨2, ![16400, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16400x5376, .f32⟩
  | .hbm, ⟨1, _⟩ => ⟨S1024x5376, .f32⟩
  | .hbm, ⟨2, _⟩ => ⟨S_, .f32⟩
  | .hbm, ⟨3, _⟩ => ⟨S16400x1024, .f32⟩
  | .hbm, ⟨4, _⟩ => ⟨S16400x5376, .f32⟩
  | .hbm, ⟨5, _⟩ => ⟨S16400x1024, .f32⟩
  | _, _ => ⟨S16400x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S16400x1024 : Shape := ⟨2, ![16400, 1024]⟩
abbrev S16400x5376 : Shape := ⟨2, ![16400, 5376]⟩
abbrev S_ : Shape := ⟨0, ![]⟩
abbrev S16896x1024 : Shape := ⟨2, ![16896, 1024]⟩
abbrev S16896x5376 : Shape := ⟨2, ![16896, 5376]⟩
abbrev S1024x5376 : Shape := ⟨2, ![1024, 5376]⟩
abbrev S512x1024 : Shape := ⟨2, ![512, 1024]⟩
abbrev S512x1792 : Shape := ⟨2, ![512, 1792]⟩
abbrev S1024x1792 : Shape := ⟨2, ![1024, 1792]⟩

abbrev nBuf : Space → Nat
  | .hbm => 9
  | .vmem => 7
  | .smem => 0
  | _ => 0

abbrev bufTy : (tb : Table) → Fin (tcTables nBuf tb) → BufTy
  | .hbm, ⟨0, _⟩ => ⟨S16400x1024, .f32⟩
  | .hbm, ⟨1, _⟩ => ⟨S16400x5376, .f32⟩
  | .hbm, ⟨2, _⟩ => ⟨S16400x1024, .bf16⟩
  | .hbm, ⟨3, _⟩ => ⟨S_, .bf16⟩
  | .hbm, ⟨4, _⟩ => ⟨S16896x1024, .bf16⟩
  | .hbm, ⟨5, _⟩ => ⟨S16400x5376, .bf16⟩
  | .hbm, ⟨6, _⟩ => ⟨S_, .bf16⟩
  | .hbm, ⟨7, _⟩ => ⟨S16896x5376, .bf16⟩
  | .hbm, ⟨8, _⟩ => ⟨S1024x5376, .f32⟩
  | .local _ .vmem, ⟨0, _⟩ => ⟨S512x1024, .bf16⟩
  | .local _ .vmem, ⟨1, _⟩ => ⟨S512x1024, .bf16⟩
  | .local _ .vmem, ⟨2, _⟩ => ⟨S512x1792, .bf16⟩
  | .local _ .vmem, ⟨3, _⟩ => ⟨S512x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 33], ![false, false, false]⟩

def k0_cond2 (i : grid0.Coords) : BitVec 1 :=
  let arg2 : BitVec 32 := BitVec.ofNat 32 (i 2).val
  let c32_i32 : BitVec 32 := 32#32
  let v13 : BitVec 1 := Scalar.cmpi .eq arg2 c32_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16400x1024 : Shape := ⟨2, ![16400, 1024]⟩
abbrev S16400x5376 : Shape := ⟨2, ![16400, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x5376, .f32⟩
  | .hbm, ⟨2, _⟩ => ⟨S_, .f32⟩
  | .hbm, ⟨3, _⟩ => ⟨S1024x5376, .f32⟩
  | .hbm, ⟨4, _⟩ => ⟨S16400x5376, .f32⟩
  | .hbm, ⟨5, _⟩ => ⟨S5376x1024, .f32⟩
  | .hbm, ⟨6, _⟩ => ⟨S1024x5376, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16400x2816 : Shape := ⟨2, ![16400, 2816]⟩
abbrev S2816x1024 : Shape := ⟨2, ![2816, 1024]⟩
abbrev S16400x1024 : Shape := ⟨2, ![16400, 1024]⟩
abbrev S_ : Shape := ⟨0, ![]⟩
abbrev S16896x2816 : Shape := ⟨2, ![16896, 2816]⟩
abbrev S16896x4x704 : Shape := ⟨3, ![16896, 4, 704]⟩
abbrev S4x16896x704 : Shape := ⟨3, ![4, 16896, 704]⟩
abbrev S4x704x1024 : Shape := ⟨3, ![4, 704, 1024]⟩
abbrev S16896x1024 : Shape := ⟨2, ![16896, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 14
  | .vmem => 7
  | .smem => 0
  | _ => 0

abbrev bufTy : (tb : Table) → Fin (tcTables nBuf tb) → BufTy
  | .hbm, ⟨0, _⟩ => ⟨S16400x2816, .f32⟩
  | .hbm, ⟨1, _⟩ => ⟨S2816x1024, .f32⟩
  | .hbm, ⟨2, _⟩ => ⟨S16400x1024, .f32⟩
  | .hbm, ⟨3, _⟩ => ⟨S16400x2816, .bf16⟩
  | .hbm, ⟨4, _⟩ => ⟨S_, .bf16⟩
  | .hbm, ⟨5, _⟩ => ⟨S16896x2816, .bf16⟩
  | .hbm, ⟨6, _⟩ => ⟨S16896x4x704, .bf16⟩
  | .hbm, ⟨7, _⟩ => ⟨S4x16896x704, .bf16⟩
  | .hbm, ⟨8, _⟩ => ⟨S2816x1024, .bf16⟩
  | .hbm, ⟨9, _⟩ => ⟨S4x704x1024, .bf16⟩
  | .hbm, ⟨10, _⟩ => ⟨S_, .f32⟩
  | .hbm, ⟨11, _⟩ => ⟨S16896x1024, .f32⟩
  | .hbm, ⟨12, _⟩ => ⟨S16896x1024, .f32⟩
  | .hbm, ⟨13, _⟩ => ⟨S16400x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16400x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16400x2816 : Shape := ⟨2, ![16400, 2816]⟩
abbrev S2816x1024 : Shape := ⟨2, ![2816, 1024]⟩
abbrev S16400x1024 : Shape := ⟨2, ![16400, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16400x2816, .f32⟩
  | .hbm, ⟨1, _⟩ => ⟨S2816x1024, .f32⟩
  | .hbm, ⟨2, _⟩ => ⟨S16400x1024, .f32⟩
  | .hbm, ⟨3, _⟩ => ⟨S16400x1024, .f32⟩
  | .hbm, ⟨4, _⟩ => ⟨S_, .f32⟩
  | .hbm, ⟨5, _⟩ => ⟨S16400x1024, .f32⟩
  | .hbm, ⟨6, _⟩ => ⟨S16400x1024, .f32⟩
  | .hbm, ⟨7, _⟩ => ⟨S16400x1024, .f32⟩
  | _, _ => ⟨S16400x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S16400x1024 : Shape := ⟨2, ![16400, 1024]⟩
abbrev S1024x5376 : Shape := ⟨2, ![1024, 5376]⟩
abbrev S_ : Shape := ⟨0, ![]⟩
abbrev S16896x1024 : Shape := ⟨2, ![16896, 1024]⟩
abbrev S16896x5376 : Shape := ⟨2, ![16896, 5376]⟩
abbrev S512x1024 : Shape := ⟨2, ![512, 1024]⟩
abbrev S1024x1792 : Shape := ⟨2, ![1024, 1792]⟩
abbrev S512x1792 : Shape := ⟨2, ![512, 1792]⟩
abbrev S16400x5376 : Shape := ⟨2, ![16400, 5376]⟩

abbrev nBuf : Space → Nat
  | .hbm => 8
  | .vmem => 6
  | .smem => 0
  | _ => 0

abbrev bufTy : (tb : Table) → Fin (tcTables nBuf tb) → BufTy
  | .hbm, ⟨0, _⟩ => ⟨S16400x1024, .f32⟩
  | .hbm, ⟨1, _⟩ => ⟨S1024x5376, .f32⟩
  | .hbm, ⟨2, _⟩ => ⟨S16400x1024, .bf16⟩
  | .hbm, ⟨3, _⟩ => ⟨S_, .bf16⟩
  | .hbm, ⟨4, _⟩ => ⟨S16896x1024, .bf16⟩
  | .hbm, ⟨5, _⟩ => ⟨S1024x5376, .bf16⟩
  | .hbm, ⟨6, _⟩ => ⟨S16896x5376, .f32⟩
  | .hbm, ⟨7, _⟩ => ⟨S16400x5376, .f32⟩
  | .local _ .vmem, ⟨0, _⟩ => ⟨S512x1024, .bf16⟩
  | .local _ .vmem, ⟨1, _⟩ => ⟨S512x1024, .bf16⟩
  | .local _ .vmem, ⟨2, _⟩ => ⟨S1024x1792, .bf16⟩
  | .local _ .vmem, ⟨3, _⟩ => ⟨S1024x1792, .bf16⟩
  | .local _ .vmem, ⟨4, _⟩ => ⟨S512x1792, .f32⟩
  | .local _ .vmem, ⟨5, _⟩ => ⟨S512x1792, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16400x1024 : Shape := ⟨2, ![16400, 1024]⟩
abbrev S1024x5376 : Shape := ⟨2, ![1024, 5376]⟩
abbrev S16400x5376 : Shape := ⟨2, ![16400, 5376]⟩

abbrev nBuf : Space → Nat
  | .hbm => 3
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024x5376, .f32⟩
  | .hbm, ⟨2, _⟩ => ⟨S16400x5376, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S16400x1024 : Shape := ⟨2, ![16400, 1024]⟩
abbrev S1024x2816 : Shape := ⟨2, ![1024, 2816]⟩
abbrev S_ : Shape := ⟨0, ![]⟩
abbrev S16896x1024 : Shape := ⟨2, ![16896, 1024]⟩
abbrev S1024x4x704 : Shape := ⟨3, ![1024, 4, 704]⟩
abbrev S4x1024x704 : Shape := ⟨3, ![4, 1024, 704]⟩
abbrev S4x16896x704 : Shape := ⟨3, ![4, 16896, 704]⟩
abbrev S768x1024 : Shape := ⟨2, ![768, 1024]⟩
abbrev S1x1024x704 : Shape := ⟨3, ![1, 1024, 704]⟩
abbrev S1x768x704 : Shape := ⟨3, ![1, 768, 704]⟩
abbrev S1024x704 : Shape := ⟨2, ![1024, 704]⟩
abbrev S768x704 : Shape := ⟨2, ![768, 704]⟩
abbrev S16896x4x704 : Shape := ⟨3, ![16896, 4, 704]⟩
abbrev S16896x2816 : Shape := ⟨2, ![16896, 2816]⟩
abbrev S16400x2816 : Shape := ⟨2, ![16400, 2816]⟩

abbrev nBuf : Space → Nat
  | .hbm => 27
  | .vmem => 12
  | .smem => 0
  | _ => 0

abbrev bufTy : (tb : Table) → Fin (tcTables nBuf tb) → BufTy
  | .hbm, ⟨0, _⟩ => ⟨S16400x1024, .f32⟩
  | .hbm, ⟨1, _⟩ => ⟨S1024x2816, .f32⟩
  | .hbm, ⟨2, _⟩ => ⟨S1024x2816, .f32⟩
  | .hbm, ⟨3, _⟩ => ⟨S16400x1024, .bf16⟩
  | .hbm, ⟨4, _⟩ => ⟨S_, .bf16⟩
  | .hbm, ⟨5, _⟩ => ⟨S16896x1024, .bf16⟩
  | .hbm, ⟨6, _⟩ => ⟨S1024x2816, .bf16⟩
  | .hbm, ⟨7, _⟩ => ⟨S1024x4x704, .bf16⟩
  | .hbm, ⟨8, _⟩ => ⟨S4x1024x704, .bf16⟩
  | .hbm, ⟨9, _⟩ => ⟨S1024x2816, .bf16⟩
  | .hbm, ⟨10, _⟩ => ⟨S1024x4x704, .bf16⟩
  | .hbm, ⟨11, _⟩ => ⟨S4x1024x704, .bf16⟩
  | .hbm, ⟨12, _⟩ => ⟨S4x16896x704, .bf16⟩
  | .hbm, ⟨13, _⟩ => ⟨S4x16896x704, .bf16⟩
  | .hbm, ⟨14, _⟩ => ⟨S4x16896x704, .bf16⟩
  | .hbm, ⟨15, _⟩ => ⟨S16896x4x704, .bf16⟩
  | .hbm, ⟨16, _⟩ => ⟨S16896x2816, .bf16⟩
  | .hbm, ⟨17, _⟩ => ⟨S16400x2816, .bf16⟩
  | .hbm, ⟨18, _⟩ => ⟨S16400x2816, .f32⟩
  | .hbm, ⟨19, _⟩ => ⟨S16896x4x704, .bf16⟩
  | .hbm, ⟨20, _⟩ => ⟨S16896x2816, .bf16⟩
  | .hbm, ⟨21, _⟩ => ⟨S16400x2816, .bf16⟩
  | .hbm, ⟨22, _⟩ => ⟨S16400x2816, .f32⟩
  | .hbm, ⟨23, _⟩ => ⟨S16896x4x704, .bf16⟩
  | .hbm, ⟨24, _⟩ => ⟨S16896x2816, .bf16⟩
  | .hbm, ⟨25, _⟩ => ⟨S16400x2816, .bf16⟩
  | .hbm, ⟨26, _⟩ => ⟨S16400x2816, .f32⟩
  | .local _ .vmem, ⟨0, _⟩ => ⟨S768x1024, .bf16⟩
  | .local _ .vmem, ⟨1, _⟩ => ⟨S768x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x768x704, .bf16⟩
  | .local _ .vmem, ⟨7, _⟩ => ⟨S1x768x704, .bf16⟩
  | .local _ .vmem, ⟨8, _⟩ => ⟨S1x768x704, .bf16⟩
  | .local _ .vmem, ⟨9, _⟩ => ⟨S1x768x704, .bf16⟩
  | .local _ .vmem, ⟨10, _⟩ => ⟨S1x768x704, .bf16⟩
  | .local _ .vmem, ⟨11, _⟩ => ⟨S1x768x704, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S16400x1024 : Shape := ⟨2, ![16400, 1024]⟩
abbrev S1024x2816 : Shape := ⟨2, ![1024, 2816]⟩
abbrev S16400x2816 : Shape := ⟨2, ![16400, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024x2816, .f32⟩
  | .hbm, ⟨2, _⟩ => ⟨S1024x2816, .f32⟩
  | .hbm, ⟨3, _⟩ => ⟨S16400x2816, .f32⟩
  | .hbm, ⟨4, _⟩ => ⟨S16400x2816, .f32⟩
  | .hbm, ⟨5, _⟩ => ⟨S16400x2816, .f32⟩
  | .hbm, ⟨6, _⟩ => ⟨S16400x2816, .f32⟩
  | .hbm, ⟨7, _⟩ => ⟨S_, .f32⟩
  | .hbm, ⟨8, _⟩ => ⟨S16400x2816, .f32⟩
  | .hbm, ⟨9, _⟩ => ⟨S16400x2816, .f32⟩
  | .hbm, ⟨10, _⟩ => ⟨S_, .f32⟩
  | .hbm, ⟨11, _⟩ => ⟨S16400x2816, .f32⟩
  | .hbm, ⟨12, _⟩ => ⟨S16400x2816, .f32⟩
  | .hbm, ⟨13, _⟩ => ⟨S_, .f32⟩
  | .hbm, ⟨14, _⟩ => ⟨S16400x2816, .f32⟩
  | .hbm, ⟨15, _⟩ => ⟨S16400x2816, .f32⟩
  | .hbm, ⟨16, _⟩ => ⟨S16400x2816, .f32⟩
  | .hbm, ⟨17, _⟩ => ⟨S16400x2816, .f32⟩
  | .hbm, ⟨18, _⟩ => ⟨S_, .f32⟩
  | .hbm, ⟨19, _⟩ => ⟨S16400x2816, .f32⟩
  | .hbm, ⟨20, _⟩ => ⟨S16400x2816, .f32⟩
  | .hbm, ⟨21, _⟩ => ⟨S16400x2816, .f32⟩
  | .hbm, ⟨22, _⟩ => ⟨S16400x2816, .f32⟩
  | .hbm, ⟨23, _⟩ => ⟨S16400x2816, .f32⟩
  | .hbm, ⟨24, _⟩ => ⟨S16400x2816, .f32⟩
  | .hbm, ⟨25, _⟩ => ⟨S16400x2816, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Kernel10.lean ====
abbrev S16400x1024 : Shape := ⟨2, ![16400, 1024]⟩
abbrev S2816x1024 : Shape := ⟨2, ![2816, 1024]⟩
abbrev S16400x2816 : Shape := ⟨2, ![16400, 2816]⟩
abbrev S_ : Shape := ⟨0, ![]⟩
abbrev S16896x1024 : Shape := ⟨2, ![16896, 1024]⟩
abbrev S4x704x1024 : Shape := ⟨3, ![4, 704, 1024]⟩
abbrev S16896x2816 : Shape := ⟨2, ![16896, 2816]⟩
abbrev S16896x4x704 : Shape := ⟨3, ![16896, 4, 704]⟩
abbrev S4x16896x704 : Shape := ⟨3, ![4, 16896, 704]⟩
abbrev S768x1024 : Shape := ⟨2, ![768, 1024]⟩
abbrev S1x704x1024 : Shape := ⟨3, ![1, 704, 1024]⟩
abbrev S1x768x704 : Shape := ⟨3, ![1, 768, 704]⟩
abbrev S704x1024 : Shape := ⟨2, ![704, 1024]⟩
abbrev S768x704 : Shape := ⟨2, ![768, 704]⟩

abbrev nBuf : Space → Nat
  | .hbm => 28
  | .vmem => 12
  | .smem => 0
  | _ => 0

abbrev bufTy : (tb : Table) → Fin (tcTables nBuf tb) → BufTy
  | .hbm, ⟨0, _⟩ => ⟨S16400x1024, .f32⟩
  | .hbm, ⟨1, _⟩ => ⟨S2816x1024, .f32⟩
  | .hbm, ⟨2, _⟩ => ⟨S16400x2816, .f32⟩
  | .hbm, ⟨3, _⟩ => ⟨S16400x2816, .f32⟩
  | .hbm, ⟨4, _⟩ => ⟨S_, .f32⟩
  | .hbm, ⟨5, _⟩ => ⟨S16896x1024, .f32⟩
  | .hbm, ⟨6, _⟩ => ⟨S2816x1024, .bf16⟩
  | .hbm, ⟨7, _⟩ => ⟨S4x704x1024, .bf16⟩
  | .hbm, ⟨8, _⟩ => ⟨S16400x2816, .bf16⟩
  | .hbm, ⟨9, _⟩ => ⟨S_, .bf16⟩
  | .hbm, ⟨10, _⟩ => ⟨S16896x2816, .bf16⟩
  | .hbm, ⟨11, _⟩ => ⟨S16896x4x704, .bf16⟩
  | .hbm, ⟨12, _⟩ => ⟨S4x16896x704, .bf16⟩
  | .hbm, ⟨13, _⟩ => ⟨S16400x2816, .bf16⟩
  | .hbm, ⟨14, _⟩ => ⟨S_, .bf16⟩
  | .hbm, ⟨15, _⟩ => ⟨S16896x2816, .bf16⟩
  | .hbm, ⟨16, _⟩ => ⟨S16896x4x704, .bf16⟩
  | .hbm, ⟨17, _⟩ => ⟨S4x16896x704, .bf16⟩
  | .hbm, ⟨18, _⟩ => ⟨S4x16896x704, .bf16⟩
  | .hbm, ⟨19, _⟩ => ⟨S4x16896x704, .bf16⟩
  | .hbm, ⟨20, _⟩ => ⟨S16896x4x704, .bf16⟩
  | .hbm, ⟨21, _⟩ => ⟨S16896x2816, .bf16⟩
  | .hbm, ⟨22, _⟩ => ⟨S16400x2816, .bf16⟩
  | .hbm, ⟨23, _⟩ => ⟨S16400x2816, .f32⟩
  | .hbm, ⟨24, _⟩ => ⟨S16896x4x704, .bf16⟩
  | .hbm, ⟨25, _⟩ => ⟨S16896x2816, .bf16⟩
  | .hbm, ⟨26, _⟩ => ⟨S16400x2816, .bf16⟩
  | .hbm, ⟨27, _⟩ => ⟨S16400x2816, .f32⟩
  | .local _ .vmem, ⟨0, _⟩ => ⟨S768x1024, .f32⟩
  | .local _ .vmem, ⟨1, _⟩ => ⟨S768x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x768x704, .bf16⟩
  | .local _ .vmem, ⟨5, _⟩ => ⟨S1x768x704, .bf16⟩
  | .local _ .vmem, ⟨6, _⟩ => ⟨S1x768x704, .bf16⟩
  | .local _ .vmem, ⟨7, _⟩ => ⟨S1x768x704, .bf16⟩
  | .local _ .vmem, ⟨8, _⟩ => ⟨S1x768x704, .bf16⟩
  | .local _ .vmem, ⟨9, _⟩ => ⟨S1x768x704, .bf16⟩
  | .local _ .vmem, ⟨10, _⟩ => ⟨S1x768x704, .bf16⟩
  | .local _ .vmem, ⟨11, _⟩ => ⟨S1x768x704, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S16400x1024 : Shape := ⟨2, ![16400, 1024]⟩
abbrev S2816x1024 : Shape := ⟨2, ![2816, 1024]⟩
abbrev S16400x2816 : Shape := ⟨2, ![16400, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S2816x1024, .f32⟩
  | .hbm, ⟨2, _⟩ => ⟨S16400x2816, .f32⟩
  | .hbm, ⟨3, _⟩ => ⟨S16400x2816, .f32⟩
  | .hbm, ⟨4, _⟩ => ⟨S_, .f32⟩
  | .hbm, ⟨5, _⟩ => ⟨S16400x2816, .f32⟩
  | .hbm, ⟨6, _⟩ => ⟨S16400x2816, .f32⟩
  | .hbm, ⟨7, _⟩ => ⟨S16400x2816, .f32⟩
  | .hbm, ⟨8, _⟩ => ⟨S16400x2816, .f32⟩
  | .hbm, ⟨9, _⟩ => ⟨S16400x1024, .f32⟩
  | .hbm, ⟨10, _⟩ => ⟨S_, .f32⟩
  | .hbm, ⟨11, _⟩ => ⟨S16400x1024, .f32⟩
  | .hbm, ⟨12, _⟩ => ⟨S16400x1024, .f32⟩
  | .hbm, ⟨13, _⟩ => ⟨S_, .f32⟩
  | .hbm, ⟨14, _⟩ => ⟨S16400x1024, .f32⟩
  | .hbm, ⟨15, _⟩ => ⟨S16400x1024, .f32⟩
  | .hbm, ⟨16, _⟩ => ⟨S16400x2816, .f32⟩
  | .hbm, ⟨17, _⟩ => ⟨S16400x2816, .f32⟩
  | .hbm, ⟨18, _⟩ => ⟨S16400x2816, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel11.lean ====
abbrev S16400x1024 : Shape := ⟨2, ![16400, 1024]⟩
abbrev S_ : Shape := ⟨0, ![]⟩
abbrev S16896x1024 : Shape := ⟨2, ![16896, 1024]⟩
abbrev S1024x1024 : Shape := ⟨2, ![1024, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S16400x1024, .bf16⟩
  | .hbm, ⟨3, _⟩ => ⟨S_, .bf16⟩
  | .hbm, ⟨4, _⟩ => ⟨S16896x1024, .bf16⟩
  | .hbm, ⟨5, _⟩ => ⟨S_, .f32⟩
  | .hbm, ⟨6, _⟩ => ⟨S16896x1024, .f32⟩
  | .hbm, ⟨7, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 33], ![false, false, false]⟩

def k0_cond2 (i : grid0.Coords) : BitVec 1 :=
  let arg2 : BitVec 32 := BitVec.ofNat 32 (i 2).val
  let c32_i32 : BitVec 32 := 32#32
  let v14 : BitVec 1 := Scalar.cmpi .eq arg2 c32_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S16400x1024 : Shape := ⟨2, ![16400, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S_, .f32⟩
  | .hbm, ⟨3, _⟩ => ⟨S1024x1024, .f32⟩
  | .hbm, ⟨4, _⟩ => ⟨S16400x1024, .f32⟩
  | .hbm, ⟨5, _⟩ => ⟨S1024x1024, .f32⟩
  | .hbm, ⟨6, _⟩ => ⟨S1024x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16400x1024 : Shape := ⟨2, ![16400, 1024]⟩
abbrev S512x1024 : Shape := ⟨2, ![512, 1024]⟩
abbrev S_ : Shape := ⟨0, ![]⟩
abbrev S16896x1024 : Shape := ⟨2, ![16896, 1024]⟩
abbrev S16896x512 : Shape := ⟨2, ![16896, 512]⟩
abbrev S512x512 : Shape := ⟨2, ![512, 512]⟩
abbrev S16400x512 : Shape := ⟨2, ![16400, 512]⟩

abbrev nBuf : Space → Nat
  | .hbm => 8
  | .vmem => 5
  | .smem => 0
  | _ => 0

abbrev bufTy : (tb : Table) → Fin (tcTables nBuf tb) → BufTy
  | .hbm, ⟨0, _⟩ => ⟨S16400x1024, .f32⟩
  | .hbm, ⟨1, _⟩ => ⟨S512x1024, .f32⟩
  | .hbm, ⟨2, _⟩ => ⟨S16400x1024, .bf16⟩
  | .hbm, ⟨3, _⟩ => ⟨S_, .bf16⟩
  | .hbm, ⟨4, _⟩ => ⟨S16896x1024, .bf16⟩
  | .hbm, ⟨5, _⟩ => ⟨S512x1024, .bf16⟩
  | .hbm, ⟨6, _⟩ => ⟨S16896x512, .f32⟩
  | .hbm, ⟨7, _⟩ => ⟨S16400x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16400x1024 : Shape := ⟨2, ![16400, 1024]⟩
abbrev S512x1024 : Shape := ⟨2, ![512, 1024]⟩
abbrev S_ : Shape := ⟨0, ![]⟩
abbrev S16400x512 : Shape := ⟨2, ![16400, 512]⟩

abbrev nBuf : Space → Nat
  | .hbm => 6
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S512x1024, .f32⟩
  | .hbm, ⟨2, _⟩ => ⟨S_, .f32⟩
  | .hbm, ⟨3, _⟩ => ⟨S16400x512, .f32⟩
  | .hbm, ⟨4, _⟩ => ⟨S16400x1024, .f32⟩
  | .hbm, ⟨5, _⟩ => ⟨S16400x512, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S16400x512 : Shape := ⟨2, ![16400, 512]⟩
abbrev S16400x1024 : Shape := ⟨2, ![16400, 1024]⟩
abbrev S_ : Shape := ⟨0, ![]⟩
abbrev S16896x512 : Shape := ⟨2, ![16896, 512]⟩
abbrev S16896x1024 : Shape := ⟨2, ![16896, 1024]⟩
abbrev S512x1024 : Shape := ⟨2, ![512, 1024]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S16400x512, .f32⟩
  | .hbm, ⟨1, _⟩ => ⟨S16400x1024, .f32⟩
  | .hbm, ⟨2, _⟩ => ⟨S16400x512, .bf16⟩
  | .hbm, ⟨3, _⟩ => ⟨S_, .bf16⟩
  | .hbm, ⟨4, _⟩ => ⟨S16896x512, .bf16⟩
  | .hbm, ⟨5, _⟩ => ⟨S16400x1024, .bf16⟩
  | .hbm, ⟨6, _⟩ => ⟨S_, .bf16⟩
  | .hbm, ⟨7, _⟩ => ⟨S16896x1024, .bf16⟩
  | .hbm, ⟨8, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S16400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 33], ![false, false, false]⟩

def k0_cond2 (i : grid0.Coords) : BitVec 1 :=
  let arg2 : BitVec 32 := BitVec.ofNat 32 (i 2).val
  let c32_i32 : BitVec 32 := 32#32
  let v13 : BitVec 1 := Scalar.cmpi .eq arg2 c32_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S16400x512 : Shape := ⟨2, ![16400, 512]⟩
abbrev S16400x1024 : Shape := ⟨2, ![16400, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16400x512, .f32⟩
  | .hbm, ⟨1, _⟩ => ⟨S16400x1024, .f32⟩
  | .hbm, ⟨2, _⟩ => ⟨S_, .f32⟩
  | .hbm, ⟨3, _⟩ => ⟨S512x1024, .f32⟩
  | .hbm, ⟨4, _⟩ => ⟨S16400x1024, .f32⟩
  | .hbm, ⟨5, _⟩ => ⟨S1024x512, .f32⟩
  | .hbm, ⟨6, _⟩ => ⟨S512x1024, .f32⟩
  | _, _ => ⟨S16400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16400x1024 : Shape := ⟨2, ![16400, 1024]⟩
abbrev S1024x1024 : Shape := ⟨2, ![1024, 1024]⟩
abbrev S_ : Shape := ⟨0, ![]⟩
abbrev S16896x1024 : Shape := ⟨2, ![16896, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16400x1024, .f32⟩
  | .hbm, ⟨1, _⟩ => ⟨S1024x1024, .f32⟩
  | .hbm, ⟨2, _⟩ => ⟨S16400x1024, .f32⟩
  | .hbm, ⟨3, _⟩ => ⟨S16400x1024, .bf16⟩
  | .hbm, ⟨4, _⟩ => ⟨S_, .bf16⟩
  | .hbm, ⟨5, _⟩ => ⟨S16896x1024, .bf16⟩
  | .hbm, ⟨6, _⟩ => ⟨S1024x1024, .bf16⟩
  | .hbm, ⟨7, _⟩ => ⟨S_, .f32⟩
  | .hbm, ⟨8, _⟩ => ⟨S16896x1024, .f32⟩
  | .hbm, ⟨9, _⟩ => ⟨S16896x1024, .f32⟩
  | .hbm, ⟨10, _⟩ => ⟨S16400x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S16400x1024 : Shape := ⟨2, ![16400, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024x1024, .f32⟩
  | .hbm, ⟨2, _⟩ => ⟨S16400x1024, .f32⟩
  | .hbm, ⟨3, _⟩ => ⟨S16400x1024, .f32⟩
  | .hbm, ⟨4, _⟩ => ⟨S16400x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Ix.lean ====
module

public import Idealize.ShloMosaic.Lib.VecWindow
public import Idealize.ShloMosaic.Lib.Pointwise.Index
public import Idealize.ShloMosaic.Lib.Pointwise.Reshape

@[expose] public section

namespace Ix

open Idealize.ShloMosaic

/-- Member `g` of a stack of matrices. -/
def rowOf {α : Type} {n0 n1 n2 : ℕ} (x : (⟨3, ![n0, n1, n2]⟩ : Shape).Idx → α) (g : Fin n0) : (⟨2, ![n1, n2]⟩ : Shape).Idx → α :=
  fun y => x (ix3 g (y 0) (y 1))

/-- A stack of matrices with member `g` replaced. -/
def putRow {α : Type} {n0 n1 n2 : ℕ} (x : (⟨3, ![n0, n1, n2]⟩ : Shape).Idx → α) (g : Fin n0) (w : (⟨2, ![n1, n2]⟩ : Shape).Idx → α) :
    (⟨3, ![n0, n1, n2]⟩ : Shape).Idx → α :=
  fun z => if (z 0).val = g.val then w (ix2 (z 1) (z 2)) else x z

theorem rowOf_putRow_same {α : Type} {n0 n1 n2 : ℕ} (x : (⟨3, ![n0, n1, n2]⟩ : Shape).Idx → α) (g : Fin n0) (w : (⟨2, ![n1, n2]⟩ : Shape).Idx → α) :
    rowOf (putRow x g w) g = w := by
  funext y
  exact (if_pos rfl).trans (congrArg w (ix2_eta y))

theorem rowOf_putRow_ne {α : Type} {n0 n1 n2 : ℕ} (x : (⟨3, ![n0, n1, n2]⟩ : Shape).Idx → α) (g g' : Fin n0) (h : g' ≠ g) (w : (⟨2, ![n1, n2]⟩ : Shape).Idx → α) :
    rowOf (putRow x g w) g' = rowOf x g' := by
  funext y
  exact if_neg fun e => h (Fin.ext e)

/-- A squeezed slice takes an index to its place behind the slice's first coordinate. -/
theorem emb_lead {n0 n1 n2 : ℕ} (g : Fin n0) (off : Fin 3 → ℕ) (ho : off = ![g.val, 0, 0])
    (inb : ∀ a, off a + (![1, n1, n2] : Fin 3 → ℕ) a ≤ (⟨3, ![n0, n1, n2]⟩ : Shape).size a)
    (h : (⟨2, ![n1, n2]⟩ : Shape).numel = (⟨3, ![1, n1, n2]⟩ : Shape).numel) (y : (⟨2, ![n1, n2]⟩ : Shape).Idx) :
    (Rect.unit (s := ⟨3, ![n0, n1, n2]⟩) off ![1, n1, n2] inb).emb (Shape.reshapeEquiv h y) = ix3 g (y 0) (y 1) := by
  subst ho
  have e := Shape.reshapeEquiv_cons_one (d := ![n1, n2]) h y
  funext a
  apply Fin.ext
  show (![g.val, 0, 0] : Fin 3 → ℕ) a + 1 * ((Shape.reshapeEquiv h y) a).val = _
  rw [e]
  match a with
  | ⟨0, _⟩ => rfl
  | ⟨1, _⟩ => exact (Nat.zero_add _).trans (Nat.one_mul _)
  | ⟨2, _⟩ => exact (Nat.zero_add _).trans (Nat.one_mul _)

section
variable {sig : RefSig} {κ : Kind} {sp : Space} {e : EltTy} {Val : EltTy → Type} {n0 n1 n2 : ℕ}

/-- A member of a stack read through its squeezed slice. -/
theorem read_lead (M : Memref sig κ sp ⟨3, ![n0, n1, n2]⟩ e) (g : Fin n0) (off : Fin 3 → ℕ) (ho : off = ![g.val, 0, 0])
    (inb : ∀ a, off a + (![1, n1, n2] : Fin 3 → ℕ) a ≤ (⟨3, ![n0, n1, n2]⟩ : Shape).size a)
    (hs : ∀ a, (Rect.unit (s := ⟨3, ![n0, n1, n2]⟩) off ![1, n1, n2] inb).stride a = 1)
    (hq : (Rect.unit (s := ⟨3, ![n0, n1, n2]⟩) off ![1, n1, n2] inb).shape.Squeezes ⟨2, ![n1, n2]⟩) (f : M.view.ty.Contents Val) :
    ((M.slice (Rect.unit (s := ⟨3, ![n0, n1, n2]⟩) off ![1, n1, n2] inb) hs).squeeze ⟨2, ![n1, n2]⟩ hq).view.read Val f = rowOf (M.view.read Val f) g := by
  funext y
  exact congrArg (M.view.read Val f) (emb_lead g off ho inb hq.numel_eq y)

/-- A member of a stack written through its squeezed slice. -/
theorem read_write_lead (M : Memref sig κ sp ⟨3, ![n0, n1, n2]⟩ e) (g : Fin n0) (off : Fin 3 → ℕ) (ho : off = ![g.val, 0, 0])
    (inb : ∀ a, off a + (![1, n1, n2] : Fin 3 → ℕ) a ≤ (⟨3, ![n0, n1, n2]⟩ : Shape).size a)
    (hs : ∀ a, (Rect.unit (s := ⟨3, ![n0, n1, n2]⟩) off ![1, n1, n2] inb).stride a = 1)
    (hq : (Rect.unit (s := ⟨3, ![n0, n1, n2]⟩) off ![1, n1, n2] inb).shape.Squeezes ⟨2, ![n1, n2]⟩) (f : M.view.ty.Contents Val) (w : (⟨2, ![n1, n2]⟩ : Shape).Idx → Val e) :
    M.view.read Val (((M.slice (Rect.unit (s := ⟨3, ![n0, n1, n2]⟩) off ![1, n1, n2] inb) hs).squeeze ⟨2, ![n1, n2]⟩ hq).view.write Val f w Finset.univ)
      = putRow (M.view.read Val f) g w := by
  funext z
  by_cases hz : (z 0).val = g.val
  · have hr := congrFun (((M.slice (Rect.unit (s := ⟨3, ![n0, n1, n2]⟩) off ![1, n1, n2] inb) hs).squeeze ⟨2, ![n1, n2]⟩ hq).view.read_write_univ f w) (ix2 (z 1) (z 2))
    rw [read_lead M g off ho] at hr
    have hz' : ix3 g (z 1) (z 2) = z := by
      refine Eq.trans ?_ (ix3_eta z)
      exact congrArg (fun a => ix3 a (z 1) (z 2)) (Fin.ext hz.symm)
    refine Eq.trans ?_ ((hr).trans (if_pos hz).symm)
    exact congrArg _ hz'.symm
  · refine Eq.trans ?_ (if_neg hz).symm
    refine congrArg (_root_.cast (congrArg Val M.view.elt_eq)) (((M.slice (Rect.unit (s := ⟨3, ![n0, n1, n2]⟩) off ![1, n1, n2] inb) hs).squeeze ⟨2, ![n1, n2]⟩ hq).view.write_of_not_mem f w Finset.univ ?_)
    intro hm
    obtain ⟨y, -, hy⟩ := Finset.mem_map.mp hm
    have hy' : M.view.emb ((Rect.unit (s := ⟨3, ![n0, n1, n2]⟩) off ![1, n1, n2] inb).emb (Shape.reshapeEquiv hq.numel_eq y)) = M.view.emb z := hy
    have h2 := M.view.emb.injective hy'
    rw [emb_lead g off ho] at h2
    exact hz (congrArg Fin.val (congrFun h2 0)).symm

/-- A load of a window of a buffer held at given values. -/
theorem rd {s : Shape} {M : Memref sig κ sp s e} (hM : M.IsWhole) (x : s.Idx → Val e) (off size : Fin s.rank → ℕ) (inb : ∀ a, off a + size a ≤ s.size a) :
    M.view.readAt Val (Rect.unit off size inb).toLoadRect (hM.unread x) = VecWindow.window x off size inb :=
  (View.readAt_unit M.view _ inb rfl inb).trans (by rw [hM.read_unread])

/-- The same of a view whose reading is known. -/
theorem rdx {s : Shape} (v : View sig κ sp s e) {f : v.ty.Contents Val} {x : s.Idx → Val e} (h : v.read Val f = x) (off size : Fin s.rank → ℕ)
    (inb inb' : ∀ a, off a + size a ≤ s.size a) :
    v.readAt Val (Rect.unit off size inb).toLoadRect f = VecWindow.window x off size inb' := by
  subst h; exact View.readAt_unit v _ inb rfl inb'

end

theorem put_congr {α : Type} {s : Shape} {x x' : s.Idx → α} (off size : Fin s.rank → ℕ) {w w' : ((a : Fin s.rank) → Fin (size a)) → α}
    (hx : x = x') (hw : w = w') : VecWindow.put x off size w = VecWindow.put x' off size w' := by
  subst hx hw; rfl

end Ix
-- ==== Proof.KStep.lean ====
module

public import proofs.«01_k».proof.Proof.Gen.KernelIdeal.Loops
public import Idealize.ShloMosaic.Lib.VecWindow
public import proofs.«01_k».proof.Proof.Ix

@[expose] public section

noncomputable section

namespace Cert.KernelIdeal.Att

open Idealize.ShloMosaic Idealize.ShloMosaic.TcCoe
open Cert.KernelIdeal Cert.KernelIdeal.Gen Ix
open Idealize.SL Idealize.SL.RA Idealize.SL.BI

variable {F : FTy → Type} [FloatOps F] [Named F]

/-! ## What one point computes, as functions of vectors -/

/-- What a point has of its 384 query rows (four heads side by side, 1536 columns): the queries transposed, the row sums of
    gradient times output, the gradient both ways round, the queries as rows, and the log-sums. -/
structure Side (F : FTy → Type) where
  qt : FVec F S128x1536 .bf16
  dl : FVec F S1x1536 .f32
  dr : FVec F S1536x128 .bf16
  dt : FVec F S128x1536 .bf16
  qr : FVec F S1536x128 .bf16
  ls : FVec F S1x1536 .f32

/-- The accumulators: the gradient of the queries of the point, of the keys and of the values of the group. -/
structure Acc (F : FTy → Type) where
  dq : Vec F S128x1536 .f32
  dk : Vec F S16896x128 .f32
  dv : Vec F S16896x128 .f32

theorem inb3 (h : Fin 4) {n1 n2 : ℕ} : ∀ a, (![h.val, 0, 0] : Fin 3 → ℕ) a + (⟨3, ![1, n1, n2]⟩ : Shape).size a ≤ (⟨3, ![4, n1, n2]⟩ : Shape).size a := by
  intro a; have := h.isLt; fin_cases a
  · show h.val + 1 ≤ 4; omega
  · show 0 + n1 ≤ n1; omega
  · show 0 + n2 ≤ n2; omega

/-- Head `h`'s slice of a block of four. -/
abbrev headOf {α : Type} {n1 n2 : ℕ} (x : (⟨3, ![4, n1, n2]⟩ : Shape).Idx → α) (h : Fin 4) : (⟨3, ![1, n1, n2]⟩ : Shape).Idx → α :=
  VecWindow.window x ![h.val, 0, 0] ![1, n1, n2] (inb3 h)

def side (i : grid0.Coords) (x0 : Vec F S4x384x128 .bf16) (x1 : Vec F S4x128x384 .bf16) (x2 x3 : Vec F S384x256 .f32) (x4 : Vec F S4x1x384 .f32) : Side F where
  qt := k0_pay9 (headOf x1 0) (headOf x1 1) (headOf x1 2) (headOf x1 3)
  dl := k0_pay12 (k0_pay10 i x2) (k0_pay11 x3)
  dr := k0_pay14 (k0_pay10 i x2)
  dt := k0_pay15 (k0_pay10 i x2)
  qr := k0_pay16 x0
  ls := k0_pay17 (headOf x4 0) (headOf x4 1) (headOf x4 2) (headOf x4 3)

theorem inbChunk : ∀ a, (![0, 0] : Fin 2 → ℕ) a + S512x128.size a ≤ S16896x128.size a := by decide
theorem inbChunkT : ∀ a, (![0, 0, 0] : Fin 3 → ℕ) a + S1x128x512.size a ≤ S33x128x512.size a := by decide

/-- The first chunk of keys, whose first 496 rows are masked. -/
def first (s : Side F) (kr : Vec F S16896x128 .bf16) (kt : Vec F S33x128x512 .bf16) (vb : Vec F S16896x128 .bf16) (dk dv : Vec F S16896x128 .f32) : Acc F where
  dq := k0_pay23 s.dl s.dt s.ls (k0_pay19 (VecWindow.window kt ![0, 0, 0] S1x128x512.size inbChunkT)) (VecWindow.window vb ![0, 0] S512x128.size inbChunk)
    (k0_pay20 s.qt (VecWindow.window kr ![0, 0] S512x128.size inbChunk)) (iota .tc S512x1536 32 [0] iota_S512x1536_d0_w32) 496#32 k0_pay18
  dk := VecWindow.put dk ![0, 0] S512x128.size (k0_pay24 s.dl s.dt s.qr s.ls (VecWindow.window vb ![0, 0] S512x128.size inbChunk)
    (k0_pay20 s.qt (VecWindow.window kr ![0, 0] S512x128.size inbChunk)) (iota .tc S512x1536 32 [0] iota_S512x1536_d0_w32) 496#32 (VecWindow.window dk ![0, 0] S512x128.size inbChunk))
  dv := VecWindow.put dv ![0, 0] S512x128.size (k0_pay25 s.dr s.ls
    (k0_pay20 s.qt (VecWindow.window kr ![0, 0] S512x128.size inbChunk)) (iota .tc S512x1536 32 [0] iota_S512x1536_d0_w32) 496#32 (VecWindow.window dv ![0, 0] S512x128.size inbChunk))

/-- One of the later chunks of keys. -/
def step (s : Side F) (kr : Vec F S16896x128 .bf16) (kt : Vec F S33x128x512 .bf16) (vb : Vec F S16896x128 .bf16) (k : Fin k0_t1_loop.trips) (a : Acc F) : Acc F where
  dq := k0_pay4 s.qt s.dl s.dt s.ls (VecWindow.window kr (k0_off2 k) S512x128.size (k0_off2_inb k)) (VecWindow.window kt (k0_off3 k) S1x128x512.size (k0_off3_inb k))
    (VecWindow.window vb (k0_off2 k) S512x128.size (k0_off2_inb k)) a.dq
  dk := VecWindow.put a.dk (k0_off2 k) S512x128.size (k0_pay5 s.qt s.dl s.dt s.qr s.ls (VecWindow.window kr (k0_off2 k) S512x128.size (k0_off2_inb k))
    (VecWindow.window vb (k0_off2 k) S512x128.size (k0_off2_inb k)) (VecWindow.window a.dk (k0_off2 k) S512x128.size (k0_off2_inb k)))
  dv := VecWindow.put a.dv (k0_off2 k) S512x128.size (k0_pay26 (k0_pay6 s.qt s.dr s.ls (VecWindow.window kr (k0_off2 k) S512x128.size (k0_off2_inb k))
    (VecWindow.window a.dv (k0_off2 k) S512x128.size (k0_off2_inb k))))

/-- The first `n` of the later chunks. -/
def fold (s : Side F) (kr : Vec F S16896x128 .bf16) (kt : Vec F S33x128x512 .bf16) (vb : Vec F S16896x128 .bf16) (a : Acc F) : ℕ → Acc F
  | 0 => a
  | n + 1 => if h : n < k0_t1_loop.trips then step s kr kt vb ⟨n, h⟩ (fold s kr kt vb a n) else fold s kr kt vb a n

/-- A whole point, from the group's accumulators as the point before left them. -/
def point (s : Side F) (kr : Vec F S16896x128 .bf16) (kt : Vec F S33x128x512 .bf16) (vb : Vec F S16896x128 .bf16) (dk dv : Vec F S16896x128 .f32) : Acc F :=
  fold s kr kt vb (first s kr kt vb dk dv) k0_t1_loop.trips

section
variable {arg2 : Memref sig .tc .vmem S4x384x128 .bf16} (harg2 : arg2.IsWhole) {arg3 : Memref sig .tc .vmem S4x128x384 .bf16} (harg3 : arg3.IsWhole)
  {arg7 : Memref sig .tc .vmem S384x256 .f32} (harg7 : arg7.IsWhole) {arg8 : Memref sig .tc .vmem S384x256 .f32} (harg8 : arg8.IsWhole)
  {arg9 : Memref sig .tc .vmem S4x1x384 .f32} (harg9 : arg9.IsWhole)

/-- The query side of a point, from the loads of the staged blocks. -/
theorem side_eq (i : grid0.Coords) (x0 : Vec F S4x384x128 .bf16) (x1 : Vec F S4x128x384 .bf16) (x2 x3 : Vec F S384x256 .f32) (x4 : Vec F S4x1x384 .f32) :
    (⟨k0_pay9 (arg3.view.readAt (Elt F) (Rect.unit (s := S4x128x384) ![0, 0, 0] S1x128x384.size inb_S4x128x384_S1x128x384_0_0_0).toLoadRect (harg3.unread x1))
        (arg3.view.readAt (Elt F) (Rect.unit (s := S4x128x384) ![1, 0, 0] S1x128x384.size inb_S4x128x384_S1x128x384_1_0_0).toLoadRect (harg3.unread x1))
        (arg3.view.readAt (Elt F) (Rect.unit (s := S4x128x384) ![2, 0, 0] S1x128x384.size inb_S4x128x384_S1x128x384_2_0_0).toLoadRect (harg3.unread x1))
        (arg3.view.readAt (Elt F) (Rect.unit (s := S4x128x384) ![3, 0, 0] S1x128x384.size inb_S4x128x384_S1x128x384_3_0_0).toLoadRect (harg3.unread x1)),
      k0_pay12 (k0_pay10 i (arg7.view.readAt (Elt F) (Rect.unit (s := S384x256) ![0, 0] S384x256.size inb_S384x256_S384x256_0_0).toLoadRect (harg7.unread x2)))
        (k0_pay11 (arg8.view.readAt (Elt F) (Rect.unit (s := S384x256) ![0, 0] S384x256.size inb_S384x256_S384x256_0_0).toLoadRect (harg8.unread x3))),
      k0_pay14 (k0_pay10 i (arg7.view.readAt (Elt F) (Rect.unit (s := S384x256) ![0, 0] S384x256.size inb_S384x256_S384x256_0_0).toLoadRect (harg7.unread x2))),
      k0_pay15 (k0_pay10 i (arg7.view.readAt (Elt F) (Rect.unit (s := S384x256) ![0, 0] S384x256.size inb_S384x256_S384x256_0_0).toLoadRect (harg7.unread x2))),
      k0_pay16 (arg2.view.readAt (Elt F) (Rect.unit (s := S4x384x128) ![0, 0, 0] S4x384x128.size inb_S4x384x128_S4x384x128_0_0_0).toLoadRect (harg2.unread x0)),
      k0_pay17 (arg9.view.readAt (Elt F) (Rect.unit (s := S4x1x384) ![0, 0, 0] S1x1x384.size inb_S4x1x384_S1x1x384_0_0_0).toLoadRect (harg9.unread x4))
        (arg9.view.readAt (Elt F) (Rect.unit (s := S4x1x384) ![1, 0, 0] S1x1x384.size inb_S4x1x384_S1x1x384_1_0_0).toLoadRect (harg9.unread x4))
        (arg9.view.readAt (Elt F) (Rect.unit (s := S4x1x384) ![2, 0, 0] S1x1x384.size inb_S4x1x384_S1x1x384_2_0_0).toLoadRect (harg9.unread x4))
        (arg9.view.readAt (Elt F) (Rect.unit (s := S4x1x384) ![3, 0, 0] S1x1x384.size inb_S4x1x384_S1x1x384_3_0_0).toLoadRect (harg9.unread x4))⟩ : Side F)
      = side i x0 x1 x2 x3 x4 := by
  have e7 := (View.readAt_full arg7.view (harg7.unread x2) inb_S384x256_S384x256_0_0).trans (harg7.read_unread x2)
  have e8 := (View.readAt_full arg8.view (harg8.unread x3) inb_S384x256_S384x256_0_0).trans (harg8.read_unread x3)
  have e2 := (View.readAt_full arg2.view (harg2.unread x0) inb_S4x384x128_S4x384x128_0_0_0).trans (harg2.read_unread x0)
  rw [e7, e8, e2, rd, rd, rd, rd, rd, rd, rd, rd]
  rfl

end

/-! ## The loop's pieces, read -/

section
variable (𝒱 : Variants) (c : Dev nD) (bd : Option 𝒱.V) (i : grid0.Coords)
  (arg2 : Memref sig .tc .vmem S4x384x128 .bf16) (harg2 : arg2.IsWhole)
  (arg3 : Memref sig .tc .vmem S4x128x384 .bf16) (harg3 : arg3.IsWhole)
  (arg4 : Memref sig .tc .hbm S16896x128 .bf16) (harg4 : arg4.IsWhole)
  (arg5 : Memref sig .tc .hbm S33x128x512 .bf16) (harg5 : arg5.IsWhole)
  (arg6 : Memref sig .tc .hbm S2x16896x128 .bf16) (harg6 : arg6.IsWhole)
  (arg7 : Memref sig .tc .vmem S384x256 .f32) (harg7 : arg7.IsWhole)
  (arg8 : Memref sig .tc .vmem S384x256 .f32) (harg8 : arg8.IsWhole)
  (arg9 : Memref sig .tc .vmem S4x1x384 .f32) (harg9 : arg9.IsWhole)
  (arg10 : Memref sig .tc .vmem S4x384x128 .f32) (harg10 : arg10.IsWhole)
  (arg11 : Memref sig .tc .hbm S2x16896x128 .f32) (harg11 : arg11.IsWhole)
  (arg12 : Memref sig .tc .hbm S2x16896x128 .f32) (harg12 : arg12.IsWhole)
  (arg13 : Memref sig .tc .vmem S16896x128 .bf16) (harg13 : arg13.IsWhole)
  (arg14 : Memref sig .tc .vmem S33x128x512 .bf16) (harg14 : arg14.IsWhole)
  (arg15 : Memref sig .tc .vmem S16896x128 .bf16) (harg15 : arg15.IsWhole)
  (arg16 : Memref sig .tc .vmem S16896x128 .f32) (harg16 : arg16.IsWhole)
  (arg17 : Memref sig .tc .vmem S16896x128 .f32) (harg17 : arg17.IsWhole)
  (arg18 : Memref sig .tc .vmem S128x1536 .f32) (harg18 : arg18.IsWhole)
  (arg19 : DmaSems sig S3) (s : Side F) (v62 : FVec F S128x512 .bf16) (v63 : Vec F S512x128 .bf16) (v64 : FVec F S512x1536 .f32) (v65 : IVec S512x1536 32) (w : BitVec 32)
  (X13 : BufTy.Contents (Elt F) arg13.view.ty) (X14 : BufTy.Contents (Elt F) arg14.view.ty) (X15 : BufTy.Contents (Elt F) arg15.view.ty)

theorem trip_dk (k : Fin k0_t1_loop.trips) (f16 : BufTy.Contents (Elt F) arg16.view.ty) (f17 : BufTy.Contents (Elt F) arg17.view.ty) (f18 : BufTy.Contents (Elt F) arg18.view.ty) (L : List (View.Piece (Elt F) S16896x128 .f32)) (G : BufTy.Contents (Elt F) arg16.view.ty)
    (kr : Vec F S16896x128 .bf16) (kt : Vec F S33x128x512 .bf16) (vb : Vec F S16896x128 .bf16) (hkr : arg13.view.read (Elt F) X13 = kr) (hkt : arg14.view.read (Elt F) X14 = kt) (hvb : arg15.view.read (Elt F) X15 = vb)
    (a : Acc F) (hdk : arg16.view.read (Elt F) f16 = a.dk) (hL : arg16.view.read (Elt F) (arg16.view.writes (Elt F) G L) = a.dk) :
    arg16.view.read (Elt F) (arg16.view.writes (Elt F) G ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 s.qt s.dl s.dr s.dt s.qr s.ls v62 v63 v64 v65 w X13 X14 X15 k f16 f17 f18).1 ++ L)) = (step s kr kt vb k a).dk := by
  unfold tripL_k0_t1 trip_k0_t1
  subst hkr hkt hvb
  refine (View.read_writes_cons_put _ _ _ _ _ rfl).trans ?_
  show VecWindow.put (arg16.view.read (Elt F) (arg16.view.writes (Elt F) G L)) _ _ _ = _
  rw [hL]
  unfold step
  rw [← hdk]
  rfl

theorem trip_dv (k : Fin k0_t1_loop.trips) (f16 : BufTy.Contents (Elt F) arg16.view.ty) (f17 : BufTy.Contents (Elt F) arg17.view.ty) (f18 : BufTy.Contents (Elt F) arg18.view.ty) (L : List (View.Piece (Elt F) S16896x128 .f32)) (G : BufTy.Contents (Elt F) arg17.view.ty)
    (kr : Vec F S16896x128 .bf16) (kt : Vec F S33x128x512 .bf16) (vb : Vec F S16896x128 .bf16) (hkr : arg13.view.read (Elt F) X13 = kr) (hkt : arg14.view.read (Elt F) X14 = kt) (hvb : arg15.view.read (Elt F) X15 = vb)
    (a : Acc F) (hdv : arg17.view.read (Elt F) f17 = a.dv) (hL : arg17.view.read (Elt F) (arg17.view.writes (Elt F) G L) = a.dv) :
    arg17.view.read (Elt F) (arg17.view.writes (Elt F) G ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 s.qt s.dl s.dr s.dt s.qr s.ls v62 v63 v64 v65 w X13 X14 X15 k f16 f17 f18).2.1 ++ L)) = (step s kr kt vb k a).dv := by
  unfold tripL_k0_t1 trip_k0_t1
  subst hkr hkt hvb
  refine (View.read_writes_cons_put _ _ _ _ _ rfl).trans ?_
  show VecWindow.put (arg17.view.read (Elt F) (arg17.view.writes (Elt F) G L)) _ _ _ = _
  rw [hL]
  unfold step
  rw [← hdv]
  rfl

theorem trip_dq (k : Fin k0_t1_loop.trips) (f16 : BufTy.Contents (Elt F) arg16.view.ty) (f17 : BufTy.Contents (Elt F) arg17.view.ty) (f18 : BufTy.Contents (Elt F) arg18.view.ty) (L : List (View.Piece (Elt F) S128x1536 .f32)) (G : BufTy.Contents (Elt F) arg18.view.ty)
    (kr : Vec F S16896x128 .bf16) (kt : Vec F S33x128x512 .bf16) (vb : Vec F S16896x128 .bf16) (hkr : arg13.view.read (Elt F) X13 = kr) (hkt : arg14.view.read (Elt F) X14 = kt) (hvb : arg15.view.read (Elt F) X15 = vb)
    (a : Acc F) (hdq : arg18.view.read (Elt F) f18 = a.dq) :
    arg18.view.read (Elt F) (arg18.view.writes (Elt F) G ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 s.qt s.dl s.dr s.dt s.qr s.ls v62 v63 v64 v65 w X13 X14 X15 k f16 f17 f18).2.2 ++ L)) = (step s kr kt vb k a).dq := by
  unfold tripL_k0_t1 trip_k0_t1
  subst hkr hkt hvb
  refine (View.read_writes_full _ _ _ _ _).trans ?_
  unfold step
  rw [← hdq]
  exact congrArg (k0_pay4 s.qt s.dl s.dt s.ls _ _ _) (View.readAt_full arg18.view f18 _)

/-- The pieces the trips before `n` leave, read: the fold over them. -/
theorem pb_read (kr : Vec F S16896x128 .bf16) (kt : Vec F S33x128x512 .bf16) (vb : Vec F S16896x128 .bf16) (hkr : arg13.view.read (Elt F) X13 = kr) (hkt : arg14.view.read (Elt F) X14 = kt) (hvb : arg15.view.read (Elt F) X15 = vb)
    (G16 : BufTy.Contents (Elt F) arg16.view.ty) (G17 : BufTy.Contents (Elt F) arg17.view.ty) (G18 : BufTy.Contents (Elt F) arg18.view.ty)
    (a : Acc F) (hdq : arg18.view.read (Elt F) G18 = a.dq) (hdk : arg16.view.read (Elt F) G16 = a.dk) (hdv : arg17.view.read (Elt F) G17 = a.dv) :
    ∀ n, n ≤ k0_t1_loop.trips →
      arg16.view.read (Elt F) (arg16.view.writes (Elt F) G16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 s.qt s.dl s.dr s.dt s.qr s.ls v62 v63 v64 v65 w X13 X14 X15 G16 G17 G18 n).1) = (fold s kr kt vb a n).dk
      ∧ arg17.view.read (Elt F) (arg17.view.writes (Elt F) G17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 s.qt s.dl s.dr s.dt s.qr s.ls v62 v63 v64 v65 w X13 X14 X15 G16 G17 G18 n).2.1) = (fold s kr kt vb a n).dv
      ∧ arg18.view.read (Elt F) (arg18.view.writes (Elt F) G18 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 s.qt s.dl s.dr s.dt s.qr s.ls v62 v63 v64 v65 w X13 X14 X15 G16 G17 G18 n).2.2) = (fold s kr kt vb a n).dq := by
  intro n
  induction n with
  | zero => intro _; exact ⟨hdk, hdv, hdq⟩
  | succ n ih =>
    intro hn
    obtain ⟨i1, i2, i3⟩ := ih (Nat.le_of_succ_le hn)
    rw [pb_k0_t1_succ (k := ⟨n, hn⟩)]
    have hf : fold s kr kt vb a (n + 1) = step s kr kt vb ⟨n, hn⟩ (fold s kr kt vb a n) := dif_pos hn
    rw [hf]
    exact ⟨trip_dk _ _ _ _ _ _ _ _ _ _ _ _ _ _ _ _ _ _ _ _ _ _ _ _ _ _ _ _ _ _ _ _ _ _ _ _ _ _ _ _ _ _ _ _ _ _ _ _ _ _ _ _ _ _ _ _ _ hkr hkt hvb _ i1 i1,
      trip_dv _ _ _ _ _ _ _ _ _ _ _ _ _ _ _ _ _ _ _ _ _ _ _ _ _ _ _ _ _ _ _ _ _ _ _ _ _ _ _ _ _ _ _ _ _ _ _ _ _ _ _ _ _ _ _ _ _ hkr hkt hvb _ i2 i2,
      trip_dq _ _ _ _ _ _ _ _ _ _ _ _ _ _ _ _ _ _ _ _ _ _ _ _ _ _ _ _ _ _ _ _ _ _ _ _ _ _ _ _ _ _ _ _ _ _ _ _ _ _ _ _ _ _ _ _ _ hkr hkt hvb _ i3⟩

end

end Cert.KernelIdeal.Att
-- ==== Proof.KReal.lean ====
module

public import proofs.«01_k».proof.Proof.KStep
public import Idealize.ShloMosaic.Lib.Pointwise
public import Idealize.ShloMosaic.Lib.WordCmp

@[expose] public section

set_option maxRecDepth 16384

noncomputable section

namespace Cert.KernelIdeal.Att

open Idealize.ShloMosaic Idealize.ShloMosaic.TcCoe
open Cert.KernelIdeal Cert.KernelIdeal.Gen Ix

/-! ## What one chunk computes, over real numbers -/

theorem sum_real {n : ℕ} (f : Fin n → ℝ) : (∑ i, ((f i : ℝ) : EReal)) = ((∑ i, f i : ℝ) : EReal) := by
  have : ∀ s : Finset (Fin n), (∑ i ∈ s, ((f i : ℝ) : EReal)) = ((∑ i ∈ s, f i : ℝ) : EReal) := fun s => by
    classical
    induction s using Finset.induction_on with
    | empty => simp
    | insert a s ha ih => rw [Finset.sum_insert ha, Finset.sum_insert ha, ih, EReal.coe_add]
  exact this _

theorem select_ofBool_prop {α : Type} (p : Prop) [Decidable p] (a b : α) : Scalar.select (BitVec.ofBool (decide p)) a b = if p then a else b := by
  by_cases h : p <;> simp [h, Scalar.select]

theorem mask_named : Named.named (F := Ideal) Cert.KernelIdeal.κ "mask" (φ := .f32) 0xF149F2CA#32 = (⊥ : EReal) :=
  IdealRules.named_const.ideal_named_scalar _ _ _ _ rfl

/-- The weight of a key against a query column. -/
def wt (Q : Fin 1536 → Fin 128 → ℝ) (ℓ : Fin 1536 → ℝ) (k : Fin 128 → ℝ) (r : Fin 1536) : ℝ :=
  Real.exp (∑ x, k x * Q r x - ℓ r)

/-- The same among the first 512 keys, of which 496 are padding and weigh nothing. -/
def wt0 (Q : Fin 1536 → Fin 128 → ℝ) (ℓ : Fin 1536 → ℝ) (K : Fin 512 → Fin 128 → ℝ) (y : Fin 512) (r : Fin 1536) : ℝ :=
  if y.val < 496 then 0 else wt Q ℓ (K y) r

/-- The gradient of a score. -/
def gs (D : Fin 1536 → Fin 128 → ℝ) (δ : Fin 1536 → ℝ) (v : Fin 128 → ℝ) (p : ℝ) (r : Fin 1536) : ℝ :=
  p * (∑ x, v x * D r x - δ r)

section
variable {Q D : Fin 1536 → Fin 128 → ℝ} {δ ℓ : Fin 1536 → ℝ}

theorem pay2_real {v11 : FVec Ideal S128x1536 .bf16} {v55 : FVec Ideal S1x1536 .f32} {v108 : Vec Ideal S512x128 .bf16} {K : Fin 512 → Fin 128 → ℝ}
    (h11 : ∀ x r, v11 (ix2 x r) = ((Q r x : ℝ) : EReal)) (h55 : ∀ r, v55 (ix2 0 r) = ((ℓ r : ℝ) : EReal))
    (h108 : ∀ y x, v108 (ix2 y x) = ((K y x : ℝ) : EReal)) (y : Fin 512) (r : Fin 1536) :
    k0_pay2 v11 v55 v108 (ix2 y r) = ((wt Q ℓ (K y) r : ℝ) : EReal) := by
  pointwise [k0_pay2]
  simp only [h11, h55, h108, ← EReal.coe_mul, sum_real, ← EReal.coe_sub, Ideal.exp_coe]
  rfl

theorem pay3_real {v11 : FVec Ideal S128x1536 .bf16} {v38 : FVec Ideal S1x1536 .f32} {v43 : FVec Ideal S128x1536 .bf16} {v55 : FVec Ideal S1x1536 .f32}
    {v108 v113 : Vec Ideal S512x128 .bf16} {K V : Fin 512 → Fin 128 → ℝ}
    (h11 : ∀ x r, v11 (ix2 x r) = ((Q r x : ℝ) : EReal)) (h38 : ∀ r, v38 (ix2 0 r) = ((δ r : ℝ) : EReal))
    (h43 : ∀ x r, v43 (ix2 x r) = ((D r x : ℝ) : EReal)) (h55 : ∀ r, v55 (ix2 0 r) = ((ℓ r : ℝ) : EReal))
    (h108 : ∀ y x, v108 (ix2 y x) = ((K y x : ℝ) : EReal)) (h113 : ∀ y x, v113 (ix2 y x) = ((V y x : ℝ) : EReal)) (y : Fin 512) (r : Fin 1536) :
    k0_pay3 v11 v38 v43 v55 v108 v113 (ix2 y r) = ((gs D δ (V y) (wt Q ℓ (K y) r) r : ℝ) : EReal) := by
  pointwise [k0_pay3]
  rw [pay2_real h11 h55 h108]
  simp only [h38, h43, h113, ← EReal.coe_mul, sum_real, ← EReal.coe_sub]
  rfl

theorem pay4_real {v11 : FVec Ideal S128x1536 .bf16} {v38 : FVec Ideal S1x1536 .f32} {v43 : FVec Ideal S128x1536 .bf16} {v55 : FVec Ideal S1x1536 .f32}
    {v108 v113 : Vec Ideal S512x128 .bf16} {v110 : Vec Ideal S1x128x512 .bf16} {v123 : Vec Ideal S128x1536 .f32} {K V : Fin 512 → Fin 128 → ℝ} {A : Fin 128 → Fin 1536 → ℝ}
    (h11 : ∀ x r, v11 (ix2 x r) = ((Q r x : ℝ) : EReal)) (h38 : ∀ r, v38 (ix2 0 r) = ((δ r : ℝ) : EReal))
    (h43 : ∀ x r, v43 (ix2 x r) = ((D r x : ℝ) : EReal)) (h55 : ∀ r, v55 (ix2 0 r) = ((ℓ r : ℝ) : EReal))
    (h108 : ∀ y x, v108 (ix2 y x) = ((K y x : ℝ) : EReal)) (h110 : ∀ x y, v110 (ix3 0 x y) = ((K y x : ℝ) : EReal))
    (h113 : ∀ y x, v113 (ix2 y x) = ((V y x : ℝ) : EReal)) (h123 : ∀ x r, v123 (ix2 x r) = ((A x r : ℝ) : EReal)) (x : Fin 128) (r : Fin 1536) :
    k0_pay4 v11 v38 v43 v55 v108 v110 v113 v123 (ix2 x r) = ((A x r + ∑ y, K y x * gs D δ (V y) (wt Q ℓ (K y) r) r : ℝ) : EReal) := by
  pointwise [k0_pay4]
  simp only [pay3_real h11 h38 h43 h55 h108 h113, h110, h123, ← EReal.coe_mul, sum_real, ← EReal.coe_add]

theorem pay5_real {v11 : FVec Ideal S128x1536 .bf16} {v38 : FVec Ideal S1x1536 .f32} {v43 : FVec Ideal S128x1536 .bf16} {v46 : FVec Ideal S1536x128 .bf16} {v55 : FVec Ideal S1x1536 .f32}
    {v108 v113 : Vec Ideal S512x128 .bf16} {v130 : Vec Ideal S512x128 .f32} {K V A : Fin 512 → Fin 128 → ℝ}
    (h11 : ∀ x r, v11 (ix2 x r) = ((Q r x : ℝ) : EReal)) (h38 : ∀ r, v38 (ix2 0 r) = ((δ r : ℝ) : EReal))
    (h43 : ∀ x r, v43 (ix2 x r) = ((D r x : ℝ) : EReal)) (h46 : ∀ r x, v46 (ix2 r x) = ((Q r x : ℝ) : EReal)) (h55 : ∀ r, v55 (ix2 0 r) = ((ℓ r : ℝ) : EReal))
    (h108 : ∀ y x, v108 (ix2 y x) = ((K y x : ℝ) : EReal))
    (h113 : ∀ y x, v113 (ix2 y x) = ((V y x : ℝ) : EReal)) (h130 : ∀ y x, v130 (ix2 y x) = ((A y x : ℝ) : EReal)) (y : Fin 512) (x : Fin 128) :
    k0_pay5 v11 v38 v43 v46 v55 v108 v113 v130 (ix2 y x) = ((A y x + ∑ r, gs D δ (V y) (wt Q ℓ (K y) r) r * Q r x : ℝ) : EReal) := by
  pointwise [k0_pay5]
  simp only [pay3_real h11 h38 h43 h55 h108 h113, h46, h130, ← EReal.coe_mul, sum_real, ← EReal.coe_add]

theorem pay6_real {v11 : FVec Ideal S128x1536 .bf16} {v42 : FVec Ideal S1536x128 .bf16} {v55 : FVec Ideal S1x1536 .f32}
    {v108 : Vec Ideal S512x128 .bf16} {v138 : Vec Ideal S512x128 .f32} {K A : Fin 512 → Fin 128 → ℝ}
    (h11 : ∀ x r, v11 (ix2 x r) = ((Q r x : ℝ) : EReal)) (h42 : ∀ r x, v42 (ix2 r x) = ((D r x : ℝ) : EReal)) (h55 : ∀ r, v55 (ix2 0 r) = ((ℓ r : ℝ) : EReal))
    (h108 : ∀ y x, v108 (ix2 y x) = ((K y x : ℝ) : EReal)) (h138 : ∀ y x, v138 (ix2 y x) = ((A y x : ℝ) : EReal)) (y : Fin 512) (x : Fin 128) :
    k0_pay26 (k0_pay6 v11 v42 v55 v108 v138) (ix2 y x) = ((A y x + ∑ r, wt Q ℓ (K y) r * D r x : ℝ) : EReal) := by
  pointwise [k0_pay26, k0_pay6]
  simp only [pay2_real h11 h55 h108, h42, h138, ← EReal.coe_mul, sum_real, ← EReal.coe_add]

/-! The first chunk: its first 496 keys weigh nothing. -/

theorem pay21_real {v11 : FVec Ideal S128x1536 .bf16} {v55 : FVec Ideal S1x1536 .f32} {v60 : Vec Ideal S512x128 .bf16} {K : Fin 512 → Fin 128 → ℝ}
    (h11 : ∀ x r, v11 (ix2 x r) = ((Q r x : ℝ) : EReal)) (h55 : ∀ r, v55 (ix2 0 r) = ((ℓ r : ℝ) : EReal))
    (h60 : ∀ y x, v60 (ix2 y x) = ((K y x : ℝ) : EReal)) (y : Fin 512) (r : Fin 1536) :
    k0_pay21 (F := Ideal) v55 (k0_pay20 v11 v60) (iota .tc S512x1536 32 [0] iota_S512x1536_d0_w32) 496#32 (ix2 y r)
      = ((wt0 Q ℓ K y r : ℝ) : EReal) := by
  pointwise [k0_pay21, k0_pay20]
  simp only [h11, h55, h60, ← EReal.coe_mul, sum_real, mask_named]
  rw [show (496#32 : BitVec 32) = BitVec.ofNat 32 496 from rfl, WordCmp.cmpi_sge_ofNat (by have := y.isLt; omega) (by omega), select_ofBool_prop]
  unfold wt0
  by_cases h : y.val < 496
  · rw [if_neg (by omega), if_pos h, EReal.bot_sub, Ideal.exp_bot]; rfl
  · rw [if_pos (by omega), if_neg h, ← EReal.coe_sub, Ideal.exp_coe]; rfl

theorem pay22_real {v11 : FVec Ideal S128x1536 .bf16} {v38 : FVec Ideal S1x1536 .f32} {v43 : FVec Ideal S128x1536 .bf16} {v55 : FVec Ideal S1x1536 .f32}
    {v60 v63 : Vec Ideal S512x128 .bf16} {K V : Fin 512 → Fin 128 → ℝ}
    (h11 : ∀ x r, v11 (ix2 x r) = ((Q r x : ℝ) : EReal)) (h38 : ∀ r, v38 (ix2 0 r) = ((δ r : ℝ) : EReal))
    (h43 : ∀ x r, v43 (ix2 x r) = ((D r x : ℝ) : EReal)) (h55 : ∀ r, v55 (ix2 0 r) = ((ℓ r : ℝ) : EReal))
    (h60 : ∀ y x, v60 (ix2 y x) = ((K y x : ℝ) : EReal)) (h63 : ∀ y x, v63 (ix2 y x) = ((V y x : ℝ) : EReal)) (y : Fin 512) (r : Fin 1536) :
    k0_pay22 (F := Ideal) v38 v43 v55 v63 (k0_pay20 v11 v60) (iota .tc S512x1536 32 [0] iota_S512x1536_d0_w32) 496#32 (ix2 y r)
      = ((gs D δ (V y) (wt0 Q ℓ K y r) r : ℝ) : EReal) := by
  pointwise [k0_pay22]
  rw [pay21_real h11 h55 h60]
  simp only [h38, h43, h63, ← EReal.coe_mul, sum_real, ← EReal.coe_sub]
  rfl

theorem pay23_real {v11 : FVec Ideal S128x1536 .bf16} {v38 : FVec Ideal S1x1536 .f32} {v43 : FVec Ideal S128x1536 .bf16} {v55 : FVec Ideal S1x1536 .f32}
    {v60 v63 : Vec Ideal S512x128 .bf16} {v61 : Vec Ideal S1x128x512 .bf16} {K V : Fin 512 → Fin 128 → ℝ}
    (h11 : ∀ x r, v11 (ix2 x r) = ((Q r x : ℝ) : EReal)) (h38 : ∀ r, v38 (ix2 0 r) = ((δ r : ℝ) : EReal))
    (h43 : ∀ x r, v43 (ix2 x r) = ((D r x : ℝ) : EReal)) (h55 : ∀ r, v55 (ix2 0 r) = ((ℓ r : ℝ) : EReal))
    (h60 : ∀ y x, v60 (ix2 y x) = ((K y x : ℝ) : EReal)) (h61 : ∀ x y, v61 (ix3 0 x y) = ((K y x : ℝ) : EReal))
    (h63 : ∀ y x, v63 (ix2 y x) = ((V y x : ℝ) : EReal)) (x : Fin 128) (r : Fin 1536) :
    k0_pay23 (F := Ideal) v38 v43 v55 (k0_pay19 v61) v63 (k0_pay20 v11 v60) (iota .tc S512x1536 32 [0] iota_S512x1536_d0_w32) 496#32 (k0_pay18 (F := Ideal)) (ix2 x r)
      = ((∑ y, K y x * gs D δ (V y) (wt0 Q ℓ K y r) r : ℝ) : EReal) := by
  pointwise [k0_pay23, k0_pay19, k0_pay18]
  simp only [pay22_real h11 h38 h43 h55 h60 h63, h61, ← EReal.coe_mul, sum_real, ← EReal.coe_add, zero_add]

theorem pay24_real {v11 : FVec Ideal S128x1536 .bf16} {v38 : FVec Ideal S1x1536 .f32} {v43 : FVec Ideal S128x1536 .bf16} {v46 : FVec Ideal S1536x128 .bf16} {v55 : FVec Ideal S1x1536 .f32}
    {v60 v63 : Vec Ideal S512x128 .bf16} {v84 : Vec Ideal S512x128 .f32} {K V A : Fin 512 → Fin 128 → ℝ}
    (h11 : ∀ x r, v11 (ix2 x r) = ((Q r x : ℝ) : EReal)) (h38 : ∀ r, v38 (ix2 0 r) = ((δ r : ℝ) : EReal))
    (h43 : ∀ x r, v43 (ix2 x r) = ((D r x : ℝ) : EReal)) (h46 : ∀ r x, v46 (ix2 r x) = ((Q r x : ℝ) : EReal)) (h55 : ∀ r, v55 (ix2 0 r) = ((ℓ r : ℝ) : EReal))
    (h60 : ∀ y x, v60 (ix2 y x) = ((K y x : ℝ) : EReal))
    (h63 : ∀ y x, v63 (ix2 y x) = ((V y x : ℝ) : EReal)) (h84 : ∀ y x, v84 (ix2 y x) = ((A y x : ℝ) : EReal)) (y : Fin 512) (x : Fin 128) :
    k0_pay24 (F := Ideal) v38 v43 v46 v55 v63 (k0_pay20 v11 v60) (iota .tc S512x1536 32 [0] iota_S512x1536_d0_w32) 496#32 v84 (ix2 y x)
      = ((A y x + ∑ r, gs D δ (V y) (wt0 Q ℓ K y r) r * Q r x : ℝ) : EReal) := by
  pointwise [k0_pay24]
  simp only [pay22_real h11 h38 h43 h55 h60 h63, h46, h84, ← EReal.coe_mul, sum_real, ← EReal.coe_add]

theorem pay25_real {v11 : FVec Ideal S128x1536 .bf16} {v42 : FVec Ideal S1536x128 .bf16} {v55 : FVec Ideal S1x1536 .f32}
    {v60 : Vec Ideal S512x128 .bf16} {v90 : Vec Ideal S512x128 .f32} {K A : Fin 512 → Fin 128 → ℝ}
    (h11 : ∀ x r, v11 (ix2 x r) = ((Q r x : ℝ) : EReal)) (h42 : ∀ r x, v42 (ix2 r x) = ((D r x : ℝ) : EReal)) (h55 : ∀ r, v55 (ix2 0 r) = ((ℓ r : ℝ) : EReal))
    (h60 : ∀ y x, v60 (ix2 y x) = ((K y x : ℝ) : EReal)) (h90 : ∀ y x, v90 (ix2 y x) = ((A y x : ℝ) : EReal)) (y : Fin 512) (x : Fin 128) :
    k0_pay25 (F := Ideal) v42 v55 (k0_pay20 v11 v60) (iota .tc S512x1536 32 [0] iota_S512x1536_d0_w32) 496#32 v90 (ix2 y x)
      = ((A y x + ∑ r, (wt0 Q ℓ K y r) * D r x : ℝ) : EReal) := by
  pointwise [k0_pay25]
  simp only [pay21_real h11 h55 h60, h42, h90, ← EReal.coe_mul, sum_real, ← EReal.coe_add]

end

/-! ## Windows of 512 rows -/

theorem window_rows {α : Type} {n m : ℕ} (x : (⟨2, ![n, m]⟩ : Shape).Idx → α) (off : Fin 2 → ℕ) (o : ℕ) (ho : off = ![o, 0])
    (inb : ∀ a, off a + (![512, m] : Fin 2 → ℕ) a ≤ (⟨2, ![n, m]⟩ : Shape).size a) (y : Fin 512) (c : Fin m) (hy : o + y.val < n) :
    VecWindow.window (s := ⟨2, ![n, m]⟩) x off ![512, m] inb (ix2 y c) = x (ix2 ⟨o + y.val, hy⟩ c) := by
  subst ho
  unfold VecWindow.window
  congr 1
  funext a
  refine Fin.ext ?_
  fin_cases a
  · show o + 1 * y.val = o + y.val; omega
  · show 0 + 1 * c.val = c.val; omega

theorem window_lead {α : Type} {n m k : ℕ} (x : (⟨3, ![n, m, k]⟩ : Shape).Idx → α) (off : Fin 3 → ℕ) (o : ℕ) (ho : off = ![o, 0, 0])
    (inb : ∀ a, off a + (![1, m, k] : Fin 3 → ℕ) a ≤ (⟨3, ![n, m, k]⟩ : Shape).size a) (y : Fin m) (c : Fin k) (hn : o < n) :
    VecWindow.window (s := ⟨3, ![n, m, k]⟩) x off ![1, m, k] inb (ix3 0 y c) = x (ix3 ⟨o, hn⟩ y c) := by
  subst ho
  unfold VecWindow.window
  congr 1
  funext a
  refine Fin.ext ?_
  fin_cases a
  · show o + 1 * 0 = o; omega
  · show 0 + 1 * y.val = y.val; omega
  · show 0 + 1 * c.val = c.val; omega

theorem put_rows_in {α : Type} {n m : ℕ} (x : (⟨2, ![n, m]⟩ : Shape).Idx → α) (off : Fin 2 → ℕ) (o : ℕ) (ho : off = ![o, 0])
    (w : (⟨2, ![512, m]⟩ : Shape).Idx → α) (s : Fin n) (c : Fin m) (h1 : o ≤ s.val) (h2 : s.val < o + 512) :
    VecWindow.put (s := ⟨2, ![n, m]⟩) x off ![512, m] w (ix2 s c) = w (ix2 ⟨s.val - o, by omega⟩ c) := by
  subst ho
  unfold VecWindow.put
  rw [dif_pos (fun a => by
    fin_cases a
    · exact ⟨h1, h2⟩
    · exact ⟨Nat.zero_le _, by show c.val < 0 + m; have := c.isLt; omega⟩)]
  congr 1
  funext a
  refine Fin.ext ?_
  fin_cases a
  · rfl
  · rfl

theorem put_rows_out {α : Type} {n m : ℕ} (x : (⟨2, ![n, m]⟩ : Shape).Idx → α) (off : Fin 2 → ℕ) (o : ℕ) (ho : off = ![o, 0])
    (w : (⟨2, ![512, m]⟩ : Shape).Idx → α) (s : Fin n) (c : Fin m) (h : s.val < o ∨ o + 512 ≤ s.val) :
    VecWindow.put (s := ⟨2, ![n, m]⟩) x off ![512, m] w (ix2 s c) = x (ix2 s c) := by
  subst ho
  unfold VecWindow.put
  rw [dif_neg fun hall => ?_]
  have h0 := hall 0
  change o ≤ s.val ∧ s.val < o + 512 at h0
  omega

end Cert.KernelIdeal.Att
-- ==== Proof.KPoint.lean ====
module

public import proofs.«01_k».proof.Proof.KReal

@[expose] public section

set_option maxRecDepth 16384

noncomputable section

namespace Cert.KernelIdeal.Att

open Idealize.ShloMosaic Idealize.ShloMosaic.TcCoe
open Cert.KernelIdeal Cert.KernelIdeal.Gen Ix

/-! ## A whole point, over real numbers -/

/-- The query side of a point holds real numbers: the queries `Q`, the gradients `D`, the row sums `δ`, the log-sums `ℓ`. -/
structure IsSide (s : Side Ideal) (Q D : Fin 1536 → Fin 128 → ℝ) (δ ℓ : Fin 1536 → ℝ) : Prop where
  qt : ∀ x r, s.qt (ix2 x r) = ((Q r x : ℝ) : EReal)
  dl : ∀ r, s.dl (ix2 0 r) = ((δ r : ℝ) : EReal)
  dr : ∀ r x, s.dr (ix2 r x) = ((D r x : ℝ) : EReal)
  dt : ∀ x r, s.dt (ix2 x r) = ((D r x : ℝ) : EReal)
  qr : ∀ r x, s.qr (ix2 r x) = ((Q r x : ℝ) : EReal)
  ls : ∀ r, s.ls (ix2 0 r) = ((ℓ r : ℝ) : EReal)

/-- Key `y` of chunk `c`. -/
def keyAt (c : ℕ) (hc : c < 33) (y : Fin 512) : Fin 16896 := ⟨512 * c + y.val, by have := y.isLt; omega⟩

/-- The keys and values hold real numbers. -/
structure IsKeys (kr : Vec Ideal S16896x128 .bf16) (kt : Vec Ideal S33x128x512 .bf16) (vb : Vec Ideal S16896x128 .bf16) (K V : Fin 16896 → Fin 128 → ℝ) : Prop where
  kr : ∀ s x, kr (ix2 s x) = ((K s x : ℝ) : EReal)
  kt : ∀ c (hc : c < 33) x y, kt (ix3 ⟨c, hc⟩ x y) = ((K (keyAt c hc y) x : ℝ) : EReal)
  vb : ∀ s x, vb (ix2 s x) = ((V s x : ℝ) : EReal)

/-- The weight of key `s`, none for the padding. -/
def pw (Q : Fin 1536 → Fin 128 → ℝ) (ℓ : Fin 1536 → ℝ) (K : Fin 16896 → Fin 128 → ℝ) (s : Fin 16896) (r : Fin 1536) : ℝ :=
  if s.val < 496 then 0 else wt Q ℓ (K s) r

/-- The gradient of the score of key `s`. -/
def gw (Q D : Fin 1536 → Fin 128 → ℝ) (δ ℓ : Fin 1536 → ℝ) (K V : Fin 16896 → Fin 128 → ℝ) (s : Fin 16896) (r : Fin 1536) : ℝ :=
  gs D δ (V s) (pw Q ℓ K s r) r

/-- What chunk `c` adds to the gradient of the queries. -/
def chunkDq (Q D : Fin 1536 → Fin 128 → ℝ) (δ ℓ : Fin 1536 → ℝ) (K V : Fin 16896 → Fin 128 → ℝ) (x : Fin 128) (r : Fin 1536) (c : ℕ) : ℝ :=
  if hc : c < 33 then ∑ y, K (keyAt c hc y) x * gw Q D δ ℓ K V (keyAt c hc y) r else 0

/-- After `n` chunks. -/
structure Sofar (Q D : Fin 1536 → Fin 128 → ℝ) (δ ℓ : Fin 1536 → ℝ) (K V : Fin 16896 → Fin 128 → ℝ) (A B : Fin 16896 → Fin 128 → ℝ) (n : ℕ) (a : Acc Ideal) : Prop where
  dq : ∀ x r, a.dq (ix2 x r) = ((∑ c ∈ Finset.range n, chunkDq Q D δ ℓ K V x r c : ℝ) : EReal)
  dk : ∀ s x, a.dk (ix2 s x) = ((A s x + (if s.val < 512 * n then ∑ r, gw Q D δ ℓ K V s r * Q r x else 0) : ℝ) : EReal)
  dv : ∀ s x, a.dv (ix2 s x) = ((B s x + (if s.val < 512 * n then ∑ r, pw Q ℓ K s r * D r x else 0) : ℝ) : EReal)

section
variable {s : Side Ideal} {Q D : Fin 1536 → Fin 128 → ℝ} {δ ℓ : Fin 1536 → ℝ} {kr : Vec Ideal S16896x128 .bf16} {kt : Vec Ideal S33x128x512 .bf16} {vb : Vec Ideal S16896x128 .bf16}
  {K V A B : Fin 16896 → Fin 128 → ℝ}

theorem pw_first (y : Fin 512) (r : Fin 1536) : wt0 Q ℓ (fun y => K (keyAt 0 (by omega) y)) y r = pw Q ℓ K (keyAt 0 (by omega) y) r := by
  unfold pw wt0
  have : (keyAt 0 (by omega) y).val = y.val := by show 512 * 0 + y.val = _; omega
  rw [this]

theorem pw_later (c : ℕ) (hc : c < 33) (h : 0 < c) (y : Fin 512) (r : Fin 1536) : wt Q ℓ (K (keyAt c hc y)) r = pw Q ℓ K (keyAt c hc y) r := by
  unfold pw
  rw [if_neg]
  show ¬ 512 * c + y.val < 496
  omega

theorem keyAt_sub (c : ℕ) (hc : c < 33) (t : Fin 16896) (h1 : 512 * c ≤ t.val) (h2 : t.val < 512 * c + 512) : keyAt c hc ⟨t.val - 512 * c, by omega⟩ = t :=
  Fin.ext (by show 512 * c + (t.val - 512 * c) = t.val; omega)

theorem first_sofar (hs : IsSide s Q D δ ℓ) (hk : IsKeys kr kt vb K V) {dk dv : Vec Ideal S16896x128 .f32}
    (hA : ∀ t x, dk (ix2 t x) = ((A t x : ℝ) : EReal)) (hB : ∀ t x, dv (ix2 t x) = ((B t x : ℝ) : EReal)) :
    Sofar Q D δ ℓ K V A B 1 (first s kr kt vb dk dv) := by
  have wr : ∀ {e : EltTy} (x : Vec Ideal S16896x128 e) (y : Fin 512) (c : Fin 128), VecWindow.window x ![0, 0] S512x128.size inbChunk (ix2 y c) = x (ix2 (keyAt 0 (by omega) y) c) := fun x y c =>
    window_rows x ![0, 0] (512 * 0) rfl inbChunk y c (by have := y.isLt; omega)
  have hkr : ∀ y x, VecWindow.window kr ![0, 0] S512x128.size inbChunk (ix2 y x) = ((K (keyAt 0 (by omega) y) x : ℝ) : EReal) := fun y x => (wr kr y x).trans (hk.kr _ _)
  have hvb : ∀ y x, VecWindow.window vb ![0, 0] S512x128.size inbChunk (ix2 y x) = ((V (keyAt 0 (by omega) y) x : ℝ) : EReal) := fun y x => (wr vb y x).trans (hk.vb _ _)
  have hkt : ∀ x y, VecWindow.window kt ![0, 0, 0] S1x128x512.size inbChunkT (ix3 0 x y) = ((K (keyAt 0 (by omega) y) x : ℝ) : EReal) := fun x y =>
    (window_lead kt ![0, 0, 0] 0 rfl inbChunkT x y (by omega)).trans (hk.kt _ _ _ _)
  refine ⟨fun x r => ?_, fun t x => ?_, fun t x => ?_⟩
  · refine (pay23_real hs.qt hs.dl hs.dt hs.ls hkr hkt hvb x r).trans ?_
    rw [Finset.sum_range_one, chunkDq, dif_pos (by omega)]
    simp only [pw_first, gw]
  · by_cases h : t.val < 512
    · refine (put_rows_in dk ![0, 0] (512 * 0) rfl _ t x (by omega) (by omega)).trans ?_
      refine (pay24_real hs.qt hs.dl hs.dt hs.qr hs.ls hkr hvb (fun y x => (wr dk y x).trans (hA _ _)) _ x).trans ?_
      rw [if_pos (by omega)]
      simp only [pw_first, gw]
      rw [keyAt_sub 0 (by omega) t (by omega) (by omega)]
    · refine (put_rows_out dk ![0, 0] (512 * 0) rfl _ t x (by omega)).trans ?_
      rw [if_neg (by omega), add_zero, hA]
  · by_cases h : t.val < 512
    · refine (put_rows_in dv ![0, 0] (512 * 0) rfl _ t x (by omega) (by omega)).trans ?_
      refine (pay25_real hs.qt hs.dr hs.ls hkr (fun y x => (wr dv y x).trans (hB _ _)) _ x).trans ?_
      rw [if_pos (by omega)]
      simp only [pw_first]
      rw [keyAt_sub 0 (by omega) t (by omega) (by omega)]
    · refine (put_rows_out dv ![0, 0] (512 * 0) rfl _ t x (by omega)).trans ?_
      rw [if_neg (by omega), add_zero, hB]

theorem step_sofar (hs : IsSide s Q D δ ℓ) (hk : IsKeys kr kt vb K V) (k : Fin k0_t1_loop.trips) {a : Acc Ideal}
    (ha : Sofar Q D δ ℓ K V A B (k.val + 1) a) : Sofar Q D δ ℓ K V A B (k.val + 1 + 1) (step s kr kt vb k a) := by
  have hk32 : k.val < 32 := Nat.lt_of_lt_of_le k.isLt k0_t1_abs.2.1
  have hc : k.val + 1 < 33 := by omega
  have o2 : k0_off2 k = ![512 * (k.val + 1), 0] := (k0_off2_eq k).trans (by rw [Nat.mul_add])
  have wr : ∀ {e : EltTy} (x : Vec Ideal S16896x128 e) (y : Fin 512) (c : Fin 128), VecWindow.window x (k0_off2 k) S512x128.size (k0_off2_inb k) (ix2 y c) = x (ix2 (keyAt (k.val + 1) hc y) c) := fun x y c =>
    window_rows x (k0_off2 k) (512 * (k.val + 1)) o2 (k0_off2_inb k) y c (by have := y.isLt; omega)
  have hkr : ∀ y x, VecWindow.window kr (k0_off2 k) S512x128.size (k0_off2_inb k) (ix2 y x) = ((K (keyAt (k.val + 1) hc y) x : ℝ) : EReal) := fun y x => (wr kr y x).trans (hk.kr _ _)
  have hvb : ∀ y x, VecWindow.window vb (k0_off2 k) S512x128.size (k0_off2_inb k) (ix2 y x) = ((V (keyAt (k.val + 1) hc y) x : ℝ) : EReal) := fun y x => (wr vb y x).trans (hk.vb _ _)
  have hkt : ∀ x y, VecWindow.window kt (k0_off3 k) S1x128x512.size (k0_off3_inb k) (ix3 0 x y) = ((K (keyAt (k.val + 1) hc y) x : ℝ) : EReal) := fun x y =>
    (window_lead kt (k0_off3 k) (k.val + 1) (k0_off3_eq k) (k0_off3_inb k) x y hc).trans (hk.kt _ _ _ _)
  have pl := fun y r => pw_later (Q := Q) (ℓ := ℓ) (K := K) (k.val + 1) hc (by omega) y r
  refine ⟨fun x r => ?_, fun t x => ?_, fun t x => ?_⟩
  · refine (pay4_real hs.qt hs.dl hs.dt hs.ls hkr hkt hvb ha.dq x r).trans ?_
    rw [Finset.sum_range_succ _ (k.val + 1), chunkDq.eq_1 Q D δ ℓ K V x r (k.val + 1), dif_pos hc]
    simp only [pl, gw]
  · by_cases h : 512 * (k.val + 1) ≤ t.val ∧ t.val < 512 * (k.val + 1) + 512
    · refine (put_rows_in a.dk (k0_off2 k) (512 * (k.val + 1)) o2 _ t x h.1 h.2).trans ?_
      refine (pay5_real hs.qt hs.dl hs.dt hs.qr hs.ls hkr hvb (fun y x => (wr a.dk y x).trans (ha.dk _ _)) _ x).trans ?_
      simp only [pl]
      rw [keyAt_sub (k.val + 1) hc t h.1 h.2, if_neg (by omega), if_pos (by omega), add_zero]
      rfl
    · refine (put_rows_out a.dk (k0_off2 k) (512 * (k.val + 1)) o2 _ t x (by omega)).trans ?_
      rw [ha.dk]
      by_cases h' : t.val < 512 * (k.val + 1)
      · rw [if_pos h', if_pos (by omega)]
      · rw [if_neg h', if_neg (by omega)]
  · by_cases h : 512 * (k.val + 1) ≤ t.val ∧ t.val < 512 * (k.val + 1) + 512
    · refine (put_rows_in a.dv (k0_off2 k) (512 * (k.val + 1)) o2 _ t x h.1 h.2).trans ?_
      refine (pay6_real hs.qt hs.dr hs.ls hkr (fun y x => (wr a.dv y x).trans (ha.dv _ _)) _ x).trans ?_
      simp only [pl]
      rw [keyAt_sub (k.val + 1) hc t h.1 h.2, if_neg (by omega), if_pos (by omega), add_zero]
    · refine (put_rows_out a.dv (k0_off2 k) (512 * (k.val + 1)) o2 _ t x (by omega)).trans ?_
      rw [ha.dv]
      by_cases h' : t.val < 512 * (k.val + 1)
      · rw [if_pos h', if_pos (by omega)]
      · rw [if_neg h', if_neg (by omega)]

theorem trips_eq : k0_t1_loop.trips = 32 := by decide +kernel

theorem point_sofar (hs : IsSide s Q D δ ℓ) (hk : IsKeys kr kt vb K V) {dk dv : Vec Ideal S16896x128 .f32}
    (hA : ∀ t x, dk (ix2 t x) = ((A t x : ℝ) : EReal)) (hB : ∀ t x, dv (ix2 t x) = ((B t x : ℝ) : EReal)) :
    Sofar Q D δ ℓ K V A B 33 (point s kr kt vb dk dv) := by
  have : ∀ n, n ≤ k0_t1_loop.trips → Sofar Q D δ ℓ K V A B (n + 1) (fold s kr kt vb (first s kr kt vb dk dv) n) := fun n => by
    induction n with
    | zero => exact fun _ => first_sofar hs hk hA hB
    | succ n ih =>
      intro h
      rw [fold, dif_pos (by omega)]
      exact step_sofar hs hk ⟨n, h⟩ (ih (by omega))
  have h := this _ le_rfl
  rw [trips_eq] at h
  unfold point
  rw [trips_eq]
  exact h

/-- The sum over all keys, chunk by chunk. -/
theorem sum_chunks (f : Fin 16896 → ℝ) : (∑ c ∈ Finset.range 33, if hc : c < 33 then ∑ y, f (keyAt c hc y) else 0) = ∑ t, f t := by
  rw [← Fin.sum_univ_eq_sum_range (fun c => if hc : c < 33 then ∑ y, f (keyAt c hc y) else 0) 33]
  rw [Finset.sum_congr rfl fun (c : Fin 33) _ => dif_pos c.isLt, ← Fintype.sum_prod_type']
  refine Fintype.sum_equiv (finProdFinEquiv (m := 33) (n := 512)) _ _ fun p => ?_
  congr 1
  refine Fin.ext ?_
  show 512 * p.1.val + p.2.val = p.2.val + 512 * p.1.val
  omega

/-- What a point leaves. -/
theorem point_dq (hs : IsSide s Q D δ ℓ) (hk : IsKeys kr kt vb K V) {dk dv : Vec Ideal S16896x128 .f32}
    (hA : ∀ t x, dk (ix2 t x) = ((A t x : ℝ) : EReal)) (hB : ∀ t x, dv (ix2 t x) = ((B t x : ℝ) : EReal)) (x : Fin 128) (r : Fin 1536) :
    (point s kr kt vb dk dv).dq (ix2 x r) = ((∑ t, K t x * gw Q D δ ℓ K V t r : ℝ) : EReal) := by
  rw [(point_sofar hs hk hA hB).dq]
  unfold chunkDq
  rw [sum_chunks fun t => K t x * gw Q D δ ℓ K V t r]

theorem point_dk (hs : IsSide s Q D δ ℓ) (hk : IsKeys kr kt vb K V) {dk dv : Vec Ideal S16896x128 .f32}
    (hA : ∀ t x, dk (ix2 t x) = ((A t x : ℝ) : EReal)) (hB : ∀ t x, dv (ix2 t x) = ((B t x : ℝ) : EReal)) (t : Fin 16896) (x : Fin 128) :
    (point s kr kt vb dk dv).dk (ix2 t x) = ((A t x + ∑ r, gw Q D δ ℓ K V t r * Q r x : ℝ) : EReal) := by
  rw [(point_sofar hs hk hA hB).dk, if_pos (by have := t.isLt; omega)]

theorem point_dv (hs : IsSide s Q D δ ℓ) (hk : IsKeys kr kt vb K V) {dk dv : Vec Ideal S16896x128 .f32}
    (hA : ∀ t x, dk (ix2 t x) = ((A t x : ℝ) : EReal)) (hB : ∀ t x, dv (ix2 t x) = ((B t x : ℝ) : EReal)) (t : Fin 16896) (x : Fin 128) :
    (point s kr kt vb dk dv).dv (ix2 t x) = ((B t x + ∑ r, pw Q ℓ K t r * D r x : ℝ) : EReal) := by
  rw [(point_sofar hs hk hA hB).dv, if_pos (by have := t.isLt; omega)]

end

end Cert.KernelIdeal.Att
-- ==== Proof.KSide.lean ====
module

public import proofs.«01_k».proof.Proof.KPoint

@[expose] public section

set_option maxRecDepth 16384

noncomputable section

namespace Cert.KernelIdeal.Att

open Idealize.ShloMosaic Idealize.ShloMosaic.TcCoe
open Cert.KernelIdeal Cert.KernelIdeal.Gen Ix

/-! ## The query side of a point, from its blocks -/

/-- The head of a column. -/
def hd (r : Fin 1536) : Fin 4 := ⟨r.val / 384, by have := r.isLt; omega⟩
/-- The row of a column. -/
def rw_ (r : Fin 1536) : Fin 384 := ⟨r.val % 384, by omega⟩

theorem ladder {α : Type} (f : Fin 4 → Fin 384 → α) (r : Fin 1536) (g0 g1 g2 g3 : Fin 384 → α)
    (e0 : g0 = f 0) (e1 : g1 = f 1) (e2 : g2 = f 2) (e3 : g3 = f 3) :
    (if h : r.val < 384 then g0 ⟨r.val, h⟩ else if h1 : r.val - 384 < 384 then g1 ⟨r.val - 384, h1⟩ else
      if h2 : r.val - 384 - 384 < 384 then g2 ⟨r.val - 384 - 384, h2⟩ else g3 ⟨r.val - 384 - 384 - 384, by have := r.isLt; omega⟩) = f (hd r) (rw_ r) := by
  subst e0 e1 e2 e3
  have := r.isLt
  split_ifs with h0 h1 h2
  · exact congrArg₂ f (Fin.ext (by show 0 = r.val / 384; omega)) (Fin.ext (by show r.val = r.val % 384; omega))
  · exact congrArg₂ f (Fin.ext (by show 1 = r.val / 384; omega)) (Fin.ext (by show r.val - 384 = r.val % 384; omega))
  · exact congrArg₂ f (Fin.ext (by show 2 = r.val / 384; omega)) (Fin.ext (by show r.val - 384 - 384 = r.val % 384; omega))
  · exact congrArg₂ f (Fin.ext (by show 3 = r.val / 384; omega)) (Fin.ext (by show r.val - 384 - 384 - 384 = r.val % 384; omega))

theorem headOf_apply {α : Type} {n1 n2 : ℕ} (x : (⟨3, ![4, n1, n2]⟩ : Shape).Idx → α) (h : Fin 4) (y : Fin n1) (c : Fin n2) :
    headOf x h (ix3 0 y c) = x (ix3 h y c) :=
  window_lead x ![h.val, 0, 0] h.val rfl (inb3 h) y c h.isLt

section
variable {q : Fin 4 → Fin 384 → Fin 128 → ℝ} {d o : Fin 384 → Fin 256 → ℝ} {l : Fin 4 → Fin 384 → ℝ}

theorem pay9_real {x1 : Vec Ideal S4x128x384 .bf16} (h1 : ∀ h x y, x1 (ix3 h x y) = ((q h y x : ℝ) : EReal)) (x : Fin 128) (r : Fin 1536) :
    k0_pay9 (F := Ideal) (headOf x1 0) (headOf x1 1) (headOf x1 2) (headOf x1 3) (ix2 x r) = ((q (hd r) (rw_ r) x : ℝ) : EReal) := by
  pointwise [k0_pay9]
  refine (ladder (α := EReal) (fun h y => x1 (ix3 h x y)) r (fun y => headOf x1 0 (ix3 0 x y)) (fun y => headOf x1 1 (ix3 0 x y))
    (fun y => headOf x1 2 (ix3 0 x y)) (fun y => headOf x1 3 (ix3 0 x y)) ?_ ?_ ?_ ?_).trans (h1 _ _ _) <;> exact funext fun y => headOf_apply x1 _ x y

theorem pay17_real {x4 : Vec Ideal S4x1x384 .f32} (h4 : ∀ h y, x4 (ix3 h 0 y) = ((l h y : ℝ) : EReal)) (r : Fin 1536) :
    k0_pay17 (F := Ideal) (headOf x4 0) (headOf x4 1) (headOf x4 2) (headOf x4 3) (ix2 0 r) = ((l (hd r) (rw_ r) : ℝ) : EReal) := by
  pointwise [k0_pay17]
  refine (ladder (α := EReal) (fun h y => x4 (ix3 h 0 y)) r (fun y => headOf x4 0 (ix3 0 0 y)) (fun y => headOf x4 1 (ix3 0 0 y))
    (fun y => headOf x4 2 (ix3 0 0 y)) (fun y => headOf x4 3 (ix3 0 0 y)) ?_ ?_ ?_ ?_).trans (h4 _ _) <;> exact funext fun y => headOf_apply x4 _ 0 y

theorem pay16_real {x0 : Vec Ideal S4x384x128 .bf16} (h0 : ∀ h y x, x0 (ix3 h y x) = ((q h y x : ℝ) : EReal)) (r : Fin 1536) (x : Fin 128) :
    k0_pay16 (F := Ideal) x0 (ix2 r x) = ((q (hd r) (rw_ r) x : ℝ) : EReal) := by
  pointwise [k0_pay16]
  exact h0 _ _ _

theorem pay10_real (i : grid0.Coords) {x2 : Vec Ideal S384x256 .f32} (h2 : ∀ y c, x2 (ix2 y c) = ((d y c : ℝ) : EReal)) (x : Fin 64) (r : Fin 1536) :
    k0_pay10 (F := Ideal) i x2 (ix2 x r) = (((if 384 * (i 1).val + (rw_ r).val < 496 then 0 else d (rw_ r) ⟨64 * (hd r).val + x.val, by have := (hd r).isLt; have := x.isLt; omega⟩) : ℝ) : EReal) := by
  pointwise [k0_pay10]
  have hi : (i 1).val < 44 := (i 1).isLt
  have e : ∀ b : Fin 384, IntOp.cmpi CmpIPredicate.sge (IntOp.addi (Scalar.muli (BitVec.ofNat 32 (i 1).val) 384#32) (BitVec.ofNat 32 b.val)) 496#32
      = BitVec.ofBool (decide (496 ≤ (i 1).val * 384 + b.val)) := fun b => by
    have e1 : IntOp.addi (Scalar.muli (BitVec.ofNat 32 (i 1).val) 384#32) (BitVec.ofNat 32 b.val) = BitVec.ofNat 32 ((i 1).val * 384 + b.val) := by
      rw [BitVec.ofNat_add, BitVec.ofNat_mul]; rfl
    rw [e1]
    exact WordCmp.cmpi_sge_ofNat (by have := b.isLt; omega) (by omega)
  have e2 : ∀ (b : Fin 384) (c : Fin 256), Scalar.select (IntOp.cmpi CmpIPredicate.sge (IntOp.addi (Scalar.muli (BitVec.ofNat 32 (i 1).val) 384#32) (BitVec.ofNat 32 b.val)) 496#32) (x2 (ix2 b c)) (0 : EReal)
      = ((if 384 * (i 1).val + b.val < 496 then 0 else d b c : ℝ) : EReal) := fun b c => by
    rw [e, select_ofBool_prop, h2]
    by_cases h : 384 * (i 1).val + b.val < 496
    · rw [if_pos h, if_neg (by omega)]; rfl
    · rw [if_neg h, if_pos (by omega)]
  refine ladder (α := EReal) (fun h y => ((if 384 * (i 1).val + y.val < 496 then 0 else d y ⟨64 * h.val + x.val, by have := h.isLt; have := x.isLt; omega⟩ : ℝ) : EReal)) r
    (fun y => Scalar.select (IntOp.cmpi CmpIPredicate.sge (IntOp.addi (Scalar.muli (BitVec.ofNat 32 (i 1).val) 384#32) (BitVec.ofNat 32 y.val)) 496#32) (x2 (ix2 y ⟨x.val, by omega⟩)) (0 : EReal))
    (fun y => Scalar.select (IntOp.cmpi CmpIPredicate.sge (IntOp.addi (Scalar.muli (BitVec.ofNat 32 (i 1).val) 384#32) (BitVec.ofNat 32 y.val)) 496#32) (x2 (ix2 y ⟨64 + x.val, by omega⟩)) (0 : EReal))
    (fun y => Scalar.select (IntOp.cmpi CmpIPredicate.sge (IntOp.addi (Scalar.muli (BitVec.ofNat 32 (i 1).val) 384#32) (BitVec.ofNat 32 y.val)) 496#32) (x2 (ix2 y ⟨128 + x.val, by omega⟩)) (0 : EReal))
    (fun y => Scalar.select (IntOp.cmpi CmpIPredicate.sge (IntOp.addi (Scalar.muli (BitVec.ofNat 32 (i 1).val) 384#32) (BitVec.ofNat 32 y.val)) 496#32) (x2 (ix2 y ⟨192 + x.val, by omega⟩)) (0 : EReal)) ?_ ?_ ?_ ?_
  · funext y; rw [e2]; simp only [Fin.val_zero, Nat.mul_zero, Nat.zero_add]
  · funext y; rw [e2]; rfl
  · funext y; rw [e2]; rfl
  · funext y; rw [e2]; rfl

theorem pay11_real {x3 : Vec Ideal S384x256 .f32} (h3 : ∀ y c, x3 (ix2 y c) = ((o y c : ℝ) : EReal)) (x : Fin 64) (r : Fin 1536) :
    k0_pay11 (F := Ideal) x3 (ix2 x r) = ((o (rw_ r) ⟨64 * (hd r).val + x.val, by have := (hd r).isLt; have := x.isLt; omega⟩ : ℝ) : EReal) := by
  pointwise [k0_pay11]
  refine ladder (α := EReal) (fun h y => ((o y ⟨64 * h.val + x.val, by have := h.isLt; have := x.isLt; omega⟩ : ℝ) : EReal)) r
    (fun y => x3 (ix2 y ⟨x.val, by omega⟩)) (fun y => x3 (ix2 y ⟨64 + x.val, by omega⟩)) (fun y => x3 (ix2 y ⟨128 + x.val, by omega⟩)) (fun y => x3 (ix2 y ⟨192 + x.val, by omega⟩)) ?_ ?_ ?_ ?_
  · funext y; rw [h3]; simp only [Fin.val_zero, Nat.mul_zero, Nat.zero_add]
  · funext y; rw [h3]; rfl
  · funext y; rw [h3]; rfl
  · funext y; rw [h3]; rfl

theorem pay12_real {v30 v35 : FVec Ideal S64x1536 .f32} {E O : Fin 1536 → Fin 64 → ℝ} (h30 : ∀ x r, v30 (ix2 x r) = ((E r x : ℝ) : EReal))
    (h35 : ∀ x r, v35 (ix2 x r) = ((O r x : ℝ) : EReal)) (r : Fin 1536) :
    k0_pay12 v30 v35 (ix2 0 r) = ((∑ x, E r x * O r x : ℝ) : EReal) := by
  pointwise [k0_pay12]
  simp only [h30, h35, ← EReal.coe_mul, sum_real]

theorem pay14_real {v30 : FVec Ideal S64x1536 .f32} {E : Fin 1536 → Fin 64 → ℝ} (h30 : ∀ x r, v30 (ix2 x r) = ((E r x : ℝ) : EReal)) (r : Fin 1536) (x : Fin 128) :
    k0_pay14 v30 (ix2 r x) = ((if h : x.val < 64 then E r ⟨x.val, h⟩ else 0 : ℝ) : EReal) := by
  pointwise [k0_pay14, k0_pay13]
  by_cases h : x.val < 64
  · rw [dif_pos h, dif_pos h, h30]
  · rw [dif_neg h, dif_neg h]; rfl

theorem pay15_real {v30 : FVec Ideal S64x1536 .f32} {E : Fin 1536 → Fin 64 → ℝ} (h30 : ∀ x r, v30 (ix2 x r) = ((E r x : ℝ) : EReal)) (r : Fin 1536) (x : Fin 128) :
    k0_pay15 v30 (ix2 x r) = ((if h : x.val < 64 then E r ⟨x.val, h⟩ else 0 : ℝ) : EReal) := by
  pointwise [k0_pay15, k0_pay13]
  by_cases h : x.val < 64
  · rw [dif_pos h, dif_pos h, h30]
  · rw [dif_neg h, dif_neg h]; rfl

/-- The gradient of the point's rows, column by column: none for the padding. -/
def eOf (i : grid0.Coords) (d : Fin 384 → Fin 256 → ℝ) (r : Fin 1536) (x : Fin 64) : ℝ :=
  if 384 * (i 1).val + (rw_ r).val < 496 then 0 else d (rw_ r) ⟨64 * (hd r).val + x.val, by have := (hd r).isLt; have := x.isLt; omega⟩

/-- The output of the point's rows, column by column. -/
def oOf (o : Fin 384 → Fin 256 → ℝ) (r : Fin 1536) (x : Fin 64) : ℝ :=
  o (rw_ r) ⟨64 * (hd r).val + x.val, by have := (hd r).isLt; have := x.isLt; omega⟩

theorem side_real (i : grid0.Coords) {x0 : Vec Ideal S4x384x128 .bf16} {x1 : Vec Ideal S4x128x384 .bf16} {x2 x3 : Vec Ideal S384x256 .f32} {x4 : Vec Ideal S4x1x384 .f32}
    (h0 : ∀ h y x, x0 (ix3 h y x) = ((q h y x : ℝ) : EReal)) (h1 : ∀ h x y, x1 (ix3 h x y) = ((q h y x : ℝ) : EReal))
    (h2 : ∀ y c, x2 (ix2 y c) = ((d y c : ℝ) : EReal)) (h3 : ∀ y c, x3 (ix2 y c) = ((o y c : ℝ) : EReal)) (h4 : ∀ h y, x4 (ix3 h 0 y) = ((l h y : ℝ) : EReal)) :
    IsSide (side i x0 x1 x2 x3 x4) (fun r x => q (hd r) (rw_ r) x) (fun r x => if h : x.val < 64 then eOf i d r ⟨x.val, h⟩ else 0)
      (fun r => ∑ x, eOf i d r x * oOf o r x) (fun r => l (hd r) (rw_ r)) where
  qt := pay9_real h1
  dl := pay12_real (fun x r => pay10_real i h2 x r) (fun x r => pay11_real h3 x r)
  dr := pay14_real (fun x r => pay10_real i h2 x r)
  dt := fun x r => pay15_real (fun x r => pay10_real i h2 x r) r x
  qr := pay16_real h0
  ls := pay17_real h4

theorem pay1_apply (v : Vec Ideal S128x1536 .f32) (h : Fin 4) (y : Fin 384) (x : Fin 128) :
    k0_pay1 (F := Ideal) v (ix3 h y x) = v (ix2 x ⟨384 * h.val + y.val, by have := h.isLt; have := y.isLt; omega⟩) := by
  pointwise [k0_pay1]
  congr 2
  exact Fin.ext (by show h.val * 384 + y.val = 384 * h.val + y.val; omega)

end

end Cert.KernelIdeal.Att
-- ==== Proof.KRunA.lean ====
module

public import proofs.«01_k».proof.Proof.Ix
public import proofs.«01_k».proof.Proof.KStep
public import proofs.«01_k».proof.Proof.Gen.KernelIdeal.Frame.Runs
@[expose] public section

set_option maxRecDepth 16384

noncomputable section

namespace Cert.KernelIdeal.Att

open Idealize.ShloMosaic Idealize.ShloMosaic.TcCoe Idealize.ShloMosaic.Tactic
open Cert.KernelIdeal Cert.KernelIdeal.Gen Ix
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26

local notation "𝕄" => MT nD τ sig Unit (Elt F) ℕ (Pipeline.UD sig nD τ) ℕ

set_option maxHeartbeats 1600000 in
/-- A group's first point: the keys, the values and zeroed accumulators are brought in, then the point is computed. -/
theorem runA (c : Dev nD) (i : grid0.Coords)
    (arg2 : Memref sig .tc .vmem S4x384x128 .bf16) (harg2 : arg2.IsWhole)
    (arg3 : Memref sig .tc .vmem S4x128x384 .bf16) (harg3 : arg3.IsWhole)
    (arg7 : Memref sig .tc .vmem S384x256 .f32) (harg7 : arg7.IsWhole)
    (arg8 : Memref sig .tc .vmem S384x256 .f32) (harg8 : arg8.IsWhole)
    (arg9 : Memref sig .tc .vmem S4x1x384 .f32) (harg9 : arg9.IsWhole)
    (arg10 : Memref sig .tc .vmem S4x384x128 .f32) (harg10 : arg10.IsWhole)
    (arg13 : Memref sig .tc .vmem S16896x128 .bf16) (harg13 : arg13.IsWhole)
    (arg14 : Memref sig .tc .vmem S33x128x512 .bf16) (harg14 : arg14.IsWhole)
    (arg15 : Memref sig .tc .vmem S16896x128 .bf16) (harg15 : arg15.IsWhole)
    (arg16 : Memref sig .tc .vmem S16896x128 .f32) (harg16 : arg16.IsWhole)
    (arg17 : Memref sig .tc .vmem S16896x128 .f32) (harg17 : arg17.IsWhole)
    (arg18 : Memref sig .tc .vmem S128x1536 .f32) (harg18 : arg18.IsWhole) (hc0 : cond0_0 i) (hc1 : ¬cond0_1 i)
    (x0 : Vec F S4x384x128 .bf16) (x1 : Vec F S4x128x384 .bf16) (x2 : Vec F S384x256 .f32) (x3 : Vec F S384x256 .f32) (x4 : Vec F S4x1x384 .f32)
    (fh0 : HbBuf0 (F := F) c hbM0_0) (fh1 : HbBuf0 (F := F) c hbM0_1) (fh2 : HbBuf0 (F := F) c hbM0_2) (fw3 : HbBuf0 (F := F) c hbM0_3) (fw4 : HbBuf0 (F := F) c hbM0_4)
    (W : Waits sig Unit) (K : PUnit → sProp 𝕄) :
    iprop(owns (c : Thread nD τ) arg2 fullShare x0 ∗ owns (c : Thread nD τ) arg3 fullShare x1 ∗ owns (c : Thread nD τ) arg7 fullShare x2 ∗ owns (c : Thread nD τ) arg8 fullShare x3 ∗ owns (c : Thread nD τ) arg9 fullShare x4 ∗ (∃ d, owns (c : Thread nD τ) arg10 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fw3 ∗ hbPt0 c hbM0_4 fw4 ∗ owes (c : Thread nD τ) 0 W
        ∗ (iprop(owns (c : Thread nD τ) arg2 fullShare x0 ∗ owns (c : Thread nD τ) arg3 fullShare x1 ∗ owns (c : Thread nD τ) arg7 fullShare x2 ∗ owns (c : Thread nD τ) arg8 fullShare x3 ∗ owns (c : Thread nD τ) arg9 fullShare x4 ∗ owns (c : Thread nD τ) arg10 fullShare (k0_pay1 (point (side i x0 x1 x2 x3 x4) fh0 fh1 (rowOf fh2 (i 0)) k0_pay7 k0_pay8).dq) ∗ owns (c : Thread nD τ) arg13 fullShare fh0 ∗ owns (c : Thread nD τ) arg14 fullShare fh1 ∗ owns (c : Thread nD τ) arg15 fullShare (rowOf fh2 (i 0)) ∗ owns (c : Thread nD τ) arg16 fullShare (point (side i x0 x1 x2 x3 x4) fh0 fh1 (rowOf fh2 (i 0)) k0_pay7 k0_pay8).dk ∗ owns (c : Thread nD τ) arg17 fullShare (point (side i x0 x1 x2 x3 x4) fh0 fh1 (rowOf fh2 (i 0)) k0_pay7 k0_pay8).dv ∗ (∃ d, owns (c : Thread nD τ) arg18 fullShare d) ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fw3 ∗ hbPt0 c hbM0_4 fw4 ∗ (∃ W', owes (c : Thread nD τ) 0 W')) -∗ K ⟨⟩))
      ⊢ wp frame (wpE (defs₀ (F := F)) Variants.none c none) Set.univ (cc0_at_bwd i arg2 harg2 arg3 harg3 (Memref.whole main_v33) (Memref.isWhole_whole _) (Memref.whole main_v38) (Memref.isWhole_whole _) (Memref.whole main_v35) (Memref.isWhole_whole _) arg7 harg7 arg8 harg8 arg9 harg9 arg10 harg10 (Memref.whole main_v43_1) (Memref.isWhole_whole _) (Memref.whole main_v43_2) (Memref.isWhole_whole _) arg13 harg13 arg14 harg14 arg15 harg15 arg16 harg16 arg17 harg17 arg18 harg18 cc0_scratch6) K := by
  simp only [cc0_at_bwd_eq_skeleton]; unfold cc0_at_bwd_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hh0, Hh1, Hh2, Hh3, Hh4, HW, Hk⟩
  obtain rfl := harg2.eq_unread hf0; obtain rfl := harg3.eq_unread hf1; obtain rfl := harg7.eq_unread hf2; obtain rfl := harg8.eq_unread hf3; obtain rfl := harg9.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  have hvb : ReadAs.same.apply (View.read (Elt F) (((Memref.whole main_v35).slice (Rect.unit (k0_off1 i) S1x16896x128.size (k0_off1_inb i ((Iff.rfl).mp hc0))) (fun _ => rfl)).squeeze S16896x128 squeezes_S1x16896x128_S16896x128).view fh2) = rowOf fh2 (i 0) :=
    read_lead (Memref.whole main_v35) (i 0) (k0_off1 i) (k0_off1_eq i) _ _ _ fh2
  have l18 : runA.sl.v78 c arg18 = k0_pay18 (F := F) := by
    unfold runA.sl.v78 runA.sl.HS5_1; exact View.readCov_full arg18.view _ _ _ []
  have b16 : arg16.view.read (Elt F) (arg16.view.writes (Elt F) arg16.view.junk (runA.sl.HS3_1 (F := F))) = k0_pay7 (F := F) := by
    unfold runA.sl.HS3_1; exact View.read_writes_full arg16.view _ _ _ _
  have b17 : arg17.view.read (Elt F) (arg17.view.writes (Elt F) arg17.view.junk (runA.sl.HS4_1 (F := F))) = k0_pay8 (F := F) := by
    unfold runA.sl.HS4_1; exact View.read_writes_full arg17.view _ _ _ _
  have l16 : runA.sl.v84 c arg16 = VecWindow.window (k0_pay7 (F := F)) ![0, 0] S512x128.size inbChunk := by
    unfold runA.sl.v84 View.readCov; exact rdx arg16.view b16 _ _ _ inbChunk
  have l17 : runA.sl.v90 c arg17 = VecWindow.window (k0_pay8 (F := F)) ![0, 0] S512x128.size inbChunk := by
    unfold runA.sl.v90 View.readCov; exact rdx arg17.view b17 _ _ _ inbChunk
  have es : (⟨(runA.sl.r c arg3 harg3 x1), (runA.sl.r_3 c i arg7 harg7 arg8 harg8 x2 x3), (runA.sl.r_4 c i arg7 harg7 x2), (runA.sl.r_5 c i arg7 harg7 x2), (runA.sl.r_6 c arg2 harg2 x0), (runA.sl.r_7 c arg9 harg9 x4)⟩ : Side F) = side i x0 x1 x2 x3 x4 := side_eq harg2 harg3 harg7 harg8 harg9 i x0 x1 x2 x3 x4
  have e62 : (runA.sl.r_8 c arg14 fh1) = k0_pay19 (VecWindow.window fh1 ![0, 0, 0] S1x128x512.size inbChunkT) := congrArg k0_pay19 (rdx arg14.view (View.read_writes_whole arg14.view _ _) _ _ _ inbChunkT)
  have e63 : (runA.sl.v63 c i arg15 hc0 fh2) = (VecWindow.window (rowOf fh2 (i 0)) ![0, 0] S512x128.size inbChunk) := rdx arg15.view ((View.read_writes_whole arg15.view _ _).trans hvb) _ _ _ inbChunk
  have e64 : (runA.sl.r_9 c arg3 harg3 arg13 x1 fh0) = k0_pay20 (runA.sl.r c arg3 harg3 x1) (VecWindow.window fh0 ![0, 0] S512x128.size inbChunk) := congrArg (k0_pay20 _) (rdx arg13.view (View.read_writes_whole arg13.view _ _) _ _ _ inbChunk)
  have h16 : arg16.view.read (Elt F) (arg16.view.writes (Elt F) arg16.view.junk (runA.sl.HS3_2 c i arg2 harg2 arg3 harg3 arg7 harg7 arg8 harg8 arg9 harg9 arg13 arg15 arg16 hc0 x0 x1 x2 x3 x4 fh0 fh2)) = (first (⟨(runA.sl.r c arg3 harg3 x1), (runA.sl.r_3 c i arg7 harg7 arg8 harg8 x2 x3), (runA.sl.r_4 c i arg7 harg7 x2), (runA.sl.r_5 c i arg7 harg7 x2), (runA.sl.r_6 c arg2 harg2 x0), (runA.sl.r_7 c arg9 harg9 x4)⟩ : Side F) fh0 fh1 (rowOf fh2 (i 0)) k0_pay7 k0_pay8).dk := by
    refine (View.read_writes_cons_put arg16.view _ _ _ _ rfl).trans ?_
    refine put_congr _ _ b16 ?_
    refine (congrArg (fun z => k0_pay24 (runA.sl.r_3 c i arg7 harg7 arg8 harg8 x2 x3) (runA.sl.r_5 c i arg7 harg7 x2) (runA.sl.r_6 c arg2 harg2 x0) (runA.sl.r_7 c arg9 harg9 x4) (runA.sl.v63 c i arg15 hc0 fh2) (runA.sl.r_9 c arg3 harg3 arg13 x1 fh0) runA.sl.v65 496#32 z) (l16)).trans ?_
    rw [e63, e64]; rfl
  have h17 : arg17.view.read (Elt F) (arg17.view.writes (Elt F) arg17.view.junk (runA.sl.HS4_2 c i arg3 harg3 arg7 harg7 arg9 harg9 arg13 arg17 x1 x2 x4 fh0)) = (first (⟨(runA.sl.r c arg3 harg3 x1), (runA.sl.r_3 c i arg7 harg7 arg8 harg8 x2 x3), (runA.sl.r_4 c i arg7 harg7 x2), (runA.sl.r_5 c i arg7 harg7 x2), (runA.sl.r_6 c arg2 harg2 x0), (runA.sl.r_7 c arg9 harg9 x4)⟩ : Side F) fh0 fh1 (rowOf fh2 (i 0)) k0_pay7 k0_pay8).dv := by
    refine (View.read_writes_cons_put arg17.view _ _ _ _ rfl).trans ?_
    refine put_congr _ _ b17 ?_
    refine (congrArg (fun z => k0_pay25 (runA.sl.r_4 c i arg7 harg7 x2) (runA.sl.r_7 c arg9 harg9 x4) (runA.sl.r_9 c arg3 harg3 arg13 x1 fh0) runA.sl.v65 496#32 z) (l17)).trans ?_
    rw [e64]; rfl
  have h18 : arg18.view.read (Elt F) (arg18.view.writes (Elt F) arg18.view.junk (runA.sl.HS5_2 c i arg3 harg3 arg7 harg7 arg8 harg8 arg9 harg9 arg13 arg14 arg15 arg18 hc0 x1 x2 x3 x4 fh0 fh1 fh2)) = (first (⟨(runA.sl.r c arg3 harg3 x1), (runA.sl.r_3 c i arg7 harg7 arg8 harg8 x2 x3), (runA.sl.r_4 c i arg7 harg7 x2), (runA.sl.r_5 c i arg7 harg7 x2), (runA.sl.r_6 c arg2 harg2 x0), (runA.sl.r_7 c arg9 harg9 x4)⟩ : Side F) fh0 fh1 (rowOf fh2 (i 0)) k0_pay7 k0_pay8).dq := by
    refine Eq.trans (b := k0_pay23 (runA.sl.r_3 c i arg7 harg7 arg8 harg8 x2 x3) (runA.sl.r_5 c i arg7 harg7 x2) (runA.sl.r_7 c arg9 harg9 x4) (runA.sl.r_8 c arg14 fh1) (runA.sl.v63 c i arg15 hc0 fh2) (runA.sl.r_9 c arg3 harg3 arg13 x1 fh0) runA.sl.v65 496#32 (runA.sl.v78 c arg18)) ?_ ?_
    · unfold runA.sl.HS5_2; exact View.read_writes_full arg18.view _ _ _ _
    rw [l18, e62, e63, e64]; rfl
  have key := pb_read (F := F) Variants.none c none i arg2 harg2 arg3 harg3 (Memref.whole main_v33) (Memref.isWhole_whole _) (Memref.whole main_v38) (Memref.isWhole_whole _) (Memref.whole main_v35) (Memref.isWhole_whole _) arg7 harg7 arg8 harg8 arg9 harg9 arg10 harg10 (Memref.whole main_v43_1) (Memref.isWhole_whole _) (Memref.whole main_v43_2) (Memref.isWhole_whole _) arg13 harg13 arg14 harg14 arg15 harg15 arg16 harg16 arg17 harg17 arg18 harg18 cc0_scratch6 (⟨(runA.sl.r c arg3 harg3 x1), (runA.sl.r_3 c i arg7 harg7 arg8 harg8 x2 x3), (runA.sl.r_4 c i arg7 harg7 x2), (runA.sl.r_5 c i arg7 harg7 x2), (runA.sl.r_6 c arg2 harg2 x0), (runA.sl.r_7 c arg9 harg9 x4)⟩ : Side F) (runA.sl.r_8 c arg14 fh1) (runA.sl.v63 c i arg15 hc0 fh2) (runA.sl.r_9 c arg3 harg3 arg13 x1 fh0) runA.sl.v65 496#32 (arg13.view.writes (Elt F) arg13.view.junk [⟨Rect.whole S16896x128, runA.sl.dma0 c fh0⟩]) (arg14.view.writes (Elt F) arg14.view.junk [⟨Rect.whole S33x128x512, runA.sl.dma0_1 c fh1⟩]) (arg15.view.writes (Elt F) arg15.view.junk [⟨Rect.whole S16896x128, runA.sl.dma0_2 c i hc0 fh2⟩]) fh0 fh1 (rowOf fh2 (i 0)) (View.read_writes_whole arg13.view _ _) (View.read_writes_whole arg14.view _ _) ((View.read_writes_whole arg15.view _ _).trans hvb) (arg16.view.writes (Elt F) arg16.view.junk (runA.sl.HS3_2 c i arg2 harg2 arg3 harg3 arg7 harg7 arg8 harg8 arg9 harg9 arg13 arg15 arg16 hc0 x0 x1 x2 x3 x4 fh0 fh2)) (arg17.view.writes (Elt F) arg17.view.junk (runA.sl.HS4_2 c i arg3 harg3 arg7 harg7 arg9 harg9 arg13 arg17 x1 x2 x4 fh0)) (arg18.view.writes (Elt F) arg18.view.junk (runA.sl.HS5_2 c i arg3 harg3 arg7 harg7 arg8 harg8 arg9 harg9 arg13 arg14 arg15 arg18 hc0 x1 x2 x3 x4 fh0 fh1 fh2)) _ h18 h16 h17 _ (le_refl _)
  have key' : fold (⟨(runA.sl.r c arg3 harg3 x1), (runA.sl.r_3 c i arg7 harg7 arg8 harg8 x2 x3), (runA.sl.r_4 c i arg7 harg7 x2), (runA.sl.r_5 c i arg7 harg7 x2), (runA.sl.r_6 c arg2 harg2 x0), (runA.sl.r_7 c arg9 harg9 x4)⟩ : Side F) fh0 fh1 (rowOf fh2 (i 0)) (first (⟨(runA.sl.r c arg3 harg3 x1), (runA.sl.r_3 c i arg7 harg7 arg8 harg8 x2 x3), (runA.sl.r_4 c i arg7 harg7 x2), (runA.sl.r_5 c i arg7 harg7 x2), (runA.sl.r_6 c arg2 harg2 x0), (runA.sl.r_7 c arg9 harg9 x4)⟩ : Side F) fh0 fh1 (rowOf fh2 (i 0)) k0_pay7 k0_pay8) k0_t1_loop.trips = point (side i x0 x1 x2 x3 x4) fh0 fh1 (rowOf fh2 (i 0)) k0_pay7 k0_pay8 := by rw [es]; rfl
  rw [key'] at key
  obtain ⟨k1, k2, k3⟩ := key
  isplitl [H5]
  · iexists _; isplitr; swap; · iexact H5
    ipureintro
    refine (View.read_writes_full arg10.view _ _ _ []).trans (congrArg k0_pay1 ?_)
    refine (View.readAt_full arg18.view _ _).trans ?_
    rw [View.writes_append]; exact k3
  isplitl [HS0]
  · iexists _; isplitr; swap; · iexact HS0
    ipureintro; exact (View.read_writes_whole arg13.view _ _)
  isplitl [HS1]
  · iexists _; isplitr; swap; · iexact HS1
    ipureintro; exact (View.read_writes_whole arg14.view _ _)
  isplitl [HS2]
  · iexists _; isplitr; swap; · iexact HS2
    ipureintro; exact (View.read_writes_whole arg15.view _ _).trans hvb
  isplitl [HS3]
  · iexists _; isplitr; swap; · iexact HS3
    ipureintro; rw [View.writes_append]; exact k1
  isplitl [HS4]
  · iexists _; isplitr; swap; · iexact HS4
    ipureintro; rw [View.writes_append]; exact k2
  isplitl [HS5]
  · iexists _, _; isplitr; swap; · iexact HS5
    ipureintro; rfl
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  iexists _; iexact HW

end Cert.KernelIdeal.Att
-- ==== Proof.KRunB.lean ====
module

public import proofs.«01_k».proof.Proof.Ix
public import proofs.«01_k».proof.Proof.KStep
public import proofs.«01_k».proof.Proof.Gen.KernelIdeal.Frame.Runs
public import proofs.«01_k».proof.Proof.KRunA
@[expose] public section

set_option maxRecDepth 16384

noncomputable section

namespace Cert.KernelIdeal.Att

open Idealize.ShloMosaic Idealize.ShloMosaic.TcCoe Idealize.ShloMosaic.Tactic
open Cert.KernelIdeal Cert.KernelIdeal.Gen Ix
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26

local notation "𝕄" => MT nD τ sig Unit (Elt F) ℕ (Pipeline.UD sig nD τ) ℕ

set_option maxHeartbeats 1600000 in
/-- A point that neither opens nor closes its group. -/
theorem runB (c : Dev nD) (i : grid0.Coords)
    (arg2 : Memref sig .tc .vmem S4x384x128 .bf16) (harg2 : arg2.IsWhole)
    (arg3 : Memref sig .tc .vmem S4x128x384 .bf16) (harg3 : arg3.IsWhole)
    (arg7 : Memref sig .tc .vmem S384x256 .f32) (harg7 : arg7.IsWhole)
    (arg8 : Memref sig .tc .vmem S384x256 .f32) (harg8 : arg8.IsWhole)
    (arg9 : Memref sig .tc .vmem S4x1x384 .f32) (harg9 : arg9.IsWhole)
    (arg10 : Memref sig .tc .vmem S4x384x128 .f32) (harg10 : arg10.IsWhole)
    (arg13 : Memref sig .tc .vmem S16896x128 .bf16) (harg13 : arg13.IsWhole)
    (arg14 : Memref sig .tc .vmem S33x128x512 .bf16) (harg14 : arg14.IsWhole)
    (arg15 : Memref sig .tc .vmem S16896x128 .bf16) (harg15 : arg15.IsWhole)
    (arg16 : Memref sig .tc .vmem S16896x128 .f32) (harg16 : arg16.IsWhole)
    (arg17 : Memref sig .tc .vmem S16896x128 .f32) (harg17 : arg17.IsWhole)
    (arg18 : Memref sig .tc .vmem S128x1536 .f32) (harg18 : arg18.IsWhole) (hc0 : ¬cond0_0 i) (hc1 : ¬cond0_1 i)
    (x0 : Vec F S4x384x128 .bf16) (x1 : Vec F S4x128x384 .bf16) (x2 : Vec F S384x256 .f32) (x3 : Vec F S384x256 .f32) (x4 : Vec F S4x1x384 .f32) (xs0 : Vec F S16896x128 .bf16) (xs1 : Vec F S33x128x512 .bf16) (xs2 : Vec F S16896x128 .bf16) (xs3 : Vec F S16896x128 .f32) (xs4 : Vec F S16896x128 .f32)
    (fh0 : HbBuf0 (F := F) c hbM0_0) (fh1 : HbBuf0 (F := F) c hbM0_1) (fh2 : HbBuf0 (F := F) c hbM0_2) (fw3 : HbBuf0 (F := F) c hbM0_3) (fw4 : HbBuf0 (F := F) c hbM0_4)
    (W : Waits sig Unit) (K : PUnit → sProp 𝕄) :
    iprop(owns (c : Thread nD τ) arg2 fullShare x0 ∗ owns (c : Thread nD τ) arg3 fullShare x1 ∗ owns (c : Thread nD τ) arg7 fullShare x2 ∗ owns (c : Thread nD τ) arg8 fullShare x3 ∗ owns (c : Thread nD τ) arg9 fullShare x4 ∗ (∃ d, owns (c : Thread nD τ) arg10 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ (∃ d, owns (c : Thread nD τ) arg18 fullShare d) ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fw3 ∗ hbPt0 c hbM0_4 fw4 ∗ owes (c : Thread nD τ) 0 W
        ∗ (iprop(owns (c : Thread nD τ) arg2 fullShare x0 ∗ owns (c : Thread nD τ) arg3 fullShare x1 ∗ owns (c : Thread nD τ) arg7 fullShare x2 ∗ owns (c : Thread nD τ) arg8 fullShare x3 ∗ owns (c : Thread nD τ) arg9 fullShare x4 ∗ owns (c : Thread nD τ) arg10 fullShare (k0_pay1 (point (side i x0 x1 x2 x3 x4) xs0 xs1 xs2 xs3 xs4).dq) ∗ owns (c : Thread nD τ) arg13 fullShare xs0 ∗ owns (c : Thread nD τ) arg14 fullShare xs1 ∗ owns (c : Thread nD τ) arg15 fullShare xs2 ∗ owns (c : Thread nD τ) arg16 fullShare (point (side i x0 x1 x2 x3 x4) xs0 xs1 xs2 xs3 xs4).dk ∗ owns (c : Thread nD τ) arg17 fullShare (point (side i x0 x1 x2 x3 x4) xs0 xs1 xs2 xs3 xs4).dv ∗ (∃ d, owns (c : Thread nD τ) arg18 fullShare d) ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fw3 ∗ hbPt0 c hbM0_4 fw4 ∗ (∃ W', owes (c : Thread nD τ) 0 W')) -∗ K ⟨⟩))
      ⊢ wp frame (wpE (defs₀ (F := F)) Variants.none c none) Set.univ (cc0_at_bwd i arg2 harg2 arg3 harg3 (Memref.whole main_v33) (Memref.isWhole_whole _) (Memref.whole main_v38) (Memref.isWhole_whole _) (Memref.whole main_v35) (Memref.isWhole_whole _) arg7 harg7 arg8 harg8 arg9 harg9 arg10 harg10 (Memref.whole main_v43_1) (Memref.isWhole_whole _) (Memref.whole main_v43_2) (Memref.isWhole_whole _) arg13 harg13 arg14 harg14 arg15 harg15 arg16 harg16 arg17 harg17 arg18 harg18 cc0_scratch6) K := by
  simp only [cc0_at_bwd_eq_skeleton]; unfold cc0_at_bwd_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, Hq0, Hq1, Hq2, Hh0, Hh1, Hh2, Hh3, Hh4, HW, Hk⟩
  obtain rfl := harg2.eq_unread hf0; obtain rfl := harg3.eq_unread hf1; obtain rfl := harg7.eq_unread hf2; obtain rfl := harg8.eq_unread hf3; obtain rfl := harg9.eq_unread hf4
  obtain rfl := harg13.eq_unread hfs0; obtain rfl := harg14.eq_unread hfs1; obtain rfl := harg15.eq_unread hfs2; obtain rfl := harg16.eq_unread hfs3; obtain rfl := harg17.eq_unread hfs4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  have l18 : runB.sl.v78 c arg18 = k0_pay18 (F := F) := by
    unfold runB.sl.v78 runB.sl.HS5_1; exact View.readCov_full arg18.view _ _ _ []
  have es : (⟨(runB.sl.r c arg3 harg3 x1), (runB.sl.r_3 c i arg7 harg7 arg8 harg8 x2 x3), (runB.sl.r_4 c i arg7 harg7 x2), (runB.sl.r_5 c i arg7 harg7 x2), (runB.sl.r_6 c arg2 harg2 x0), (runB.sl.r_7 c arg9 harg9 x4)⟩ : Side F) = side i x0 x1 x2 x3 x4 := side_eq harg2 harg3 harg7 harg8 harg9 i x0 x1 x2 x3 x4
  have e62 : (runB.sl.r_8 c arg14 harg14 xs1) = k0_pay19 (VecWindow.window xs1 ![0, 0, 0] S1x128x512.size inbChunkT) := congrArg k0_pay19 (rd harg14 xs1 _ _ inbChunkT)
  have e63 : (runB.sl.r_9 c arg15 harg15 xs2) = (VecWindow.window xs2 ![0, 0] S512x128.size inbChunk) := rd harg15 xs2 _ _ inbChunk
  have e64 : (runB.sl.r_10 c arg3 harg3 arg13 harg13 x1 xs0) = k0_pay20 (runB.sl.r c arg3 harg3 x1) (VecWindow.window xs0 ![0, 0] S512x128.size inbChunk) := congrArg (k0_pay20 _) (rd harg13 xs0 _ _ inbChunk)
  have h16 : arg16.view.read (Elt F) (arg16.view.writes (Elt F) (harg16.unread xs3) [⟨Rect.unit (s := S16896x128) ![0, 0] S512x128.size inb_S16896x128_S512x128_0_0, k0_pay24 (runB.sl.r_3 c i arg7 harg7 arg8 harg8 x2 x3) (runB.sl.r_5 c i arg7 harg7 x2) (runB.sl.r_6 c arg2 harg2 x0) (runB.sl.r_7 c arg9 harg9 x4) (runB.sl.r_9 c arg15 harg15 xs2) (runB.sl.r_10 c arg3 harg3 arg13 harg13 x1 xs0) runB.sl.v65 (496#32) (View.readAt (Elt F) arg16.view (Rect.unit (s := S16896x128) ![0, 0] S512x128.size inb_S16896x128_S512x128_0_0).toLoadRect (harg16.unread xs3))⟩]) = (first (⟨(runB.sl.r c arg3 harg3 x1), (runB.sl.r_3 c i arg7 harg7 arg8 harg8 x2 x3), (runB.sl.r_4 c i arg7 harg7 x2), (runB.sl.r_5 c i arg7 harg7 x2), (runB.sl.r_6 c arg2 harg2 x0), (runB.sl.r_7 c arg9 harg9 x4)⟩ : Side F) xs0 xs1 xs2 xs3 xs4).dk := by
    refine (View.read_writes_cons_put arg16.view _ _ _ _ rfl).trans ?_
    refine put_congr _ _ (harg16.read_unread xs3) ?_
    refine (congrArg (fun z => k0_pay24 (runB.sl.r_3 c i arg7 harg7 arg8 harg8 x2 x3) (runB.sl.r_5 c i arg7 harg7 x2) (runB.sl.r_6 c arg2 harg2 x0) (runB.sl.r_7 c arg9 harg9 x4) (runB.sl.r_9 c arg15 harg15 xs2) (runB.sl.r_10 c arg3 harg3 arg13 harg13 x1 xs0) runB.sl.v65 496#32 z) (rd harg16 xs3 _ _ inbChunk)).trans ?_
    rw [e63, e64]; rfl
  have h17 : arg17.view.read (Elt F) (arg17.view.writes (Elt F) (harg17.unread xs4) [⟨Rect.unit (s := S16896x128) ![0, 0] S512x128.size inb_S16896x128_S512x128_0_0, k0_pay25 (runB.sl.r_4 c i arg7 harg7 x2) (runB.sl.r_7 c arg9 harg9 x4) (runB.sl.r_10 c arg3 harg3 arg13 harg13 x1 xs0) runB.sl.v65 (496#32) (View.readAt (Elt F) arg17.view (Rect.unit (s := S16896x128) ![0, 0] S512x128.size inb_S16896x128_S512x128_0_0).toLoadRect (harg17.unread xs4))⟩]) = (first (⟨(runB.sl.r c arg3 harg3 x1), (runB.sl.r_3 c i arg7 harg7 arg8 harg8 x2 x3), (runB.sl.r_4 c i arg7 harg7 x2), (runB.sl.r_5 c i arg7 harg7 x2), (runB.sl.r_6 c arg2 harg2 x0), (runB.sl.r_7 c arg9 harg9 x4)⟩ : Side F) xs0 xs1 xs2 xs3 xs4).dv := by
    refine (View.read_writes_cons_put arg17.view _ _ _ _ rfl).trans ?_
    refine put_congr _ _ (harg17.read_unread xs4) ?_
    refine (congrArg (fun z => k0_pay25 (runB.sl.r_4 c i arg7 harg7 x2) (runB.sl.r_7 c arg9 harg9 x4) (runB.sl.r_10 c arg3 harg3 arg13 harg13 x1 xs0) runB.sl.v65 496#32 z) (rd harg17 xs4 _ _ inbChunk)).trans ?_
    rw [e64]; rfl
  have h18 : arg18.view.read (Elt F) (arg18.view.writes (Elt F) arg18.view.junk (runB.sl.HS5_2 c i arg3 harg3 arg7 harg7 arg8 harg8 arg9 harg9 arg13 harg13 arg14 harg14 arg15 harg15 arg18 x1 x2 x3 x4 xs0 xs1 xs2)) = (first (⟨(runB.sl.r c arg3 harg3 x1), (runB.sl.r_3 c i arg7 harg7 arg8 harg8 x2 x3), (runB.sl.r_4 c i arg7 harg7 x2), (runB.sl.r_5 c i arg7 harg7 x2), (runB.sl.r_6 c arg2 harg2 x0), (runB.sl.r_7 c arg9 harg9 x4)⟩ : Side F) xs0 xs1 xs2 xs3 xs4).dq := by
    refine Eq.trans (b := k0_pay23 (runB.sl.r_3 c i arg7 harg7 arg8 harg8 x2 x3) (runB.sl.r_5 c i arg7 harg7 x2) (runB.sl.r_7 c arg9 harg9 x4) (runB.sl.r_8 c arg14 harg14 xs1) (runB.sl.r_9 c arg15 harg15 xs2) (runB.sl.r_10 c arg3 harg3 arg13 harg13 x1 xs0) runB.sl.v65 496#32 (runB.sl.v78 c arg18)) ?_ ?_
    · unfold runB.sl.HS5_2; exact View.read_writes_full arg18.view _ _ _ _
    rw [l18, e62, e63, e64]; rfl
  have key := pb_read (F := F) Variants.none c none i arg2 harg2 arg3 harg3 (Memref.whole main_v33) (Memref.isWhole_whole _) (Memref.whole main_v38) (Memref.isWhole_whole _) (Memref.whole main_v35) (Memref.isWhole_whole _) arg7 harg7 arg8 harg8 arg9 harg9 arg10 harg10 (Memref.whole main_v43_1) (Memref.isWhole_whole _) (Memref.whole main_v43_2) (Memref.isWhole_whole _) arg13 harg13 arg14 harg14 arg15 harg15 arg16 harg16 arg17 harg17 arg18 harg18 cc0_scratch6 (⟨(runB.sl.r c arg3 harg3 x1), (runB.sl.r_3 c i arg7 harg7 arg8 harg8 x2 x3), (runB.sl.r_4 c i arg7 harg7 x2), (runB.sl.r_5 c i arg7 harg7 x2), (runB.sl.r_6 c arg2 harg2 x0), (runB.sl.r_7 c arg9 harg9 x4)⟩ : Side F) (runB.sl.r_8 c arg14 harg14 xs1) (runB.sl.r_9 c arg15 harg15 xs2) (runB.sl.r_10 c arg3 harg3 arg13 harg13 x1 xs0) runB.sl.v65 496#32 (harg13.unread xs0) (harg14.unread xs1) (harg15.unread xs2) xs0 xs1 xs2 (harg13.read_unread _) (harg14.read_unread _) (harg15.read_unread _) (arg16.view.writes (Elt F) (harg16.unread xs3) [⟨Rect.unit (s := S16896x128) ![0, 0] S512x128.size inb_S16896x128_S512x128_0_0, k0_pay24 (runB.sl.r_3 c i arg7 harg7 arg8 harg8 x2 x3) (runB.sl.r_5 c i arg7 harg7 x2) (runB.sl.r_6 c arg2 harg2 x0) (runB.sl.r_7 c arg9 harg9 x4) (runB.sl.r_9 c arg15 harg15 xs2) (runB.sl.r_10 c arg3 harg3 arg13 harg13 x1 xs0) runB.sl.v65 (496#32) (View.readAt (Elt F) arg16.view (Rect.unit (s := S16896x128) ![0, 0] S512x128.size inb_S16896x128_S512x128_0_0).toLoadRect (harg16.unread xs3))⟩]) (arg17.view.writes (Elt F) (harg17.unread xs4) [⟨Rect.unit (s := S16896x128) ![0, 0] S512x128.size inb_S16896x128_S512x128_0_0, k0_pay25 (runB.sl.r_4 c i arg7 harg7 x2) (runB.sl.r_7 c arg9 harg9 x4) (runB.sl.r_10 c arg3 harg3 arg13 harg13 x1 xs0) runB.sl.v65 (496#32) (View.readAt (Elt F) arg17.view (Rect.unit (s := S16896x128) ![0, 0] S512x128.size inb_S16896x128_S512x128_0_0).toLoadRect (harg17.unread xs4))⟩]) (arg18.view.writes (Elt F) arg18.view.junk (runB.sl.HS5_2 c i arg3 harg3 arg7 harg7 arg8 harg8 arg9 harg9 arg13 harg13 arg14 harg14 arg15 harg15 arg18 x1 x2 x3 x4 xs0 xs1 xs2)) _ h18 h16 h17 _ (le_refl _)
  have key' : fold (⟨(runB.sl.r c arg3 harg3 x1), (runB.sl.r_3 c i arg7 harg7 arg8 harg8 x2 x3), (runB.sl.r_4 c i arg7 harg7 x2), (runB.sl.r_5 c i arg7 harg7 x2), (runB.sl.r_6 c arg2 harg2 x0), (runB.sl.r_7 c arg9 harg9 x4)⟩ : Side F) xs0 xs1 xs2 (first (⟨(runB.sl.r c arg3 harg3 x1), (runB.sl.r_3 c i arg7 harg7 arg8 harg8 x2 x3), (runB.sl.r_4 c i arg7 harg7 x2), (runB.sl.r_5 c i arg7 harg7 x2), (runB.sl.r_6 c arg2 harg2 x0), (runB.sl.r_7 c arg9 harg9 x4)⟩ : Side F) xs0 xs1 xs2 xs3 xs4) k0_t1_loop.trips = point (side i x0 x1 x2 x3 x4) xs0 xs1 xs2 xs3 xs4 := by rw [es]; rfl
  rw [key'] at key
  obtain ⟨k1, k2, k3⟩ := key
  isplitl [H5]
  · iexists _; isplitr; swap; · iexact H5
    ipureintro
    refine (View.read_writes_full arg10.view _ _ _ []).trans (congrArg k0_pay1 ?_)
    refine (View.readAt_full arg18.view _ _).trans ?_
    rw [View.writes_append]; exact k3
  isplitl [HS0]
  · iexists _; isplitr; · ipureintro; exact harg13.read_unread _
    iexact HS0
  isplitl [HS1]
  · iexists _; isplitr; · ipureintro; exact harg14.read_unread _
    iexact HS1
  isplitl [HS2]
  · iexists _; isplitr; · ipureintro; exact harg15.read_unread _
    iexact HS2
  isplitl [HS3]
  · iexists _; isplitr; swap; · iexact HS3
    ipureintro; rw [View.writes_append]; exact k1
  isplitl [HS4]
  · iexists _; isplitr; swap; · iexact HS4
    ipureintro; rw [View.writes_append]; exact k2
  isplitl [HS5]
  · iexists _, _; isplitr; swap; · iexact HS5
    ipureintro; rfl
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  iexists _; iexact HW

end Cert.KernelIdeal.Att
-- ==== Proof.KRunC.lean ====
module

public import proofs.«01_k».proof.Proof.Ix
public import proofs.«01_k».proof.Proof.KStep
public import proofs.«01_k».proof.Proof.Gen.KernelIdeal.Frame.Runs
public import proofs.«01_k».proof.Proof.KRunB
@[expose] public section

set_option maxRecDepth 16384

noncomputable section

namespace Cert.KernelIdeal.Att

open Idealize.ShloMosaic Idealize.ShloMosaic.TcCoe Idealize.ShloMosaic.Tactic
open Cert.KernelIdeal Cert.KernelIdeal.Gen Ix
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26

local notation "𝕄" => MT nD τ sig Unit (Elt F) ℕ (Pipeline.UD sig nD τ) ℕ

/-- A row of the result copied out. -/
theorem put_main_v43_1 (i : grid0.Coords) (inb) (hs) (fw : Vec F S2x16896x128 .f32) (w v : Vec F S16896x128 .f32) (h : w = v) :
    View.write (Elt F) (((Memref.whole main_v43_1).slice (Rect.unit (k0_off4 i) ![1, 16896, 128] inb) hs).squeeze S16896x128 squeezes_S1x16896x128_S16896x128).view fw w Finset.univ = putRow fw (i 0) v := by
  subst h
  have e := read_write_lead (Val := Elt F) (n0 := 2) (n1 := 16896) (n2 := 128) (Memref.whole main_v43_1) (i 0) (k0_off4 i) (k0_off4_eq i) inb hs squeezes_S1x16896x128_S16896x128 fw w
  exact (View.read_whole main_v43_1 _).symm.trans (e.trans (congrArg (fun z => putRow z (i 0) w) (View.read_whole main_v43_1 fw)))

/-- A row of the result copied out. -/
theorem put_main_v43_2 (i : grid0.Coords) (inb) (hs) (fw : Vec F S2x16896x128 .f32) (w v : Vec F S16896x128 .f32) (h : w = v) :
    View.write (Elt F) (((Memref.whole main_v43_2).slice (Rect.unit (k0_off4 i) ![1, 16896, 128] inb) hs).squeeze S16896x128 squeezes_S1x16896x128_S16896x128).view fw w Finset.univ = putRow fw (i 0) v := by
  subst h
  have e := read_write_lead (Val := Elt F) (n0 := 2) (n1 := 16896) (n2 := 128) (Memref.whole main_v43_2) (i 0) (k0_off4 i) (k0_off4_eq i) inb hs squeezes_S1x16896x128_S16896x128 fw w
  exact (View.read_whole main_v43_2 _).symm.trans (e.trans (congrArg (fun z => putRow z (i 0) w) (View.read_whole main_v43_2 fw)))

set_option maxHeartbeats 1600000 in
/-- A group's last point: the point is computed, then the accumulators are copied out to the group's row. -/
theorem runC (c : Dev nD) (i : grid0.Coords)
    (arg2 : Memref sig .tc .vmem S4x384x128 .bf16) (harg2 : arg2.IsWhole)
    (arg3 : Memref sig .tc .vmem S4x128x384 .bf16) (harg3 : arg3.IsWhole)
    (arg7 : Memref sig .tc .vmem S384x256 .f32) (harg7 : arg7.IsWhole)
    (arg8 : Memref sig .tc .vmem S384x256 .f32) (harg8 : arg8.IsWhole)
    (arg9 : Memref sig .tc .vmem S4x1x384 .f32) (harg9 : arg9.IsWhole)
    (arg10 : Memref sig .tc .vmem S4x384x128 .f32) (harg10 : arg10.IsWhole)
    (arg13 : Memref sig .tc .vmem S16896x128 .bf16) (harg13 : arg13.IsWhole)
    (arg14 : Memref sig .tc .vmem S33x128x512 .bf16) (harg14 : arg14.IsWhole)
    (arg15 : Memref sig .tc .vmem S16896x128 .bf16) (harg15 : arg15.IsWhole)
    (arg16 : Memref sig .tc .vmem S16896x128 .f32) (harg16 : arg16.IsWhole)
    (arg17 : Memref sig .tc .vmem S16896x128 .f32) (harg17 : arg17.IsWhole)
    (arg18 : Memref sig .tc .vmem S128x1536 .f32) (harg18 : arg18.IsWhole) (hc0 : ¬cond0_0 i) (hc1 : cond0_1 i)
    (x0 : Vec F S4x384x128 .bf16) (x1 : Vec F S4x128x384 .bf16) (x2 : Vec F S384x256 .f32) (x3 : Vec F S384x256 .f32) (x4 : Vec F S4x1x384 .f32) (xs0 : Vec F S16896x128 .bf16) (xs1 : Vec F S33x128x512 .bf16) (xs2 : Vec F S16896x128 .bf16) (xs3 : Vec F S16896x128 .f32) (xs4 : Vec F S16896x128 .f32)
    (fh0 : HbBuf0 (F := F) c hbM0_0) (fh1 : HbBuf0 (F := F) c hbM0_1) (fh2 : HbBuf0 (F := F) c hbM0_2) (fw3 : HbBuf0 (F := F) c hbM0_3) (fw4 : HbBuf0 (F := F) c hbM0_4)
    (W : Waits sig Unit) (K : PUnit → sProp 𝕄) :
    iprop(owns (c : Thread nD τ) arg2 fullShare x0 ∗ owns (c : Thread nD τ) arg3 fullShare x1 ∗ owns (c : Thread nD τ) arg7 fullShare x2 ∗ owns (c : Thread nD τ) arg8 fullShare x3 ∗ owns (c : Thread nD τ) arg9 fullShare x4 ∗ (∃ d, owns (c : Thread nD τ) arg10 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ (∃ d, owns (c : Thread nD τ) arg18 fullShare d) ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 fw3 ∗ hbPt0 c hbM0_4 fw4 ∗ owes (c : Thread nD τ) 0 W
        ∗ (iprop(owns (c : Thread nD τ) arg2 fullShare x0 ∗ owns (c : Thread nD τ) arg3 fullShare x1 ∗ owns (c : Thread nD τ) arg7 fullShare x2 ∗ owns (c : Thread nD τ) arg8 fullShare x3 ∗ owns (c : Thread nD τ) arg9 fullShare x4 ∗ owns (c : Thread nD τ) arg10 fullShare (k0_pay1 (point (side i x0 x1 x2 x3 x4) xs0 xs1 xs2 xs3 xs4).dq) ∗ owns (c : Thread nD τ) arg13 fullShare xs0 ∗ owns (c : Thread nD τ) arg14 fullShare xs1 ∗ owns (c : Thread nD τ) arg15 fullShare xs2 ∗ owns (c : Thread nD τ) arg16 fullShare (point (side i x0 x1 x2 x3 x4) xs0 xs1 xs2 xs3 xs4).dk ∗ owns (c : Thread nD τ) arg17 fullShare (point (side i x0 x1 x2 x3 x4) xs0 xs1 xs2 xs3 xs4).dv ∗ (∃ d, owns (c : Thread nD τ) arg18 fullShare d) ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ hbPt0 c hbM0_1 fh1 ∗ hbPt0 c hbM0_2 fh2 ∗ hbPt0 c hbM0_3 (putRow fw3 (i 0) (point (side i x0 x1 x2 x3 x4) xs0 xs1 xs2 xs3 xs4).dk) ∗ hbPt0 c hbM0_4 (putRow fw4 (i 0) (point (side i x0 x1 x2 x3 x4) xs0 xs1 xs2 xs3 xs4).dv) ∗ (∃ W', owes (c : Thread nD τ) 0 W')) -∗ K ⟨⟩))
      ⊢ wp frame (wpE (defs₀ (F := F)) Variants.none c none) Set.univ (cc0_at_bwd i arg2 harg2 arg3 harg3 (Memref.whole main_v33) (Memref.isWhole_whole _) (Memref.whole main_v38) (Memref.isWhole_whole _) (Memref.whole main_v35) (Memref.isWhole_whole _) arg7 harg7 arg8 harg8 arg9 harg9 arg10 harg10 (Memref.whole main_v43_1) (Memref.isWhole_whole _) (Memref.whole main_v43_2) (Memref.isWhole_whole _) arg13 harg13 arg14 harg14 arg15 harg15 arg16 harg16 arg17 harg17 arg18 harg18 cc0_scratch6) K := by
  simp only [cc0_at_bwd_eq_skeleton]; unfold cc0_at_bwd_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, Hq0, Hq1, Hq2, Hh0, Hh1, Hh2, Hh3, Hh4, HW, Hk⟩
  obtain rfl := harg2.eq_unread hf0; obtain rfl := harg3.eq_unread hf1; obtain rfl := harg7.eq_unread hf2; obtain rfl := harg8.eq_unread hf3; obtain rfl := harg9.eq_unread hf4
  obtain rfl := harg13.eq_unread hfs0; obtain rfl := harg14.eq_unread hfs1; obtain rfl := harg15.eq_unread hfs2; obtain rfl := harg16.eq_unread hfs3; obtain rfl := harg17.eq_unread hfs4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  have l18 : runC.sl.v78 c arg18 = k0_pay18 (F := F) := by
    unfold runC.sl.v78 runC.sl.HS5_1; exact View.readCov_full arg18.view _ _ _ []
  have es : (⟨(runC.sl.r c arg3 harg3 x1), (runC.sl.r_3 c i arg7 harg7 arg8 harg8 x2 x3), (runC.sl.r_4 c i arg7 harg7 x2), (runC.sl.r_5 c i arg7 harg7 x2), (runC.sl.r_6 c arg2 harg2 x0), (runC.sl.r_7 c arg9 harg9 x4)⟩ : Side F) = side i x0 x1 x2 x3 x4 := side_eq harg2 harg3 harg7 harg8 harg9 i x0 x1 x2 x3 x4
  have e62 : (runC.sl.r_8 c arg14 harg14 xs1) = k0_pay19 (VecWindow.window xs1 ![0, 0, 0] S1x128x512.size inbChunkT) := congrArg k0_pay19 (rd harg14 xs1 _ _ inbChunkT)
  have e63 : (runC.sl.r_9 c arg15 harg15 xs2) = (VecWindow.window xs2 ![0, 0] S512x128.size inbChunk) := rd harg15 xs2 _ _ inbChunk
  have e64 : (runC.sl.r_10 c arg3 harg3 arg13 harg13 x1 xs0) = k0_pay20 (runC.sl.r c arg3 harg3 x1) (VecWindow.window xs0 ![0, 0] S512x128.size inbChunk) := congrArg (k0_pay20 _) (rd harg13 xs0 _ _ inbChunk)
  have h16 : arg16.view.read (Elt F) (arg16.view.writes (Elt F) (harg16.unread xs3) [⟨Rect.unit (s := S16896x128) ![0, 0] S512x128.size inb_S16896x128_S512x128_0_0, k0_pay24 (runC.sl.r_3 c i arg7 harg7 arg8 harg8 x2 x3) (runC.sl.r_5 c i arg7 harg7 x2) (runC.sl.r_6 c arg2 harg2 x0) (runC.sl.r_7 c arg9 harg9 x4) (runC.sl.r_9 c arg15 harg15 xs2) (runC.sl.r_10 c arg3 harg3 arg13 harg13 x1 xs0) runC.sl.v65 (496#32) (View.readAt (Elt F) arg16.view (Rect.unit (s := S16896x128) ![0, 0] S512x128.size inb_S16896x128_S512x128_0_0).toLoadRect (harg16.unread xs3))⟩]) = (first (⟨(runC.sl.r c arg3 harg3 x1), (runC.sl.r_3 c i arg7 harg7 arg8 harg8 x2 x3), (runC.sl.r_4 c i arg7 harg7 x2), (runC.sl.r_5 c i arg7 harg7 x2), (runC.sl.r_6 c arg2 harg2 x0), (runC.sl.r_7 c arg9 harg9 x4)⟩ : Side F) xs0 xs1 xs2 xs3 xs4).dk := by
    refine (View.read_writes_cons_put arg16.view _ _ _ _ rfl).trans ?_
    refine put_congr _ _ (harg16.read_unread xs3) ?_
    refine (congrArg (fun z => k0_pay24 (runC.sl.r_3 c i arg7 harg7 arg8 harg8 x2 x3) (runC.sl.r_5 c i arg7 harg7 x2) (runC.sl.r_6 c arg2 harg2 x0) (runC.sl.r_7 c arg9 harg9 x4) (runC.sl.r_9 c arg15 harg15 xs2) (runC.sl.r_10 c arg3 harg3 arg13 harg13 x1 xs0) runC.sl.v65 496#32 z) (rd harg16 xs3 _ _ inbChunk)).trans ?_
    rw [e63, e64]; rfl
  have h17 : arg17.view.read (Elt F) (arg17.view.writes (Elt F) (harg17.unread xs4) [⟨Rect.unit (s := S16896x128) ![0, 0] S512x128.size inb_S16896x128_S512x128_0_0, k0_pay25 (runC.sl.r_4 c i arg7 harg7 x2) (runC.sl.r_7 c arg9 harg9 x4) (runC.sl.r_10 c arg3 harg3 arg13 harg13 x1 xs0) runC.sl.v65 (496#32) (View.readAt (Elt F) arg17.view (Rect.unit (s := S16896x128) ![0, 0] S512x128.size inb_S16896x128_S512x128_0_0).toLoadRect (harg17.unread xs4))⟩]) = (first (⟨(runC.sl.r c arg3 harg3 x1), (runC.sl.r_3 c i arg7 harg7 arg8 harg8 x2 x3), (runC.sl.r_4 c i arg7 harg7 x2), (runC.sl.r_5 c i arg7 harg7 x2), (runC.sl.r_6 c arg2 harg2 x0), (runC.sl.r_7 c arg9 harg9 x4)⟩ : Side F) xs0 xs1 xs2 xs3 xs4).dv := by
    refine (View.read_writes_cons_put arg17.view _ _ _ _ rfl).trans ?_
    refine put_congr _ _ (harg17.read_unread xs4) ?_
    refine (congrArg (fun z => k0_pay25 (runC.sl.r_4 c i arg7 harg7 x2) (runC.sl.r_7 c arg9 harg9 x4) (runC.sl.r_10 c arg3 harg3 arg13 harg13 x1 xs0) runC.sl.v65 496#32 z) (rd harg17 xs4 _ _ inbChunk)).trans ?_
    rw [e64]; rfl
  have h18 : arg18.view.read (Elt F) (arg18.view.writes (Elt F) arg18.view.junk (runC.sl.HS5_2 c i arg3 harg3 arg7 harg7 arg8 harg8 arg9 harg9 arg13 harg13 arg14 harg14 arg15 harg15 arg18 x1 x2 x3 x4 xs0 xs1 xs2)) = (first (⟨(runC.sl.r c arg3 harg3 x1), (runC.sl.r_3 c i arg7 harg7 arg8 harg8 x2 x3), (runC.sl.r_4 c i arg7 harg7 x2), (runC.sl.r_5 c i arg7 harg7 x2), (runC.sl.r_6 c arg2 harg2 x0), (runC.sl.r_7 c arg9 harg9 x4)⟩ : Side F) xs0 xs1 xs2 xs3 xs4).dq := by
    refine Eq.trans (b := k0_pay23 (runC.sl.r_3 c i arg7 harg7 arg8 harg8 x2 x3) (runC.sl.r_5 c i arg7 harg7 x2) (runC.sl.r_7 c arg9 harg9 x4) (runC.sl.r_8 c arg14 harg14 xs1) (runC.sl.r_9 c arg15 harg15 xs2) (runC.sl.r_10 c arg3 harg3 arg13 harg13 x1 xs0) runC.sl.v65 496#32 (runC.sl.v78 c arg18)) ?_ ?_
    · unfold runC.sl.HS5_2; exact View.read_writes_full arg18.view _ _ _ _
    rw [l18, e62, e63, e64]; rfl
  have key := pb_read (F := F) Variants.none c none i arg2 harg2 arg3 harg3 (Memref.whole main_v33) (Memref.isWhole_whole _) (Memref.whole main_v38) (Memref.isWhole_whole _) (Memref.whole main_v35) (Memref.isWhole_whole _) arg7 harg7 arg8 harg8 arg9 harg9 arg10 harg10 (Memref.whole main_v43_1) (Memref.isWhole_whole _) (Memref.whole main_v43_2) (Memref.isWhole_whole _) arg13 harg13 arg14 harg14 arg15 harg15 arg16 harg16 arg17 harg17 arg18 harg18 cc0_scratch6 (⟨(runC.sl.r c arg3 harg3 x1), (runC.sl.r_3 c i arg7 harg7 arg8 harg8 x2 x3), (runC.sl.r_4 c i arg7 harg7 x2), (runC.sl.r_5 c i arg7 harg7 x2), (runC.sl.r_6 c arg2 harg2 x0), (runC.sl.r_7 c arg9 harg9 x4)⟩ : Side F) (runC.sl.r_8 c arg14 harg14 xs1) (runC.sl.r_9 c arg15 harg15 xs2) (runC.sl.r_10 c arg3 harg3 arg13 harg13 x1 xs0) runC.sl.v65 496#32 (harg13.unread xs0) (harg14.unread xs1) (harg15.unread xs2) xs0 xs1 xs2 (harg13.read_unread _) (harg14.read_unread _) (harg15.read_unread _) (arg16.view.writes (Elt F) (harg16.unread xs3) [⟨Rect.unit (s := S16896x128) ![0, 0] S512x128.size inb_S16896x128_S512x128_0_0, k0_pay24 (runC.sl.r_3 c i arg7 harg7 arg8 harg8 x2 x3) (runC.sl.r_5 c i arg7 harg7 x2) (runC.sl.r_6 c arg2 harg2 x0) (runC.sl.r_7 c arg9 harg9 x4) (runC.sl.r_9 c arg15 harg15 xs2) (runC.sl.r_10 c arg3 harg3 arg13 harg13 x1 xs0) runC.sl.v65 (496#32) (View.readAt (Elt F) arg16.view (Rect.unit (s := S16896x128) ![0, 0] S512x128.size inb_S16896x128_S512x128_0_0).toLoadRect (harg16.unread xs3))⟩]) (arg17.view.writes (Elt F) (harg17.unread xs4) [⟨Rect.unit (s := S16896x128) ![0, 0] S512x128.size inb_S16896x128_S512x128_0_0, k0_pay25 (runC.sl.r_4 c i arg7 harg7 x2) (runC.sl.r_7 c arg9 harg9 x4) (runC.sl.r_10 c arg3 harg3 arg13 harg13 x1 xs0) runC.sl.v65 (496#32) (View.readAt (Elt F) arg17.view (Rect.unit (s := S16896x128) ![0, 0] S512x128.size inb_S16896x128_S512x128_0_0).toLoadRect (harg17.unread xs4))⟩]) (arg18.view.writes (Elt F) arg18.view.junk (runC.sl.HS5_2 c i arg3 harg3 arg7 harg7 arg8 harg8 arg9 harg9 arg13 harg13 arg14 harg14 arg15 harg15 arg18 x1 x2 x3 x4 xs0 xs1 xs2)) _ h18 h16 h17 _ (le_refl _)
  have key' : fold (⟨(runC.sl.r c arg3 harg3 x1), (runC.sl.r_3 c i arg7 harg7 arg8 harg8 x2 x3), (runC.sl.r_4 c i arg7 harg7 x2), (runC.sl.r_5 c i arg7 harg7 x2), (runC.sl.r_6 c arg2 harg2 x0), (runC.sl.r_7 c arg9 harg9 x4)⟩ : Side F) xs0 xs1 xs2 (first (⟨(runC.sl.r c arg3 harg3 x1), (runC.sl.r_3 c i arg7 harg7 arg8 harg8 x2 x3), (runC.sl.r_4 c i arg7 harg7 x2), (runC.sl.r_5 c i arg7 harg7 x2), (runC.sl.r_6 c arg2 harg2 x0), (runC.sl.r_7 c arg9 harg9 x4)⟩ : Side F) xs0 xs1 xs2 xs3 xs4) k0_t1_loop.trips = point (side i x0 x1 x2 x3 x4) xs0 xs1 xs2 xs3 xs4 := by rw [es]; rfl
  rw [key'] at key
  obtain ⟨k1, k2, k3⟩ := key
  have eH3 : runC.sl.Hh3_w0 c i arg2 harg2 arg3 harg3 arg7 harg7 arg8 harg8 arg9 harg9 arg10 harg10 arg13 harg13 arg14 harg14 arg15 harg15 arg16 harg16 arg17 harg17 arg18 harg18 hc1 x0 x1 x2 x3 x4 xs0 xs1 xs2 xs3 xs4 fw3 = putRow fw3 (i 0) (point (side i x0 x1 x2 x3 x4) xs0 xs1 xs2 xs3 xs4).dk := by
    unfold runC.sl.Hh3_w0 runC.sl.dma3
    refine put_main_v43_1 i _ _ fw3 _ _ ?_
    rw [View.writes_append]; exact k1
  have eH4 : runC.sl.Hh4_w1 c i arg2 harg2 arg3 harg3 arg7 harg7 arg8 harg8 arg9 harg9 arg10 harg10 arg13 harg13 arg14 harg14 arg15 harg15 arg16 harg16 arg17 harg17 arg18 harg18 hc1 x0 x1 x2 x3 x4 xs0 xs1 xs2 xs3 xs4 fw4 = putRow fw4 (i 0) (point (side i x0 x1 x2 x3 x4) xs0 xs1 xs2 xs3 xs4).dv := by
    unfold runC.sl.Hh4_w1 runC.sl.dma3_1
    refine put_main_v43_2 i _ _ fw4 _ _ ?_
    rw [View.writes_append]; exact k2
  isplitl [H5]
  · iexists _; isplitr; swap; · iexact H5
    ipureintro
    refine (View.read_writes_full arg10.view _ _ _ []).trans (congrArg k0_pay1 ?_)
    refine (View.readAt_full arg18.view _ _).trans ?_
    rw [View.writes_append]; exact k3
  isplitl [HS0]
  · iexists _; isplitr; · ipureintro; exact harg13.read_unread _
    iexact HS0
  isplitl [HS1]
  · iexists _; isplitr; · ipureintro; exact harg14.read_unread _
    iexact HS1
  isplitl [HS2]
  · iexists _; isplitr; · ipureintro; exact harg15.read_unread _
    iexact HS2
  isplitl [HS3]
  · iexists _; isplitr; swap; · iexact HS3
    ipureintro; rw [View.writes_append]; exact k1
  isplitl [HS4]
  · iexists _; isplitr; swap; · iexact HS4
    ipureintro; rw [View.writes_append]; exact k2
  isplitl [HS5]
  · iexists _, _; isplitr; swap; · iexact HS5
    ipureintro; rfl
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · rw [← eH3]; iexact Hh3
  isplitl [Hh4]; · rw [← eH4]; iexact Hh4
  iexists _; iexact HW

end Cert.KernelIdeal.Att
-- ==== Proof.KFrame.lean ====
module

public import proofs.«01_k».proof.Proof.Ix
public import proofs.«01_k».proof.Proof.KStep
public import proofs.«01_k».proof.Proof.Gen.KernelIdeal.Frame.Runs
public import proofs.«01_k».proof.Proof.KRunC
public import Idealize.ShloMosaic.Lib.Pipeline.FrameSuffixV
@[expose] public section

set_option maxRecDepth 16384

noncomputable section

namespace Cert.KernelIdeal.Att

open Idealize.ShloMosaic Idealize.ShloMosaic.TcCoe Idealize.ShloMosaic.Tactic
open Cert.KernelIdeal Cert.KernelIdeal.Gen Ix
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26

local notation "𝕄" => MT nD τ sig Unit (Elt F) ℕ (Pipeline.UD sig nD τ) ℕ

variable (m : (ℓ : Loc nD τ sig) → Buf (Elt F) ℓ) (ρ : Dev nD → PrngReg)

/-! ## What the accumulators hold -/

/-- The values of point `t`'s group. -/
def valuesOf (c : Dev nD) (t : Fin cfg0.N) : Vec F S16896x128 .bf16 := rowOf (n0 := 2) (n1 := 16896) (n2 := 128) (V m c main_v35) (grid0.coords t 0)

/-- Point `t` over given accumulators. -/
def pointOf (c : Dev nD) (t : Fin cfg0.N) (dk dv : Vec F S16896x128 .f32) : Acc F :=
  point (side (grid0.coords t) (iblk m c 0 t) (iblk m c 1 t) (iblk m c 2 t) (iblk m c 3 t) (iblk m c 4 t)) (V m c main_v33) (V m c main_v38) (valuesOf m c t) dk dv

/-- The accumulators after point `n`: a group's first point starts from zero, the others from the point before. -/
def accAt (c : Dev nD) : (n : ℕ) → n < cfg0.N → Acc F
  | 0, h => pointOf m c ⟨0, h⟩ k0_pay7 k0_pay8
  | n + 1, h => if (n + 1) % 44 = 0 then pointOf m c ⟨n + 1, h⟩ k0_pay7 k0_pay8
      else pointOf m c ⟨n + 1, h⟩ (accAt c n (Nat.lt_of_succ_lt h)).dk (accAt c n (Nat.lt_of_succ_lt h)).dv

theorem accAt_first (c : Dev nD) (t : Fin cfg0.N) (h0 : t.val % 44 = 0) : accAt m c t.val t.isLt = pointOf m c t k0_pay7 k0_pay8 := by
  obtain ⟨n, hn⟩ := t
  cases n with
  | zero => rfl
  | succ n => exact if_pos h0

theorem accAt_next (c : Dev nD) (t : Fin cfg0.N) (h0 : ¬t.val % 44 = 0) :
    accAt m c t.val t.isLt = pointOf m c t (accAt m c (t.val - 1) (Nat.lt_of_le_of_lt (Nat.sub_le _ _) t.isLt)).dk (accAt m c (t.val - 1) (Nat.lt_of_le_of_lt (Nat.sub_le _ _) t.isLt)).dv := by
  obtain ⟨n, hn⟩ := t
  cases n with
  | zero => exact absurd (Nat.zero_mod _) h0
  | succ n => exact if_neg h0

/-- A group's last point. -/
def lastOf (g : Fin 2) : Fin cfg0.N := ⟨44 * g.val + 43, by have := g.isLt; have e : cfg0.N = 88 := N_0; omega⟩

/-- The gradient of the keys, group by group. -/
def dkAll (c : Dev nD) : Vec F S2x16896x128 .f32 := fun z => (accAt m c (lastOf (z 0)).val (lastOf (z 0)).isLt).dk (ix2 (z 1) (z 2))
/-- The gradient of the values, group by group. -/
def dvAll (c : Dev nD) : Vec F S2x16896x128 .f32 := fun z => (accAt m c (lastOf (z 0)).val (lastOf (z 0)).isLt).dv (ix2 (z 1) (z 2))

/-- The rows of the groups that are through hold their sums. -/
def Through (c : Dev nD) (n : ℕ) (f3 f4 : Vec F S2x16896x128 .f32) : Prop :=
  ∀ g : Fin 2, 44 * g.val + 44 ≤ n → rowOf (n0 := 2) (n1 := 16896) (n2 := 128) f3 g = (accAt m c (lastOf g).val (lastOf g).isLt).dk
    ∧ rowOf (n0 := 2) (n1 := 16896) (n2 := 128) f4 g = (accAt m c (lastOf g).val (lastOf g).isLt).dv

theorem through_zero (c : Dev nD) (f3 f4) : Through m c 0 f3 f4 := fun g h => absurd h (by omega)

theorem through_step (c : Dev nD) (n : ℕ) (f3 f4) (h1 : ¬n % 44 = 43) (h : Through m c n f3 f4) : Through m c (n + 1) f3 f4 :=
  fun g hg => h g (by omega)

theorem through_last (c : Dev nD) (t : Fin cfg0.N) (f3 f4) (h1 : t.val % 44 = 43) (h : Through m c t.val f3 f4) :
    Through m c (t.val + 1) (putRow (n0 := 2) (n1 := 16896) (n2 := 128) f3 (grid0.coords t 0) (accAt m c t.val t.isLt).dk)
      (putRow (n0 := 2) (n1 := 16896) (n2 := 128) f4 (grid0.coords t 0) (accAt m c t.val t.isLt).dv) := by
  have ht : t.val < 88 := Nat.lt_of_lt_of_eq t.isLt N_0
  have e0 : (grid0.coords t 0).val = t.val / 44 % 2 := Pipeline.Grid.coords_val t 0 (by decide) rfl
  intro g hg
  by_cases hgt : g = grid0.coords t 0
  · have el : lastOf g = t := Fin.ext (by show 44 * g.val + 43 = t.val; rw [hgt]; omega)
    have hl : ∀ s : Fin cfg0.N, s = t → accAt m c s.val s.isLt = accAt m c t.val t.isLt := by rintro _ rfl; rfl
    rw [hl _ el]
    subst hgt
    exact ⟨rowOf_putRow_same f3 (grid0.coords t 0) _, rowOf_putRow_same f4 (grid0.coords t 0) _⟩
  · have hne : g.val ≠ (grid0.coords t 0).val := fun e => hgt (Fin.ext e)
    have hh := h g (by omega)
    exact ⟨(rowOf_putRow_ne f3 (grid0.coords t 0) g hgt _).trans hh.1, (rowOf_putRow_ne f4 (grid0.coords t 0) g hgt _).trans hh.2⟩

theorem through_all (c : Dev nD) (f3 f4) (h : Through m c cfg0.N f3 f4) : f3 = dkAll m c ∧ f4 = dvAll m c := by
  have hN : cfg0.N = 88 := N_0
  constructor <;> funext z
  · have h3 := (h (z 0) (by have h2 : (z 0).val < 2 := (z 0).isLt; omega)).1
    exact (congrArg f3 (ix3_eta z).symm).trans (congrFun h3 (ix2 (z 1) (z 2)))
  · have h4 := (h (z 0) (by have h2 : (z 0).val < 2 := (z 0).isLt; omega)).2
    exact (congrArg f4 (ix3_eta z).symm).trans (congrFun h4 (ix2 (z 1) (z 2)))

/-! ## The invariant and the proof data -/

/-- The scratch before position `n`. -/
def scr (c : Dev nD) : (n : ℕ) → n ≤ cfg0.N → sProp 𝕄
  | 0, _ => iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d))
  | n + 1, h => iprop(owns (c : Thread nD τ) scM0_0 fullShare (V m c main_v33) ∗ owns (c : Thread nD τ) scM0_1 fullShare (V m c main_v38) ∗ owns (c : Thread nD τ) scM0_2 fullShare (valuesOf m c ⟨n, h⟩) ∗ owns (c : Thread nD τ) scM0_3 fullShare (accAt m c n h).dk ∗ owns (c : Thread nD τ) scM0_4 fullShare (accAt m c n h).dv ∗ (∃ d, owns (c : Thread nD τ) scM0_5 fullShare d))

/-- The invariant before position `n`. -/
def Inv (c : Dev nD) (n : ℕ) (h : n ≤ cfg0.N) : sProp 𝕄 :=
  iprop(scr m c n h ∗ iprop(semVal ((c : Thread nD τ), SemLoc.dma 12) 0 ∗ semVal ((c : Thread nD τ), SemLoc.dma 13) 0 ∗ semVal ((c : Thread nD τ), SemLoc.dma 14) 0) ∗ iprop(hbPt0 c hbM0_0 (V m c main_v33) ∗ hbPt0 c hbM0_1 (V m c main_v38) ∗ hbPt0 c hbM0_2 (V m c main_v35)) ∗ (∃ f3, ∃ f4, iprop(⌜Through m c n f3 f4⌝ ∗ hbPt0 c hbM0_3 f3 ∗ hbPt0 c hbM0_4 f4)))

theorem scr_first (c : Dev nD) (n : ℕ) (h : n ≤ cfg0.N) : scr m c n h ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) := by
  cases n with
  | zero => exact Idealize.SL.BI.Entails.refl _
  | succ n =>
    unfold scr
    iintro ⟨HS0, HS1, HS2, HS3, HS4, HS5⟩
    isplitl [HS0]; · iexists _; iexact HS0
    isplitl [HS1]; · iexists _; iexact HS1
    isplitl [HS2]; · iexists _; iexact HS2
    isplitl [HS3]; · iexists _; iexact HS3
    isplitl [HS4]; · iexists _; iexact HS4
    iexact HS5

theorem scr_pos (c : Dev nD) (t : Fin cfg0.N) (hz : t.val ≠ 0) (hv : valuesOf m c ⟨t.val - 1, Nat.lt_of_le_of_lt (Nat.sub_le _ _) t.isLt⟩ = valuesOf m c t) :
    scr m c t.val (Nat.le_of_lt t.isLt) = iprop(owns (c : Thread nD τ) scM0_0 fullShare (V m c main_v33) ∗ owns (c : Thread nD τ) scM0_1 fullShare (V m c main_v38) ∗ owns (c : Thread nD τ) scM0_2 fullShare (valuesOf m c t) ∗ owns (c : Thread nD τ) scM0_3 fullShare (accAt m c (t.val - 1) (Nat.lt_of_le_of_lt (Nat.sub_le _ _) t.isLt)).dk ∗ owns (c : Thread nD τ) scM0_4 fullShare (accAt m c (t.val - 1) (Nat.lt_of_le_of_lt (Nat.sub_le _ _) t.isLt)).dv ∗ (∃ d, owns (c : Thread nD τ) scM0_5 fullShare d)) := by
  rw [← hv]
  obtain ⟨n, hn⟩ := t
  cases n with
  | zero => exact absurd rfl hz
  | succ n => rfl

theorem scr_succ (c : Dev nD) (t : Fin cfg0.N) : scr m c (t.val + 1) t.isLt = iprop(owns (c : Thread nD τ) scM0_0 fullShare (V m c main_v33) ∗ owns (c : Thread nD τ) scM0_1 fullShare (V m c main_v38) ∗ owns (c : Thread nD τ) scM0_2 fullShare (valuesOf m c t) ∗ owns (c : Thread nD τ) scM0_3 fullShare (accAt m c t.val t.isLt).dk ∗ owns (c : Thread nD τ) scM0_4 fullShare (accAt m c t.val t.isLt).dv ∗ (∃ d, owns (c : Thread nD τ) scM0_5 fullShare d)) := rfl

theorem valuesOf_prev (c : Dev nD) (t : Fin cfg0.N) (h0 : ¬t.val % 44 = 0) : valuesOf m c ⟨t.val - 1, Nat.lt_of_le_of_lt (Nat.sub_le _ _) t.isLt⟩ = valuesOf m c t := by
  have e0 : (grid0.coords t 0).val = t.val / 44 % 2 := Pipeline.Grid.coords_val t 0 (by decide) rfl
  have e1 : (grid0.coords ⟨t.val - 1, Nat.lt_of_le_of_lt (Nat.sub_le _ _) t.isLt⟩ 0).val = (t.val - 1) / 44 % 2 := Pipeline.Grid.coords_val (⟨t.val - 1, Nat.lt_of_le_of_lt (Nat.sub_le _ _) t.isLt⟩ : Fin grid0.N) 0 (by decide) rfl
  exact congrArg (rowOf (n0 := 2) (n1 := 16896) (n2 := 128) (V m c main_v35)) (Fin.ext (by rw [e0, e1]; omega))

/-- The proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (accAt m c t.val t.isLt).dq
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay1 (accAt m c t.val t.isLt).dq := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
theorem body_A (c : Dev nD) (t : Fin cfg0.N) (h0 : t.val % 44 = 0) (h1 : ¬t.val % 44 = 43) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Inv m c (t.val + 1) t.isLt from rfl,
    after_0, after_1, after_2, after_3, after_4, after_5]
  unfold Dat.owesAt Pipeline.owesWithin
  rw [show (dats m 0 c).owed t.castSucc = 0 from rfl, show (dats m 0 c).owed t.succ = 0 from rfl, Inv_castSucc m c t]
  have hacc : accAt m c t.val t.isLt = pointOf m c t k0_pay7 k0_pay8 := accAt_first m c t h0
  unfold Inv
  iintro ⟨⟨HS, ⟨Hq0, Hq1, Hq2⟩, ⟨Hh0, Hh1, Hh2⟩, ⟨%f3, %f4, %hthru, Hh3, Hh4⟩⟩, ⟨%W, -, HW⟩, ⟨%d0, H0⟩, ⟨%d1, H1⟩, ⟨%d2, H2⟩, ⟨%d3, H3⟩, ⟨%d4, H4⟩, ⟨%d5, H5⟩⟩
  ihave HS' := (scr_first m c t.val (Nat.le_of_lt t.isLt)) $$ HS
  icases HS' with ⟨HS0, HS1, HS2, HS3, HS4, HS5⟩
  iapply (runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (V m c main_v33) (V m c main_v38) (V m c main_v35) f3 f4 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, H5, HS0, HS1, HS2, HS3, HS4, HS5, Hq0, Hq1, Hq2, Hh0, Hh1, Hh2, Hh3, Hh4, ⟨%W', HW'⟩⟩
  rw [hacc]
  isplitl [HS0 HS1 HS2 HS3 HS4 HS5 Hq0 Hq1 Hq2 Hh0 Hh1 Hh2 Hh3 Hh4]
  · isplitl [HS0 HS1 HS2 HS3 HS4 HS5]
    · rw [scr_succ, hacc]
      isplitl [HS0]; · iexact HS0
      isplitl [HS1]; · iexact HS1
      isplitl [HS2]; · iexact HS2
      isplitl [HS3]; · iexact HS3
      isplitl [HS4]; · iexact HS4
      iexact HS5
    isplitl [Hq0 Hq1 Hq2]
    · isplitl [Hq0]; · iexact Hq0
      isplitl [Hq1]; · iexact Hq1
      iexact Hq2
    isplitl [Hh0 Hh1 Hh2]
    · isplitl [Hh0]; · iexact Hh0
      isplitl [Hh1]; · iexact Hh1
      iexact Hh2
    iexists f3, f4; isplitr; · ipureintro; exact through_step m c t.val f3 f4 h1 hthru
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1600000 in
theorem body_B (c : Dev nD) (t : Fin cfg0.N) (h0 : ¬t.val % 44 = 0) (h1 : ¬t.val % 44 = 43) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Inv m c (t.val + 1) t.isLt from rfl,
    after_0, after_1, after_2, after_3, after_4, after_5]
  unfold Dat.owesAt Pipeline.owesWithin
  rw [show (dats m 0 c).owed t.castSucc = 0 from rfl, show (dats m 0 c).owed t.succ = 0 from rfl, Inv_castSucc m c t]
  have hz : t.val ≠ 0 := fun h => h0 (by rw [h])
  have hacc : accAt m c t.val t.isLt = pointOf m c t (accAt m c (t.val - 1) (Nat.lt_of_le_of_lt (Nat.sub_le _ _) t.isLt)).dk (accAt m c (t.val - 1) (Nat.lt_of_le_of_lt (Nat.sub_le _ _) t.isLt)).dv := accAt_next m c t h0
  unfold Inv
  rw [scr_pos m c t hz (valuesOf_prev m c t h0)]
  iintro ⟨⟨⟨HS0, HS1, HS2, HS3, HS4, HS5⟩, ⟨Hq0, Hq1, Hq2⟩, ⟨Hh0, Hh1, Hh2⟩, ⟨%f3, %f4, %hthru, Hh3, Hh4⟩⟩, ⟨%W, -, HW⟩, ⟨%d0, H0⟩, ⟨%d1, H1⟩, ⟨%d2, H2⟩, ⟨%d3, H3⟩, ⟨%d4, H4⟩, ⟨%d5, H5⟩⟩
  iapply (runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (V m c main_v33) (V m c main_v38) (valuesOf m c t) (accAt m c (t.val - 1) (Nat.lt_of_le_of_lt (Nat.sub_le _ _) t.isLt)).dk (accAt m c (t.val - 1) (Nat.lt_of_le_of_lt (Nat.sub_le _ _) t.isLt)).dv (V m c main_v33) (V m c main_v38) (V m c main_v35) f3 f4 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, H5, HS0, HS1, HS2, HS3, HS4, HS5, Hq0, Hq1, Hq2, Hh0, Hh1, Hh2, Hh3, Hh4, ⟨%W', HW'⟩⟩
  rw [hacc]
  isplitl [HS0 HS1 HS2 HS3 HS4 HS5 Hq0 Hq1 Hq2 Hh0 Hh1 Hh2 Hh3 Hh4]
  · isplitl [HS0 HS1 HS2 HS3 HS4 HS5]
    · rw [scr_succ, hacc]
      isplitl [HS0]; · iexact HS0
      isplitl [HS1]; · iexact HS1
      isplitl [HS2]; · iexact HS2
      isplitl [HS3]; · iexact HS3
      isplitl [HS4]; · iexact HS4
      iexact HS5
    isplitl [Hq0 Hq1 Hq2]
    · isplitl [Hq0]; · iexact Hq0
      isplitl [Hq1]; · iexact Hq1
      iexact Hq2
    isplitl [Hh0 Hh1 Hh2]
    · isplitl [Hh0]; · iexact Hh0
      isplitl [Hh1]; · iexact Hh1
      iexact Hh2
    iexists f3, f4; isplitr; · ipureintro; exact through_step m c t.val f3 f4 h1 hthru
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1600000 in
theorem body_C (c : Dev nD) (t : Fin cfg0.N) (h0 : ¬t.val % 44 = 0) (h1 : t.val % 44 = 43) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Inv m c (t.val + 1) t.isLt from rfl,
    after_0, after_1, after_2, after_3, after_4, after_5]
  unfold Dat.owesAt Pipeline.owesWithin
  rw [show (dats m 0 c).owed t.castSucc = 0 from rfl, show (dats m 0 c).owed t.succ = 0 from rfl, Inv_castSucc m c t]
  have hz : t.val ≠ 0 := fun h => h0 (by rw [h])
  have hacc : accAt m c t.val t.isLt = pointOf m c t (accAt m c (t.val - 1) (Nat.lt_of_le_of_lt (Nat.sub_le _ _) t.isLt)).dk (accAt m c (t.val - 1) (Nat.lt_of_le_of_lt (Nat.sub_le _ _) t.isLt)).dv := accAt_next m c t h0
  unfold Inv
  rw [scr_pos m c t hz (valuesOf_prev m c t h0)]
  iintro ⟨⟨⟨HS0, HS1, HS2, HS3, HS4, HS5⟩, ⟨Hq0, Hq1, Hq2⟩, ⟨Hh0, Hh1, Hh2⟩, ⟨%f3, %f4, %hthru, Hh3, Hh4⟩⟩, ⟨%W, -, HW⟩, ⟨%d0, H0⟩, ⟨%d1, H1⟩, ⟨%d2, H2⟩, ⟨%d3, H3⟩, ⟨%d4, H4⟩, ⟨%d5, H5⟩⟩
  iapply (runC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (V m c main_v33) (V m c main_v38) (valuesOf m c t) (accAt m c (t.val - 1) (Nat.lt_of_le_of_lt (Nat.sub_le _ _) t.isLt)).dk (accAt m c (t.val - 1) (Nat.lt_of_le_of_lt (Nat.sub_le _ _) t.isLt)).dv (V m c main_v33) (V m c main_v38) (V m c main_v35) f3 f4 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, H5, HS0, HS1, HS2, HS3, HS4, HS5, Hq0, Hq1, Hq2, Hh0, Hh1, Hh2, Hh3, Hh4, ⟨%W', HW'⟩⟩
  rw [hacc]
  isplitl [HS0 HS1 HS2 HS3 HS4 HS5 Hq0 Hq1 Hq2 Hh0 Hh1 Hh2 Hh3 Hh4]
  · isplitl [HS0 HS1 HS2 HS3 HS4 HS5]
    · rw [scr_succ, hacc]
      isplitl [HS0]; · iexact HS0
      isplitl [HS1]; · iexact HS1
      isplitl [HS2]; · iexact HS2
      isplitl [HS3]; · iexact HS3
      isplitl [HS4]; · iexact HS4
      iexact HS5
    isplitl [Hq0 Hq1 Hq2]
    · isplitl [Hq0]; · iexact Hq0
      isplitl [Hq1]; · iexact Hq1
      iexact Hq2
    isplitl [Hh0 Hh1 Hh2]
    · isplitl [Hh0]; · iexact Hh0
      isplitl [Hh1]; · iexact Hh1
      iexact Hh2
    have hth := through_last m c t f3 f4 h1 hthru
    rw [hacc] at hth
    iexists _, _; isplitr; · ipureintro; exact hth
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 44 = 0
  · exact body_A m c t h0 (by omega)
  · by_cases h1 : t.val % 44 = 43
    · exact body_C m c t h0 h1
    · exact body_B m c t h0 h1

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The launch -/

/-- The results the body copies out itself, as the region leaves them. -/
def left (c : Dev nD) (b : Ref sig .tc) : Buf (Elt F) ((c : Thread nD τ).loc b) :=
  Function.update (Function.update (V m c) main_v43_1 (dkAll m c)) main_v43_2 (dvAll m c) b

theorem left_dk (c : Dev nD) : left m c main_v43_1 = dkAll m c := by
  unfold left
  rw [Function.update_of_ne (by decide), Function.update_self]
theorem left_dv (c : Dev nD) : left m c main_v43_2 = dvAll m c := by
  unfold left
  rw [Function.update_self]

theorem PhiV_eq (c : Dev nD) (G : (c : Dev nD) → (b : Ref sig .tc) → Buf (Elt F) ((c : Thread nD τ).loc b)) :
    (Pipeline.ΦDRV osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ iprop(semVal ((c : Thread nD τ), SemLoc.dma 12) 0 ∗ semVal ((c : Thread nD τ), SemLoc.dma 13) 0 ∗ semVal ((c : Thread nD τ), SemLoc.dma 14) 0) ∗ iprop(hbPt0 c hbM0_0 (V m c main_v33) ∗ hbPt0 c hbM0_1 (V m c main_v38) ∗ hbPt0 c hbM0_2 (V m c main_v35)) ∗ iprop(hbPt0 c hbM0_3 (G c main_v43_1) ∗ hbPt0 c hbM0_4 (G c main_v43_2))) := by
  unfold Pipeline.ΦDRV
  have eR : (bigSep R0 (fun b => ((c : Thread nD τ).loc b) ↦{fullShare} G c b) : sProp 𝕄) = iprop(hbPt0 c hbM0_3 (G c main_v43_1) ∗ hbPt0 c hbM0_4 (G c main_v43_2)) := by
    rw [BI.bigSep_eq_bigSepL_of_eq [main_v43_1, main_v43_2] (by decide) (by decide)]; rfl
  rw [scopedRest0_eq, ownSems00_eq, hbmPts0_eq, eR]; simp only [scM0_0, scM0_1, scM0_2, scM0_3, scM0_4, scM0_5, owns_whole]; try rfl

theorem hin (c : Dev nD) : Pipeline.ΦDRV osem0 spec0 H0 R0 (V m) (V m) c ⊢ (dats m 0 c).Φ 0 := by
  rw [show (dats m 0 c).Φ 0 = Inv m c 0 (Nat.zero_le _) from rfl, PhiV_eq]
  unfold Inv scr
  iintro ⟨HS, Hq, Hh, ⟨H3, H4⟩⟩
  isplitl [HS]; · iexact HS
  isplitl [Hq]; · iexact Hq
  isplitl [Hh]; · iexact Hh
  iexists (V m c main_v43_1), (V m c main_v43_2); isplitr; · ipureintro; exact through_zero m c (V m c main_v43_1) (V m c main_v43_2)
  isplitl [H3]; · iexact H3
  iexact H4

theorem hout (c : Dev nD) : (dats m 0 c).Φ (Fin.last cfg0.N) ⊢ Pipeline.ΦDRV osem0 spec0 H0 R0 (V m) (left m) c := by
  rw [show (dats m 0 c).Φ (Fin.last cfg0.N) = Inv m c cfg0.N (le_refl _) from rfl, PhiV_eq, left_dk, left_dv]
  unfold Inv
  iintro ⟨HS, Hq, Hh, ⟨%f3, %f4, %hthru, H3, H4⟩⟩
  obtain ⟨e3, e4⟩ := through_all m c f3 f4 hthru
  subst e3 e4
  isplitl [HS]; · iapply (scr_first m c cfg0.N (le_refl _)); iexact HS
  isplitl [Hq]; · iexact Hq
  isplitl [Hh]; · iexact Hh
  isplitl [H3]; · iexact H3
  iexact H4

/-- The buffers as the region leaves them. -/
abbrev U (c : Dev nD) : Valuation τ sig (Elt F) :=
  Pipeline.withArrays spec0 c (Pipeline.withR (V0 m c) R0 c (left m c)) fun w => (dats m 0 c).arrAt w cfg0.N

theorem U_rest (c : Dev nD) (b : Ref sig .tc) (hb : ∀ w, Pipeline.arrRef spec0 w ≠ b) (hR : b ∉ R0) : U m c (Proc.devRef .tc b) = V m c b :=
  (Pipeline.withArrays_of_ne spec0 c _ _ b hb).trans (Pipeline.withR_of_not_mem _ _ c _ b hR)

set_option backward.isDefEq.respectTransparency.types false in
set_option maxHeartbeats 800000 in
/-- The run: every buffer no window stages ends as the lines after the region leave it. -/
theorem run_main : θ_run defs (onTc (τ := τ) (main (F := F))) (s₀ m ρ) (fun r => (∀ c : Dev nD, ∀ b ∈ Pipeline.restRefs sig spec0,
    r.2.mem ((c.tc : Thread nD τ).loc b) = StableHlo.after (List.flatten [hostOps1]) (U m c) (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := left m) (hmain := hmain m Variants.none) (hA := A_eq m) (hin := hin m) (hout := hout m)
    (Q' := _) (hQ' := fun _ h => ⟨fun c => (h.1 c).2, h.2⟩)

theorem arg0_kept (c : Dev nD) : StableHlo.after (List.flatten [hostOps1]) (U m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (U_rest m c main_arg0 (by decide) (by decide)).trans (V_main_arg0 m c)

theorem arg1_kept (c : Dev nD) : StableHlo.after (List.flatten [hostOps1]) (U m c) (Proc.devRef .tc main_arg1) = m ((c : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (U_rest m c main_arg1 (by decide) (by decide)).trans (V_main_arg1 m c)

theorem arg2_kept (c : Dev nD) : StableHlo.after (List.flatten [hostOps1]) (U m c) (Proc.devRef .tc main_arg2) = m ((c : Thread nD τ).loc main_arg2) := by
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (U_rest m c main_arg2 (by decide) (by decide)).trans (V_main_arg2 m c)

theorem arg3_kept (c : Dev nD) : StableHlo.after (List.flatten [hostOps1]) (U m c) (Proc.devRef .tc main_arg3) = m ((c : Thread nD τ).loc main_arg3) := by
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (U_rest m c main_arg3 (by decide) (by decide)).trans (V_main_arg3 m c)

/-- The frame: the arguments end as they began, and every counter is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c) main_arg0 (Pipeline.mem_restRefs_of main_arg0 (by decide) (by decide))).trans (arg0_kept m c),
      ((h.1 c) main_arg1 (Pipeline.mem_restRefs_of main_arg1 (by decide) (by decide))).trans (arg1_kept m c),
      ((h.1 c) main_arg2 (Pipeline.mem_restRefs_of main_arg2 (by decide) (by decide))).trans (arg2_kept m c),
      ((h.1 c) main_arg3 (Pipeline.mem_restRefs_of main_arg3 (by decide) (by decide))).trans (arg3_kept m c)⟩, h.2⟩) (run_main m ρ)

end Cert.KernelIdeal.Att
-- ==== Proof.KBlocks.lean ====
module

public import proofs.«01_k».proof.Proof.KSide
public import proofs.«01_k».proof.Proof.KFrame

@[expose] public section

set_option maxRecDepth 16384

noncomputable section

namespace Cert.KernelIdeal.Att

open Idealize.ShloMosaic Idealize.ShloMosaic.TcCoe
open Cert.KernelIdeal Cert.KernelIdeal.Gen Ix

/-! ## The blocks of a point, read off the host's arrays -/

/-- The group of a point. -/
def gr (t : Fin cfg0.N) : Fin 2 := ⟨t.val / 44, by have := t.isLt; have e : cfg0.N = 88 := N_0; omega⟩
/-- Head `h` of group `g` among the eight. -/
def hdx (g : Fin 2) (h : Fin 4) : Fin 8 := ⟨4 * g.val + h.val, by have := g.isLt; have := h.isLt; omega⟩
/-- Row `y` of block `i`. -/
def rowx (i : ℕ) (hi : i < 44) (y : Fin 384) : Fin 16896 := ⟨384 * i + y.val, by have := y.isLt; omega⟩
/-- Column `c` of group `g` among the 512. -/
def colx (g : Fin 2) (c : Fin 256) : Fin 512 := ⟨256 * g.val + c.val, by have := g.isLt; have := c.isLt; omega⟩

theorem mod_lt (t : Fin cfg0.N) : t.val % 44 < 44 := Nat.mod_lt _ (by decide)

theorem index0 : ∀ t : Fin cfg0.N, win0_0.index t 0 = t.val / 44 ∧ win0_0.index t 1 = t.val % 44 ∧ win0_0.index t 2 = 0 := by decide +kernel
theorem index1 : ∀ t : Fin cfg0.N, win0_1.index t 0 = t.val / 44 ∧ win0_1.index t 1 = 0 ∧ win0_1.index t 2 = t.val % 44 := by decide +kernel
theorem index2 : ∀ t : Fin cfg0.N, win0_2.index t 0 = t.val % 44 ∧ win0_2.index t 1 = t.val / 44 := by decide +kernel
theorem index3 : ∀ t : Fin cfg0.N, win0_3.index t 0 = t.val % 44 ∧ win0_3.index t 1 = t.val / 44 := by decide +kernel
theorem index4 : ∀ t : Fin cfg0.N, win0_4.index t 0 = t.val / 44 ∧ win0_4.index t 1 = 0 ∧ win0_4.index t 2 = t.val % 44 := by decide +kernel
theorem index5 : ∀ t : Fin cfg0.N, win0_5.index t 0 = t.val / 44 ∧ win0_5.index t 1 = t.val % 44 ∧ win0_5.index t 2 = 0 := by decide +kernel
theorem coords_eq : ∀ t : Fin cfg0.N, (grid0.coords t 0).val = t.val / 44 ∧ (grid0.coords t 1).val = t.val % 44 := by decide +kernel

section
variable {F : FTy → Type} [FloatOps F] [Named F] (m : (ℓ : Loc nD τ sig) → Buf (Elt F) ℓ) (c : Dev nD) (t : Fin cfg0.N)

theorem blk0 (h : Fin 4) (y : Fin 384) (x : Fin 128) :
    (iblk m c 0 t : Vec F S4x384x128 .bf16) (ix3 h y x) = (V m c main_v28 : Vec F S8x16896x128 .bf16) (ix3 (hdx (gr t) h) (rowx (t.val % 44) (mod_lt t) y) x) := by
  have hi := index0 t
  unfold iblk
  rw [View.read_apply]
  show V m c main_v28 _ = V m c main_v28 _
  congr 1
  funext a
  apply Fin.ext
  match a with
  | ⟨0, _⟩ => show win0_0.index t 0 * 4 + 1 * h.val = 4 * (t.val / 44) + h.val; rw [hi.1]; omega
  | ⟨1, _⟩ => show win0_0.index t 1 * 384 + 1 * y.val = 384 * (t.val % 44) + y.val; rw [hi.2.1]; omega
  | ⟨2, _⟩ => show win0_0.index t 2 * 128 + 1 * x.val = x.val; rw [hi.2.2]; omega

theorem blk1 (h : Fin 4) (x : Fin 128) (y : Fin 384) :
    (iblk m c 1 t : Vec F S4x128x384 .bf16) (ix3 h x y) = (V m c main_v36 : Vec F S8x128x16896 .bf16) (ix3 (hdx (gr t) h) x (rowx (t.val % 44) (mod_lt t) y)) := by
  have hi := index1 t
  unfold iblk
  rw [View.read_apply]
  show V m c main_v36 _ = V m c main_v36 _
  congr 1
  funext a
  apply Fin.ext
  match a with
  | ⟨0, _⟩ => show win0_1.index t 0 * 4 + 1 * h.val = 4 * (t.val / 44) + h.val; rw [hi.1]; omega
  | ⟨1, _⟩ => show win0_1.index t 1 * 128 + 1 * x.val = x.val; rw [hi.2.1]; omega
  | ⟨2, _⟩ => show win0_1.index t 2 * 384 + 1 * y.val = 384 * (t.val % 44) + y.val; rw [hi.2.2]; omega

theorem blk2 (y : Fin 384) (x : Fin 256) :
    (iblk m c 2 t : Vec F S384x256 .f32) (ix2 y x) = (V m c main_v39 : Vec F S16896x512 .f32) (ix2 (rowx (t.val % 44) (mod_lt t) y) (colx (gr t) x)) := by
  have hi := index2 t
  unfold iblk
  rw [View.read_apply]
  show V m c main_v39 _ = V m c main_v39 _
  congr 1
  funext a
  apply Fin.ext
  match a with
  | ⟨0, _⟩ => show win0_2.index t 0 * 384 + 1 * y.val = 384 * (t.val % 44) + y.val; rw [hi.1]; omega
  | ⟨1, _⟩ => show win0_2.index t 1 * 256 + 1 * x.val = 256 * (t.val / 44) + x.val; rw [hi.2]; omega

theorem blk3 (y : Fin 384) (x : Fin 256) :
    (iblk m c 3 t : Vec F S384x256 .f32) (ix2 y x) = (V m c main_v40 : Vec F S16896x512 .f32) (ix2 (rowx (t.val % 44) (mod_lt t) y) (colx (gr t) x)) := by
  have hi := index3 t
  unfold iblk
  rw [View.read_apply]
  show V m c main_v40 _ = V m c main_v40 _
  congr 1
  funext a
  apply Fin.ext
  match a with
  | ⟨0, _⟩ => show win0_3.index t 0 * 384 + 1 * y.val = 384 * (t.val % 44) + y.val; rw [hi.1]; omega
  | ⟨1, _⟩ => show win0_3.index t 1 * 256 + 1 * x.val = 256 * (t.val / 44) + x.val; rw [hi.2]; omega

theorem blk4 (h : Fin 4) (y : Fin 384) :
    (iblk m c 4 t : Vec F S4x1x384 .f32) (ix3 h 0 y) = (V m c main_v42 : Vec F S8x1x16896 .f32) (ix3 (hdx (gr t) h) 0 (rowx (t.val % 44) (mod_lt t) y)) := by
  have hi := index4 t
  unfold iblk
  rw [View.read_apply]
  show V m c main_v42 _ = V m c main_v42 _
  congr 1
  funext a
  apply Fin.ext
  match a with
  | ⟨0, _⟩ => show win0_4.index t 0 * 4 + 1 * h.val = 4 * (t.val / 44) + h.val; rw [hi.1]; omega
  | ⟨1, _⟩ => show win0_4.index t 1 * 1 + 1 * 0 = 0; rw [hi.2.1]
  | ⟨2, _⟩ => show win0_4.index t 2 * 384 + 1 * y.val = 384 * (t.val % 44) + y.val; rw [hi.2.2]; omega

end

/-! ## The accumulators over a whole group, over real numbers -/

/-- What the host hands over, as real numbers: queries, keys, values, gradient, output, log-sums. -/
structure Host where
  q : Fin 2 → Fin 4 → Fin 16896 → Fin 128 → ℝ
  k : Fin 16896 → Fin 128 → ℝ
  v : Fin 2 → Fin 16896 → Fin 128 → ℝ
  d : Fin 16896 → Fin 512 → ℝ
  o : Fin 16896 → Fin 512 → ℝ
  l : Fin 2 → Fin 4 → Fin 16896 → ℝ

/-- The arrays hold them. -/
structure Holds (H : Host) (m : (ℓ : Loc nD τ sig) → Buf (Elt Ideal) ℓ) (c : Dev nD) : Prop where
  q : ∀ g h s x, (V m c main_v28 : Vec Ideal S8x16896x128 .bf16) (ix3 (hdx g h) s x) = ((H.q g h s x : ℝ) : EReal)
  qt : ∀ g h x s, (V m c main_v36 : Vec Ideal S8x128x16896 .bf16) (ix3 (hdx g h) x s) = ((H.q g h s x : ℝ) : EReal)
  k : ∀ s x, (V m c main_v33 : Vec Ideal S16896x128 .bf16) (ix2 s x) = ((H.k s x : ℝ) : EReal)
  kt : ∀ n (hn : n < 33) x y, (V m c main_v38 : Vec Ideal S33x128x512 .bf16) (ix3 ⟨n, hn⟩ x y) = ((H.k (keyAt n hn y) x : ℝ) : EReal)
  v : ∀ g s x, (V m c main_v35 : Vec Ideal S2x16896x128 .bf16) (ix3 g s x) = ((H.v g s x : ℝ) : EReal)
  d : ∀ s x, (V m c main_v39 : Vec Ideal S16896x512 .f32) (ix2 s x) = ((H.d s x : ℝ) : EReal)
  o : ∀ s x, (V m c main_v40 : Vec Ideal S16896x512 .f32) (ix2 s x) = ((H.o s x : ℝ) : EReal)
  l : ∀ g h s, (V m c main_v42 : Vec Ideal S8x1x16896 .f32) (ix3 (hdx g h) 0 s) = ((H.l g h s : ℝ) : EReal)

namespace Host
variable (H : Host)

/-- The gradient of query `s` of head `h`, none for the padding. -/
def e (g : Fin 2) (h : Fin 4) (s : Fin 16896) (x : Fin 64) : ℝ :=
  if s.val < 496 then 0 else H.d s (colx g ⟨64 * h.val + x.val, by have := h.isLt; have := x.isLt; omega⟩)
/-- The same on 128 lanes. -/
def D (g : Fin 2) (h : Fin 4) (s : Fin 16896) (x : Fin 128) : ℝ := if hx : x.val < 64 then H.e g h s ⟨x.val, hx⟩ else 0
/-- The row sum of gradient times output. -/
def δ (g : Fin 2) (h : Fin 4) (s : Fin 16896) : ℝ := ∑ x : Fin 64, H.e g h s x * H.o s (colx g ⟨64 * h.val + x.val, by have := h.isLt; have := x.isLt; omega⟩)
/-- The weight of key `t` for query `s`. -/
def P (g : Fin 2) (h : Fin 4) (s t : Fin 16896) : ℝ := if t.val < 496 then 0 else Real.exp (∑ x, H.k t x * H.q g h s x - H.l g h s)
/-- The gradient of their score. -/
def W (g : Fin 2) (h : Fin 4) (s t : Fin 16896) : ℝ := H.P g h s t * (∑ x, H.v g t x * H.D g h s x - H.δ g h s)
/-- What query block `i` adds to the gradient of key `t`. -/
def blockDk (g : Fin 2) (t : Fin 16896) (x : Fin 128) (i : ℕ) : ℝ :=
  if hi : i < 44 then ∑ r, H.W g (hd r) (rowx i hi (rw_ r)) t * H.q g (hd r) (rowx i hi (rw_ r)) x else 0
/-- What query block `i` adds to the gradient of value `t`. -/
def blockDv (g : Fin 2) (t : Fin 16896) (x : Fin 128) (i : ℕ) : ℝ :=
  if hi : i < 44 then ∑ r, H.P g (hd r) (rowx i hi (rw_ r)) t * H.D g (hd r) (rowx i hi (rw_ r)) x else 0

end Host

/-- The sum over all queries of a group, block by block. -/
theorem sum_blocks (f : Fin 4 → Fin 16896 → ℝ) :
    (∑ i ∈ Finset.range 44, if hi : i < 44 then ∑ r, f (hd r) (rowx i hi (rw_ r)) else 0) = ∑ h, ∑ s, f h s := by
  rw [← Fin.sum_univ_eq_sum_range (fun i => if hi : i < 44 then ∑ r, f (hd r) (rowx i hi (rw_ r)) else 0) 44]
  rw [Finset.sum_congr rfl fun (i : Fin 44) _ => dif_pos i.isLt]
  have e1 : ∀ (u : Fin 4 → Fin 384 → ℝ), ∑ r, u (hd r) (rw_ r) = ∑ h, ∑ y, u h y := fun u => by
    rw [← Fintype.sum_prod_type']
    refine (Fintype.sum_equiv (finProdFinEquiv (m := 4) (n := 384)) _ _ fun p => ?_).symm
    have e : (finProdFinEquiv (m := 4) (n := 384) p).val = p.2.val + 384 * p.1.val := rfl
    have := p.2.isLt
    refine congrArg₂ u (Fin.ext ?_) (Fin.ext ?_)
    · show p.1.val = (finProdFinEquiv (m := 4) (n := 384) p).val / 384; rw [e]; omega
    · show p.2.val = (finProdFinEquiv (m := 4) (n := 384) p).val % 384; rw [e]; omega
  rw [Finset.sum_congr rfl fun (i : Fin 44) _ => e1 fun h y => f h (rowx i.val i.isLt y), Finset.sum_comm]
  refine Finset.sum_congr rfl fun h _ => ?_
  rw [← Fintype.sum_prod_type']
  refine Fintype.sum_equiv (finProdFinEquiv (m := 44) (n := 384)) _ _ fun p => ?_
  congr 1
  refine Fin.ext ?_
  show 384 * p.1.val + p.2.val = p.2.val + 384 * p.1.val
  omega

section
variable {m : (ℓ : Loc nD τ sig) → Buf (Elt Ideal) ℓ} {c : Dev nD} {H : Host} (hH : Holds H m c) (t : Fin cfg0.N)
include hH

theorem side_at : IsSide (side (grid0.coords t) (iblk m c 0 t) (iblk m c 1 t) (iblk m c 2 t) (iblk m c 3 t) (iblk m c 4 t))
    (fun r x => H.q (gr t) (hd r) (rowx (t.val % 44) (mod_lt t) (rw_ r)) x) (fun r x => H.D (gr t) (hd r) (rowx (t.val % 44) (mod_lt t) (rw_ r)) x)
    (fun r => H.δ (gr t) (hd r) (rowx (t.val % 44) (mod_lt t) (rw_ r))) (fun r => H.l (gr t) (hd r) (rowx (t.val % 44) (mod_lt t) (rw_ r))) := by
  have h := side_real (q := fun h y x => H.q (gr t) h (rowx (t.val % 44) (mod_lt t) y) x) (d := fun y x => H.d (rowx (t.val % 44) (mod_lt t) y) (colx (gr t) x))
    (o := fun y x => H.o (rowx (t.val % 44) (mod_lt t) y) (colx (gr t) x)) (l := fun h y => H.l (gr t) h (rowx (t.val % 44) (mod_lt t) y)) (grid0.coords t)
    (x0 := iblk m c 0 t) (x1 := iblk m c 1 t) (x2 := iblk m c 2 t) (x3 := iblk m c 3 t) (x4 := iblk m c 4 t)
    (fun h y x => (blk0 m c t h y x).trans (hH.q _ _ _ _)) (fun h x y => (blk1 m c t h x y).trans (hH.qt _ _ _ _))
    (fun y x => (blk2 m c t y x).trans (hH.d _ _)) (fun y x => (blk3 m c t y x).trans (hH.o _ _)) (fun h y => (blk4 m c t h y).trans (hH.l _ _ _))
  have ee : ∀ r x, eOf (grid0.coords t) (fun y x => H.d (rowx (t.val % 44) (mod_lt t) y) (colx (gr t) x)) r x = H.e (gr t) (hd r) (rowx (t.val % 44) (mod_lt t) (rw_ r)) x := fun r x => by
    unfold eOf Host.e
    rw [(coords_eq t).2]
    rfl
  simp only [ee] at h
  exact h

theorem keys_at : IsKeys (V m c main_v33) (V m c main_v38) (valuesOf m c t) H.k (H.v (gr t)) where
  kr := hH.k
  kt := hH.kt
  vb := fun s x => by
    have e : grid0.coords t 0 = gr t := Fin.ext (coords_eq t).1
    show (V m c main_v35 : Vec Ideal S2x16896x128 .bf16) (ix3 (grid0.coords t 0) s x) = _
    rw [e]
    exact hH.v _ _ _

/-- A point's gradient of the queries. -/
theorem pointOf_dq {dk dv : Vec Ideal S16896x128 .f32} {A B : Fin 16896 → Fin 128 → ℝ}
    (hA : ∀ t x, dk (ix2 t x) = ((A t x : ℝ) : EReal)) (hB : ∀ t x, dv (ix2 t x) = ((B t x : ℝ) : EReal)) (x : Fin 128) (r : Fin 1536) :
    (pointOf m c t dk dv).dq (ix2 x r) = ((∑ j, H.k j x * H.W (gr t) (hd r) (rowx (t.val % 44) (mod_lt t) (rw_ r)) j : ℝ) : EReal) :=
  point_dq (side_at hH t) (keys_at hH t) hA hB x r

theorem pointOf_dk {dk dv : Vec Ideal S16896x128 .f32} {A B : Fin 16896 → Fin 128 → ℝ}
    (hA : ∀ t x, dk (ix2 t x) = ((A t x : ℝ) : EReal)) (hB : ∀ t x, dv (ix2 t x) = ((B t x : ℝ) : EReal)) (j : Fin 16896) (x : Fin 128) :
    (pointOf m c t dk dv).dk (ix2 j x) = ((A j x + H.blockDk (gr t) j x (t.val % 44) : ℝ) : EReal) := by
  rw [Host.blockDk, dif_pos (mod_lt t)]
  exact point_dk (side_at hH t) (keys_at hH t) hA hB j x

theorem pointOf_dv {dk dv : Vec Ideal S16896x128 .f32} {A B : Fin 16896 → Fin 128 → ℝ}
    (hA : ∀ t x, dk (ix2 t x) = ((A t x : ℝ) : EReal)) (hB : ∀ t x, dv (ix2 t x) = ((B t x : ℝ) : EReal)) (j : Fin 16896) (x : Fin 128) :
    (pointOf m c t dk dv).dv (ix2 j x) = ((B j x + H.blockDv (gr t) j x (t.val % 44) : ℝ) : EReal) := by
  rw [Host.blockDv, dif_pos (mod_lt t)]
  exact point_dv (side_at hH t) (keys_at hH t) hA hB j x

omit hH in
theorem zero7 (j : Fin 16896) (x : Fin 128) : (k0_pay7 (F := Ideal)) (ix2 j x) = (((fun _ _ => 0 : Fin 16896 → Fin 128 → ℝ) j x : ℝ) : EReal) := by
  pointwise [k0_pay7]
  rfl
omit hH in
theorem zero8 (j : Fin 16896) (x : Fin 128) : (k0_pay8 (F := Ideal)) (ix2 j x) = (((fun _ _ => 0 : Fin 16896 → Fin 128 → ℝ) j x : ℝ) : EReal) := by
  pointwise [k0_pay8]
  rfl

/-- The accumulators after a point: its group's blocks so far. -/
theorem accAt_real (n : ℕ) (hn : n < cfg0.N) :
    (∀ j x, (accAt m c n hn).dk (ix2 j x) = ((∑ i ∈ Finset.range (n % 44 + 1), H.blockDk (gr ⟨n, hn⟩) j x i : ℝ) : EReal))
    ∧ (∀ j x, (accAt m c n hn).dv (ix2 j x) = ((∑ i ∈ Finset.range (n % 44 + 1), H.blockDv (gr ⟨n, hn⟩) j x i : ℝ) : EReal))
    ∧ ∀ x r, (accAt m c n hn).dq (ix2 x r) = ((∑ j, H.k j x * H.W (gr ⟨n, hn⟩) (hd r) (rowx (n % 44) (mod_lt ⟨n, hn⟩) (rw_ r)) j : ℝ) : EReal) := by
  induction n with
  | zero =>
    rw [accAt]
    refine ⟨fun j x => (pointOf_dk hH ⟨0, hn⟩ zero7 zero8 j x).trans ?_, fun j x => (pointOf_dv hH ⟨0, hn⟩ zero7 zero8 j x).trans ?_, fun x r => pointOf_dq hH ⟨0, hn⟩ zero7 zero8 x r⟩
    · show ((0 + _ : ℝ) : EReal) = _; rw [zero_add, Nat.zero_mod, Finset.sum_range_one]
    · show ((0 + _ : ℝ) : EReal) = _; rw [zero_add, Nat.zero_mod, Finset.sum_range_one]
  | succ n ih =>
    by_cases h0 : (n + 1) % 44 = 0
    · rw [accAt, if_pos h0]
      refine ⟨fun j x => (pointOf_dk hH ⟨n + 1, hn⟩ zero7 zero8 j x).trans ?_, fun j x => (pointOf_dv hH ⟨n + 1, hn⟩ zero7 zero8 j x).trans ?_, fun x r => pointOf_dq hH ⟨n + 1, hn⟩ zero7 zero8 x r⟩
      · show ((0 + H.blockDk _ j x ((n + 1) % 44) : ℝ) : EReal) = _; rw [zero_add, h0, Finset.sum_range_one]
      · show ((0 + H.blockDv _ j x ((n + 1) % 44) : ℝ) : EReal) = _; rw [zero_add, h0, Finset.sum_range_one]
    · have ih' := ih (Nat.lt_of_succ_lt hn)
      have eg : gr ⟨n, Nat.lt_of_succ_lt hn⟩ = gr ⟨n + 1, hn⟩ := Fin.ext (by show n / 44 = (n + 1) / 44; omega)
      have em : n % 44 + 1 = (n + 1) % 44 := by omega
      rw [eg, em] at ih'
      rw [accAt, if_neg h0]
      refine ⟨fun j x => (pointOf_dk hH ⟨n + 1, hn⟩ ih'.1 ih'.2.1 j x).trans ?_, fun j x => (pointOf_dv hH ⟨n + 1, hn⟩ ih'.1 ih'.2.1 j x).trans ?_, fun x r => pointOf_dq hH ⟨n + 1, hn⟩ ih'.1 ih'.2.1 x r⟩
      · rw [Finset.sum_range_succ _ ((n + 1) % 44)]
      · rw [Finset.sum_range_succ _ ((n + 1) % 44)]

theorem dkAll_real (g : Fin 2) (j : Fin 16896) (x : Fin 128) :
    dkAll m c (ix3 g j x) = ((∑ h, ∑ s, H.W g h s j * H.q g h s x : ℝ) : EReal) := by
  have e : gr (lastOf g) = g := Fin.ext (by show (44 * g.val + 43) / 44 = g.val; omega)
  have e' : (lastOf g).val % 44 + 1 = 44 := by show (44 * g.val + 43) % 44 + 1 = 44; omega
  refine ((accAt_real hH (lastOf g).val (lastOf g).isLt).1 j x).trans ?_
  rw [e', ← sum_blocks fun h s => H.W g h s j * H.q g h s x]
  show ((∑ i ∈ Finset.range 44, H.blockDk (gr (lastOf g)) j x i : ℝ) : EReal) = _
  rw [e]
  rfl

theorem dvAll_real (g : Fin 2) (j : Fin 16896) (x : Fin 128) :
    dvAll m c (ix3 g j x) = ((∑ h, ∑ s, H.P g h s j * H.D g h s x : ℝ) : EReal) := by
  have e : gr (lastOf g) = g := Fin.ext (by show (44 * g.val + 43) / 44 = g.val; omega)
  have e' : (lastOf g).val % 44 + 1 = 44 := by show (44 * g.val + 43) % 44 + 1 = 44; omega
  refine ((accAt_real hH (lastOf g).val (lastOf g).isLt).2.1 j x).trans ?_
  rw [e', ← sum_blocks fun h s => H.P g h s j * H.D g h s x]
  show ((∑ i ∈ Finset.range 44, H.blockDv (gr (lastOf g)) j x i : ℝ) : EReal) = _
  rw [e]
  rfl

/-- The block that point `t` writes. -/
theorem out_real (h : Fin 4) (y : Fin 384) (x : Fin 128) :
    k0_pay1 (F := Ideal) (accAt m c t.val t.isLt).dq (ix3 h y x) = ((∑ j, H.k j x * H.W (gr t) h (rowx (t.val % 44) (mod_lt t) y) j : ℝ) : EReal) := by
  rw [pay1_apply, (accAt_real hH t.val t.isLt).2.2]
  have := y.isLt
  have e1 : hd ⟨384 * h.val + y.val, by have := h.isLt; omega⟩ = h := Fin.ext (by show (384 * h.val + y.val) / 384 = h.val; omega)
  have e2 : rw_ ⟨384 * h.val + y.val, by have := h.isLt; omega⟩ = y := Fin.ext (by show (384 * h.val + y.val) % 384 = y.val; omega)
  rw [e1, e2]

end

end Cert.KernelIdeal.Att
-- ==== Proof.KMath.lean ====
/-
  The attention's gradients over real numbers, and the sums the 128 lanes and the padded rows come to.
-/
module

public import Idealize.ShloMosaic.Lib.StableHlo
public import Idealize.ShloMosaic.Lib.IdealHost

@[expose] public section

noncomputable section

namespace Cert.Att

open Idealize.ShloMosaic

/-- The queries, keys, values and the output's gradient, as real numbers. -/
structure Args where
  q : Fin 2 → Fin 4 → Fin 16400 → Fin 64 → ℝ
  k : Fin 2 → Fin 16400 → Fin 64 → ℝ
  v : Fin 2 → Fin 16400 → Fin 64 → ℝ
  d : Fin 16400 → Fin 512 → ℝ

/-- Column `64 (4 g + h) + e` of the output. -/
def colOf (g : Fin 2) (h : Fin 4) (e : Fin 64) : Fin 512 := ⟨(g.val * 4 + h.val) * 64 + e.val, by have := g.isLt; have := h.isLt; have := e.isLt; omega⟩

namespace Args
variable (A : Args)

/-- The gradient of one head's output. -/
def gd (g : Fin 2) (h : Fin 4) (s : Fin 16400) (e : Fin 64) : ℝ := A.d s (colOf g h e)
/-- The scores, -/
def sc (g : Fin 2) (h : Fin 4) (s t : Fin 16400) : ℝ := (∑ e, A.q g h s e * A.k g t e) * (1 / 8)
/-- their greatest along the keys, -/
def mx (g : Fin 2) (h : Fin 4) (s : Fin 16400) : ℝ := Finset.univ.sup' ⟨0, Finset.mem_univ _⟩ (A.sc g h s)
/-- their exponentials, -/
def ex (g : Fin 2) (h : Fin 4) (s t : Fin 16400) : ℝ := Real.exp (A.sc g h s t - A.mx g h s)
/-- the sums of those, -/
def L (g : Fin 2) (h : Fin 4) (s : Fin 16400) : ℝ := ∑ t, A.ex g h s t
/-- the weights, -/
def p (g : Fin 2) (h : Fin 4) (s t : Fin 16400) : ℝ := A.ex g h s t / A.L g h s
/-- the output of a head, -/
def o (g : Fin 2) (h : Fin 4) (s : Fin 16400) (e : Fin 64) : ℝ := ∑ t, A.p g h s t * A.v g t e
/-- the gradient of a weight, -/
def dp (g : Fin 2) (h : Fin 4) (s t : Fin 16400) : ℝ := ∑ e, A.gd g h s e * A.v g t e
/-- and that of a score. -/
def w (g : Fin 2) (h : Fin 4) (s t : Fin 16400) : ℝ := A.p g h s t * (A.dp g h s t - ∑ t', A.p g h s t' * A.dp g h s t')
/-- The gradient of the queries, -/
def dq (g : Fin 2) (h : Fin 4) (s : Fin 16400) (e : Fin 64) : ℝ := (∑ t, A.k g t e * A.w g h s t) * (1 / 8)
/-- of the keys, -/
def dk (g : Fin 2) (t : Fin 16400) (e : Fin 64) : ℝ := ∑ h, ∑ s, A.w g h s t * (A.q g h s e * (1 / 8))
/-- and of the values. -/
def dv (g : Fin 2) (t : Fin 16400) (e : Fin 64) : ℝ := ∑ h, ∑ s, A.p g h s t * A.gd g h s e

theorem L_pos (g : Fin 2) (h : Fin 4) (s : Fin 16400) : 0 < A.L g h s :=
  Finset.sum_pos (fun t _ => Real.exp_pos _) ⟨0, Finset.mem_univ _⟩

/-- A weight from the logarithm of the sum. -/
theorem p_exp (g : Fin 2) (h : Fin 4) (s t : Fin 16400) : Real.exp (A.sc g h s t - (A.mx g h s + Real.log (A.L g h s))) = A.p g h s t := by
  rw [← sub_sub, Real.exp_sub, Real.exp_log (A.L_pos g h s)]; rfl

/-- The sum of a row's gradient times its output is that of the weights times their gradients. -/
theorem delta (g : Fin 2) (h : Fin 4) (s : Fin 16400) :
    ∑ e, A.gd g h s e * A.o g h s e = ∑ t, A.p g h s t * A.dp g h s t := by
  simp only [o, dp, Finset.mul_sum]
  rw [Finset.sum_comm]
  refine Finset.sum_congr rfl fun t _ => Finset.sum_congr rfl fun e _ => ?_
  ring

/-- The gradient of a score as a chain of rules through the quotient leaves it. -/
theorem w_chain (g : Fin 2) (h : Fin 4) (s t : Fin 16400) :
    (A.dp g h s t / A.L g h s + -(∑ t', A.dp g h s t' * (1 / (A.L g h s * A.L g h s)) * A.ex g h s t')) * A.ex g h s t * (1 / 8) = A.w g h s t * (1 / 8) := by
  have hL := (A.L_pos g h s).ne'
  have e : ∑ t', A.dp g h s t' * (1 / (A.L g h s * A.L g h s)) * A.ex g h s t' = (∑ t', A.p g h s t' * A.dp g h s t') / A.L g h s := by
    rw [Finset.sum_div]
    refine Finset.sum_congr rfl fun t' _ => ?_
    unfold p; field_simp
  rw [e]; unfold w
  generalize (∑ t', A.p g h s t' * A.dp g h s t') = z
  unfold p; field_simp; ring

end Args

/-! ## Sums over lanes and over padded rows -/

/-- The head's lane of a vector lane. -/
def eOfLane (x : Fin 128) : Fin 64 := ⟨x.val / 64 * 32 + x.val % 32, by have := x.isLt; omega⟩
/-- The vector lane of a head's lane in slot `g`. -/
def laneOf (g : Fin 2) (e : Fin 64) : Fin 128 := ⟨e.val / 32 * 64 + g.val * 32 + e.val % 32, by have := g.isLt; have := e.isLt; omega⟩

theorem eOfLane_laneOf (g : Fin 2) (e : Fin 64) : eOfLane (laneOf g e) = e := by
  have := g.isLt; have := e.isLt
  exact Fin.ext (by show (e.val / 32 * 64 + g.val * 32 + e.val % 32) / 64 * 32 + (e.val / 32 * 64 + g.val * 32 + e.val % 32) % 32 = e.val; omega)
theorem slot_laneOf (g : Fin 2) (e : Fin 64) : (laneOf g e).val / 32 % 2 = g.val := by
  have := g.isLt; have := e.isLt
  show (e.val / 32 * 64 + g.val * 32 + e.val % 32) / 32 % 2 = g.val; omega

theorem sum_lanes (g : Fin 2) (f : Fin 64 → ℝ) : (∑ x : Fin 128, if x.val / 32 % 2 = g.val then f (eOfLane x) else 0) = ∑ e, f e := by
  rw [← Finset.sum_filter]
  refine Finset.sum_nbij' eOfLane (laneOf g) (fun _ _ => Finset.mem_univ _) (fun e _ => ?_) (fun x hx => ?_) (fun e _ => eOfLane_laneOf g e) (fun _ _ => rfl)
  · rw [Finset.mem_filter]; exact ⟨Finset.mem_univ _, slot_laneOf g e⟩
  · rw [Finset.mem_filter] at hx
    have := g.isLt; have := x.isLt; have := hx.2
    exact Fin.ext (by show (x.val / 64 * 32 + x.val % 32) / 32 * 64 + g.val * 32 + (x.val / 64 * 32 + x.val % 32) % 32 = x.val; omega)

/-- The first half of the lanes. -/
theorem sum_low (f : Fin 64 → ℝ) : (∑ x : Fin 128, if hx : x.val < 64 then f ⟨x.val, hx⟩ else 0) = ∑ e, f e := by
  refine (Fin.sum_univ_add (a := 64) (b := 64) fun x => if hx : x.val < 64 then f ⟨x.val, hx⟩ else 0).trans ?_
  have e2 : (∑ i : Fin 64, if hx : (Fin.natAdd 64 i : Fin (64 + 64)).val < 64 then f ⟨(Fin.natAdd 64 i : Fin (64 + 64)).val, hx⟩ else 0) = 0 :=
    Finset.sum_eq_zero fun i _ => dif_neg (by rw [Fin.val_natAdd]; omega)
  rw [e2, add_zero]
  exact Finset.sum_congr rfl fun i _ => dif_pos i.isLt

/-- A row of the padded arrays, past the padding. -/
def past (s : Fin 16400) : Fin 16896 := ⟨s.val + 496, by have := s.isLt; omega⟩

theorem sum_past (f : Fin 16896 → ℝ) (h0 : ∀ s : Fin 16896, s.val < 496 → f s = 0) : ∑ s, f s = ∑ s, f (past s) := by
  refine (Fin.sum_univ_add (a := 496) (b := 16400) f).trans ?_
  rw [Finset.sum_eq_zero fun (i : Fin 496) _ => h0 _ (by show i.val < 496; exact i.isLt), zero_add]
  exact Finset.sum_congr rfl fun i _ => congrArg f (Fin.ext (by show 496 + i.val = i.val + 496; omega))

/-! ## Real numbers among the extended -/

/-- The greatest of finitely many reals. -/
theorem fold_max_coe {ι : Type} [Fintype ι] (hn : (Finset.univ : Finset ι).Nonempty) (f : ι → ℝ) :
    Finset.fold max (⊥ : EReal) (fun x => ((f x : ℝ) : EReal)) Finset.univ = ((Finset.univ.sup' hn f : ℝ) : EReal) := by
  have e : Finset.fold max (⊥ : EReal) (fun x => ((f x : ℝ) : EReal)) Finset.univ = Finset.univ.sup fun x => ((f x : ℝ) : EReal) := rfl
  rw [e, ← Finset.sup'_eq_sup hn]
  exact (Finset.comp_sup'_eq_sup'_comp (s := Finset.univ) hn (f := f) (fun r : ℝ => (r : EReal)) (fun a b => EReal.coe_strictMono.monotone.map_max)).symm

theorem eighth : Ideal.ofBits .f32 0x3E000000#32 = ((1 / 8 : ℝ) : EReal) := by
  simp [Ideal.ofBits, Ideal.ieee, -EReal.coe_mul]; norm_num
theorem bottom : Ideal.ofBits .f32 0xFF800000#32 = (⊥ : EReal) := by
  simp [Ideal.ofBits, Ideal.ieee]
theorem top : Ideal.ofBits .f32 0x7F800000#32 = (⊤ : EReal) := by
  simp [Ideal.ofBits, Ideal.ieee]

/-- A number of finite size is a real number. -/
theorem real_of_abs (x : EReal) (h : max x (-x) < ⊤) : ∃ r : ℝ, x = r := by
  induction x with
  | bot => simp at h
  | top => simp at h
  | coe r => exact ⟨r, rfl⟩

end Cert.Att
-- ==== Proof.KCoe.lean ====
/-
  Reading a chain of operations on extended reals as one on real numbers.
-/
module

public import proofs.«01_k».proof.Proof.KMath
public import Idealize.ShloMosaic.Lib.Pointwise

@[expose] public section

noncomputable section

namespace Cert.Att

open Idealize.ShloMosaic

theorem sum_real {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

theorem coe_dite {P : Prop} [Decidable P] {f : P → EReal} {r : P → ℝ} (h : ∀ p, f p = ((r p : ℝ) : EReal)) :
    (if p : P then f p else 0) = ((if p : P then r p else 0 : ℝ) : EReal) := by
  by_cases p : P
  · rw [dif_pos p, dif_pos p, h p]
  · rw [dif_neg p, dif_neg p, EReal.coe_zero]

theorem coe_dite_of {P Q : Prop} [Decidable P] [Decidable Q] {f : P → EReal} {r : Q → ℝ} (hPQ : P ↔ Q) (h : ∀ p q, f p = ((r q : ℝ) : EReal)) :
    (if p : P then f p else 0) = ((if q : Q then r q else 0 : ℝ) : EReal) := by
  by_cases p : P
  · rw [dif_pos p, dif_pos (hPQ.mp p), h p]
  · rw [dif_neg p, dif_neg fun q => p (hPQ.mpr q), EReal.coe_zero]

theorem coe_ite {P : Prop} [Decidable P] {x : EReal} {r : ℝ} (h : x = ((r : ℝ) : EReal)) :
    (if P then x else 0) = ((if P then r else 0 : ℝ) : EReal) := coe_dite (P := P) (f := fun _ => x) (r := fun _ => r) fun _ => h

theorem coe_mul_of {x y : EReal} {a b : ℝ} (hx : x = ((a : ℝ) : EReal)) (hy : y = ((b : ℝ) : EReal)) : x * y = ((a * b : ℝ) : EReal) := by
  rw [hx, hy, EReal.coe_mul]
theorem coe_sub_of {x y : EReal} {a b : ℝ} (hx : x = ((a : ℝ) : EReal)) (hy : y = ((b : ℝ) : EReal)) : x - y = ((a - b : ℝ) : EReal) := by
  rw [hx, hy, EReal.coe_sub]
theorem coe_add_of {x y : EReal} {a b : ℝ} (hx : x = ((a : ℝ) : EReal)) (hy : y = ((b : ℝ) : EReal)) : x + y = ((a + b : ℝ) : EReal) := by
  rw [hx, hy, EReal.coe_add]
theorem coe_sum_of {n : ℕ} {x : Fin n → EReal} {a : Fin n → ℝ} (hx : ∀ i, x i = ((a i : ℝ) : EReal)) : ∑ i, x i = ((∑ i, a i : ℝ) : EReal) := by
  rw [← sum_real]; exact Finset.sum_congr rfl fun i _ => hx i
theorem coe_exp_of {x : EReal} {a : ℝ} (hx : x = ((a : ℝ) : EReal)) : Ideal.exp x = ((Real.exp a : ℝ) : EReal) := by
  rw [hx, Ideal.exp_coe]
theorem coe_div_of {x y : EReal} {a b : ℝ} (hb : b ≠ 0) (hx : x = ((a : ℝ) : EReal)) (hy : y = ((b : ℝ) : EReal)) : Ideal.div x y = ((a / b : ℝ) : EReal) := by
  rw [hx, hy, Ideal.div_coe hb, ← EReal.coe_mul, one_div, div_eq_mul_inv]
theorem coe_log_of {x : EReal} {a : ℝ} (ha : 0 < a) (hx : x = ((a : ℝ) : EReal)) : Ideal.log x = ((Real.log a : ℝ) : EReal) := by
  rw [hx]
  show (if a ≤ 0 then (⊥ : EReal) else ((Real.log a : ℝ) : EReal)) = _
  rw [if_neg (not_le.mpr ha)]
theorem coe_max_of {ι : Type} [Fintype ι] (hn : (Finset.univ : Finset ι).Nonempty) {x : ι → EReal} {a : ι → ℝ} (hx : ∀ i, x i = ((a i : ℝ) : EReal)) :
    Finset.fold max (Ideal.ofBits FTy.f32 4286578688#32) x Finset.univ = ((Finset.univ.sup' hn a : ℝ) : EReal) := by
  rw [funext hx, Cert.Att.bottom]
  exact Cert.Att.fold_max_coe hn a

/-! ### The softmax's parts -/

theorem coe_sc {A : Args} {g : Fin 2} {h : Fin 4} {s t : Fin 16400} {q k : Fin 64 → EReal} (hq : ∀ e, q e = ((A.q g h s e : ℝ) : EReal)) (hk : ∀ e, k e = ((A.k g t e : ℝ) : EReal)) :
    (∑ e, q e * k e) * Ideal.ofBits FTy.f32 1040187392#32 = ((A.sc g h s t : ℝ) : EReal) :=
  coe_mul_of (coe_sum_of fun e => coe_mul_of (hq e) (hk e)) Cert.Att.eighth

theorem coe_mx {A : Args} {g : Fin 2} {h : Fin 4} {s : Fin 16400} {x : Fin 16400 → EReal} (hx : ∀ t, x t = ((A.sc g h s t : ℝ) : EReal)) :
    Finset.fold max (Ideal.ofBits FTy.f32 4286578688#32) x Finset.univ = ((A.mx g h s : ℝ) : EReal) :=
  coe_max_of _ hx

theorem coe_ex {A : Args} {g : Fin 2} {h : Fin 4} {s t : Fin 16400} {x y : EReal} (hx : x = ((A.sc g h s t : ℝ) : EReal)) (hy : y = ((A.mx g h s : ℝ) : EReal)) :
    Ideal.exp (x - y) = ((A.ex g h s t : ℝ) : EReal) := coe_exp_of (coe_sub_of hx hy)

theorem coe_L {A : Args} {g : Fin 2} {h : Fin 4} {s : Fin 16400} {x : Fin 16400 → EReal} (hx : ∀ t, x t = ((A.ex g h s t : ℝ) : EReal)) :
    ∑ t, x t = ((A.L g h s : ℝ) : EReal) := coe_sum_of hx

theorem coe_p {A : Args} {g : Fin 2} {h : Fin 4} {s t : Fin 16400} {x y : EReal} (hx : x = ((A.ex g h s t : ℝ) : EReal)) (hy : y = ((A.L g h s : ℝ) : EReal)) :
    Ideal.div x y = ((A.p g h s t : ℝ) : EReal) := coe_div_of (A.L_pos _ _ _).ne' hx hy

theorem coe_o {A : Args} {g : Fin 2} {h : Fin 4} {s : Fin 16400} {e : Fin 64} {x y : Fin 16400 → EReal} (hx : ∀ t, x t = ((A.p g h s t : ℝ) : EReal)) (hy : ∀ t, y t = ((A.v g t e : ℝ) : EReal)) :
    ∑ t, x t * y t = ((A.o g h s e : ℝ) : EReal) := coe_sum_of fun t => coe_mul_of (hx t) (hy t)

end Cert.Att
-- ==== Proof.KHost.lean ====
/-
  What the host hands the kernel, over real numbers.
-/
module

public import proofs.«01_k».proof.Proof.KBlocks
public import proofs.«01_k».proof.Proof.KCoe
public import Idealize.ShloMosaic.Lib.StableHlo.ReadAt
public import Idealize.ShloMosaic.Lib.WordCmp

@[expose] public section

set_option maxRecDepth 16384

noncomputable section

namespace Cert.KernelIdeal.Att

open Idealize.ShloMosaic Idealize.ShloMosaic.TcCoe
open Cert.KernelIdeal Cert.KernelIdeal.Gen Ix
open Cert.Att (Args past eOfLane laneOf colOf coe_dite coe_dite_of coe_ite coe_mul_of coe_add_of coe_log_of coe_sc coe_mx coe_ex coe_L coe_p coe_o)

/-- The arguments hold real numbers. -/
structure Given (A : Args) (m : (ℓ : Loc nD τ sig) → Buf (Elt Ideal) ℓ) (c : Dev nD) : Prop where
  q : ∀ g h s e, (m (c, Proc.tc.devRef main_arg0) : Vec Ideal S2x4x16400x64 .f32) (ix4 g h s e) = ((A.q g h s e : ℝ) : EReal)
  k : ∀ g t e, (m (c, Proc.tc.devRef main_arg1) : Vec Ideal S2x16400x64 .f32) (ix3 g t e) = ((A.k g t e : ℝ) : EReal)
  v : ∀ g t e, (m (c, Proc.tc.devRef main_arg2) : Vec Ideal S2x16400x64 .f32) (ix3 g t e) = ((A.v g t e : ℝ) : EReal)
  d : ∀ s x, (m (c, Proc.tc.devRef main_arg3) : Vec Ideal S16400x512 .f32) (ix2 s x) = ((A.d s x : ℝ) : EReal)

/-- The arrays the host makes of them. -/
def hostOf (A : Args) : Host where
  q g h s x := if hs : 496 ≤ s.val ∧ s.val - 496 < 16400 then (if x.val / 32 % 2 = g.val then A.q g h ⟨s.val - 496, hs.2⟩ (eOfLane x) * (1 / 8) else 0) else 0
  k s x := if hs : 496 ≤ s.val ∧ s.val - 496 < 16400 then A.k ⟨x.val / 32 % 2, Nat.mod_lt _ (by decide)⟩ ⟨s.val - 496, hs.2⟩ (eOfLane x) else 0
  v g s x := if hs : (496 ≤ s.val ∧ s.val - 496 < 16400) ∧ x.val < 64 then A.v g ⟨s.val - 496, hs.1.2⟩ ⟨x.val, hs.2⟩ else 0
  d s x := if hs : 496 ≤ s.val ∧ s.val - 496 < 16400 then A.d ⟨s.val - 496, hs.2⟩ x else 0
  o s x := if hs : 496 ≤ s.val ∧ s.val - 496 < 16400 then
    A.o ⟨x.val / 256, by have := x.isLt; omega⟩ ⟨x.val / 64 % 4, Nat.mod_lt _ (by decide)⟩ ⟨s.val - 496, hs.2⟩ ⟨x.val % 64, Nat.mod_lt _ (by decide)⟩ else 0
  l g h s := if hs : 496 ≤ s.val ∧ s.val - 496 < 16400 then A.mx g h ⟨s.val - 496, hs.2⟩ + Real.log (A.L g h ⟨s.val - 496, hs.2⟩) else 0

theorem select_slot (a b : ℕ) (ha : a < 2) (hb : b < 2) (x y : EReal) :
    Scalar.select (IntOp.cmpi CmpIPredicate.eq (BitVec.ofNat 32 a) (BitVec.ofNat 32 b)) x y = if a = b then x else y := by
  interval_cases a <;> interval_cases b <;> rfl

section
variable {A : Args} {m : (ℓ : Loc nD τ sig) → Buf (Elt Ideal) ℓ} {c : Dev nD} (hA : Given A m c)
include hA

theorem q_host (g : Fin 2) (h : Fin 4) (s : Fin 16896) (x : Fin 128) :
    (V m c main_v28 : Vec Ideal S8x16896x128 .bf16) (ix3 (hdx g h) s x) = (((hostOf A).q g h s x : ℝ) : EReal) := by
  have e4 : (hdx g h).val / 4 = g.val := by have := h.isLt; show (4 * g.val + h.val) / 4 = g.val; omega
  have e5 : (hdx g h).val % 4 = h.val := by have := h.isLt; show (4 * g.val + h.val) % 4 = h.val; omega
  unfold V
  after_reads_at
  simp only [e4, e5, Fin.eta]
  exact coe_dite fun hs => (select_slot _ _ (Nat.mod_lt _ (by decide)) g.isLt _ _).trans (coe_ite (coe_mul_of (hA.q _ _ _ _) Cert.Att.eighth))

theorem qt_host (g : Fin 2) (h : Fin 4) (x : Fin 128) (s : Fin 16896) :
    (V m c main_v36 : Vec Ideal S8x128x16896 .bf16) (ix3 (hdx g h) x s) = (((hostOf A).q g h s x : ℝ) : EReal) := by
  have e4 : (hdx g h).val / 4 = g.val := by have := h.isLt; show (4 * g.val + h.val) / 4 = g.val; omega
  have e5 : (hdx g h).val % 4 = h.val := by have := h.isLt; show (4 * g.val + h.val) % 4 = h.val; omega
  unfold V
  after_reads_at
  simp only [e4, e5, Fin.eta]
  exact coe_dite fun hs => (select_slot _ _ (Nat.mod_lt _ (by decide)) g.isLt _ _).trans (coe_ite (coe_mul_of (hA.q _ _ _ _) Cert.Att.eighth))

theorem k_host (s : Fin 16896) (x : Fin 128) :
    (V m c main_v33 : Vec Ideal S16896x128 .bf16) (ix2 s x) = (((hostOf A).k s x : ℝ) : EReal) := by
  unfold V
  after_reads_at
  exact coe_dite fun hs => hA.k _ _ _

theorem kt_host (n : ℕ) (hn : n < 33) (x : Fin 128) (y : Fin 512) :
    (V m c main_v38 : Vec Ideal S33x128x512 .bf16) (ix3 ⟨n, hn⟩ x y) = (((hostOf A).k (keyAt n hn y) x : ℝ) : EReal) := by
  have e : keyAt n hn y = ⟨n * 512 + y.val, by have := y.isLt; omega⟩ := Fin.ext (by show 512 * n + y.val = n * 512 + y.val; omega)
  rw [e]
  unfold V
  after_reads_at
  exact coe_dite fun hs => hA.k _ _ _

theorem v_host (g : Fin 2) (s : Fin 16896) (x : Fin 128) :
    (V m c main_v35 : Vec Ideal S2x16896x128 .bf16) (ix3 g s x) = (((hostOf A).v g s x : ℝ) : EReal) := by
  unfold V
  after_reads_at
  exact coe_dite fun hs => hA.v _ _ _

theorem d_host (s : Fin 16896) (x : Fin 512) :
    (V m c main_v39 : Vec Ideal S16896x512 .f32) (ix2 s x) = (((hostOf A).d s x : ℝ) : EReal) := by
  unfold V
  after_reads_at
  exact coe_dite fun hs => hA.d _ _

theorem m_host (g : Fin 2) (h : Fin 4) (s : Fin 16400) :
    (V m c main_v3 : Vec Ideal S2x4x16400 .f32) (ix3 g h s) = ((A.mx g h s : ℝ) : EReal) := by
  generalize hz : ((A.mx g h s : ℝ) : EReal) = z
  unfold V
  after_reads_at
  rw [← hz]
  exact coe_mx fun _ => coe_sc (fun _ => hA.q _ _ _ _) (fun _ => hA.k _ _ _)

theorem log_host (g : Fin 2) (h : Fin 4) (s : Fin 16400) :
    (V m c main_v9 : Vec Ideal S2x4x16400 .f32) (ix3 g h s) = ((Real.log (A.L g h s) : ℝ) : EReal) := by
  generalize hz : ((Real.log (A.L g h s) : ℝ) : EReal) = z
  unfold V
  after_reads_at
  rw [← hz]
  exact coe_log_of (A.L_pos g h s) (coe_L fun _ => coe_ex (coe_sc (fun _ => hA.q _ _ _ _) (fun _ => hA.k _ _ _)) (coe_mx fun _ => coe_sc (fun _ => hA.q _ _ _ _) (fun _ => hA.k _ _ _)))

omit hA in
theorem addf_at {S : Shape} (a b : FVec Ideal S .f32) (i : S.Idx) : @Eq EReal (addf (F := Ideal) a b i) ((a i : EReal) + (b i : EReal)) := rfl

omit hA in
theorem l_sum : @Eq (FVec Ideal S2x4x16400 .f32) (V m c main_v10) (addf (F := Ideal) (s := S2x4x16400) (φ := .f32) (V m c main_v3) (V m c main_v9)) := by
  unfold V
  after_reads_simp

omit hA in
theorem l_pad (H : Fin 8) (s : Fin 16896) (z : EReal)
    (hz : (if hs : H.val / 4 < 2 ∧ H.val % 4 < 4 ∧ 496 ≤ s.val ∧ s.val - 496 < 16400 then ((V m c main_v10 : Vec Ideal S2x4x16400 .f32) (ix3 ⟨H.val / 4, hs.1⟩ ⟨H.val % 4, hs.2.1⟩ ⟨s.val - 496, hs.2.2.2⟩) : EReal) else (0 : EReal)) = z) :
    (V m c main_v42 : Vec Ideal S8x1x16896 .f32) (ix3 H 0 s) = z := by
  rw [← hz]
  clear hz
  unfold V
  after_reads_simp
  all_goals try simp -implicitDefEqProofs only [StableHlo.TRef.toBuf, StableHlo.TRef.ofBuf, cast_cast, cast_eq]
  all_goals clean_types
  generalize addf (F := Ideal) _ _ = T
  pointwise

theorem l_host (g : Fin 2) (h : Fin 4) (s : Fin 16896) :
    (V m c main_v42 : Vec Ideal S8x1x16896 .f32) (ix3 (hdx g h) 0 s) = (((hostOf A).l g h s : ℝ) : EReal) := by
  have e4 : (hdx g h).val / 4 = g.val := by have := h.isLt; show (4 * g.val + h.val) / 4 = g.val; omega
  have e5 : (hdx g h).val % 4 = h.val := by have := h.isLt; show (4 * g.val + h.val) % 4 = h.val; omega
  refine l_pad _ s _ ?_
  simp only [e4, e5, Fin.eta]
  refine coe_dite_of ⟨fun hh => hh.2.2, fun hh => ⟨g.isLt, h.isLt, hh⟩⟩ fun _ hs => ?_
  rw [l_sum]
  refine (addf_at _ _ _).trans ?_
  exact coe_add_of (m_host hA _ _ _) (log_host hA _ _ _)

theorem o_host (s : Fin 16896) (x : Fin 512) :
    (V m c main_v40 : Vec Ideal S16896x512 .f32) (ix2 s x) = (((hostOf A).o s x : ℝ) : EReal) := by
  generalize hz : (((hostOf A).o s x : ℝ) : EReal) = z
  unfold V
  after_reads_at
  rw [← hz]
  exact coe_dite fun hs => coe_o (fun _ => coe_p (coe_ex (coe_sc (fun _ => hA.q _ _ _ _) (fun _ => hA.k _ _ _)) (coe_mx fun _ => coe_sc (fun _ => hA.q _ _ _ _) (fun _ => hA.k _ _ _))) (coe_L fun _ => coe_ex (coe_sc (fun _ => hA.q _ _ _ _) (fun _ => hA.k _ _ _)) (coe_mx fun _ => coe_sc (fun _ => hA.q _ _ _ _) (fun _ => hA.k _ _ _)))) fun _ => hA.v _ _ _

theorem holds : Holds (hostOf A) m c where
  q := q_host hA
  qt := qt_host hA
  k := k_host hA
  kt := kt_host hA
  v := v_host hA
  d := d_host hA
  o := o_host hA
  l := l_host hA

end
end Cert.KernelIdeal.Att
-- ==== Proof.KTail.lean ====
/-
  What the host makes of the gradients, over real numbers.
-/
module

public import proofs.«01_k».proof.Proof.KHost
public import Idealize.ShloMosaic.Lib.Pipeline.ValueKit

@[expose] public section

set_option maxRecDepth 16384

noncomputable section

namespace Cert.KernelIdeal.Att

open Idealize.ShloMosaic Idealize.ShloMosaic.TcCoe Idealize.ShloMosaic.StableHlo
open Cert.KernelIdeal Cert.KernelIdeal.Gen Ix
open Cert.Att (Args past eOfLane laneOf colOf coe_mul_of)

/-! ## The lines after the kernel -/

section
variable (W : Valuation τ sig (Elt Ideal))

theorem tail_dq (g : Fin 2) (h : Fin 4) (s : Fin 16400) (e : Fin 64) (r : ℝ)
    (hr : (W (Proc.devRef .tc main_v43_0) : Vec Ideal S8x16896x128 .f32) (ix3 (hdx g h) (past s) (laneOf g e)) = ((r : ℝ) : EReal)) :
    (StableHlo.after (List.flatten [hostOps1]) W (Proc.devRef .tc main_v55) : Vec Ideal S2x4x16400x64 .f32) (ix4 g h s e) = ((r * (1 / 8) : ℝ) : EReal) := by
  generalize hz : ((r * (1 / 8) : ℝ) : EReal) = z
  have hg2 := g.isLt
  have e1 : past s = ⟨496 + s.val, by have := s.isLt; omega⟩ := Fin.ext (by show s.val + 496 = 496 + s.val; omega)
  after_reads_at
  by_cases hg : g.val < 1
  · have e0 : hdx g h = ⟨h.val, by have := h.isLt; omega⟩ := Fin.ext (by show 4 * g.val + h.val = h.val; omega)
    have e2 : laneOf g e = ⟨e.val / 32 * 64 + e.val % 32, by have := e.isLt; omega⟩ := Fin.ext (by show e.val / 32 * 64 + g.val * 32 + e.val % 32 = e.val / 32 * 64 + e.val % 32; omega)
    rw [e0, e1, e2] at hr
    rw [dif_pos hg]
    after_reads_at
    rw [← hz]
    exact coe_mul_of hr Cert.Att.eighth
  · have e0 : hdx g h = ⟨4 + h.val, by have := h.isLt; omega⟩ := Fin.ext (by show 4 * g.val + h.val = 4 + h.val; omega)
    have e2 : laneOf g e = ⟨e.val / 32 * 64 + 32 + e.val % 32, by have := e.isLt; omega⟩ := Fin.ext (by show e.val / 32 * 64 + g.val * 32 + e.val % 32 = e.val / 32 * 64 + 32 + e.val % 32; omega)
    rw [e0, e1, e2] at hr
    rw [dif_neg hg]
    after_reads_at
    rw [← hz]
    exact coe_mul_of hr Cert.Att.eighth

theorem tail_dk (g : Fin 2) (s : Fin 16400) (e : Fin 64) (z : EReal)
    (hr : (W (Proc.devRef .tc main_v43_1) : Vec Ideal S2x16896x128 .f32) (ix3 g (past s) (laneOf g e)) = z) :
    (StableHlo.after (List.flatten [hostOps1]) W (Proc.devRef .tc main_v61) : Vec Ideal S2x16400x64 .f32) (ix3 g s e) = z := by
  have hg2 := g.isLt
  have e1 : past s = ⟨496 + s.val, by have := s.isLt; omega⟩ := Fin.ext (by show s.val + 496 = 496 + s.val; omega)
  after_reads_at
  by_cases hg : g.val < 1
  · have e0 : g = 0 := Fin.ext (by show g.val = 0; omega)
    have e2 : laneOf g e = ⟨e.val / 32 * 64 + e.val % 32, by have := e.isLt; omega⟩ := Fin.ext (by show e.val / 32 * 64 + g.val * 32 + e.val % 32 = e.val / 32 * 64 + e.val % 32; omega)
    rw [e1, e2, e0] at hr
    rw [dif_pos hg]
    after_reads_at
    exact hr
  · have e0 : g = 1 := Fin.ext (by show g.val = 1; omega)
    have e2 : laneOf g e = ⟨e.val / 32 * 64 + 32 + e.val % 32, by have := e.isLt; omega⟩ := Fin.ext (by show e.val / 32 * 64 + g.val * 32 + e.val % 32 = e.val / 32 * 64 + 32 + e.val % 32; omega)
    rw [e1, e2, e0] at hr
    rw [dif_neg hg]
    after_reads_at
    exact hr

theorem tail_dv (g : Fin 2) (s : Fin 16400) (e : Fin 64) (z : EReal)
    (hr : (W (Proc.devRef .tc main_v43_2) : Vec Ideal S2x16896x128 .f32) (ix3 g (past s) ⟨e.val, by have := e.isLt; omega⟩) = z) :
    (StableHlo.after (List.flatten [hostOps1]) W (Proc.devRef .tc main_v62) : Vec Ideal S2x16400x64 .f32) (ix3 g s e) = z := by
  have e1 : past s = ⟨496 + s.val, by have := s.isLt; omega⟩ := Fin.ext (by show s.val + 496 = 496 + s.val; omega)
  rw [e1] at hr
  after_reads_at
  exact hr

end

/-! ## The arrays the kernel leaves -/

/-- The gradient of the scaled queries, on 128 lanes. -/
def dqAll (H : Host) : Vec Ideal S8x16896x128 .f32 := fun z =>
  ((∑ j, H.k j (z 2) * H.W ⟨(z 0).val / 4, by have : (z 0).val < 8 := (z 0).isLt; omega⟩ ⟨(z 0).val % 4, Nat.mod_lt _ (by decide)⟩ (z 1) j : ℝ) : EReal)

theorem dqAll_apply (H : Host) (g : Fin 2) (h : Fin 4) (s : Fin 16896) (x : Fin 128) :
    dqAll H (ix3 (hdx g h) s x) = ((∑ j, H.k j x * H.W g h s j : ℝ) : EReal) := by
  have e4 : (⟨(hdx g h).val / 4, by have : (hdx g h).val < 8 := (hdx g h).isLt; omega⟩ : Fin 2) = g := Fin.ext (by have := h.isLt; show (4 * g.val + h.val) / 4 = g.val; omega)
  have e5 : (⟨(hdx g h).val % 4, Nat.mod_lt _ (by decide)⟩ : Fin 4) = h := Fin.ext (by have := h.isLt; show (4 * g.val + h.val) % 4 = h.val; omega)
  show ((∑ j, H.k j x * H.W ⟨(hdx g h).val / 4, _⟩ ⟨(hdx g h).val % 4, _⟩ s j : ℝ) : EReal) = _
  rw [e4, e5]

variable {m : (ℓ : Loc nD τ sig) → Buf (Elt Ideal) ℓ} {c : Dev nD}

theorem arr5 {H : Host} (hH : Holds H m c) : (dats m 0 c).arrAt 5 cfg0.N = dqAll H := by
  refine (dats m 0 c).arrAt_eq_of_covers 5 _ (by decide +kernel) fun t hf y => ?_
  blk_simp
  rw [after_5]
  have hi := index5 t
  have ey : (y : S4x384x128.Idx) = ix3 (y 0) (y 1) (y 2) := (ix3_eta (n0 := 4) (n1 := 384) (n2 := 128) y).symm
  have hemb : (win0_5.blk t).view.emb y = ix3 (hdx (gr t) (y 0)) (rowx (t.val % 44) (mod_lt t) (y 1)) (y 2) := by
    funext a
    apply Fin.ext
    match a with
    | ⟨0, _⟩ => show win0_5.index t 0 * 4 + 1 * (y 0).val = 4 * (t.val / 44) + (y 0).val; rw [hi.1]; omega
    | ⟨1, _⟩ => show win0_5.index t 1 * 384 + 1 * (y 1).val = 384 * (t.val % 44) + (y 1).val; rw [hi.2.1]; omega
    | ⟨2, _⟩ => show win0_5.index t 2 * 128 + 1 * (y 2).val = (y 2).val; rw [hi.2.2]; omega
  exact ((congrArg (k0_pay1 (F := Ideal) (accAt m c t.val t.isLt).dq) ey).trans (out_real hH t (y 0) (y 1) (y 2))).trans
    ((dqAll_apply H (gr t) (y 0) (rowx (t.val % 44) (mod_lt t) (y 1)) (y 2)).symm.trans (congrArg (dqAll H) hemb.symm))

theorem U_dq {H : Host} (hH : Holds H m c) : U m c (Proc.devRef .tc main_v43_0) = dqAll H :=
  (Pipeline.withArrays_arr spec0 (by decide) c _ (fun w => (dats m 0 c).arrAt w cfg0.N) 5).trans (arr5 hH)

theorem U_dk : U m c (Proc.devRef .tc main_v43_1) = dkAll m c :=
  (Pipeline.withArrays_of_ne spec0 c _ _ main_v43_1 (by decide)).trans
    ((Pipeline.withR_of_mem (V0 m c) R0 c (left m c) main_v43_1 (by decide)).trans (left_dk m c))
theorem U_dv : U m c (Proc.devRef .tc main_v43_2) = dvAll m c :=
  (Pipeline.withArrays_of_ne spec0 c _ _ main_v43_2 (by decide)).trans
    ((Pipeline.withR_of_mem (V0 m c) R0 c (left m c) main_v43_2 (by decide)).trans (left_dv m c))

end Cert.KernelIdeal.Att
-- ==== Proof.KSum.lean ====
/-
  The kernel's sums over lanes and padded rows are the attention's gradients.
-/
module

public import proofs.«01_k».proof.Proof.KHost

@[expose] public section

noncomputable section

namespace Cert.KernelIdeal.Att

open Idealize.ShloMosaic
open Cert.Att (Args past eOfLane laneOf colOf sum_past sum_low sum_lanes)

variable (A : Args)

theorem past_ge (s : Fin 16400) : 496 ≤ (past s).val ∧ (past s).val - 496 < 16400 := by
  have := s.isLt
  refine ⟨?_, ?_⟩
  · show 496 ≤ s.val + 496; omega
  · show s.val + 496 - 496 < 16400; omega
theorem past_not (s : Fin 16400) : ¬(past s).val < 496 := by
  show ¬s.val + 496 < 496; omega
theorem unpast (s : Fin 16400) (h : (past s).val - 496 < 16400) : (⟨(past s).val - 496, h⟩ : Fin 16400) = s :=
  Fin.ext (by show s.val + 496 - 496 = s.val; omega)

theorem q_past (g : Fin 2) (h : Fin 4) (s : Fin 16400) (x : Fin 128) :
    (hostOf A).q g h (past s) x = if x.val / 32 % 2 = g.val then A.q g h s (eOfLane x) * (1 / 8) else 0 :=
  (dif_pos (past_ge s)).trans (by rw [unpast])
theorem q_pad (g : Fin 2) (h : Fin 4) (s : Fin 16896) (x : Fin 128) (hs : s.val < 496) : (hostOf A).q g h s x = 0 :=
  dif_neg fun hh => absurd hh.1 (by omega)
theorem k_past (t : Fin 16400) (x : Fin 128) :
    (hostOf A).k (past t) x = A.k ⟨x.val / 32 % 2, Nat.mod_lt _ (by decide)⟩ t (eOfLane x) :=
  (dif_pos (past_ge t)).trans (by rw [unpast])
theorem k_pad (t : Fin 16896) (x : Fin 128) (hs : t.val < 496) : (hostOf A).k t x = 0 :=
  dif_neg fun hh => absurd hh.1 (by omega)
theorem v_past (g : Fin 2) (t : Fin 16400) (x : Fin 128) :
    (hostOf A).v g (past t) x = if hx : x.val < 64 then A.v g t ⟨x.val, hx⟩ else 0 := by
  by_cases hx : x.val < 64
  · rw [dif_pos hx]
    exact (dif_pos ⟨past_ge t, hx⟩).trans (by rw [unpast])
  · rw [dif_neg hx]
    exact dif_neg fun hh => hx hh.2
theorem d_past (s : Fin 16400) (x : Fin 512) : (hostOf A).d (past s) x = A.d s x :=
  (dif_pos (past_ge s)).trans (by rw [unpast])
theorem l_past (g : Fin 2) (h : Fin 4) (s : Fin 16400) : (hostOf A).l g h (past s) = A.mx g h s + Real.log (A.L g h s) :=
  (dif_pos (past_ge s)).trans (by rw [unpast])

theorem e_past (g : Fin 2) (h : Fin 4) (s : Fin 16400) (x : Fin 64) : (hostOf A).e g h (past s) x = A.gd g h s x := by
  unfold Host.e
  rw [if_neg (past_not s), d_past]
  exact congrArg (A.d s) (Fin.ext (by show 256 * g.val + (64 * h.val + x.val) = (g.val * 4 + h.val) * 64 + x.val; omega))
theorem e_pad (g : Fin 2) (h : Fin 4) (s : Fin 16896) (x : Fin 64) (hs : s.val < 496) : (hostOf A).e g h s x = 0 := if_pos hs

theorem D_past (g : Fin 2) (h : Fin 4) (s : Fin 16400) (x : Fin 128) :
    (hostOf A).D g h (past s) x = if hx : x.val < 64 then A.gd g h s ⟨x.val, hx⟩ else 0 := by
  unfold Host.D
  simp only [e_past]
theorem D_pad (g : Fin 2) (h : Fin 4) (s : Fin 16896) (x : Fin 128) (hs : s.val < 496) : (hostOf A).D g h s x = 0 := by
  unfold Host.D
  simp only [e_pad A g h s _ hs, dite_eq_ite, ite_self]

theorem o_past (g : Fin 2) (h : Fin 4) (s : Fin 16400) (e : Fin 64) :
    (hostOf A).o (past s) (colx g ⟨64 * h.val + e.val, by have := h.isLt; have := e.isLt; omega⟩) = A.o g h s e := by
  have hc : (colx g ⟨64 * h.val + e.val, by have := h.isLt; have := e.isLt; omega⟩).val = 256 * g.val + (64 * h.val + e.val) := rfl
  have := g.isLt; have := h.isLt; have := e.isLt
  refine (dif_pos (past_ge s)).trans ?_
  rw [unpast]
  congr 1
  · exact Fin.ext (by show (256 * g.val + (64 * h.val + e.val)) / 256 = g.val; omega)
  · exact Fin.ext (by show (256 * g.val + (64 * h.val + e.val)) / 64 % 4 = h.val; omega)
  · exact Fin.ext (by show (256 * g.val + (64 * h.val + e.val)) % 64 = e.val; omega)

theorem δ_past (g : Fin 2) (h : Fin 4) (s : Fin 16400) : (hostOf A).δ g h (past s) = ∑ t, A.p g h s t * A.dp g h s t := by
  unfold Host.δ
  rw [← A.delta]
  refine Finset.sum_congr rfl fun e _ => ?_
  rw [e_past, o_past]
theorem δ_pad (g : Fin 2) (h : Fin 4) (s : Fin 16896) (hs : s.val < 496) : (hostOf A).δ g h s = 0 := by
  unfold Host.δ
  refine Finset.sum_eq_zero fun e _ => ?_
  rw [e_pad A g h s e hs, zero_mul]

theorem P_past (g : Fin 2) (h : Fin 4) (s t : Fin 16400) : (hostOf A).P g h (past s) (past t) = A.p g h s t := by
  unfold Host.P
  rw [if_neg (past_not t), l_past, ← A.p_exp]
  congr 2
  unfold Args.sc
  rw [Finset.sum_mul, ← sum_lanes g fun e => A.q g h s e * A.k g t e * (1 / 8)]
  refine Finset.sum_congr rfl fun x _ => ?_
  rw [k_past, q_past]
  by_cases hx : x.val / 32 % 2 = g.val
  · rw [if_pos hx, if_pos hx, show (⟨x.val / 32 % 2, Nat.mod_lt _ (by decide)⟩ : Fin 2) = g from Fin.ext hx]; ring
  · rw [if_neg hx, if_neg hx, mul_zero]

theorem W_past (g : Fin 2) (h : Fin 4) (s t : Fin 16400) : (hostOf A).W g h (past s) (past t) = A.w g h s t := by
  unfold Host.W Args.w
  rw [P_past, δ_past]
  congr 2
  unfold Args.dp
  rw [← sum_low fun e => A.gd g h s e * A.v g t e]
  refine Finset.sum_congr rfl fun x _ => ?_
  rw [v_past, D_past]
  by_cases hx : x.val < 64
  · rw [dif_pos hx, dif_pos hx, dif_pos hx]; ring
  · rw [dif_neg hx, dif_neg hx, dif_neg hx, mul_zero]
theorem W_pad (g : Fin 2) (h : Fin 4) (s t : Fin 16896) (hs : s.val < 496) : (hostOf A).W g h s t = 0 := by
  unfold Host.W
  rw [δ_pad A g h s hs, Finset.sum_eq_zero fun x _ => by rw [D_pad A g h s x hs, mul_zero], sub_zero, mul_zero]

/-- The gradient of the queries. -/
theorem dq_sum (g : Fin 2) (h : Fin 4) (s : Fin 16400) (e : Fin 64) :
    (∑ j, (hostOf A).k j (laneOf g e) * (hostOf A).W g h (past s) j) * (1 / 8) = A.dq g h s e := by
  unfold Args.dq
  rw [sum_past _ fun j hj => by rw [k_pad A j _ hj, zero_mul]]
  refine congrArg (· * (1 / 8 : ℝ)) (Finset.sum_congr rfl fun t _ => ?_)
  rw [k_past, W_past, Cert.Att.eOfLane_laneOf, show (⟨(laneOf g e).val / 32 % 2, Nat.mod_lt _ (by decide)⟩ : Fin 2) = g from Fin.ext (Cert.Att.slot_laneOf g e)]

/-- The gradient of the keys. -/
theorem dk_sum (g : Fin 2) (t : Fin 16400) (e : Fin 64) :
    ∑ h, ∑ s, (hostOf A).W g h s (past t) * (hostOf A).q g h s (laneOf g e) = A.dk g t e := by
  unfold Args.dk
  refine Finset.sum_congr rfl fun h _ => ?_
  rw [sum_past _ fun j hj => by rw [q_pad A g h j _ hj, mul_zero]]
  refine Finset.sum_congr rfl fun s _ => ?_
  rw [W_past, q_past, if_pos (Cert.Att.slot_laneOf g e), Cert.Att.eOfLane_laneOf]

/-- The gradient of the values. -/
theorem dv_sum (g : Fin 2) (t : Fin 16400) (e : Fin 64) :
    ∑ h, ∑ s, (hostOf A).P g h s (past t) * (hostOf A).D g h s ⟨e.val, by have := e.isLt; omega⟩ = A.dv g t e := by
  unfold Args.dv
  refine Finset.sum_congr rfl fun h _ => ?_
  rw [sum_past _ fun j hj => by rw [D_pad A g h j _ hj, mul_zero]]
  refine Finset.sum_congr rfl fun s _ => ?_
  rw [P_past, D_past]
  exact congrArg (A.p g h s t * ·) (dif_pos e.isLt)

end Cert.KernelIdeal.Att
-- ==== Proof.KRef.lean ====
/-
  The reference's stages, over real numbers.
-/
module

public import proofs.«01_k».proof.Proof.Gen.ReferenceIdeal.Read
public import proofs.«01_k».proof.Proof.KCoe
public import Idealize.ShloMosaic.Lib.Pointwise

@[expose] public section

set_option maxRecDepth 16384

noncomputable section

namespace Cert.ReferenceIdeal.Att

open Idealize.ShloMosaic Idealize.ShloMosaic.TcCoe
open Cert.ReferenceIdeal Cert.ReferenceIdeal.Read
open Cert.Att

variable (x0 : (⟨S2x4x16400x64, .f32⟩ : BufTy).Contents (Elt Ideal)) (x1 x2 : (⟨S2x16400x64, .f32⟩ : BufTy).Contents (Elt Ideal)) (x3 : (⟨S16400x512, .f32⟩ : BufTy).Contents (Elt Ideal))

/-- The arguments hold real numbers. -/
structure Given (A : Args) : Prop where
  q : ∀ g h s e, @Eq EReal (x0 (ix4 g h s e)) ((A.q g h s e : ℝ) : EReal)
  k : ∀ g t e, @Eq EReal (x1 (ix3 g t e)) ((A.k g t e : ℝ) : EReal)
  v : ∀ g t e, @Eq EReal (x2 (ix3 g t e)) ((A.v g t e : ℝ) : EReal)
  d : ∀ s x, @Eq EReal (x3 (ix2 s x)) ((A.d s x : ℝ) : EReal)

variable {x0 x1 x2 x3} {A : Args} (hA : Given x0 x1 x2 x3 A)
include hA

theorem r2 (g : Fin 2) (h : Fin 4) (s t : Fin 16400) : val_main_v2 (F := Ideal) x0 x1 (ix4 g h s t) = ((A.sc g h s t : ℝ) : EReal) := by
  generalize hz : ((A.sc g h s t : ℝ) : EReal) = z
  unfold val_main_v2 val_main_v1 val_main_v0 val_main_cst
  pointwise
  rw [← hz]
  exact coe_sc (fun _ => hA.q _ _ _ _) (fun _ => hA.k _ _ _)

theorem r3 (g : Fin 2) (h : Fin 4) (s : Fin 16400) : val_main_v3 (F := Ideal) x0 x1 (ix3 g h s) = ((A.mx g h s : ℝ) : EReal) := by
  generalize hz : ((A.mx g h s : ℝ) : EReal) = z
  unfold val_main_v3 val_main_cst_0
  pointwise
  rw [← hz]
  exact coe_mx fun t => r2 hA g h s t

theorem r10 (g : Fin 2) (h : Fin 4) (s : Fin 16400) : val_main_v10 (F := Ideal) x0 x1 (ix3 g h s) = ((A.mx g h s : ℝ) : EReal) := by
  refine (val_main_v10_apply x0 x1 (ix3 g h s)).trans ?_
  rw [r3 hA, val_main_v9_apply, val_main_cst_2_apply]
  show max (Ideal.ofBits .f32 0xFF800000#32) ((A.mx g h s : ℝ) : EReal) = _
  rw [bottom]
  exact max_eq_right bot_le

theorem r23 (g : Fin 2) (h : Fin 4) (s t : Fin 16400) : val_main_v23 (F := Ideal) x0 x1 (ix4 g h s t) = ((A.ex g h s t : ℝ) : EReal) := by
  generalize hz : ((A.ex g h s t : ℝ) : EReal) = z
  unfold val_main_v23 val_main_v22 val_main_v21 val_main_v20
  pointwise
  rw [← hz]
  exact coe_ex (r2 hA g h s t) (r10 hA g h s)

theorem r24 (g : Fin 2) (h : Fin 4) (s : Fin 16400) : val_main_v24 (F := Ideal) x0 x1 (ix3 g h s) = ((A.L g h s : ℝ) : EReal) := by
  generalize hz : ((A.L g h s : ℝ) : EReal) = z
  unfold val_main_v24 val_main_cst_8
  pointwise
  rw [← hz]
  exact coe_L fun t => r23 hA g h s t

theorem r27 (g : Fin 2) (h : Fin 4) (s t : Fin 16400) : val_main_v27 (F := Ideal) x0 x1 (ix4 g h s t) = ((A.p g h s t : ℝ) : EReal) := by
  generalize hz : ((A.p g h s t : ℝ) : EReal) = z
  unfold val_main_v27 val_main_v26 val_main_v25
  pointwise
  rw [← hz]
  exact coe_p (r23 hA g h s t) (r24 hA g h s)

theorem r30 (g : Fin 2) (h : Fin 4) (s : Fin 16400) : val_main_v30 (F := Ideal) x0 x1 (ix4 g h s 0) = ((1 / (A.L g h s * A.L g h s) : ℝ) : EReal) := by
  generalize hz : ((1 / (A.L g h s * A.L g h s) : ℝ) : EReal) = z
  unfold val_main_v30 val_main_v29 val_main_v28 val_main_v25 val_main_cst_9
  pointwise
  rw [← hz]
  exact coe_div_of (mul_pos (A.L_pos g h s) (A.L_pos g h s)).ne' EReal.coe_one.symm (coe_mul_of (r24 hA g h s) (r24 hA g h s))

theorem r35 (g : Fin 2) (h : Fin 4) (s : Fin 16400) (e : Fin 64) : val_main_v35 (F := Ideal) x3 (ix4 g h s e) = ((A.gd g h s e : ℝ) : EReal) := by
  generalize hz : ((A.gd g h s e : ℝ) : EReal) = z
  unfold val_main_v35 val_main_v34
  pointwise
  rw [← hz]
  refine (hA.d _ _).trans (congrArg (fun r : ℝ => (r : EReal)) (congrArg (A.d s) (Fin.ext ?_)))
  show g.val * 256 + h.val * 64 + e.val = (g.val * 4 + h.val) * 64 + e.val
  omega

theorem r38 (g : Fin 2) (h : Fin 4) (s t : Fin 16400) : val_main_v38 (F := Ideal) x2 x3 (ix4 g h s t) = ((A.dp g h s t : ℝ) : EReal) := by
  generalize hz : ((A.dp g h s t : ℝ) : EReal) = z
  unfold val_main_v38
  pointwise
  rw [← hz]
  exact coe_sum_of fun e => coe_mul_of (r35 hA g h s e) (hA.v g t e)

theorem r41 (g : Fin 2) (h : Fin 4) (s t : Fin 16400) : val_main_v41 (F := Ideal) x0 x1 x2 x3 (ix4 g h s t) = ((A.dp g h s t * (1 / (A.L g h s * A.L g h s)) * A.ex g h s t : ℝ) : EReal) := by
  generalize hz : ((A.dp g h s t * (1 / (A.L g h s * A.L g h s)) * A.ex g h s t : ℝ) : EReal) = z
  unfold val_main_v41 val_main_v40 val_main_v39
  pointwise
  rw [← hz]
  exact coe_mul_of (coe_mul_of (r38 hA g h s t) (r30 hA g h s)) (r23 hA g h s t)

theorem r42 (g : Fin 2) (h : Fin 4) (s : Fin 16400) : val_main_v42 (F := Ideal) x0 x1 x2 x3 (ix3 g h s) = ((∑ t, A.dp g h s t * (1 / (A.L g h s * A.L g h s)) * A.ex g h s t : ℝ) : EReal) := by
  generalize hz : ((∑ t, A.dp g h s t * (1 / (A.L g h s * A.L g h s)) * A.ex g h s t : ℝ) : EReal) = z
  unfold val_main_v42 val_main_cst_10
  pointwise
  rw [← hz]
  exact coe_sum_of fun t => r41 hA g h s t

theorem r47 (g : Fin 2) (h : Fin 4) (s : Fin 16400) : val_main_v47 (F := Ideal) x0 x1 x2 x3 (ix3 g h s) = ((-(∑ t, A.dp g h s t * (1 / (A.L g h s * A.L g h s)) * A.ex g h s t) : ℝ) : EReal) := by
  generalize hz : ((-(∑ t, A.dp g h s t * (1 / (A.L g h s * A.L g h s)) * A.ex g h s t) : ℝ) : EReal) = z
  unfold val_main_v47 val_main_v44 val_main_v43 val_main_cst_11
  pointwise
  rw [← hz]
  rw [EReal.coe_neg, ← r42 hA g h s]
  exact Fin.sum_univ_one _

theorem r52 (g : Fin 2) (h : Fin 4) (s t : Fin 16400) : val_main_v52 (F := Ideal) x0 x1 x2 x3 (ix4 g h s t) = ((A.w g h s t * (1 / 8) : ℝ) : EReal) := by
  generalize hz : ((A.w g h s t * (1 / 8) : ℝ) : EReal) = z
  unfold val_main_v52 val_main_v51 val_main_v50 val_main_v49 val_main_v48 val_main_v46 val_main_v45 val_main_v25 val_main_cst_12
  pointwise
  rw [← hz]
  rw [← A.w_chain]
  exact coe_mul_of (coe_mul_of (coe_add_of (coe_div_of (A.L_pos g h s).ne' (r38 hA g h s t) (r24 hA g h s)) (r47 hA g h s)) (r23 hA g h s t)) eighth

theorem r54 (g : Fin 2) (h : Fin 4) (s : Fin 16400) (e : Fin 64) : val_main_v54 (F := Ideal) x0 x1 x2 x3 (ix4 g h s e) = ((A.dq g h s e : ℝ) : EReal) := by
  generalize hz : ((A.dq g h s e : ℝ) : EReal) = z
  unfold val_main_v54
  pointwise
  rw [← hz]
  have e1 : A.dq g h s e = ∑ t, A.w g h s t * (1 / 8) * A.k g t e := by
    unfold Args.dq
    rw [Finset.sum_mul]
    exact Finset.sum_congr rfl fun t _ => by ring
  rw [e1]
  exact coe_sum_of fun t => coe_mul_of (r52 hA g h s t) (hA.k g t e)

theorem r53 (g : Fin 2) (t : Fin 16400) (e : Fin 64) : val_main_v53 (F := Ideal) x0 x1 x2 x3 (ix3 g t e) = ((A.dk g t e : ℝ) : EReal) := by
  generalize hz : ((A.dk g t e : ℝ) : EReal) = z
  unfold val_main_v53
  pointwise
  rw [← hz]
  have e1 : A.dk g t e = ∑ h, ∑ s, A.w g h s t * (1 / 8) * A.q g h s e := by
    unfold Args.dk
    exact Finset.sum_congr rfl fun h _ => Finset.sum_congr rfl fun s _ => by ring
  rw [e1]
  exact coe_sum_of fun h => coe_sum_of fun s => coe_mul_of (r52 hA g h s t) (hA.q g h s e)

theorem r37 (g : Fin 2) (t : Fin 16400) (e : Fin 64) : val_main_v37 (F := Ideal) x0 x1 x3 (ix3 g t e) = ((A.dv g t e : ℝ) : EReal) := by
  generalize hz : ((A.dv g t e : ℝ) : EReal) = z
  unfold val_main_v37 val_main_v36
  pointwise
  rw [← hz]
  have e1 : A.dv g t e = ∑ h, ∑ s, A.gd g h s e * A.p g h s t := by
    unfold Args.dv
    exact Finset.sum_congr rfl fun h _ => Finset.sum_congr rfl fun s _ => by ring
  rw [e1]
  exact coe_sum_of fun h => coe_sum_of fun s => coe_mul_of (r35 hA g h s e) (r27 hA g h s t)

end Cert.ReferenceIdeal.Att
-- ==== Proof.KValue.lean ====
/-
  The value claim: on finite arguments the kernel's results are the reference's.
-/
module

public import proofs.«01_k».proof.Defs
public import proofs.«01_k».proof.Proof.KTail
public import proofs.«01_k».proof.Proof.KSum
public import proofs.«01_k».proof.Proof.KRef
public import proofs.«01_k».proof.Proof.Gen.ReferenceIdeal.Run

@[expose] public section

set_option maxRecDepth 16384

noncomputable section

namespace Cert.Pre_finite.Att

open Idealize.ShloMosaic Cert.Pre_finite

/-- The side conditions of the precondition's operations: each broadcast starts from a scalar. -/
instance facts : Cert.Pre_finite.Facts where
  bcast_S_S2x4x16400x64 := by decide
  bcast_S_S2x16400x64 := by decide
  bcast_S_S16400x512 := by decide

end Cert.Pre_finite.Att

namespace Cert.KernelIdeal.Att

open Idealize.ShloMosaic Idealize.ShloMosaic.TcCoe
open Cert.KernelIdeal Cert.KernelIdeal.Gen Ix
open Cert.Att (Args past eOfLane laneOf colOf real_of_abs)

/-- An array whose absolute values all compare below infinity holds real numbers. -/
theorem real_of_finite {s : Shape} (x : FVec Ideal s .f32)
    (hb : (⟨0, ![]⟩ : Shape).BroadcastsInDim s (![] : Fin 0 → Fin s.rank))
    (h : cmpf .olt (Host.absf x) (broadcastInDim s ![] hb (constant (⟨0, ![]⟩ : Shape) .f32 0x7F800000#32)) = (fun _ => 1#1)) (i : s.Idx) :
    ∃ r : ℝ, @Eq EReal (x i) (r : EReal) := by
  have hi : BitVec.ofBool (decide (@LT.lt EReal _ (max (x i) (-(x i) : EReal)) (Ideal.ofBits .f32 0x7F800000#32))) = 1#1 := congrFun h i
  rw [Cert.Att.top] at hi
  refine real_of_abs (x i) ?_
  by_contra hn
  rw [decide_eq_false hn] at hi
  exact absurd hi (by decide)

/-- The real numbers a finite memory's arguments hold. -/
theorem given_of_finite (m : (ℓ : Loc nD τ sig) → Buf (Elt Ideal) ℓ) (c : Dev nD)
    (h : Cert.Pre_KernelIdeal_finite m) : ∃ A : Args, Given A m c := by
  obtain ⟨h0, h1, h2, h3⟩ := h c
  choose q hq using real_of_finite _ _ h0
  choose k hk using real_of_finite _ _ h1
  choose v hv using real_of_finite _ _ h2
  choose d hd using real_of_finite _ _ h3
  exact ⟨⟨fun g h s e => q (ix4 g h s e), fun g t e => k (ix3 g t e), fun g t e => v (ix3 g t e), fun s x => d (ix2 s x)⟩,
    fun g h s e => hq _, fun g t e => hk _, fun g t e => hv _, fun s x => hd _⟩

section
variable {A : Args} {m : (ℓ : Loc nD τ sig) → Buf (Elt Ideal) ℓ} {c : Dev nD} (hA : Given A m c)
include hA

theorem dq_end (g : Fin 2) (h : Fin 4) (s : Fin 16400) (e : Fin 64) :
    (StableHlo.after (List.flatten [hostOps1]) (U m c) (Proc.devRef .tc main_v55) : Vec Ideal S2x4x16400x64 .f32) (ix4 g h s e) = ((A.dq g h s e : ℝ) : EReal) := by
  rw [← dq_sum A g h s e]
  exact tail_dq (U m c) g h s e _ ((congrFun (U_dq (holds hA)) _).trans (dqAll_apply _ g h (past s) (laneOf g e)))

theorem dk_end (g : Fin 2) (t : Fin 16400) (e : Fin 64) :
    (StableHlo.after (List.flatten [hostOps1]) (U m c) (Proc.devRef .tc main_v61) : Vec Ideal S2x16400x64 .f32) (ix3 g t e) = ((A.dk g t e : ℝ) : EReal) := by
  rw [← dk_sum A g t e]
  exact tail_dk (U m c) g t e _ ((congrFun U_dk _).trans (dkAll_real (holds hA) g (past t) (laneOf g e)))

theorem dv_end (g : Fin 2) (t : Fin 16400) (e : Fin 64) :
    (StableHlo.after (List.flatten [hostOps1]) (U m c) (Proc.devRef .tc main_v62) : Vec Ideal S2x16400x64 .f32) (ix3 g t e) = ((A.dv g t e : ℝ) : EReal) := by
  rw [← dv_sum A g t e]
  exact tail_dv (U m c) g t e _ ((congrFun U_dv _).trans (dvAll_real (holds hA) g (past t) _))

end

end Cert.KernelIdeal.Att

namespace Cert.Proof

open Idealize.ShloMosaic Idealize.ShloMosaic.TcCoe Idealize.SL.Sem
open Cert.Att (Args)

section
variable {A : Args} {m : (ℓ : Loc Cert.KernelIdeal.nD Cert.KernelIdeal.τ Cert.KernelIdeal.sig) → Buf (Elt Ideal) ℓ} {c : Dev Cert.KernelIdeal.nD}
  (hA : Cert.KernelIdeal.Att.Given A m c)
  {x0 : (⟨Cert.ReferenceIdeal.S2x4x16400x64, .f32⟩ : BufTy).Contents (Elt Ideal)} {x1 x2 : (⟨Cert.ReferenceIdeal.S2x16400x64, .f32⟩ : BufTy).Contents (Elt Ideal)}
  {x3 : (⟨Cert.ReferenceIdeal.S16400x512, .f32⟩ : BufTy).Contents (Elt Ideal)} (hR : Cert.ReferenceIdeal.Att.Given x0 x1 x2 x3 A)
include hA hR

theorem dq_same : Cert.ReferenceIdeal.Read.val_main_v54 (F := Ideal) x0 x1 x2 x3
    = StableHlo.after (List.flatten [Cert.KernelIdeal.Gen.hostOps1]) (Cert.KernelIdeal.Att.U m c) (Proc.devRef .tc Cert.KernelIdeal.main_v55) := by
  funext i
  have e := eq_ix4 (n0 := 2) (n1 := 4) (n2 := 16400) (n3 := 64) i
  rw [e]
  exact (Cert.ReferenceIdeal.Att.r54 hR _ _ _ _).trans (Cert.KernelIdeal.Att.dq_end hA _ _ _ _).symm

theorem dk_same : Cert.ReferenceIdeal.Read.val_main_v53 (F := Ideal) x0 x1 x2 x3
    = StableHlo.after (List.flatten [Cert.KernelIdeal.Gen.hostOps1]) (Cert.KernelIdeal.Att.U m c) (Proc.devRef .tc Cert.KernelIdeal.main_v61) := by
  funext i
  have e := eq_ix3 (n0 := 2) (n1 := 16400) (n2 := 64) i
  rw [e]
  exact (Cert.ReferenceIdeal.Att.r53 hR _ _ _).trans (Cert.KernelIdeal.Att.dk_end hA _ _ _).symm

theorem dv_same : Cert.ReferenceIdeal.Read.val_main_v37 (F := Ideal) x0 x1 x3
    = StableHlo.after (List.flatten [Cert.KernelIdeal.Gen.hostOps1]) (Cert.KernelIdeal.Att.U m c) (Proc.devRef .tc Cert.KernelIdeal.main_v62) := by
  funext i
  have e := eq_ix3 (n0 := 2) (n1 := 16400) (n2 := 64) i
  rw [e]
  exact (Cert.ReferenceIdeal.Att.r37 hR _ _ _).trans (Cert.KernelIdeal.Att.dv_end hA _ _ _).symm

end

/-- The kernel's three results, where its run ends. -/
theorem kernel_end (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = StableHlo.after (List.flatten [Cert.KernelIdeal.Gen.hostOps1]) (Cert.KernelIdeal.Att.U m c) (Proc.devRef .tc Cert.KernelIdeal.main_v55)
          ∧ r.2.mem ((c.tc : Thread Cert.KernelIdeal.nD Cert.KernelIdeal.τ).loc Cert.KernelIdeal.main_v61) = StableHlo.after (List.flatten [Cert.KernelIdeal.Gen.hostOps1]) (Cert.KernelIdeal.Att.U m c) (Proc.devRef .tc Cert.KernelIdeal.main_v61)
          ∧ r.2.mem ((c.tc : Thread Cert.KernelIdeal.nD Cert.KernelIdeal.τ).loc Cert.KernelIdeal.main_v62) = StableHlo.after (List.flatten [Cert.KernelIdeal.Gen.hostOps1]) (Cert.KernelIdeal.Att.U m c) (Proc.devRef .tc Cert.KernelIdeal.main_v62)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c => ⟨
      (h.1 c) Cert.KernelIdeal.main_v55 (Pipeline.mem_restRefs_of Cert.KernelIdeal.main_v55 (by decide) (by decide)),
      (h.1 c) Cert.KernelIdeal.main_v61 (Pipeline.mem_restRefs_of Cert.KernelIdeal.main_v61 (by decide) (by decide)),
      (h.1 c) Cert.KernelIdeal.main_v62 (Pipeline.mem_restRefs_of Cert.KernelIdeal.main_v62 (by decide) (by decide)),
      ((h.1 c) Cert.KernelIdeal.main_arg0 (Pipeline.mem_restRefs_of Cert.KernelIdeal.main_arg0 (by decide) (by decide))).trans (Cert.KernelIdeal.Att.arg0_kept m c),
      ((h.1 c) Cert.KernelIdeal.main_arg1 (Pipeline.mem_restRefs_of Cert.KernelIdeal.main_arg1 (by decide) (by decide))).trans (Cert.KernelIdeal.Att.arg1_kept m c),
      ((h.1 c) Cert.KernelIdeal.main_arg2 (Pipeline.mem_restRefs_of Cert.KernelIdeal.main_arg2 (by decide) (by decide))).trans (Cert.KernelIdeal.Att.arg2_kept m c),
      ((h.1 c) Cert.KernelIdeal.main_arg3 (Pipeline.mem_restRefs_of Cert.KernelIdeal.main_arg3 (by decide) (by decide))).trans (Cert.KernelIdeal.Att.arg3_kept m c)⟩)
    (Cert.KernelIdeal.Att.run_main m g)

/-- On finite arguments the kernel's gradients of q, k and v are the reference's. -/
theorem value : Cert.algebraic_KernelIdeal_ReferenceIdeal_pre_finite := by
  intro m g m' g' hpre hargs
  refine ⟨_, _, _, kernel_end m g, (θ_run Cert.ReferenceIdeal.defs _ _).mono (fun r h c => ?_) (Cert.ReferenceIdeal.Value.run (F := Ideal) m' g')⟩
  obtain ⟨A, hA⟩ := Cert.KernelIdeal.Att.given_of_finite m c hpre
  obtain ⟨a0, a1, a2, a3⟩ := hargs c
  have hR : Cert.ReferenceIdeal.Att.Given (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) A :=
    ⟨fun g h s e => (congrFun a0 _).trans (hA.q g h s e), fun g t e => (congrFun a1 _).trans (hA.k g t e),
      fun g t e => (congrFun a2 _).trans (hA.v g t e), fun s x => (congrFun a3 _).trans (hA.d s x)⟩
  obtain ⟨h0, h1, h2, hk⟩ := h c
  exact ⟨h0.trans ((Cert.ReferenceIdeal.Read.val_main_v54_eq m' c).trans (dq_same hA hR)),
    h1.trans ((Cert.ReferenceIdeal.Read.val_main_v53_eq m' c).trans (dk_same hA hR)),
    h2.trans ((Cert.ReferenceIdeal.Read.val_main_v37_eq _ _ _).trans (dv_same hA hR)), hk⟩

end Cert.Proof
-- ==== Proof.DnValue.lean ====
/-
  The gradient of a feed-forward layer's input: the kernel's four shards summed are the reference's two products.
-/
module

public import proofs.«01_k».proof.Defs
public import proofs.«01_k».proof.Proof.Gen.Kernel2Ideal.Frame
public import proofs.«01_k».proof.Proof.Gen.Reference2Ideal.Run
public import proofs.«01_k».proof.Proof.Gen.Reference2Ideal.Read
public import proofs.«01_k».proof.Proof.Ix
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel2Ideal.Dn

open Idealize.ShloMosaic Idealize.ShloMosaic.TcCoe
open Cert.Kernel2Ideal Cert.Kernel2Ideal.Gen Ix

/-- Column `x` of shard `j`. -/
def fx (j : Fin 4) (x : Fin 704) : Fin 2816 := ⟨704 * j.val + x.val, by have := j.isLt; have := x.isLt; omega⟩
/-- Row `s` of the sequence behind the padding. -/
def px (s : Fin 16400) : Fin 16896 := ⟨496 + s.val, by have := s.isLt; omega⟩

theorem pay (x0 x1 : Vec Ideal S4x512x704 .bf16) (x2 x3 : Vec Ideal S4x1024x704 .bf16) (r : Fin 512) (d : Fin 1024) :
    out0_4 (F := Ideal) x0 x1 x2 x3 (ix2 r d) = ∑ j : Fin 4, ((∑ x : Fin 704, (x0 (ix3 j r x) : EReal) * x2 (ix3 j d x)) + ∑ x : Fin 704, (x1 (ix3 j r x) : EReal) * x3 (ix3 j d x)) := by
  unfold out0_4
  frame_out
  unfold k0_pay1 k0_pay2 k0_pay3
  pointwise
  exact (Fin.sum_univ_four fun j : Fin 4 => ((∑ x : Fin 704, (x0 (ix3 j r x) : EReal) * x2 (ix3 j d x)) + ∑ x : Fin 704, (x1 (ix3 j r x) : EReal) * x3 (ix3 j d x) : EReal)).symm

theorem index0 : ∀ t : Fin cfg0.N, win0_0.index t 0 = 0 ∧ win0_0.index t 1 = t.val ∧ win0_0.index t 2 = 0 := by decide +kernel
theorem index1 : ∀ t : Fin cfg0.N, win0_1.index t 0 = 0 ∧ win0_1.index t 1 = t.val ∧ win0_1.index t 2 = 0 := by decide +kernel
theorem index2 : ∀ t : Fin cfg0.N, win0_2.index t 0 = 0 ∧ win0_2.index t 1 = 0 ∧ win0_2.index t 2 = 0 := by decide +kernel
theorem index3 : ∀ t : Fin cfg0.N, win0_3.index t 0 = 0 ∧ win0_3.index t 1 = 0 ∧ win0_3.index t 2 = 0 := by decide +kernel
theorem index4 : ∀ t : Fin cfg0.N, win0_4.index t 0 = t.val ∧ win0_4.index t 1 = 0 := by decide +kernel

/-- Row `y` of block `t`. -/
def rx (t : Fin cfg0.N) (y : Fin 512) : Fin 16896 := ⟨512 * t.val + y.val, by have := t.isLt; have e : cfg0.N = 33 := N_0; have := y.isLt; omega⟩

/-- The result at a row and a column, of the four arrays the kernel takes. -/
def dnAll (h0 h1 : Vec Ideal S4x16896x704 .bf16) (h2 h3 : Vec Ideal S4x1024x704 .bf16) : Vec Ideal S16896x1024 .f32 :=
  fun i => ∑ j : Fin 4, ((∑ x : Fin 704, (h0 (ix3 j (i 0) x) : EReal) * h2 (ix3 j (i 1) x)) + ∑ x : Fin 704, (h1 (ix3 j (i 0) x) : EReal) * h3 (ix3 j (i 1) x))

variable (m : (ℓ : Loc nD τ sig) → Buf (Elt Ideal) ℓ) (c : Dev nD)

theorem dg_host (j : Fin 4) (s : Fin 16400) (x : Fin 704) :
    (V m c main_v3 : Vec Ideal S4x16896x704 .bf16) (ix3 j (px s) x) = (m (c, Proc.tc.devRef main_arg0) : Vec Ideal S16400x2816 .f32) (ix2 s (fx j x)) := by
  have e0 : (px s).val - 496 = s.val := Nat.add_sub_cancel_left _ _
  unfold V
  after_reads_at
  rw [dif_pos ⟨⟨Nat.le_add_right _ _, by rw [e0]; exact s.isLt⟩, by have := j.isLt; have := x.isLt; omega⟩]
  exact congrArg _ (congrArg₂ ix2 (Fin.ext e0) (Fin.ext (by show j.val * 704 + x.val = 704 * j.val + x.val; omega)))

theorem du_host (j : Fin 4) (s : Fin 16400) (x : Fin 704) :
    (V m c main_v7 : Vec Ideal S4x16896x704 .bf16) (ix3 j (px s) x) = (m (c, Proc.tc.devRef main_arg1) : Vec Ideal S16400x2816 .f32) (ix2 s (fx j x)) := by
  have e0 : (px s).val - 496 = s.val := Nat.add_sub_cancel_left _ _
  unfold V
  after_reads_at
  rw [dif_pos ⟨⟨Nat.le_add_right _ _, by rw [e0]; exact s.isLt⟩, by have := j.isLt; have := x.isLt; omega⟩]
  exact congrArg _ (congrArg₂ ix2 (Fin.ext e0) (Fin.ext (by show j.val * 704 + x.val = 704 * j.val + x.val; omega)))

theorem wg_host (j : Fin 4) (s : Fin 1024) (x : Fin 704) :
    (V m c main_v10 : Vec Ideal S4x1024x704 .bf16) (ix3 j s x) = (m (c, Proc.tc.devRef main_arg2) : Vec Ideal S1024x2816 .f32) (ix2 s (fx j x)) := by
  unfold V
  after_reads_at
  exact congrArg _ (congrArg (ix2 s) (Fin.ext (by show j.val * 704 + x.val = 704 * j.val + x.val; omega)))

theorem wu_host (j : Fin 4) (s : Fin 1024) (x : Fin 704) :
    (V m c main_v13 : Vec Ideal S4x1024x704 .bf16) (ix3 j s x) = (m (c, Proc.tc.devRef main_arg3) : Vec Ideal S1024x2816 .f32) (ix2 s (fx j x)) := by
  unfold V
  after_reads_at
  exact congrArg _ (congrArg (ix2 s) (Fin.ext (by show j.val * 704 + x.val = 704 * j.val + x.val; omega)))

theorem blk0 (t : Fin cfg0.N) (j : Fin 4) (y : Fin 512) (x : Fin 704) :
    (iblk m c 0 t : Vec Ideal S4x512x704 .bf16) (ix3 j y x) = (V m c main_v3 : Vec Ideal S4x16896x704 .bf16) (ix3 j (rx t y) x) := by
  have hi := index0 t
  unfold iblk
  rw [View.read_apply]
  show V m c main_v3 _ = V m c main_v3 _
  congr 1
  funext a
  apply Fin.ext
  match a with
  | ⟨0, _⟩ => show win0_0.index t 0 * 4 + 1 * j.val = j.val; rw [hi.1]; omega
  | ⟨1, _⟩ => show win0_0.index t 1 * 512 + 1 * y.val = 512 * t.val + y.val; rw [hi.2.1]; omega
  | ⟨2, _⟩ => show win0_0.index t 2 * 704 + 1 * x.val = x.val; rw [hi.2.2]; omega

theorem blk1 (t : Fin cfg0.N) (j : Fin 4) (y : Fin 512) (x : Fin 704) :
    (iblk m c 1 t : Vec Ideal S4x512x704 .bf16) (ix3 j y x) = (V m c main_v7 : Vec Ideal S4x16896x704 .bf16) (ix3 j (rx t y) x) := by
  have hi := index1 t
  unfold iblk
  rw [View.read_apply]
  show V m c main_v7 _ = V m c main_v7 _
  congr 1
  funext a
  apply Fin.ext
  match a with
  | ⟨0, _⟩ => show win0_1.index t 0 * 4 + 1 * j.val = j.val; rw [hi.1]; omega
  | ⟨1, _⟩ => show win0_1.index t 1 * 512 + 1 * y.val = 512 * t.val + y.val; rw [hi.2.1]; omega
  | ⟨2, _⟩ => show win0_1.index t 2 * 704 + 1 * x.val = x.val; rw [hi.2.2]; omega

theorem blk2 (t : Fin cfg0.N) (j : Fin 4) (d : Fin 1024) (x : Fin 704) :
    (iblk m c 2 t : Vec Ideal S4x1024x704 .bf16) (ix3 j d x) = (V m c main_v10 : Vec Ideal S4x1024x704 .bf16) (ix3 j d x) := by
  have hi := index2 t
  unfold iblk
  rw [View.read_apply]
  show V m c main_v10 _ = V m c main_v10 _
  congr 1
  funext a
  apply Fin.ext
  match a with
  | ⟨0, _⟩ => show win0_2.index t 0 * 4 + 1 * j.val = j.val; rw [hi.1]; omega
  | ⟨1, _⟩ => show win0_2.index t 1 * 1024 + 1 * d.val = d.val; rw [hi.2.1]; omega
  | ⟨2, _⟩ => show win0_2.index t 2 * 704 + 1 * x.val = x.val; rw [hi.2.2]; omega

theorem blk3 (t : Fin cfg0.N) (j : Fin 4) (d : Fin 1024) (x : Fin 704) :
    (iblk m c 3 t : Vec Ideal S4x1024x704 .bf16) (ix3 j d x) = (V m c main_v13 : Vec Ideal S4x1024x704 .bf16) (ix3 j d x) := by
  have hi := index3 t
  unfold iblk
  rw [View.read_apply]
  show V m c main_v13 _ = V m c main_v13 _
  congr 1
  funext a
  apply Fin.ext
  match a with
  | ⟨0, _⟩ => show win0_3.index t 0 * 4 + 1 * j.val = j.val; rw [hi.1]; omega
  | ⟨1, _⟩ => show win0_3.index t 1 * 1024 + 1 * d.val = d.val; rw [hi.2.1]; omega
  | ⟨2, _⟩ => show win0_3.index t 2 * 704 + 1 * x.val = x.val; rw [hi.2.2]; omega

theorem arr4 : (dats m 0 c).arrAt 4 cfg0.N = dnAll (V m c main_v3) (V m c main_v7) (V m c main_v10) (V m c main_v13) := by
  refine (dats m 0 c).arrAt_eq_of_covers 4 _ (by decide +kernel) fun t hf y => ?_
  blk_simp
  rw [after0_4]
  have hi := index4 t
  have ey : (y : S512x1024.Idx) = ix2 (y 0) (y 1) := (ix2_eta (n0 := 512) (n1 := 1024) y).symm
  have hemb : (win0_4.blk t).view.emb y = ix2 (rx t (y 0)) (y 1) := by
    funext a
    apply Fin.ext
    match a with
    | ⟨0, _⟩ => show win0_4.index t 0 * 512 + 1 * (y 0).val = 512 * t.val + (y 0).val; rw [hi.1]; omega
    | ⟨1, _⟩ => show win0_4.index t 1 * 1024 + 1 * (y 1).val = (y 1).val; rw [hi.2]; omega
  refine ((congrArg (out0_4 (F := Ideal) (iblk m c 0 t) (iblk m c 1 t) (iblk m c 2 t) (iblk m c 3 t)) ey).trans (pay _ _ _ _ (y 0) (y 1))).trans ?_
  refine Eq.trans ?_ (congrArg (dnAll _ _ _ _) hemb.symm)
  refine Finset.sum_congr rfl fun j _ => congrArg₂ (· + ·) (Finset.sum_congr rfl fun x _ => congrArg₂ (· * ·) ?_ ?_) (Finset.sum_congr rfl fun x _ => congrArg₂ (· * ·) ?_ ?_)
  · exact blk0 m c t j (y 0) x
  · exact blk2 m c t j (y 1) x
  · exact blk1 m c t j (y 0) x
  · exact blk3 m c t j (y 1) x

/-- A sum over the columns, shard by shard. -/
theorem sum_shards (f : Fin 2816 → EReal) : ∑ k : Fin 2816, f k = ∑ j : Fin 4, ∑ x : Fin 704, f (fx j x) :=
  ((Equiv.sum_comp (finProdFinEquiv (m := 4) (n := 704)) f).symm.trans (Fintype.sum_prod_type _)).trans
    (Finset.sum_congr rfl fun j _ => Finset.sum_congr rfl fun x _ => congrArg f (Fin.ext (Nat.add_comm _ _)))

theorem two_sums (f g : Fin 2816 → EReal) (a b : Fin 4 → Fin 704 → EReal) (ha : ∀ j x, a j x = f (fx j x)) (hb : ∀ j x, b j x = g (fx j x)) :
    ∑ j : Fin 4, ((∑ x : Fin 704, a j x) + ∑ x : Fin 704, b j x) = (∑ k : Fin 2816, f k) + ∑ k : Fin 2816, g k := by
  rw [sum_shards, sum_shards, Finset.sum_add_distrib]
  simp only [ha, hb]

/-- The result in terms of the arguments. -/
def dnOf (a0 a1 : Vec Ideal S16400x2816 .f32) (a2 a3 : Vec Ideal S1024x2816 .f32) : Vec Ideal S16400x1024 .f32 :=
  fun i => (∑ k : Fin 2816, (a0 (ix2 (i 0) k) : EReal) * a2 (ix2 (i 1) k)) + ∑ k : Fin 2816, (a1 (ix2 (i 0) k) : EReal) * a3 (ix2 (i 1) k)

theorem dn_of {h0 h1 : Vec Ideal S4x16896x704 .bf16} {h2 h3 : Vec Ideal S4x1024x704 .bf16} {a0 a1 : Vec Ideal S16400x2816 .f32} {a2 a3 : Vec Ideal S1024x2816 .f32}
    (e0 : ∀ j s x, h0 (ix3 j (px s) x) = a0 (ix2 s (fx j x))) (e1 : ∀ j s x, h1 (ix3 j (px s) x) = a1 (ix2 s (fx j x)))
    (e2 : ∀ j d x, h2 (ix3 j d x) = a2 (ix2 d (fx j x))) (e3 : ∀ j d x, h3 (ix3 j d x) = a3 (ix2 d (fx j x))) (s : Fin 16400) (d : Fin 1024) :
    dnAll h0 h1 h2 h3 (ix2 (px s) d) = dnOf a0 a1 a2 a3 (ix2 s d) :=
  two_sums (fun k => (a0 (ix2 s k) : EReal) * a2 (ix2 d k)) (fun k => (a1 (ix2 s k) : EReal) * a3 (ix2 d k))
    (fun j x => (h0 (ix3 j (px s) x) : EReal) * h2 (ix3 j d x)) (fun j x => (h1 (ix3 j (px s) x) : EReal) * h3 (ix3 j d x))
    (fun j x => congrArg₂ (fun u v : EReal => u * v) (e0 j s x) (e2 j d x))
    (fun j x => congrArg₂ (fun u v : EReal => u * v) (e1 j s x) (e3 j d x))

theorem out_at (s : Fin 16400) (d : Fin 1024) : (Pipeline.afterTail₀ cfgs (dats m) 0 (V0 m) [hostOps1] c main_v15 : Vec Ideal S16400x1024 .f32) (ix2 s d)
    = dnAll (V m c main_v3) (V m c main_v7) (V m c main_v10) (V m c main_v13) (ix2 (px s) d) := by
  have ea := congrFun ((Pipeline.withArrays_arr spec0 (by decide) c (V0 m c) (fun w => (dats m 0 c).arrAt w cfg0.N) 4).trans (arr4 m c)) (ix2 (px s) d)
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v15) : Vec Ideal S16400x1024 .f32) (ix2 s d) = (U (Proc.devRef .tc main_v14) : Vec Ideal S16896x1024 .f32) (ix2 (px s) d)
  after_reads_at
  rfl

theorem out_eq : (Pipeline.afterTail₀ cfgs (dats m) 0 (V0 m) [hostOps1] c main_v15 : Vec Ideal S16400x1024 .f32)
    = dnOf (m (c, Proc.tc.devRef main_arg0)) (m (c, Proc.tc.devRef main_arg1)) (m (c, Proc.tc.devRef main_arg2)) (m (c, Proc.tc.devRef main_arg3)) := by
  funext i
  obtain ⟨s, d, rfl⟩ : ∃ s d, i = ix2 s d := ⟨i 0, i 1, (ix2_eta (n0 := 16400) (n1 := 1024) i).symm⟩
  exact (out_at m c s d).trans (dn_of (dg_host m c) (du_host m c) (wg_host m c) (wu_host m c) s d)

end Cert.Kernel2Ideal.Dn

namespace Cert.Proof

open Idealize.ShloMosaic Idealize.ShloMosaic.TcCoe Ix

theorem kernel2_end (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = Cert.Kernel2Ideal.Dn.dnOf (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3))
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)) :=
  (θ_run Cert.Kernel2Ideal.defs _ _).mono (fun _ h c => ⟨
      ((h c).2 Cert.Kernel2Ideal.main_v15 (Pipeline.mem_restRefs_of Cert.Kernel2Ideal.main_v15 (by decide) (by decide))).trans (Cert.Kernel2Ideal.Dn.out_eq m c),
      ((h c).2 Cert.Kernel2Ideal.main_arg0 (Pipeline.mem_restRefs_of Cert.Kernel2Ideal.main_arg0 (by decide) (by decide))).trans (Cert.Kernel2Ideal.Gen.W_main_arg0 m (Cert.Kernel2Ideal.Gen.dats m) c),
      ((h c).2 Cert.Kernel2Ideal.main_arg1 (Pipeline.mem_restRefs_of Cert.Kernel2Ideal.main_arg1 (by decide) (by decide))).trans (Cert.Kernel2Ideal.Gen.W_main_arg1 m (Cert.Kernel2Ideal.Gen.dats m) c),
      ((h c).2 Cert.Kernel2Ideal.main_arg2 (Pipeline.mem_restRefs_of Cert.Kernel2Ideal.main_arg2 (by decide) (by decide))).trans (Cert.Kernel2Ideal.Gen.W_main_arg2 m (Cert.Kernel2Ideal.Gen.dats m) c),
      ((h c).2 Cert.Kernel2Ideal.main_arg3 (Pipeline.mem_restRefs_of Cert.Kernel2Ideal.main_arg3 (by decide) (by decide))).trans (Cert.Kernel2Ideal.Gen.W_main_arg3 m (Cert.Kernel2Ideal.Gen.dats m) c)⟩)
    (Cert.Kernel2Ideal.Gen.run_main m g)

theorem ref2_eq (x0 x1 : Vec Ideal Cert.Reference2Ideal.S16400x2816 .f32) (x2 x3 : Vec Ideal Cert.Reference2Ideal.S1024x2816 .f32) :
    Cert.Reference2Ideal.Read.val_main_v5 (F := Ideal) x0 x1 x2 x3 = Cert.Kernel2Ideal.Dn.dnOf x0 x1 x2 x3 := by
  funext i
  obtain ⟨s, d, rfl⟩ : ∃ s d, i = ix2 s d := ⟨i 0, i 1, (ix2_eta (n0 := 16400) (n1 := 1024) i).symm⟩
  refine (congrArg₂ (fun u v : EReal => u + v) ((Cert.Reference2Ideal.Read.val_main_v3_apply x1 x3 (ix2 s d)).trans ?_) ((Cert.Reference2Ideal.Read.val_main_v4_apply x0 x2 (ix2 s d)).trans ?_)).trans
    (add_comm (∑ k : Fin 2816, (x1 (ix2 s k) : EReal) * x3 (ix2 d k)) (∑ k : Fin 2816, (x0 (ix2 s k) : EReal) * x2 (ix2 d k)))
  · exact Finset.sum_congr rfl fun k _ => congrArg₂ (fun u v : EReal => u * v) (congrArg x1 (funext fun a => by fin_cases a <;> rfl)) (congrArg x3 (funext fun a => by fin_cases a <;> rfl))
  · exact Finset.sum_congr rfl fun k _ => congrArg₂ (fun u v : EReal => u * v) (congrArg x0 (funext fun a => by fin_cases a <;> rfl)) (congrArg x2 (funext fun a => by fin_cases a <;> rfl))

/-- The kernel's gradient of the feed-forward's input is the reference's. -/
theorem value2 : Cert.algebraic_Kernel2Ideal_Reference2Ideal := by
  intro m g m' g' hpre hargs
  refine ⟨_, kernel2_end m g, (θ_run Cert.Reference2Ideal.defs _ _).mono (fun r h c => ?_) (Cert.Reference2Ideal.Value.run (F := Ideal) m' g')⟩
  obtain ⟨a0, a1, a2, a3⟩ := hargs c
  obtain ⟨h0, hk⟩ := h c
  refine ⟨h0.trans ((Cert.Reference2Ideal.Read.val_main_v5_eq _ _ _ _).trans ((ref2_eq _ _ _ _).trans ?_)), hk⟩
  rw [a0, a1, a2, a3]

end Cert.Proof
-- ==== Proof.Member.lean ====
/-
  Stacks of matrices stored and read one member at a time.
-/
module

public import proofs.«01_k».proof.Proof.Ix
public import Idealize.ShloMosaic.Lib.Pipeline.ValueKit

@[expose] public section

namespace Ix

open Idealize.ShloMosaic

section
variable {e : EltTy} {Val : EltTy → Type} {n0 n1 n2 : ℕ}

/-- An index of a member is the member's place behind its own index. -/
theorem emb_member (g : ℕ) (inb : ∀ a, (![g, 0, 0] : Fin 3 → ℕ) a + (![1, n1, n2] : Fin 3 → ℕ) a ≤ (⟨3, ![n0, n1, n2]⟩ : Shape).size a)
    (j : Fin n0) (h : j.val = g) (y : Fin n1) (z : Fin n2) :
    (Rect.unit (s := ⟨3, ![n0, n1, n2]⟩) ![g, 0, 0] ![1, n1, n2] inb).emb (ix3 (n0 := 1) 0 y z) = ix3 j y z := by
  funext a
  apply Fin.ext
  match a with
  | ⟨0, _⟩ => exact h.symm
  | ⟨1, _⟩ => exact (Nat.zero_add _).trans (Nat.one_mul _)
  | ⟨2, _⟩ => exact (Nat.zero_add _).trans (Nat.one_mul _)

/-- What stores left, read at an index, the last store being of member `g`. -/
theorem canon_member [∀ e, Nonempty (Val e)] (g : ℕ) (inb : ∀ a, (![g, 0, 0] : Fin 3 → ℕ) a + (![1, n1, n2] : Fin 3 → ℕ) a ≤ (⟨3, ![n0, n1, n2]⟩ : Shape).size a)
    (w : (⟨3, ![1, n1, n2]⟩ : Shape).Idx → Val e) (L : List (View.Piece Val (⟨3, ![n0, n1, n2]⟩ : Shape) e)) (j : Fin n0) (y : Fin n1) (z : Fin n2) :
    View.canon ((⟨Rect.unit (s := ⟨3, ![n0, n1, n2]⟩) ![g, 0, 0] ![1, n1, n2] inb, w⟩ : View.Piece Val (⟨3, ![n0, n1, n2]⟩ : Shape) e) :: L) (ix3 j y z)
      = if j.val = g then w (ix3 0 y z) else View.canon L (ix3 j y z) := by
  by_cases h : j.val = g
  · rw [if_pos h]
    exact (congrArg _ (emb_member g inb j h y z).symm).trans
      (View.canon_cons_emb (Rect.unit (s := ⟨3, ![n0, n1, n2]⟩) ![g, 0, 0] ![1, n1, n2] inb) w L (ix3 (n0 := 1) 0 y z))
  · rw [if_neg h]
    refine View.canon_cons_of_not_mem _ _ fun hm => h ?_
    have h0 := (Rect.mem_set_unit (inb := inb).mp hm) (0 : Fin 3)
    have h1 : g ≤ j.val := h0.1
    have h2 : j.val < g + 1 := h0.2
    omega

/-- A load of member `g` read at an index. -/
theorem ld_member (g : ℕ) (hg : g < n0) (inb : ∀ a, (![g, 0, 0] : Fin 3 → ℕ) a + (![1, n1, n2] : Fin 3 → ℕ) a ≤ (⟨3, ![n0, n1, n2]⟩ : Shape).size a)
    (X : (⟨3, ![n0, n1, n2]⟩ : Shape).Idx → Val e) (y : Fin n1) (z : Fin n2) :
    View.ld X (Rect.unit (s := ⟨3, ![n0, n1, n2]⟩) ![g, 0, 0] ![1, n1, n2] inb) (ix3 (n0 := 1) 0 y z) = X (ix3 ⟨g, hg⟩ y z) :=
  congrArg X (emb_member g inb ⟨g, hg⟩ rfl y z)

/-- A load of member `g` of what stores left. -/
theorem readCov_member [∀ e, Nonempty (Val e)] {sig : RefSig} {κ : Kind} {sp : Space} (v : View sig κ sp (⟨3, ![n0, n1, n2]⟩ : Shape) e) (g : ℕ) (hg : g < n0)
    (inb : ∀ a, (![g, 0, 0] : Fin 3 → ℕ) a + (![1, n1, n2] : Fin 3 → ℕ) a ≤ (⟨3, ![n0, n1, n2]⟩ : Shape).size a)
    (L : List (View.Piece Val (⟨3, ![n0, n1, n2]⟩ : Shape) e)) (y : Fin n1) (z : Fin n2) :
    v.readCov L (Rect.unit (s := ⟨3, ![n0, n1, n2]⟩) ![g, 0, 0] ![1, n1, n2] inb).toLoadRect (ix3 (n0 := 1) 0 y z) = View.canon L (ix3 ⟨g, hg⟩ y z) :=
  (congrFun (View.readCov_eq_canon' v L _) _).trans (congrArg (View.canon L) (emb_member g inb ⟨g, hg⟩ rfl y z))

end

/-- A multiple of an extended sum is the sum of the multiples. -/
theorem sum_mul_real {n : ℕ} (r : ℝ) (hr : 0 ≤ r) (f : Fin n → EReal) : (∑ i, f i) * (r : EReal) = ∑ i, f i * (r : EReal) := by
  have key : ∀ s : Finset (Fin n), (∑ i ∈ s, f i) * (r : EReal) = ∑ i ∈ s, f i * (r : EReal) := by
    intro s
    induction s using Finset.induction_on with
    | empty => rw [Finset.sum_empty, Finset.sum_empty, zero_mul]
    | insert a s h ih =>
      rw [Finset.sum_insert h, Finset.sum_insert h, ← ih]
      exact EReal.right_distrib_of_nonneg_of_ne_top (EReal.coe_nonneg.mpr hr) (EReal.coe_ne_top r) _ _
  exact key Finset.univ

/-- A sum over padded rows, the padding adding nothing. -/
theorem sum_padded (f : Fin 16896 → EReal) (g : Fin 16400 → EReal) (h0 : ∀ s : Fin 16896, s.val < 496 → f s = 0)
    (h1 : ∀ s : Fin 16400, f ⟨496 + s.val, by have := s.isLt; omega⟩ = g s) : ∑ s, f s = ∑ s, g s := by
  have e := Fin.sum_univ_add (a := 496) (b := 16400) f
  refine e.trans ?_
  rw [Finset.sum_eq_zero fun i _ => h0 _ (by exact i.isLt), zero_add]
  exact Finset.sum_congr rfl fun s _ => h1 s

/-- A sum over rows, block by block. -/
theorem sum_blocks (f : Fin 16896 → EReal) : ∑ s, f s = ∑ t : Fin 33, ∑ y : Fin 512, f ⟨512 * t.val + y.val, by have := t.isLt; have := y.isLt; omega⟩ :=
  ((Equiv.sum_comp (finProdFinEquiv (m := 33) (n := 512)) f).symm.trans (Fintype.sum_prod_type _)).trans
    (Finset.sum_congr rfl fun j _ => Finset.sum_congr rfl fun x _ => congrArg f (Fin.ext (Nat.add_comm _ _)))

/-- What an accumulator holds after point `n`, counted up to point `M`. -/
theorem sum_steps {N M : ℕ} (f : (n : ℕ) → n < N → EReal) (T : Fin N → EReal) (h0 : ∀ h : 0 < N, f 0 h = 0 + T ⟨0, h⟩)
    (hs : ∀ n (h : n + 1 < N), n + 1 < M → f (n + 1) h = f n (Nat.lt_of_succ_lt h) + T ⟨n + 1, h⟩) (n : ℕ) (h : n < N) (hM : n < M) :
    f n h = ∑ k : Fin (n + 1), T ⟨k.val, by have := k.isLt; omega⟩ := by
  induction n with
  | zero => rw [h0 h, zero_add]; exact (Fin.sum_univ_one (fun k : Fin 1 => T ⟨k.val, by have := k.isLt; omega⟩)).symm
  | succ n ih =>
    rw [hs n h hM, ih (Nat.lt_of_succ_lt h) (Nat.lt_of_succ_lt hM)]
    exact (Fin.sum_univ_castSucc (fun k : Fin (n + 1 + 1) => T ⟨k.val, by have := k.isLt; omega⟩)).symm

/-- An accumulator over all 33 blocks of rows holds the sum over the rows. -/
theorem steps_rows {N : ℕ} (hN : N = 33) (f : (n : ℕ) → n < N → EReal) (T : Fin N → EReal) (g : Fin 16896 → EReal)
    (hT : ∀ t : Fin N, T t = ∑ y : Fin 512, g ⟨512 * t.val + y.val, by have := t.isLt; have := y.isLt; omega⟩)
    (h0 : ∀ h : 0 < N, f 0 h = 0 + T ⟨0, h⟩) (hs : ∀ n (h : n + 1 < N), f (n + 1) h = f n (Nat.lt_of_succ_lt h) + T ⟨n + 1, h⟩) (h : 32 < N) :
    f 32 h = ∑ s, g s := by
  subst hN
  rw [sum_steps (M := 33) f T h0 (fun n h _ => hs n h) 32 h h, sum_blocks]
  exact Finset.sum_congr rfl fun t _ => hT t

/-- The same where the last point scales what it has. -/
theorem steps_rows_scaled {N : ℕ} (hN : N = 33) (r : ℝ) (hr : 0 ≤ r) (f : (n : ℕ) → n < N → EReal) (T : Fin N → EReal) (g : Fin 16896 → EReal)
    (hT : ∀ t : Fin N, T t = ∑ y : Fin 512, g ⟨512 * t.val + y.val, by have := t.isLt; have := y.isLt; omega⟩)
    (h0 : ∀ h : 0 < N, f 0 h = 0 + T ⟨0, h⟩) (hs : ∀ n (h : n + 1 < N), n + 1 < 32 → f (n + 1) h = f n (Nat.lt_of_succ_lt h) + T ⟨n + 1, h⟩)
    (h : 32 < N) (hl : f 32 h = (f 31 (Nat.lt_of_succ_lt h) + T ⟨32, h⟩) * (r : EReal)) :
    f 32 h = ∑ s, g s * (r : EReal) := by
  subst hN
  rw [hl, sum_steps (M := 32) f T h0 hs 31 (Nat.lt_of_succ_lt h) (by decide), ← sum_mul_real r hr, sum_blocks]
  refine congrArg (fun u : EReal => u * (r : EReal)) ?_
  refine Eq.trans ?_ (Finset.sum_congr rfl fun t _ => hT t)
  exact (Fin.sum_univ_castSucc (fun k : Fin 33 => T k)).symm

end Ix
-- ==== Proof.DwValue.lean ====
/-
  The gradients of the feed-forward's two input weights: the kernel adds blocks of rows into four shards; that is the reference's product.
-/
module

public import proofs.«01_k».proof.Defs
public import proofs.«01_k».proof.Proof.Gen.Kernel3Ideal.Frame
public import proofs.«01_k».proof.Proof.Gen.Reference3Ideal.Run
public import proofs.«01_k».proof.Proof.Gen.Reference3Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel3Ideal.Dw

open Idealize.ShloMosaic Idealize.ShloMosaic.TcCoe
open Cert.Kernel3Ideal Cert.Kernel3Ideal.Gen Ix

/-- Column `x` of shard `j`. -/
def fx (j : Fin 4) (x : Fin 704) : Fin 2816 := ⟨704 * j.val + x.val, by have := j.isLt; have := x.isLt; omega⟩
/-- Row `s` of the sequence behind the padding. -/
def px (s : Fin 16400) : Fin 16896 := ⟨496 + s.val, by have := s.isLt; omega⟩

theorem pay5_at (v : Vec Ideal S512x1024 .bf16) (u : Vec Ideal S1x1024x704 .f32) (w : Vec Ideal S1x512x704 .bf16) (d : Fin 1024) (x : Fin 704) :
    @Eq EReal (k0_pay5 (F := Ideal) v u w (ix3 0 d x)) ((u (ix3 0 d x) : EReal) + ∑ y : Fin 512, (v (ix2 y d) : EReal) * w (ix3 0 y x)) := by
  unfold k0_pay5 k0_pay4
  pointwise
theorem pay6_at (v : Vec Ideal S512x1024 .bf16) (u : Vec Ideal S1x1024x704 .f32) (w : Vec Ideal S1x512x704 .bf16) (d : Fin 1024) (x : Fin 704) :
    @Eq EReal (k0_pay6 (F := Ideal) v u w (ix3 0 d x)) ((u (ix3 0 d x) : EReal) + ∑ y : Fin 512, (v (ix2 y d) : EReal) * w (ix3 0 y x)) := by
  unfold k0_pay6 k0_pay4
  pointwise
theorem pay1_at (v : Vec Ideal S512x1024 .bf16) (u : Vec Ideal S1x1024x704 .f32) (w : Vec Ideal S1x512x704 .bf16) (d : Fin 1024) (x : Fin 704) :
    @Eq EReal (k0_pay1 (F := Ideal) (k0_pay4 v) (k0_pay7 u) w (ix3 0 d x)) ((u (ix3 0 d x) : EReal) + ∑ y : Fin 512, (v (ix2 y d) : EReal) * w (ix3 0 y x)) := by
  unfold k0_pay1 k0_pay4 k0_pay7
  pointwise
theorem pay2_at (v : Vec Ideal S512x1024 .bf16) (u : Vec Ideal S1x1024x704 .f32) (w : Vec Ideal S1x512x704 .bf16) (d : Fin 1024) (x : Fin 704) :
    @Eq EReal (k0_pay2 (F := Ideal) (k0_pay4 v) u w (ix3 0 d x)) ((u (ix3 0 d x) : EReal) + ∑ y : Fin 512, (v (ix2 y d) : EReal) * w (ix3 0 y x)) := by
  unfold k0_pay2 k0_pay4
  pointwise
theorem pay3_at (i : S4x1024x704.Idx) : @Eq EReal (k0_pay3 (F := Ideal) i) 0 := by
  unfold k0_pay3
  pointwise

variable (m : (ℓ : Loc nD τ sig) → Buf (Elt Ideal) ℓ) (c : Dev nD)

/-- What one block of rows adds. -/
def cell (v : Vec Ideal S512x1024 .bf16) (w : Vec Ideal S4x512x704 .bf16) (j : Fin 4) (d : Fin 1024) (x : Fin 704) : EReal :=
  ∑ y : Fin 512, (v (ix2 y d) : EReal) * w (ix3 j y x)

/-- What one point adds. -/
def term (t : Fin cfg0.N) (j : Fin 4) (d : Fin 1024) (x : Fin 704) : EReal :=
  cell (iblk m c 0 t) (iblk m c 1 t) j d x

theorem cases4 {P : Fin 4 → Prop} (h0 : P 0) (h1 : P 1) (h2 : P 2) (h3 : P 3) (j : Fin 4) : P j := by
  match j with
  | ⟨0, _⟩ => exact h0
  | ⟨1, _⟩ => exact h1
  | ⟨2, _⟩ => exact h2
  | ⟨3, _⟩ => exact h3

theorem piece5 (v : Vec Ideal S512x1024 .bf16) (u : Vec Ideal S1x1024x704 .f32) (w : Vec Ideal S4x512x704 .bf16) (d : Fin 1024) (x : Fin 704) (U : EReal) (hU : u (ix3 0 d x) = U) :
    @Eq EReal (k0_pay5 (F := Ideal) v u (View.ld w (Rect.unit (s := S4x512x704) ![0, 0, 0] ![1, 512, 704] inb_S4x512x704_S1x512x704_0_0_0)) (ix3 0 d x)) (U + ∑ y : Fin 512, (v (ix2 y d) : EReal) * w (ix3 0 y x)) :=
  (pay5_at _ _ _ d x).trans (congrArg₂ (fun a b : EReal => a + b) hU (Finset.sum_congr rfl fun y _ => congrArg (fun b : EReal => v (ix2 y d) * b) (ld_member 0 (by decide) _ w y x)))
theorem piece6 (v : Vec Ideal S512x1024 .bf16) (u : Vec Ideal S1x1024x704 .f32) (w : Vec Ideal S4x512x704 .bf16) (d : Fin 1024) (x : Fin 704) (U : EReal) (hU : u (ix3 0 d x) = U) :
    @Eq EReal (k0_pay6 (F := Ideal) v u (View.ld w (Rect.unit (s := S4x512x704) ![1, 0, 0] ![1, 512, 704] inb_S4x512x704_S1x512x704_1_0_0)) (ix3 0 d x)) (U + ∑ y : Fin 512, (v (ix2 y d) : EReal) * w (ix3 1 y x)) :=
  (pay6_at _ _ _ d x).trans (congrArg₂ (fun a b : EReal => a + b) hU (Finset.sum_congr rfl fun y _ => congrArg (fun b : EReal => v (ix2 y d) * b) (ld_member 1 (by decide) _ w y x)))
theorem piece1 (v : Vec Ideal S512x1024 .bf16) (u : Vec Ideal S1x1024x704 .f32) (w : Vec Ideal S4x512x704 .bf16) (d : Fin 1024) (x : Fin 704) (U : EReal) (hU : u (ix3 0 d x) = U) :
    @Eq EReal (k0_pay1 (F := Ideal) (k0_pay4 v) (k0_pay7 u) (View.ld w (Rect.unit (s := S4x512x704) ![2, 0, 0] ![1, 512, 704] inb_S4x512x704_S1x512x704_2_0_0)) (ix3 0 d x)) (U + ∑ y : Fin 512, (v (ix2 y d) : EReal) * w (ix3 2 y x)) :=
  (pay1_at _ _ _ d x).trans (congrArg₂ (fun a b : EReal => a + b) hU (Finset.sum_congr rfl fun y _ => congrArg (fun b : EReal => v (ix2 y d) * b) (ld_member 2 (by decide) _ w y x)))
theorem piece2 (v : Vec Ideal S512x1024 .bf16) (u : Vec Ideal S1x1024x704 .f32) (w : Vec Ideal S4x512x704 .bf16) (d : Fin 1024) (x : Fin 704) (U : EReal) (hU : u (ix3 0 d x) = U) :
    @Eq EReal (k0_pay2 (F := Ideal) (k0_pay4 v) u (View.ld w (Rect.unit (s := S4x512x704) ![3, 0, 0] ![1, 512, 704] inb_S4x512x704_S1x512x704_3_0_0)) (ix3 0 d x)) (U + ∑ y : Fin 512, (v (ix2 y d) : EReal) * w (ix3 3 y x)) :=
  (pay2_at _ _ _ d x).trans (congrArg₂ (fun a b : EReal => a + b) hU (Finset.sum_congr rfl fun y _ => congrArg (fun b : EReal => v (ix2 y d) * b) (ld_member 3 (by decide) _ w y x)))

theorem tB (t : Fin cfg0.N) (h0 : ¬t.val % 33 = 0) (j : Fin 4) (d : Fin 1024) (x : Fin 704) :
    @Eq EReal (outsAt0 m c t.val t.isLt (ix3 j d x)) (outsAt0 m c (t.val - 1) (Nat.lt_of_le_of_lt (Nat.sub_le _ _) t.isLt) (ix3 j d x) + term m c t j d x) := by
  rw [outsAt0_B m c t h0]
  frame_out
  revert j
  refine cases4 ?_ ?_ ?_ ?_
  · rw [canon_member, if_neg (by decide), canon_member, if_neg (by decide), canon_member, if_neg (by decide), canon_member, if_pos (by decide)]
    exact piece5 _ _ _ d x _ (ld_member 0 (by decide) _ _ d x)
  · rw [canon_member, if_neg (by decide), canon_member, if_neg (by decide), canon_member, if_pos (by decide)]
    exact piece6 _ _ _ d x _ (ld_member 1 (by decide) _ _ d x)
  · rw [canon_member, if_neg (by decide), canon_member, if_pos (by decide)]
    exact piece1 _ _ _ d x _ (ld_member 2 (by decide) _ _ d x)
  · rw [canon_member, if_pos (by decide)]
    exact piece2 _ _ _ d x _ (ld_member 3 (by decide) _ _ d x)

/-- Before the first store of a shard it holds zeros. -/
theorem filled (i : S4x1024x704.Idx) :
    @Eq EReal (View.canon [(⟨Rect.unit (s := S4x1024x704) ![0, 0, 0] ![4, 1024, 704] inb_S4x1024x704_S4x1024x704_0_0_0, k0_pay3 (F := Ideal)⟩ : View.Piece (Elt Ideal) S4x1024x704 .f32)] i) 0 := by
  frame_out
  exact pay3_at i

theorem tA (t : Fin cfg0.N) (h0 : t.val % 33 = 0) (j : Fin 4) (d : Fin 1024) (x : Fin 704) :
    @Eq EReal (outsAt0 m c t.val t.isLt (ix3 j d x)) (0 + term m c t j d x) := by
  rw [outsAt0_A m c t h0]
  frame_out
  revert j
  refine cases4 ?_ ?_ ?_ ?_
  · rw [canon_member, if_neg (by decide), canon_member, if_neg (by decide), canon_member, if_neg (by decide), canon_member, if_pos (by decide)]
    refine piece5 _ _ _ d x _ ((readCov_member _ 0 (by decide) _ _ d x).trans ?_)
    exact filled _
  · rw [canon_member, if_neg (by decide), canon_member, if_neg (by decide), canon_member, if_pos (by decide)]
    refine piece6 _ _ _ d x _ ((readCov_member _ 1 (by decide) _ _ d x).trans ?_)
    rw [canon_member, if_neg (by decide)]
    exact filled _
  · rw [canon_member, if_neg (by decide), canon_member, if_pos (by decide)]
    refine piece1 _ _ _ d x _ ((readCov_member _ 2 (by decide) _ _ d x).trans ?_)
    rw [canon_member, if_neg (by decide), canon_member, if_neg (by decide)]
    exact filled _
  · rw [canon_member, if_pos (by decide)]
    refine piece2 _ _ _ d x _ ((readCov_member _ 3 (by decide) _ _ d x).trans ?_)
    rw [canon_member, if_neg (by decide), canon_member, if_neg (by decide), canon_member, if_neg (by decide)]
    exact filled _

theorem row_host (s : Fin 16400) (d : Fin 1024) :
    (V m c main_v1 : Vec Ideal S16896x1024 .bf16) (ix2 (px s) d) = (m (c, Proc.tc.devRef main_arg0) : Vec Ideal S16400x1024 .f32) (ix2 s d) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q d) (Fin.ext e0))

theorem row_zero (s : Fin 16896) (h : s.val < 496) (d : Fin 1024) :
    @Eq EReal ((V m c main_v1 : Vec Ideal S16896x1024 .bf16) (ix2 s d)) 0 := by
  unfold V
  after_reads_at
  rw [dif_neg fun e => absurd e.1 (Nat.not_le.mpr h)]

theorem mat_host (j : Fin 4) (s : Fin 16400) (x : Fin 704) :
    (V m c main_v5 : Vec Ideal S4x16896x704 .bf16) (ix3 j (px s) x) = (m (c, Proc.tc.devRef main_arg1) : Vec Ideal S16400x2816 .f32) (ix2 s (fx j x)) := by
  have e0 : (px s).val - 496 = s.val := Nat.add_sub_cancel_left _ _
  unfold V
  after_reads_at
  rw [dif_pos ⟨⟨Nat.le_add_right _ _, by rw [e0]; exact s.isLt⟩, by have := j.isLt; have := x.isLt; omega⟩]
  exact congrArg _ (congrArg₂ ix2 (Fin.ext e0) (Fin.ext (by show j.val * 704 + x.val = 704 * j.val + x.val; omega)))

theorem index0 : ∀ t : Fin cfg0.N, win0_0.index t 0 = t.val ∧ win0_0.index t 1 = 0 := by decide +kernel
theorem index1 : ∀ t : Fin cfg0.N, win0_1.index t 0 = 0 ∧ win0_1.index t 1 = t.val ∧ win0_1.index t 2 = 0 := by decide +kernel
theorem index2 : ∀ t : Fin cfg0.N, win0_2.index t 0 = 0 ∧ win0_2.index t 1 = 0 ∧ win0_2.index t 2 = 0 := by decide +kernel

/-- Row `y` of block `t`. -/
def rx (t : Fin cfg0.N) (y : Fin 512) : Fin 16896 := ⟨512 * t.val + y.val, by have := t.isLt; have e : cfg0.N = 33 := N_0; have := y.isLt; omega⟩

theorem blk0 (t : Fin cfg0.N) (y : Fin 512) (d : Fin 1024) :
    (iblk m c 0 t : Vec Ideal S512x1024 .bf16) (ix2 y d) = (V m c main_v1 : Vec Ideal S16896x1024 .bf16) (ix2 (rx t y) d) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * t.val + y.val; rw [hi.1]; omega
  | ⟨1, _⟩ => show win0_0.index t 1 * 1024 + 1 * d.val = d.val; rw [hi.2]; omega

theorem blk1 (t : Fin cfg0.N) (j : Fin 4) (y : Fin 512) (x : Fin 704) :
    (iblk m c 1 t : Vec Ideal S4x512x704 .bf16) (ix3 j y x) = (V m c main_v5 : Vec Ideal S4x16896x704 .bf16) (ix3 j (rx t y) x) := by
  have hi := index1 t
  unfold iblk
  rw [View.read_apply]
  show V m c main_v5 _ = V m c main_v5 _
  congr 1
  funext a
  apply Fin.ext
  match a with
  | ⟨0, _⟩ => show win0_1.index t 0 * 4 + 1 * j.val = j.val; rw [hi.1]; omega
  | ⟨1, _⟩ => show win0_1.index t 1 * 512 + 1 * y.val = 512 * t.val + y.val; rw [hi.2.1]; omega
  | ⟨2, _⟩ => show win0_1.index t 2 * 704 + 1 * x.val = x.val; rw [hi.2.2]; omega

/-- One row's share of one element. -/
def rowPart (h0 : Vec Ideal S16896x1024 .bf16) (h1 : Vec Ideal S4x16896x704 .bf16) (j : Fin 4) (d : Fin 1024) (x : Fin 704) (s : Fin 16896) : EReal :=
  (h0 (ix2 s d) : EReal) * h1 (ix3 j s x)

theorem cell_rows {v : Vec Ideal S512x1024 .bf16} {w : Vec Ideal S4x512x704 .bf16} {h0 : Vec Ideal S16896x1024 .bf16} {h1 : Vec Ideal S4x16896x704 .bf16} {t : Fin cfg0.N}
    (e0 : ∀ y d, v (ix2 y d) = h0 (ix2 (rx t y) d)) (e1 : ∀ j y x, w (ix3 j y x) = h1 (ix3 j (rx t y) x)) (j : Fin 4) (d : Fin 1024) (x : Fin 704) :
    cell v w j d x = ∑ y : Fin 512, rowPart h0 h1 j d x (rx t y) :=
  Finset.sum_congr rfl fun y _ => congrArg₂ (fun a b : EReal => a * b) (e0 y d) (e1 j y x)

/-- The result, shard by shard, of the two arrays the kernel takes. -/
def dwAll (h0 : Vec Ideal S16896x1024 .bf16) (h1 : Vec Ideal S4x16896x704 .bf16) : Vec Ideal S4x1024x704 .f32 :=
  fun i => ∑ s : Fin 16896, (h0 (ix2 s (i 1)) : EReal) * h1 (ix3 (i 0) s (i 2))

theorem last_at (h : 32 < cfg0.N) (j : Fin 4) (d : Fin 1024) (x : Fin 704) :
    @Eq EReal (outsAt0 m c 32 h (ix3 j d x)) (dwAll (V m c main_v1) (V m c main_v5) (ix3 j d x)) :=
  steps_rows N_0 (fun n h => outsAt0 m c n h (ix3 j d x)) (fun t => term m c t j d x) (rowPart (V m c main_v1) (V m c main_v5) j d x)
    (fun t => cell_rows (blk0 m c t) (blk1 m c t) j d x)
    (fun h => tA m c ⟨0, h⟩ rfl j d x)
    (fun n h => tB m c ⟨n + 1, h⟩ (by have e : n + 1 < 33 := h.trans_eq N_0; show ¬ (n + 1) % 33 = 0; omega) j d x) h

theorem arr2 : (dats m 0 c).arrAt 2 cfg0.N = dwAll (V m c main_v1) (V m c main_v5) := by
  refine (dats m 0 c).arrAt_eq_of_covers 2 _ (by decide +kernel) fun t hf y => ?_
  blk_simp
  rw [after0_2]
  have e : cfg0.N = 33 := N_0
  have ht : t.val = 32 := by have := (flush0_2 t).mp hf; have := t.isLt; omega
  have hi := index2 t
  have ey : (y : S4x1024x704.Idx) = ix3 (y 0) (y 1) (y 2) := (ix3_eta (n0 := 4) (n1 := 1024) (n2 := 704) y).symm
  have hemb : (win0_2.blk t).view.emb y = ix3 (y 0) (y 1) (y 2) := by
    funext a
    apply Fin.ext
    match a with
    | ⟨0, _⟩ => show win0_2.index t 0 * 4 + 1 * (y 0).val = (y 0).val; rw [hi.1]; omega
    | ⟨1, _⟩ => show win0_2.index t 1 * 1024 + 1 * (y 1).val = (y 1).val; rw [hi.2.1]; omega
    | ⟨2, _⟩ => show win0_2.index t 2 * 704 + 1 * (y 2).val = (y 2).val; rw [hi.2.2]; omega
  obtain ⟨tv, tl⟩ := t
  obtain rfl : tv = 32 := ht
  refine ((congrArg (outsAt0 m c 32 tl) ey).trans (last_at m c tl (y 0) (y 1) (y 2))).trans ?_
  exact congrArg (dwAll _ _) hemb.symm

/-- The result in terms of the arguments. -/
def dwOf (a0 : Vec Ideal S16400x1024 .f32) (a1 : Vec Ideal S16400x2816 .f32) : Vec Ideal S1024x2816 .f32 :=
  fun i => ∑ s : Fin 16400, (a0 (ix2 s (i 0)) : EReal) * a1 (ix2 s (i 1))

theorem dw_of {h0 : Vec Ideal S16896x1024 .bf16} {h1 : Vec Ideal S4x16896x704 .bf16} {a0 : Vec Ideal S16400x1024 .f32} {a1 : Vec Ideal S16400x2816 .f32}
    (e0 : ∀ s d, h0 (ix2 (px s) d) = a0 (ix2 s d)) (z0 : ∀ (s : Fin 16896), s.val < 496 → ∀ d, @Eq EReal (h0 (ix2 s d)) 0)
    (e1 : ∀ j s x, h1 (ix3 j (px s) x) = a1 (ix2 s (fx j x))) (j : Fin 4) (d : Fin 1024) (x : Fin 704) :
    dwAll h0 h1 (ix3 j d x) = dwOf a0 a1 (ix2 d (fx j x)) :=
  sum_padded (fun s => (h0 (ix2 s d) : EReal) * h1 (ix3 j s x)) (fun s => (a0 (ix2 s d) : EReal) * a1 (ix2 s (fx j x)))
    (fun s h => (congrArg (fun u : EReal => u * h1 (ix3 j s x)) (z0 s h d)).trans (zero_mul _))
    (fun s => congrArg₂ (fun u v : EReal => u * v) (e0 s d) (e1 j s x))

/-- The shard a column belongs to. -/
def sh (f : Fin 2816) : Fin 4 := ⟨f.val / 704, by have := f.isLt; omega⟩
/-- Its column there. -/
def lo (f : Fin 2816) : Fin 704 := ⟨f.val % 704, Nat.mod_lt _ (by decide)⟩
theorem fx_split (f : Fin 2816) : fx (sh f) (lo f) = f := Fin.ext (Nat.div_add_mod f.val 704)

theorem out_at (d : Fin 1024) (f : Fin 2816) : (Pipeline.afterTail₀ cfgs (dats m) 0 (V0 m) [hostOps1] c main_v8 : Vec Ideal S1024x2816 .f32) (ix2 d f)
    = dwAll (V m c main_v1) (V m c main_v5) (ix3 (sh f) d (lo f)) := by
  have ea := congrFun ((Pipeline.withArrays_arr spec0 (by decide) c (V0 m c) (fun w => (dats m 0 c).arrAt w cfg0.N) 2).trans (arr2 m c)) (ix3 (sh f) d (lo f))
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v8) : Vec Ideal S1024x2816 .f32) (ix2 d f) = (U (Proc.devRef .tc main_v6) : Vec Ideal S4x1024x704 .f32) (ix3 (sh f) d (lo f))
  after_reads_at
  rfl

theorem out_eq : (Pipeline.afterTail₀ cfgs (dats m) 0 (V0 m) [hostOps1] c main_v8 : Vec Ideal S1024x2816 .f32)
    = dwOf (m (c, Proc.tc.devRef main_arg0)) (m (c, Proc.tc.devRef main_arg1)) := by
  funext i
  obtain ⟨d, f, rfl⟩ : ∃ d f, i = ix2 d f := ⟨i 0, i 1, (ix2_eta (n0 := 1024) (n1 := 2816) i).symm⟩
  refine (out_at m c d f).trans ((dw_of (row_host m c) (row_zero m c) (mat_host m c) (sh f) d (lo f)).trans ?_)
  exact congrArg (fun q => dwOf _ _ (ix2 d q)) (fx_split f)

end Cert.Kernel3Ideal.Dw

namespace Cert.Proof

open Idealize.ShloMosaic Idealize.ShloMosaic.TcCoe Ix

theorem kernel3_end (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = Cert.Kernel3Ideal.Dw.dwOf (m (c, Proc.tc.devRef Cert.Kernel3Ideal.main_arg0)) (m (c, Proc.tc.devRef Cert.Kernel3Ideal.main_arg1))
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)) :=
  (θ_run Cert.Kernel3Ideal.defs _ _).mono (fun _ h c => ⟨
      ((h c).2 Cert.Kernel3Ideal.main_v8 (Pipeline.mem_restRefs_of Cert.Kernel3Ideal.main_v8 (by decide) (by decide))).trans (Cert.Kernel3Ideal.Dw.out_eq m c),
      ((h c).2 Cert.Kernel3Ideal.main_arg0 (Pipeline.mem_restRefs_of Cert.Kernel3Ideal.main_arg0 (by decide) (by decide))).trans (Cert.Kernel3Ideal.Gen.W_main_arg0 m (Cert.Kernel3Ideal.Gen.dats m) c),
      ((h c).2 Cert.Kernel3Ideal.main_arg1 (Pipeline.mem_restRefs_of Cert.Kernel3Ideal.main_arg1 (by decide) (by decide))).trans (Cert.Kernel3Ideal.Gen.W_main_arg1 m (Cert.Kernel3Ideal.Gen.dats m) c)⟩)
    (Cert.Kernel3Ideal.Gen.run_main m g)

theorem ref3_eq (x0 : Vec Ideal Cert.Reference3Ideal.S16400x1024 .f32) (x1 : Vec Ideal Cert.Reference3Ideal.S16400x2816 .f32) :
    Cert.Reference3Ideal.Read.val_main_v3 (F := Ideal) x0 x1 = Cert.Kernel3Ideal.Dw.dwOf x0 x1 := by
  funext i
  obtain ⟨d, f, rfl⟩ : ∃ d f, i = ix2 d f := ⟨i 0, i 1, (ix2_eta (n0 := 1024) (n1 := 2816) i).symm⟩
  refine (Cert.Reference3Ideal.Read.val_main_v3_apply x0 x1 (ix2 d f)).trans ((Cert.Reference3Ideal.Read.val_main_v2_apply x0 x1 _).trans ?_)
  refine Finset.sum_congr rfl fun k _ => ?_
  refine Eq.trans (congrArg₂ (fun u v : EReal => u * v) (congrArg x1 (a₂ := ix2 k f) (funext fun a => by fin_cases a <;> rfl)) (congrArg x0 (a₂ := ix2 k d) (funext fun a => by fin_cases a <;> rfl))) ?_
  exact mul_comm (x1 (ix2 k f) : EReal) (x0 (ix2 k d))

/-- The kernel's gradient of the feed-forward's input weights is the reference's. -/
theorem value3 : Cert.algebraic_Kernel3Ideal_Reference3Ideal := by
  intro m g m' g' hpre hargs
  refine ⟨_, kernel3_end m g, (θ_run Cert.Reference3Ideal.defs _ _).mono (fun r h c => ?_) (Cert.Reference3Ideal.Value.run (F := Ideal) m' g')⟩
  obtain ⟨a0, a1⟩ := hargs c
  obtain ⟨h0, hk⟩ := h c
  refine ⟨h0.trans ((Cert.Reference3Ideal.Read.val_main_v3_eq _ _).trans ((ref3_eq _ _).trans ?_)), hk⟩
  rw [a0, a1]

end Cert.Proof
-- ==== Proof.DdValue.lean ====
/-
  The gradient of the feed-forward's output weight: the kernel adds blocks of rows into four shards and halves the sum; that is the reference's product.
-/
module

public import proofs.«01_k».proof.Defs
public import proofs.«01_k».proof.Proof.Gen.Kernel4Ideal.Frame
public import proofs.«01_k».proof.Proof.Gen.Reference4Ideal.Run
public import proofs.«01_k».proof.Proof.Gen.Reference4Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel4Ideal.Dd

open Idealize.ShloMosaic Idealize.ShloMosaic.TcCoe
open Cert.Kernel4Ideal Cert.Kernel4Ideal.Gen Ix

/-- Column `x` of shard `j`. -/
def fx (j : Fin 4) (x : Fin 704) : Fin 2816 := ⟨704 * j.val + x.val, by have := j.isLt; have := x.isLt; omega⟩
/-- Row `s` of the sequence behind the padding. -/
def px (s : Fin 16400) : Fin 16896 := ⟨496 + s.val, by have := s.isLt; omega⟩

theorem pay6_at (v : Vec Ideal S512x1024 .f32) (u : Vec Ideal S1x704x1024 .f32) (w : Vec Ideal S1x512x704 .bf16) (x : Fin 704) (d : Fin 1024) :
    @Eq EReal (k0_pay6 (F := Ideal) v u w (ix3 0 x d)) ((u (ix3 0 x d) : EReal) + ∑ y : Fin 512, (w (ix3 0 y x) : EReal) * v (ix2 y d)) := by
  unfold k0_pay6 k0_pay5
  pointwise
theorem pay7_at (v : Vec Ideal S512x1024 .f32) (u : Vec Ideal S1x704x1024 .f32) (w : Vec Ideal S1x512x704 .bf16) (x : Fin 704) (d : Fin 1024) :
    @Eq EReal (k0_pay7 (F := Ideal) v u w (ix3 0 x d)) ((u (ix3 0 x d) : EReal) + ∑ y : Fin 512, (w (ix3 0 y x) : EReal) * v (ix2 y d)) := by
  unfold k0_pay7 k0_pay5
  pointwise
theorem pay1_at (v : Vec Ideal S512x1024 .f32) (u : Vec Ideal S1x704x1024 .f32) (w : Vec Ideal S1x512x704 .bf16) (x : Fin 704) (d : Fin 1024) :
    @Eq EReal (k0_pay1 (F := Ideal) (k0_pay5 v) (k0_pay8 u) w (ix3 0 x d)) ((u (ix3 0 x d) : EReal) + ∑ y : Fin 512, (w (ix3 0 y x) : EReal) * v (ix2 y d)) := by
  unfold k0_pay1 k0_pay5 k0_pay8
  pointwise
theorem pay2_at (v : Vec Ideal S512x1024 .f32) (u : Vec Ideal S1x704x1024 .f32) (w : Vec Ideal S1x512x704 .bf16) (x : Fin 704) (d : Fin 1024) :
    @Eq EReal (k0_pay2 (F := Ideal) (k0_pay5 v) u w (ix3 0 x d)) ((u (ix3 0 x d) : EReal) + ∑ y : Fin 512, (w (ix3 0 y x) : EReal) * v (ix2 y d)) := by
  unfold k0_pay2 k0_pay5
  pointwise
theorem pay4_at (i : S4x704x1024.Idx) : @Eq EReal (k0_pay4 (F := Ideal) i) 0 := by
  unfold k0_pay4
  pointwise
theorem pay3_at (u : Vec Ideal S4x704x1024 .f32) (i : S4x704x1024.Idx) : @Eq EReal (k0_pay3 (F := Ideal) u i) ((u i : EReal) * Ideal.ofBits .f32 0x3F000000#32) := by
  unfold k0_pay3
  pointwise

theorem half : @Eq EReal (Ideal.ofBits .f32 0x3F000000#32) ((1 / 2 : ℝ) : EReal) := by
  simp [Ideal.ofBits, Ideal.ieee, -EReal.coe_mul]
  norm_num

variable (m : (ℓ : Loc nD τ sig) → Buf (Elt Ideal) ℓ) (c : Dev nD)

/-- What one block of rows adds. -/
def cell (v : Vec Ideal S512x1024 .f32) (w : Vec Ideal S4x512x704 .bf16) (j : Fin 4) (d : Fin 1024) (x : Fin 704) : EReal :=
  ∑ y : Fin 512, (w (ix3 j y x) : EReal) * v (ix2 y d)

/-- What one point adds. -/
def term (t : Fin cfg0.N) (j : Fin 4) (d : Fin 1024) (x : Fin 704) : EReal :=
  cell (iblk m c 0 t) (iblk m c 1 t) j d x

theorem cases4 {P : Fin 4 → Prop} (h0 : P 0) (h1 : P 1) (h2 : P 2) (h3 : P 3) (j : Fin 4) : P j := by
  match j with
  | ⟨0, _⟩ => exact h0
  | ⟨1, _⟩ => exact h1
  | ⟨2, _⟩ => exact h2
  | ⟨3, _⟩ => exact h3

theorem piece6 (v : Vec Ideal S512x1024 .f32) (u : Vec Ideal S1x704x1024 .f32) (w : Vec Ideal S4x512x704 .bf16) (d : Fin 1024) (x : Fin 704) (U : EReal) (hU : u (ix3 0 x d) = U) :
    @Eq EReal (k0_pay6 (F := Ideal) v u (View.ld w (Rect.unit (s := S4x512x704) ![0, 0, 0] ![1, 512, 704] inb_S4x512x704_S1x512x704_0_0_0)) (ix3 0 x d)) (U + ∑ y : Fin 512, (w (ix3 0 y x) : EReal) * v (ix2 y d)) :=
  (pay6_at _ _ _ x d).trans (congrArg₂ (fun a b : EReal => a + b) hU (Finset.sum_congr rfl fun y _ => congrArg (fun b : EReal => b * v (ix2 y d)) (ld_member 0 (by decide) _ w y x)))
theorem piece7 (v : Vec Ideal S512x1024 .f32) (u : Vec Ideal S1x704x1024 .f32) (w : Vec Ideal S4x512x704 .bf16) (d : Fin 1024) (x : Fin 704) (U : EReal) (hU : u (ix3 0 x d) = U) :
    @Eq EReal (k0_pay7 (F := Ideal) v u (View.ld w (Rect.unit (s := S4x512x704) ![1, 0, 0] ![1, 512, 704] inb_S4x512x704_S1x512x704_1_0_0)) (ix3 0 x d)) (U + ∑ y : Fin 512, (w (ix3 1 y x) : EReal) * v (ix2 y d)) :=
  (pay7_at _ _ _ x d).trans (congrArg₂ (fun a b : EReal => a + b) hU (Finset.sum_congr rfl fun y _ => congrArg (fun b : EReal => b * v (ix2 y d)) (ld_member 1 (by decide) _ w y x)))
theorem piece1 (v : Vec Ideal S512x1024 .f32) (u : Vec Ideal S1x704x1024 .f32) (w : Vec Ideal S4x512x704 .bf16) (d : Fin 1024) (x : Fin 704) (U : EReal) (hU : u (ix3 0 x d) = U) :
    @Eq EReal (k0_pay1 (F := Ideal) (k0_pay5 v) (k0_pay8 u) (View.ld w (Rect.unit (s := S4x512x704) ![2, 0, 0] ![1, 512, 704] inb_S4x512x704_S1x512x704_2_0_0)) (ix3 0 x d)) (U + ∑ y : Fin 512, (w (ix3 2 y x) : EReal) * v (ix2 y d)) :=
  (pay1_at _ _ _ x d).trans (congrArg₂ (fun a b : EReal => a + b) hU (Finset.sum_congr rfl fun y _ => congrArg (fun b : EReal => b * v (ix2 y d)) (ld_member 2 (by decide) _ w y x)))
theorem piece2 (v : Vec Ideal S512x1024 .f32) (u : Vec Ideal S1x704x1024 .f32) (w : Vec Ideal S4x512x704 .bf16) (d : Fin 1024) (x : Fin 704) (U : EReal) (hU : u (ix3 0 x d) = U) :
    @Eq EReal (k0_pay2 (F := Ideal) (k0_pay5 v) u (View.ld w (Rect.unit (s := S4x512x704) ![3, 0, 0] ![1, 512, 704] inb_S4x512x704_S1x512x704_3_0_0)) (ix3 0 x d)) (U + ∑ y : Fin 512, (w (ix3 3 y x) : EReal) * v (ix2 y d)) :=
  (pay2_at _ _ _ x d).trans (congrArg₂ (fun a b : EReal => a + b) hU (Finset.sum_congr rfl fun y _ => congrArg (fun b : EReal => b * v (ix2 y d)) (ld_member 3 (by decide) _ w y x)))

theorem whole_idx (inb : ∀ a, (![0, 0, 0] : Fin 3 → ℕ) a + (![4, 704, 1024] : Fin 3 → ℕ) a ≤ S4x704x1024.size a) (j : Fin 4) (x : Fin 704) (d : Fin 1024) :
    (Rect.unit (s := S4x704x1024) ![0, 0, 0] ![4, 704, 1024] inb).idx (ix3 j x d) = ix3 j x d := by
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem scaled {u w : Vec Ideal S4x704x1024 .f32} (e : u = w) {i : S4x704x1024.Idx} {U : EReal} (hU : @Eq EReal (w i) U) :
    @Eq EReal (k0_pay3 (F := Ideal) u i) (U * ((1 / 2 : ℝ) : EReal)) := by
  subst e
  exact (pay3_at u i).trans (congrArg₂ (fun a b : EReal => a * b) hU half)

theorem half_first (a b : EReal) : ((1 / 2 : ℝ) : EReal) * b * a = a * b * ((1 / 2 : ℝ) : EReal) := by
  rw [mul_assoc, mul_comm, mul_comm b a]

theorem tB (t : Fin cfg0.N) (h0 : ¬t.val % 33 = 0) (h1 : ¬t.val % 33 = 32) (j : Fin 4) (d : Fin 1024) (x : Fin 704) :
    @Eq EReal (outsAt0 m c t.val t.isLt (ix3 j x d)) (outsAt0 m c (t.val - 1) (Nat.lt_of_le_of_lt (Nat.sub_le _ _) t.isLt) (ix3 j x d) + term m c t j d x) := by
  rw [outsAt0_B m c t h0 h1]
  frame_out
  revert j
  refine cases4 ?_ ?_ ?_ ?_
  · rw [canon_member, if_neg (by decide), canon_member, if_neg (by decide), canon_member, if_neg (by decide), canon_member, if_pos (by decide)]
    exact piece6 _ _ _ d x _ (ld_member 0 (by decide) _ _ x d)
  · rw [canon_member, if_neg (by decide), canon_member, if_neg (by decide), canon_member, if_pos (by decide)]
    exact piece7 _ _ _ d x _ (ld_member 1 (by decide) _ _ x d)
  · rw [canon_member, if_neg (by decide), canon_member, if_pos (by decide)]
    exact piece1 _ _ _ d x _ (ld_member 2 (by decide) _ _ x d)
  · rw [canon_member, if_pos (by decide)]
    exact piece2 _ _ _ d x _ (ld_member 3 (by decide) _ _ x d)

/-- Before the first store of a shard it holds zeros. -/
theorem filled (i : S4x704x1024.Idx) :
    @Eq EReal (View.canon [(⟨Rect.unit (s := S4x704x1024) ![0, 0, 0] ![4, 704, 1024] inb_S4x704x1024_S4x704x1024_0_0_0, k0_pay4 (F := Ideal)⟩ : View.Piece (Elt Ideal) S4x704x1024 .f32)] i) 0 := by
  frame_out
  exact pay4_at i

theorem tA (t : Fin cfg0.N) (h0 : t.val % 33 = 0) (h1 : ¬t.val % 33 = 32) (j : Fin 4) (d : Fin 1024) (x : Fin 704) :
    @Eq EReal (outsAt0 m c t.val t.isLt (ix3 j x d)) (0 + term m c t j d x) := by
  rw [outsAt0_A m c t h0 h1]
  frame_out
  revert j
  refine cases4 ?_ ?_ ?_ ?_
  · rw [canon_member, if_neg (by decide), canon_member, if_neg (by decide), canon_member, if_neg (by decide), canon_member, if_pos (by decide)]
    refine piece6 _ _ _ d x _ ((readCov_member _ 0 (by decide) _ _ x d).trans ?_)
    exact filled _
  · rw [canon_member, if_neg (by decide), canon_member, if_neg (by decide), canon_member, if_pos (by decide)]
    refine piece7 _ _ _ d x _ ((readCov_member _ 1 (by decide) _ _ x d).trans ?_)
    rw [canon_member, if_neg (by decide)]
    exact filled _
  · rw [canon_member, if_neg (by decide), canon_member, if_pos (by decide)]
    refine piece1 _ _ _ d x _ ((readCov_member _ 2 (by decide) _ _ x d).trans ?_)
    rw [canon_member, if_neg (by decide), canon_member, if_neg (by decide)]
    exact filled _
  · rw [canon_member, if_pos (by decide)]
    refine piece2 _ _ _ d x _ ((readCov_member _ 3 (by decide) _ _ x d).trans ?_)
    rw [canon_member, if_neg (by decide), canon_member, if_neg (by decide), canon_member, if_neg (by decide)]
    exact filled _

theorem tC (t : Fin cfg0.N) (h0 : ¬t.val % 33 = 0) (h1 : t.val % 33 = 32) (j : Fin 4) (d : Fin 1024) (x : Fin 704) :
    @Eq EReal (outsAt0 m c t.val t.isLt (ix3 j x d)) ((outsAt0 m c (t.val - 1) (Nat.lt_of_le_of_lt (Nat.sub_le _ _) t.isLt) (ix3 j x d) + term m c t j d x) * ((1 / 2 : ℝ) : EReal)) := by
  rw [outsAt0_C m c t h0 h1]
  frame_out
  refine scaled (View.readCov_eq_canon' _ _ _) ?_
  rw [whole_idx]
  revert j
  refine cases4 ?_ ?_ ?_ ?_
  · rw [canon_member, if_neg (by decide), canon_member, if_neg (by decide), canon_member, if_neg (by decide), canon_member, if_pos (by decide)]
    exact piece6 _ _ _ d x _ (ld_member 0 (by decide) _ _ x d)
  · rw [canon_member, if_neg (by decide), canon_member, if_neg (by decide), canon_member, if_pos (by decide)]
    exact piece7 _ _ _ d x _ (ld_member 1 (by decide) _ _ x d)
  · rw [canon_member, if_neg (by decide), canon_member, if_pos (by decide)]
    exact piece1 _ _ _ d x _ (ld_member 2 (by decide) _ _ x d)
  · rw [canon_member, if_pos (by decide)]
    exact piece2 _ _ _ d x _ (ld_member 3 (by decide) _ _ x d)

theorem row_host (s : Fin 16400) (d : Fin 1024) :
    (V m c main_v0 : Vec Ideal S16896x1024 .f32) (ix2 (px s) d) = (m (c, Proc.tc.devRef main_arg1) : Vec Ideal S16400x1024 .f32) (ix2 s d) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q d) (Fin.ext e0))

theorem row_zero (s : Fin 16896) (h : s.val < 496) (d : Fin 1024) :
    @Eq EReal ((V m c main_v0 : Vec Ideal S16896x1024 .f32) (ix2 s d)) 0 := by
  unfold V
  after_reads_at
  rw [dif_neg fun e => absurd e.1 (Nat.not_le.mpr h)]

theorem mat_host (j : Fin 4) (s : Fin 16400) (x : Fin 704) :
    (V m c main_v4 : Vec Ideal S4x16896x704 .bf16) (ix3 j (px s) x) = (m (c, Proc.tc.devRef main_arg0) : Vec Ideal S16400x2816 .f32) (ix2 s (fx j x)) := by
  have e0 : (px s).val - 496 = s.val := Nat.add_sub_cancel_left _ _
  unfold V
  after_reads_at
  rw [dif_pos ⟨⟨Nat.le_add_right _ _, by rw [e0]; exact s.isLt⟩, by have := j.isLt; have := x.isLt; omega⟩]
  exact congrArg _ (congrArg₂ ix2 (Fin.ext e0) (Fin.ext (by show j.val * 704 + x.val = 704 * j.val + x.val; omega)))

theorem index0 : ∀ t : Fin cfg0.N, win0_0.index t 0 = t.val ∧ win0_0.index t 1 = 0 := by decide +kernel
theorem index1 : ∀ t : Fin cfg0.N, win0_1.index t 0 = 0 ∧ win0_1.index t 1 = t.val ∧ win0_1.index t 2 = 0 := by decide +kernel
theorem index2 : ∀ t : Fin cfg0.N, win0_2.index t 0 = 0 ∧ win0_2.index t 1 = 0 ∧ win0_2.index t 2 = 0 := by decide +kernel

/-- Row `y` of block `t`. -/
def rx (t : Fin cfg0.N) (y : Fin 512) : Fin 16896 := ⟨512 * t.val + y.val, by have := t.isLt; have e : cfg0.N = 33 := N_0; have := y.isLt; omega⟩

theorem blk0 (t : Fin cfg0.N) (y : Fin 512) (d : Fin 1024) :
    (iblk m c 0 t : Vec Ideal S512x1024 .f32) (ix2 y d) = (V m c main_v0 : Vec Ideal S16896x1024 .f32) (ix2 (rx t y) d) := by
  have hi := index0 t
  unfold iblk
  rw [View.read_apply]
  show V m c main_v0 _ = V m c main_v0 _
  congr 1
  funext a
  apply Fin.ext
  match a with
  | ⟨0, _⟩ => show win0_0.index t 0 * 512 + 1 * y.val = 512 * t.val + y.val; rw [hi.1]; omega
  | ⟨1, _⟩ => show win0_0.index t 1 * 1024 + 1 * d.val = d.val; rw [hi.2]; omega

theorem blk1 (t : Fin cfg0.N) (j : Fin 4) (y : Fin 512) (x : Fin 704) :
    (iblk m c 1 t : Vec Ideal S4x512x704 .bf16) (ix3 j y x) = (V m c main_v4 : Vec Ideal S4x16896x704 .bf16) (ix3 j (rx t y) x) := by
  have hi := index1 t
  unfold iblk
  rw [View.read_apply]
  show V m c main_v4 _ = V m c main_v4 _
  congr 1
  funext a
  apply Fin.ext
  match a with
  | ⟨0, _⟩ => show win0_1.index t 0 * 4 + 1 * j.val = j.val; rw [hi.1]; omega
  | ⟨1, _⟩ => show win0_1.index t 1 * 512 + 1 * y.val = 512 * t.val + y.val; rw [hi.2.1]; omega
  | ⟨2, _⟩ => show win0_1.index t 2 * 704 + 1 * x.val = x.val; rw [hi.2.2]; omega

/-- One row's share of one element. -/
def rowPart (h0 : Vec Ideal S16896x1024 .f32) (h1 : Vec Ideal S4x16896x704 .bf16) (j : Fin 4) (d : Fin 1024) (x : Fin 704) (s : Fin 16896) : EReal :=
  (h1 (ix3 j s x) : EReal) * h0 (ix2 s d)

theorem cell_rows {v : Vec Ideal S512x1024 .f32} {w : Vec Ideal S4x512x704 .bf16} {h0 : Vec Ideal S16896x1024 .f32} {h1 : Vec Ideal S4x16896x704 .bf16} {t : Fin cfg0.N}
    (e0 : ∀ y d, v (ix2 y d) = h0 (ix2 (rx t y) d)) (e1 : ∀ j y x, w (ix3 j y x) = h1 (ix3 j (rx t y) x)) (j : Fin 4) (d : Fin 1024) (x : Fin 704) :
    cell v w j d x = ∑ y : Fin 512, rowPart h0 h1 j d x (rx t y) :=
  Finset.sum_congr rfl fun y _ => congrArg₂ (fun a b : EReal => a * b) (e1 j y x) (e0 y d)

/-- The result, shard by shard, of the two arrays the kernel takes. -/
def ddAll (h0 : Vec Ideal S16896x1024 .f32) (h1 : Vec Ideal S4x16896x704 .bf16) : Vec Ideal S4x704x1024 .f32 :=
  fun i => ∑ s : Fin 16896, (h1 (ix3 (i 0) s (i 1)) : EReal) * h0 (ix2 s (i 2)) * ((1 / 2 : ℝ) : EReal)

theorem last_at (h : 32 < cfg0.N) (j : Fin 4) (d : Fin 1024) (x : Fin 704) :
    @Eq EReal (outsAt0 m c 32 h (ix3 j x d)) (ddAll (V m c main_v0) (V m c main_v4) (ix3 j x d)) :=
  steps_rows_scaled N_0 (1 / 2) (by norm_num) (fun n h => outsAt0 m c n h (ix3 j x d)) (fun t => term m c t j d x) (rowPart (V m c main_v0) (V m c main_v4) j d x)
    (fun t => cell_rows (blk0 m c t) (blk1 m c t) j d x)
    (fun h => tA m c ⟨0, h⟩ rfl (by show ¬ 0 % 33 = 32; decide) j d x)
    (fun n h hn => tB m c ⟨n + 1, h⟩ (by show ¬ (n + 1) % 33 = 0; omega) (by show ¬ (n + 1) % 33 = 32; omega) j d x) h
    (tC m c ⟨32, h⟩ (by show ¬ 32 % 33 = 0; decide) rfl j d x)

theorem arr2 : (dats m 0 c).arrAt 2 cfg0.N = ddAll (V m c main_v0) (V m c main_v4) := by
  refine (dats m 0 c).arrAt_eq_of_covers 2 _ (by decide +kernel) fun t hf y => ?_
  blk_simp
  rw [after0_2]
  have e : cfg0.N = 33 := N_0
  have ht : t.val = 32 := by have := (flush0_2 t).mp hf; have := t.isLt; omega
  have hi := index2 t
  have ey : (y : S4x704x1024.Idx) = ix3 (y 0) (y 1) (y 2) := (ix3_eta (n0 := 4) (n1 := 704) (n2 := 1024) y).symm
  have hemb : (win0_2.blk t).view.emb y = ix3 (y 0) (y 1) (y 2) := by
    funext a
    apply Fin.ext
    match a with
    | ⟨0, _⟩ => show win0_2.index t 0 * 4 + 1 * (y 0).val = (y 0).val; rw [hi.1]; omega
    | ⟨1, _⟩ => show win0_2.index t 1 * 704 + 1 * (y 1).val = (y 1).val; rw [hi.2.1]; omega
    | ⟨2, _⟩ => show win0_2.index t 2 * 1024 + 1 * (y 2).val = (y 2).val; rw [hi.2.2]; omega
  obtain ⟨tv, tl⟩ := t
  obtain rfl : tv = 32 := ht
  refine ((congrArg (outsAt0 m c 32 tl) ey).trans (last_at m c tl (y 0) (y 2) (y 1))).trans ?_
  exact congrArg (ddAll _ _) hemb.symm

/-- The result in terms of the arguments. -/
def ddOf (a0 : Vec Ideal S16400x2816 .f32) (a1 : Vec Ideal S16400x1024 .f32) : Vec Ideal S2816x1024 .f32 :=
  fun i => ∑ s : Fin 16400, (a0 (ix2 s (i 0)) : EReal) * a1 (ix2 s (i 1)) * ((1 / 2 : ℝ) : EReal)

theorem dd_of {h0 : Vec Ideal S16896x1024 .f32} {h1 : Vec Ideal S4x16896x704 .bf16} {a0 : Vec Ideal S16400x2816 .f32} {a1 : Vec Ideal S16400x1024 .f32}
    (e0 : ∀ s d, h0 (ix2 (px s) d) = a1 (ix2 s d)) (z0 : ∀ (s : Fin 16896), s.val < 496 → ∀ d, @Eq EReal (h0 (ix2 s d)) 0)
    (e1 : ∀ j s x, h1 (ix3 j (px s) x) = a0 (ix2 s (fx j x))) (j : Fin 4) (d : Fin 1024) (x : Fin 704) :
    ddAll h0 h1 (ix3 j x d) = ddOf a0 a1 (ix2 (fx j x) d) :=
  sum_padded (fun s => (h1 (ix3 j s x) : EReal) * h0 (ix2 s d) * ((1 / 2 : ℝ) : EReal)) (fun s => (a0 (ix2 s (fx j x)) : EReal) * a1 (ix2 s d) * ((1 / 2 : ℝ) : EReal))
    (fun s h => (congrArg (fun u : EReal => h1 (ix3 j s x) * u * ((1 / 2 : ℝ) : EReal)) (z0 s h d)).trans (by rw [mul_zero, zero_mul]))
    (fun s => congrArg₂ (fun u v : EReal => u * v * ((1 / 2 : ℝ) : EReal)) (e1 j s x) (e0 s d))

/-- The shard a column belongs to. -/
def sh (f : Fin 2816) : Fin 4 := ⟨f.val / 704, by have := f.isLt; omega⟩
/-- Its column there. -/
def lo (f : Fin 2816) : Fin 704 := ⟨f.val % 704, Nat.mod_lt _ (by decide)⟩
theorem fx_split (f : Fin 2816) : fx (sh f) (lo f) = f := Fin.ext (Nat.div_add_mod f.val 704)

theorem out_at (d : Fin 1024) (f : Fin 2816) : (Pipeline.afterTail₀ cfgs (dats m) 0 (V0 m) [hostOps1] c main_v6 : Vec Ideal S2816x1024 .f32) (ix2 f d)
    = ddAll (V m c main_v0) (V m c main_v4) (ix3 (sh f) (lo f) d) := by
  have ea := congrFun ((Pipeline.withArrays_arr spec0 (by decide) c (V0 m c) (fun w => (dats m 0 c).arrAt w cfg0.N) 2).trans (arr2 m c)) (ix3 (sh f) (lo f) d)
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v6) : Vec Ideal S2816x1024 .f32) (ix2 f d) = (U (Proc.devRef .tc main_v5) : Vec Ideal S4x704x1024 .f32) (ix3 (sh f) (lo f) d)
  after_reads_at
  rfl

theorem out_eq : (Pipeline.afterTail₀ cfgs (dats m) 0 (V0 m) [hostOps1] c main_v6 : Vec Ideal S2816x1024 .f32)
    = ddOf (m (c, Proc.tc.devRef main_arg0)) (m (c, Proc.tc.devRef main_arg1)) := by
  funext i
  obtain ⟨f, d, rfl⟩ : ∃ f d, i = ix2 f d := ⟨i 0, i 1, (ix2_eta (n0 := 2816) (n1 := 1024) i).symm⟩
  refine (out_at m c d f).trans ((dd_of (row_host m c) (row_zero m c) (mat_host m c) (sh f) d (lo f)).trans ?_)
  exact congrArg (fun q => ddOf _ _ (ix2 q d)) (fx_split f)

end Cert.Kernel4Ideal.Dd

namespace Cert.Proof

open Idealize.ShloMosaic Idealize.ShloMosaic.TcCoe Ix

theorem kernel4_end (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = Cert.Kernel4Ideal.Dd.ddOf (m (c, Proc.tc.devRef Cert.Kernel4Ideal.main_arg0)) (m (c, Proc.tc.devRef Cert.Kernel4Ideal.main_arg1))
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)) :=
  (θ_run Cert.Kernel4Ideal.defs _ _).mono (fun _ h c => ⟨
      ((h c).2 Cert.Kernel4Ideal.main_v6 (Pipeline.mem_restRefs_of Cert.Kernel4Ideal.main_v6 (by decide) (by decide))).trans (Cert.Kernel4Ideal.Dd.out_eq m c),
      ((h c).2 Cert.Kernel4Ideal.main_arg0 (Pipeline.mem_restRefs_of Cert.Kernel4Ideal.main_arg0 (by decide) (by decide))).trans (Cert.Kernel4Ideal.Gen.W_main_arg0 m (Cert.Kernel4Ideal.Gen.dats m) c),
      ((h c).2 Cert.Kernel4Ideal.main_arg1 (Pipeline.mem_restRefs_of Cert.Kernel4Ideal.main_arg1 (by decide) (by decide))).trans (Cert.Kernel4Ideal.Gen.W_main_arg1 m (Cert.Kernel4Ideal.Gen.dats m) c)⟩)
    (Cert.Kernel4Ideal.Gen.run_main m g)

theorem ref4_eq (x0 : Vec Ideal Cert.Reference4Ideal.S16400x2816 .f32) (x1 : Vec Ideal Cert.Reference4Ideal.S16400x1024 .f32) :
    Cert.Reference4Ideal.Read.val_main_v7 (F := Ideal) x0 x1 = Cert.Kernel4Ideal.Dd.ddOf x0 x1 := by
  funext i
  obtain ⟨f, d, rfl⟩ : ∃ f d, i = ix2 f d := ⟨i 0, i 1, (ix2_eta (n0 := 2816) (n1 := 1024) i).symm⟩
  refine (Cert.Reference4Ideal.Read.val_main_v7_apply x0 x1 (ix2 f d)).trans ((Cert.Reference4Ideal.Read.val_main_v6_apply x0 x1 _).trans ?_)
  refine Finset.sum_congr rfl fun k _ => ?_
  have e5 : @Eq EReal (Cert.Reference4Ideal.Read.val_main_v5 (F := Ideal) x1 (ix2 k d)) (((1 / 2 : ℝ) : EReal) * x1 (ix2 k d)) := by
    rw [Cert.Reference4Ideal.Read.val_main_v5_apply, Cert.Reference4Ideal.Read.val_main_v4_apply, Cert.Reference4Ideal.Read.val_main_cst_1_apply]
    exact congrArg (fun u : EReal => u * x1 (ix2 k d)) Cert.Kernel4Ideal.Dd.half
  refine Eq.trans (congrArg₂ (fun u v : EReal => u * v) ((congrArg (Cert.Reference4Ideal.Read.val_main_v5 (F := Ideal) x1) (a₂ := ix2 k d) (funext fun a => by fin_cases a <;> rfl)).trans e5) (congrArg x0 (a₂ := ix2 k f) (funext fun a => by fin_cases a <;> rfl))) ?_
  exact Cert.Kernel4Ideal.Dd.half_first (x0 (ix2 k f)) (x1 (ix2 k d))

/-- The kernel's gradient of the feed-forward's output weight is the reference's. -/
theorem value4 : Cert.algebraic_Kernel4Ideal_Reference4Ideal := by
  intro m g m' g' hpre hargs
  refine ⟨_, kernel4_end m g, (θ_run Cert.Reference4Ideal.defs _ _).mono (fun r h c => ?_) (Cert.Reference4Ideal.Value.run (F := Ideal) m' g')⟩
  obtain ⟨a0, a1⟩ := hargs c
  obtain ⟨h0, hk⟩ := h c
  refine ⟨h0.trans ((Cert.Reference4Ideal.Read.val_main_v7_eq _ _).trans ((ref4_eq _ _).trans ?_)), hk⟩
  rw [a0, a1]

end Cert.Proof
-- ==== Proof.DuValue.lean ====
/-
  The gradient of the projection's input: the kernel adds three blocks of columns; that is the reference's product.
-/
module

public import proofs.«01_k».proof.Defs
public import proofs.«01_k».proof.Proof.Gen.Kernel5Ideal.Frame
public import proofs.«01_k».proof.Proof.Gen.Reference5Ideal.Run
public import proofs.«01_k».proof.Proof.Gen.Reference5Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel5Ideal.Du

open Idealize.ShloMosaic Idealize.ShloMosaic.TcCoe
open Cert.Kernel5Ideal Cert.Kernel5Ideal.Gen Ix

/-- Row `s` of the sequence behind the padding. -/
def px (s : Fin 16400) : Fin 16896 := ⟨496 + s.val, by have := s.isLt; omega⟩

theorem pay1_at (i : S512x1024.Idx) : @Eq EReal (k0_pay1 (F := Ideal) i) 0 := by
  unfold k0_pay1
  pointwise

/-- What one block of columns adds. -/
def cell (v : Vec Ideal S512x1792 .bf16) (w : Vec Ideal S1024x1792 .bf16) (r : Fin 512) (d : Fin 1024) : EReal :=
  ∑ x : Fin 1792, (v (ix2 r x) : EReal) * w (ix2 d x)

theorem pay2_at (u : Vec Ideal S512x1024 .f32) (v : Vec Ideal S512x1792 .bf16) (w : Vec Ideal S1024x1792 .bf16) (r : Fin 512) (d : Fin 1024) :
    @Eq EReal (k0_pay2 (F := Ideal) u v w (ix2 r d)) ((u (ix2 r d) : EReal) + cell v w r d) := by
  unfold k0_pay2 cell
  pointwise

variable (m : (ℓ : Loc nD τ sig) → Buf (Elt Ideal) ℓ) (c : Dev nD)

/-- What one point adds. -/
def term (t : Fin cfg0.N) (r : Fin 512) (d : Fin 1024) : EReal := cell (iblk m c 0 t) (iblk m c 1 t) r d

theorem tA (t : Fin cfg0.N) (h0 : t.val % 3 = 0) (r : Fin 512) (d : Fin 1024) :
    @Eq EReal ((outsAt0 m c t.val t.isLt).2 (ix2 r d)) (0 + term m c t r d) := by
  rw [outsAt0_A m c t h0 (by omega)]
  dsimp only
  frame_out
  exact (pay2_at _ _ _ r d).trans (congrArg (fun u : EReal => u + _) (pay1_at _))

theorem tB (t : Fin cfg0.N) (h0 : ¬t.val % 3 = 0) (r : Fin 512) (d : Fin 1024) :
    @Eq EReal ((outsAt0 m c t.val t.isLt).2 (ix2 r d)) ((outsAt0 m c (t.val - 1) (Nat.lt_of_le_of_lt (Nat.sub_le _ _) t.isLt)).2 (ix2 r d) + term m c t r d) := by
  by_cases h1 : t.val % 3 = 2
  · rw [outsAt0_C m c t h0 h1]
    dsimp only
    frame_out
    exact (pay2_at _ _ _ r d).trans (congrArg (fun u : EReal => u + _) (congrFun (Memref.IsWhole.read_unread _ _) (ix2 r d)))
  · rw [outsAt0_B m c t h0 h1]
    dsimp only
    frame_out
    exact (pay2_at _ _ _ r d).trans (congrArg (fun u : EReal => u + _) (congrFun (Memref.IsWhole.read_unread _ _) (ix2 r d)))

theorem tC (t : Fin cfg0.N) (h1 : t.val % 3 = 2) (r : Fin 512) (d : Fin 1024) :
    @Eq EReal ((outsAt0 m c t.val t.isLt).1 (ix2 r d)) ((outsAt0 m c (t.val - 1) (Nat.lt_of_le_of_lt (Nat.sub_le _ _) t.isLt)).2 (ix2 r d) + term m c t r d) := by
  rw [outsAt0_C m c t (by omega) h1]
  dsimp only
  frame_out
  exact (pay2_at _ _ _ r d).trans (congrArg (fun u : EReal => u + _) (congrFun (Memref.IsWhole.read_unread _ _) (ix2 r d)))

theorem row_host (s : Fin 16400) (x : Fin 5376) :
    (V m c main_v1 : Vec Ideal S16896x5376 .bf16) (ix2 (px s) x) = (m (c, Proc.tc.devRef main_arg0) : Vec Ideal S16400x5376 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem mat_host (d : Fin 1024) (x : Fin 5376) :
    (V m c main_v2 : Vec Ideal S1024x5376 .bf16) (ix2 d x) = (m (c, Proc.tc.devRef main_arg1) : Vec Ideal S1024x5376 .f32) (ix2 d x) := by
  unfold V
  after_reads_at
  try rfl

theorem index0 : ∀ t : Fin cfg0.N, win0_0.index t 0 = t.val / 3 ∧ win0_0.index t 1 = t.val % 3 := by decide +kernel
theorem index1 : ∀ t : Fin cfg0.N, win0_1.index t 0 = 0 ∧ win0_1.index t 1 = t.val % 3 := by decide +kernel
theorem index2 : ∀ t : Fin cfg0.N, win0_2.index t 0 = t.val / 3 ∧ win0_2.index t 1 = 0 := by decide +kernel

/-- Row `y` of the block of point `t`. -/
def rx (t : Fin cfg0.N) (y : Fin 512) : Fin 16896 := ⟨512 * (t.val / 3) + y.val, by have := t.isLt; have e : cfg0.N = 99 := N_0; have := y.isLt; omega⟩

/-- Column `x` of the block of point `t`. -/
def cx (t : Fin cfg0.N) (x : Fin 1792) : Fin 5376 := ⟨1792 * (t.val % 3) + x.val, by have := t.isLt; have e : cfg0.N = 99 := N_0; have := x.isLt; omega⟩

theorem blk0 (t : Fin cfg0.N) (y : Fin 512) (x : Fin 1792) :
    (iblk m c 0 t : Vec Ideal S512x1792 .bf16) (ix2 y x) = (V m c main_v1 : Vec Ideal S16896x5376 .bf16) (ix2 (rx t y) (cx t x)) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * (t.val / 3) + y.val; rw [hi.1]; omega
  | ⟨1, _⟩ => show win0_0.index t 1 * 1792 + 1 * x.val = 1792 * (t.val % 3) + x.val; rw [hi.2]; omega

theorem blk1 (t : Fin cfg0.N) (d : Fin 1024) (x : Fin 1792) :
    (iblk m c 1 t : Vec Ideal S1024x1792 .bf16) (ix2 d x) = (V m c main_v2 : Vec Ideal S1024x5376 .bf16) (ix2 d (cx t x)) := by
  have hi := index1 t
  unfold iblk
  rw [View.read_apply]
  show V m c main_v2 _ = V m c main_v2 _
  congr 1
  funext a
  apply Fin.ext
  match a with
  | ⟨0, _⟩ => show win0_1.index t 0 * 1024 + 1 * d.val = d.val; rw [hi.1]; omega
  | ⟨1, _⟩ => show win0_1.index t 1 * 1792 + 1 * x.val = 1792 * (t.val % 3) + x.val; rw [hi.2]; omega

/-- One column's share of one element. -/
def part (h0 : Vec Ideal S16896x5376 .bf16) (h1 : Vec Ideal S1024x5376 .bf16) (s : Fin 16896) (d : Fin 1024) (k : Fin 5376) : EReal :=
  (h0 (ix2 s k) : EReal) * h1 (ix2 d k)

theorem cell_cols {v : Vec Ideal S512x1792 .bf16} {w : Vec Ideal S1024x1792 .bf16} {h0 : Vec Ideal S16896x5376 .bf16} {h1 : Vec Ideal S1024x5376 .bf16} {t : Fin cfg0.N}
    (e0 : ∀ y x, v (ix2 y x) = h0 (ix2 (rx t y) (cx t x))) (e1 : ∀ d x, w (ix2 d x) = h1 (ix2 d (cx t x))) (r : Fin 512) (d : Fin 1024) :
    cell v w r d = ∑ x : Fin 1792, part h0 h1 (rx t r) d (cx t x) :=
  Finset.sum_congr rfl fun x _ => congrArg₂ (fun a b : EReal => a * b) (e0 r x) (e1 d x)

/-- Column `x` of the `j`-th third. -/
def tx (j : Fin 3) (x : Fin 1792) : Fin 5376 := ⟨1792 * j.val + x.val, by have := j.isLt; have := x.isLt; omega⟩

/-- A sum over the columns, third by third. -/
theorem sum_thirds (f : Fin 5376 → EReal) : ∑ k : Fin 5376, f k = ∑ j : Fin 3, ∑ x : Fin 1792, f (tx j x) :=
  ((Equiv.sum_comp (finProdFinEquiv (m := 3) (n := 1792)) f).symm.trans (Fintype.sum_prod_type _)).trans
    (Finset.sum_congr rfl fun j _ => Finset.sum_congr rfl fun x _ => congrArg f (Fin.ext (Nat.add_comm _ _)))

theorem term_cols (t : Fin cfg0.N) (r : Fin 512) (d : Fin 1024) (s : Fin 16896) (j : Fin 3) (hs : rx t r = s) (hj : t.val % 3 = j.val) :
    term m c t r d = ∑ x : Fin 1792, part (V m c main_v1) (V m c main_v2) s d (tx j x) := by
  subst hs
  refine (cell_cols (blk0 m c t) (blk1 m c t) r d).trans (Finset.sum_congr rfl fun x _ => congrArg (part _ _ _ d) (Fin.ext ?_))
  show 1792 * (t.val % 3) + x.val = 1792 * j.val + x.val
  rw [hj]

/-- The result at a row and a column, of the two arrays the kernel takes. -/
def duAll (h0 : Vec Ideal S16896x5376 .bf16) (h1 : Vec Ideal S1024x5376 .bf16) : Vec Ideal S16896x1024 .f32 :=
  fun i => ∑ k : Fin 5376, (h0 (ix2 (i 0) k) : EReal) * h1 (ix2 (i 1) k)

theorem three (t : Fin cfg0.N) (h1 : t.val % 3 = 2) (r : Fin 512) (d : Fin 1024) :
    @Eq EReal ((outsAt0 m c t.val t.isLt).1 (ix2 r d)) (duAll (V m c main_v1) (V m c main_v2) (ix2 (rx t r) d)) := by
  have l1 : t.val - 1 < cfg0.N := Nat.lt_of_le_of_lt (Nat.sub_le _ _) t.isLt
  have l2 : t.val - 1 - 1 < cfg0.N := Nat.lt_of_le_of_lt (Nat.sub_le _ _) l1
  have e2 := tC m c t h1 r d
  have e1 := tB m c ⟨t.val - 1, l1⟩ (by show ¬ (t.val - 1) % 3 = 0; omega) r d
  have e0 := tA m c ⟨t.val - 1 - 1, l2⟩ (by show (t.val - 1 - 1) % 3 = 0; omega) r d
  refine e2.trans ?_
  refine (congrArg (fun u : EReal => u + term m c t r d) (e1.trans (congrArg (fun u : EReal => u + term m c ⟨t.val - 1, l1⟩ r d) (e0.trans (zero_add _))))).trans ?_
  refine Eq.trans ?_ (sum_thirds (part (V m c main_v1) (V m c main_v2) (rx t r) d)).symm
  rw [Fin.sum_univ_three]
  refine congrArg₂ (fun u v : EReal => u + v) (congrArg₂ (fun u v : EReal => u + v) ?_ ?_) ?_
  · exact term_cols m c _ r d _ 0 (Fin.ext (by show 512 * ((t.val - 1 - 1) / 3) + r.val = 512 * (t.val / 3) + r.val; omega)) (by show (t.val - 1 - 1) % 3 = 0; omega)
  · exact term_cols m c _ r d _ 1 (Fin.ext (by show 512 * ((t.val - 1) / 3) + r.val = 512 * (t.val / 3) + r.val; omega)) (by show (t.val - 1) % 3 = 1; omega)
  · exact term_cols m c _ r d _ 2 rfl h1

theorem arr2 : (dats m 0 c).arrAt 2 cfg0.N = duAll (V m c main_v1) (V m c main_v2) := by
  refine (dats m 0 c).arrAt_eq_of_covers 2 _ (by decide +kernel) fun t hf y => ?_
  blk_simp
  rw [after0_2]
  have hi := index2 t
  have ey : (y : S512x1024.Idx) = ix2 (y 0) (y 1) := (ix2_eta (n0 := 512) (n1 := 1024) y).symm
  have hemb : (win0_2.blk t).view.emb y = ix2 (rx t (y 0)) (y 1) := by
    funext a
    apply Fin.ext
    match a with
    | ⟨0, _⟩ => show win0_2.index t 0 * 512 + 1 * (y 0).val = 512 * (t.val / 3) + (y 0).val; rw [hi.1]; omega
    | ⟨1, _⟩ => show win0_2.index t 1 * 1024 + 1 * (y 1).val = (y 1).val; rw [hi.2]; omega
  refine ((congrArg (outsAt0 m c t.val t.isLt).1 ey).trans (three m c t ((flush0_2 t).mp hf) (y 0) (y 1))).trans ?_
  exact congrArg (duAll _ _) hemb.symm

/-- The result in terms of the arguments. -/
def duOf (a0 : Vec Ideal S16400x5376 .f32) (a1 : Vec Ideal S1024x5376 .f32) : Vec Ideal S16400x1024 .f32 :=
  fun i => ∑ k : Fin 5376, (a0 (ix2 (i 0) k) : EReal) * a1 (ix2 (i 1) k)

theorem du_of {h0 : Vec Ideal S16896x5376 .bf16} {h1 : Vec Ideal S1024x5376 .bf16} {a0 : Vec Ideal S16400x5376 .f32} {a1 : Vec Ideal S1024x5376 .f32}
    (e0 : ∀ s k, h0 (ix2 (px s) k) = a0 (ix2 s k)) (e1 : ∀ d k, h1 (ix2 d k) = a1 (ix2 d k)) (s : Fin 16400) (d : Fin 1024) :
    duAll h0 h1 (ix2 (px s) d) = duOf a0 a1 (ix2 s d) :=
  Finset.sum_congr rfl fun k _ => congrArg₂ (fun u v : EReal => u * v) (e0 s k) (e1 d k)

theorem out_at (s : Fin 16400) (d : Fin 1024) : (Pipeline.afterTail₀ cfgs (dats m) 0 (V0 m) [hostOps1] c main_v4 : Vec Ideal S16400x1024 .f32) (ix2 s d)
    = duAll (V m c main_v1) (V m c main_v2) (ix2 (px s) d) := by
  have ea := congrFun ((Pipeline.withArrays_arr spec0 (by decide) c (V0 m c) (fun w => (dats m 0 c).arrAt w cfg0.N) 2).trans (arr2 m c)) (ix2 (px s) d)
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v4) : Vec Ideal S16400x1024 .f32) (ix2 s d) = (U (Proc.devRef .tc main_v3) : Vec Ideal S16896x1024 .f32) (ix2 (px s) d)
  after_reads_at
  rfl

theorem out_eq : (Pipeline.afterTail₀ cfgs (dats m) 0 (V0 m) [hostOps1] c main_v4 : Vec Ideal S16400x1024 .f32)
    = duOf (m (c, Proc.tc.devRef main_arg0)) (m (c, Proc.tc.devRef main_arg1)) := by
  funext i
  obtain ⟨s, d, rfl⟩ : ∃ s d, i = ix2 s d := ⟨i 0, i 1, (ix2_eta (n0 := 16400) (n1 := 1024) i).symm⟩
  exact (out_at m c s d).trans (du_of (row_host m c) (mat_host m c) s d)

end Cert.Kernel5Ideal.Du

namespace Cert.Proof

open Idealize.ShloMosaic Idealize.ShloMosaic.TcCoe Ix

theorem kernel5_end (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = Cert.Kernel5Ideal.Du.duOf (m (c, Proc.tc.devRef Cert.Kernel5Ideal.main_arg0)) (m (c, Proc.tc.devRef Cert.Kernel5Ideal.main_arg1))
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)) :=
  (θ_run Cert.Kernel5Ideal.defs _ _).mono (fun _ h c => ⟨
      ((h c).2 Cert.Kernel5Ideal.main_v4 (Pipeline.mem_restRefs_of Cert.Kernel5Ideal.main_v4 (by decide) (by decide))).trans (Cert.Kernel5Ideal.Du.out_eq m c),
      ((h c).2 Cert.Kernel5Ideal.main_arg0 (Pipeline.mem_restRefs_of Cert.Kernel5Ideal.main_arg0 (by decide) (by decide))).trans (Cert.Kernel5Ideal.Gen.W_main_arg0 m (Cert.Kernel5Ideal.Gen.dats m) c),
      ((h c).2 Cert.Kernel5Ideal.main_arg1 (Pipeline.mem_restRefs_of Cert.Kernel5Ideal.main_arg1 (by decide) (by decide))).trans (Cert.Kernel5Ideal.Gen.W_main_arg1 m (Cert.Kernel5Ideal.Gen.dats m) c)⟩)
    (Cert.Kernel5Ideal.Gen.run_main m g)

theorem ref5_eq (x0 : Vec Ideal Cert.Reference5Ideal.S16400x5376 .f32) (x1 : Vec Ideal Cert.Reference5Ideal.S1024x5376 .f32) :
    Cert.Reference5Ideal.Read.val_main_v2 (F := Ideal) x0 x1 = Cert.Kernel5Ideal.Du.duOf x0 x1 := by
  funext i
  obtain ⟨s, d, rfl⟩ : ∃ s d, i = ix2 s d := ⟨i 0, i 1, (ix2_eta (n0 := 16400) (n1 := 1024) i).symm⟩
  refine (Cert.Reference5Ideal.Read.val_main_v2_apply x0 x1 (ix2 s d)).trans ?_
  exact Finset.sum_congr rfl fun k _ => congrArg₂ (fun u v : EReal => u * v) (congrArg x0 (a₂ := ix2 s k) (funext fun a => by fin_cases a <;> rfl)) (congrArg x1 (a₂ := ix2 d k) (funext fun a => by fin_cases a <;> rfl))

/-- The kernel's gradient of the projection's input is the reference's. -/
theorem value5 : Cert.algebraic_Kernel5Ideal_Reference5Ideal := by
  intro m g m' g' hpre hargs
  refine ⟨_, kernel5_end m g, (θ_run Cert.Reference5Ideal.defs _ _).mono (fun r h c => ?_) (Cert.Reference5Ideal.Value.run (F := Ideal) m' g')⟩
  obtain ⟨a0, a1⟩ := hargs c
  obtain ⟨h0, hk⟩ := h c
  refine ⟨h0.trans ((Cert.Reference5Ideal.Read.val_main_v2_eq _ _).trans ((ref5_eq _ _).trans ?_)), hk⟩
  rw [a0, a1]

end Cert.Proof
-- ==== Proof.DpValue.lean ====
/-
  The gradient of the projection's weights: the kernel adds blocks of rows into three blocks of columns; that is the reference's product.
-/
module

public import proofs.«01_k».proof.Defs
public import proofs.«01_k».proof.Proof.Gen.Kernel6Ideal.Frame
public import proofs.«01_k».proof.Proof.Gen.Reference6Ideal.Run
public import proofs.«01_k».proof.Proof.Gen.Reference6Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel6Ideal.Dp

open Idealize.ShloMosaic Idealize.ShloMosaic.TcCoe
open Cert.Kernel6Ideal Cert.Kernel6Ideal.Gen Ix

/-- Row `s` of the sequence behind the padding. -/
def px (s : Fin 16400) : Fin 16896 := ⟨496 + s.val, by have := s.isLt; omega⟩

theorem pay1_at (i : S1024x1792.Idx) : @Eq EReal (k0_pay1 (F := Ideal) i) 0 := by
  unfold k0_pay1
  pointwise

/-- What one block of rows adds. -/
def cell (v : Vec Ideal S512x1024 .bf16) (w : Vec Ideal S512x1792 .bf16) (d : Fin 1024) (x : Fin 1792) : EReal :=
  ∑ y : Fin 512, (v (ix2 y d) : EReal) * w (ix2 y x)

theorem pay2_at (u : Vec Ideal S1024x1792 .f32) (v : Vec Ideal S512x1024 .bf16) (w : Vec Ideal S512x1792 .bf16) (d : Fin 1024) (x : Fin 1792) :
    @Eq EReal (k0_pay2 (F := Ideal) u v w (ix2 d x)) ((u (ix2 d x) : EReal) + cell v w d x) := by
  unfold k0_pay2 cell
  pointwise

variable (m : (ℓ : Loc nD τ sig) → Buf (Elt Ideal) ℓ) (c : Dev nD)

/-- What one point adds. -/
def term (t : Fin cfg0.N) (d : Fin 1024) (x : Fin 1792) : EReal := cell (iblk m c 0 t) (iblk m c 1 t) d x

theorem tA (t : Fin cfg0.N) (h0 : t.val % 33 = 0) (d : Fin 1024) (x : Fin 1792) :
    @Eq EReal ((outsAt0 m c t.val t.isLt).2 (ix2 d x)) (0 + term m c t d x) := by
  rw [outsAt0_A m c t h0 (by omega)]
  dsimp only
  frame_out
  exact (pay2_at _ _ _ d x).trans (congrArg (fun u : EReal => u + _) (pay1_at _))

theorem tB (t : Fin cfg0.N) (h0 : ¬t.val % 33 = 0) (d : Fin 1024) (x : Fin 1792) :
    @Eq EReal ((outsAt0 m c t.val t.isLt).2 (ix2 d x)) ((outsAt0 m c (t.val - 1) (Nat.lt_of_le_of_lt (Nat.sub_le _ _) t.isLt)).2 (ix2 d x) + term m c t d x) := by
  by_cases h1 : t.val % 33 = 32
  · rw [outsAt0_C m c t h0 h1]
    dsimp only
    frame_out
    exact (pay2_at _ _ _ d x).trans (congrArg (fun u : EReal => u + _) (congrFun (Memref.IsWhole.read_unread _ _) (ix2 d x)))
  · rw [outsAt0_B m c t h0 h1]
    dsimp only
    frame_out
    exact (pay2_at _ _ _ d x).trans (congrArg (fun u : EReal => u + _) (congrFun (Memref.IsWhole.read_unread _ _) (ix2 d x)))

theorem tC (t : Fin cfg0.N) (h1 : t.val % 33 = 32) (d : Fin 1024) (x : Fin 1792) :
    @Eq EReal ((outsAt0 m c t.val t.isLt).1 (ix2 d x)) ((outsAt0 m c (t.val - 1) (Nat.lt_of_le_of_lt (Nat.sub_le _ _) t.isLt)).2 (ix2 d x) + term m c t d x) := by
  rw [outsAt0_C m c t (by omega) h1]
  dsimp only
  frame_out
  exact (pay2_at _ _ _ d x).trans (congrArg (fun u : EReal => u + _) (congrFun (Memref.IsWhole.read_unread _ _) (ix2 d x)))

theorem row_host (s : Fin 16400) (x : Fin 1024) :
    (V m c main_v1 : Vec Ideal S16896x1024 .bf16) (ix2 (px s) x) = (m (c, Proc.tc.devRef main_arg0) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem row_zero (s : Fin 16896) (h : s.val < 496) (x : Fin 1024) :
    @Eq EReal ((V m c main_v1 : Vec Ideal S16896x1024 .bf16) (ix2 s x)) 0 := by
  unfold V
  after_reads_at
  rw [dif_neg fun e => absurd e.1 (Nat.not_le.mpr h)]

theorem mat_host (s : Fin 16400) (x : Fin 5376) :
    (V m c main_v3 : Vec Ideal S16896x5376 .bf16) (ix2 (px s) x) = (m (c, Proc.tc.devRef main_arg1) : Vec Ideal S16400x5376 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem index0 : ∀ t : Fin cfg0.N, win0_0.index t 0 = t.val % 33 ∧ win0_0.index t 1 = 0 := by decide +kernel
theorem index1 : ∀ t : Fin cfg0.N, win0_1.index t 0 = t.val % 33 ∧ win0_1.index t 1 = t.val / 33 := by decide +kernel
theorem index2 : ∀ t : Fin cfg0.N, win0_2.index t 0 = 0 ∧ win0_2.index t 1 = t.val / 33 := by decide +kernel

/-- Row `y` of the block of point `t`. -/
def rx (t : Fin cfg0.N) (y : Fin 512) : Fin 16896 := ⟨512 * (t.val % 33) + y.val, by have := t.isLt; have e : cfg0.N = 99 := N_0; have := y.isLt; omega⟩

/-- Column `x` of the block of point `t`. -/
def cx (t : Fin cfg0.N) (x : Fin 1792) : Fin 5376 := ⟨1792 * (t.val / 33) + x.val, by have := t.isLt; have e : cfg0.N = 99 := N_0; have := x.isLt; omega⟩

theorem blk0 (t : Fin cfg0.N) (y : Fin 512) (d : Fin 1024) :
    (iblk m c 0 t : Vec Ideal S512x1024 .bf16) (ix2 y d) = (V m c main_v1 : Vec Ideal S16896x1024 .bf16) (ix2 (rx t y) d) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * (t.val % 33) + y.val; rw [hi.1]; omega
  | ⟨1, _⟩ => show win0_0.index t 1 * 1024 + 1 * d.val = d.val; rw [hi.2]; omega

theorem blk1 (t : Fin cfg0.N) (y : Fin 512) (x : Fin 1792) :
    (iblk m c 1 t : Vec Ideal S512x1792 .bf16) (ix2 y x) = (V m c main_v3 : Vec Ideal S16896x5376 .bf16) (ix2 (rx t y) (cx t x)) := by
  have hi := index1 t
  unfold iblk
  rw [View.read_apply]
  show V m c main_v3 _ = V m c main_v3 _
  congr 1
  funext a
  apply Fin.ext
  match a with
  | ⟨0, _⟩ => show win0_1.index t 0 * 512 + 1 * y.val = 512 * (t.val % 33) + y.val; rw [hi.1]; omega
  | ⟨1, _⟩ => show win0_1.index t 1 * 1792 + 1 * x.val = 1792 * (t.val / 33) + x.val; rw [hi.2]; omega

/-- One row's share of one element. -/
def rowPart (h0 : Vec Ideal S16896x1024 .bf16) (h1 : Vec Ideal S16896x5376 .bf16) (d : Fin 1024) (k : Fin 5376) (s : Fin 16896) : EReal :=
  (h0 (ix2 s d) : EReal) * h1 (ix2 s k)

theorem cell_rows {v : Vec Ideal S512x1024 .bf16} {w : Vec Ideal S512x1792 .bf16} {h0 : Vec Ideal S16896x1024 .bf16} {h1 : Vec Ideal S16896x5376 .bf16} {t : Fin cfg0.N}
    (e0 : ∀ y d, v (ix2 y d) = h0 (ix2 (rx t y) d)) (e1 : ∀ y x, w (ix2 y x) = h1 (ix2 (rx t y) (cx t x))) (d : Fin 1024) (x : Fin 1792) :
    cell v w d x = ∑ y : Fin 512, rowPart h0 h1 d (cx t x) (rx t y) :=
  Finset.sum_congr rfl fun y _ => congrArg₂ (fun a b : EReal => a * b) (e0 y d) (e1 y x)

/-- The result, of the two arrays the kernel takes. -/
def dpAll (h0 : Vec Ideal S16896x1024 .bf16) (h1 : Vec Ideal S16896x5376 .bf16) : Vec Ideal S1024x5376 .f32 :=
  fun i => ∑ s : Fin 16896, (h0 (ix2 s (i 0)) : EReal) * h1 (ix2 s (i 1))

/-- Point `n` of column block `j`. -/
theorem point_lt (j : Fin 3) {n : ℕ} (h : n < 33) : 33 * j.val + n < cfg0.N := by
  have e : cfg0.N = 99 := N_0
  have := j.isLt
  omega

theorem term_rows (j : Fin 3) (n : ℕ) (h : n < 33) (d : Fin 1024) (x : Fin 1792) (k : Fin 5376) (hk : 1792 * j.val + x.val = k.val) :
    term m c ⟨33 * j.val + n, point_lt j h⟩ d x = ∑ y : Fin 512, rowPart (V m c main_v1) (V m c main_v3) d k ⟨512 * n + y.val, by have := y.isLt; omega⟩ := by
  refine (cell_rows (blk0 m c _) (blk1 m c _) d x).trans (Finset.sum_congr rfl fun y _ => congrArg₂ (rowPart _ _ d) (Fin.ext ?_) (Fin.ext ?_))
  · show 1792 * ((33 * j.val + n) / 33) + x.val = k.val
    omega
  · show 512 * ((33 * j.val + n) % 33) + y.val = 512 * n + y.val
    omega

theorem held (j : Fin 3) (d : Fin 1024) (x : Fin 1792) (k : Fin 5376) (hk : 1792 * j.val + x.val = k.val) :
    @Eq EReal ((outsAt0 m c (33 * j.val + 32) (point_lt j (by decide))).2 (ix2 d x)) (dpAll (V m c main_v1) (V m c main_v3) (ix2 d k)) :=
  steps_rows rfl (fun n h => (outsAt0 m c (33 * j.val + n) (point_lt j h)).2 (ix2 d x)) (fun t => term m c ⟨33 * j.val + t.val, point_lt j t.isLt⟩ d x) (rowPart (V m c main_v1) (V m c main_v3) d k)
    (fun t => term_rows m c j t.val t.isLt d x k hk)
    (fun h => tA m c ⟨33 * j.val + 0, point_lt j h⟩ (by show (33 * j.val + 0) % 33 = 0; omega) d x)
    (fun n h => tB m c ⟨33 * j.val + (n + 1), point_lt j h⟩ (by show ¬ (33 * j.val + (n + 1)) % 33 = 0; omega) d x) (by decide)

theorem same {n n' : ℕ} (h : n < cfg0.N) (h' : n' < cfg0.N) (e : n = n') : outsAt0 m c n h = outsAt0 m c n' h' := by
  subst e
  rfl

theorem last_at (t : Fin cfg0.N) (h1 : t.val % 33 = 32) (d : Fin 1024) (x : Fin 1792) :
    @Eq EReal ((outsAt0 m c t.val t.isLt).1 (ix2 d x)) (dpAll (V m c main_v1) (V m c main_v3) (ix2 d (cx t x))) := by
  refine ((tC m c t h1 d x).trans (tB m c t (by omega) d x).symm).trans ?_
  have e : cfg0.N = 99 := N_0
  have hl := t.isLt
  have ht : t.val = 33 * (t.val / 33) + 32 := by omega
  have hj : t.val / 33 < 3 := by omega
  have key := held m c ⟨t.val / 33, hj⟩ d x (cx t x) rfl
  exact (congrArg (fun o : Vec Ideal S1024x1792 .f32 × Vec Ideal S1024x1792 .f32 => o.2 (ix2 d x)) (same m c t.isLt (point_lt ⟨t.val / 33, hj⟩ (by decide)) ht)).trans key

theorem arr2 : (dats m 0 c).arrAt 2 cfg0.N = dpAll (V m c main_v1) (V m c main_v3) := by
  refine (dats m 0 c).arrAt_eq_of_covers 2 _ (by decide +kernel) fun t hf y => ?_
  blk_simp
  rw [after0_2]
  have hi := index2 t
  have ey : (y : S1024x1792.Idx) = ix2 (y 0) (y 1) := (ix2_eta (n0 := 1024) (n1 := 1792) y).symm
  have hemb : (win0_2.blk t).view.emb y = ix2 (y 0) (cx t (y 1)) := by
    funext a
    apply Fin.ext
    match a with
    | ⟨0, _⟩ => show win0_2.index t 0 * 1024 + 1 * (y 0).val = (y 0).val; rw [hi.1]; omega
    | ⟨1, _⟩ => show win0_2.index t 1 * 1792 + 1 * (y 1).val = 1792 * (t.val / 33) + (y 1).val; rw [hi.2]; omega
  refine ((congrArg (outsAt0 m c t.val t.isLt).1 ey).trans (last_at m c t ((flush0_2 t).mp hf) (y 0) (y 1))).trans ?_
  exact congrArg (dpAll _ _) hemb.symm

/-- The result in terms of the arguments. -/
def dpOf (a0 : Vec Ideal S16400x1024 .f32) (a1 : Vec Ideal S16400x5376 .f32) : Vec Ideal S1024x5376 .f32 :=
  fun i => ∑ s : Fin 16400, (a0 (ix2 s (i 0)) : EReal) * a1 (ix2 s (i 1))

theorem dp_of {h0 : Vec Ideal S16896x1024 .bf16} {h1 : Vec Ideal S16896x5376 .bf16} {a0 : Vec Ideal S16400x1024 .f32} {a1 : Vec Ideal S16400x5376 .f32}
    (e0 : ∀ s d, h0 (ix2 (px s) d) = a0 (ix2 s d)) (z0 : ∀ (s : Fin 16896), s.val < 496 → ∀ d, @Eq EReal (h0 (ix2 s d)) 0)
    (e1 : ∀ s k, h1 (ix2 (px s) k) = a1 (ix2 s k)) (d : Fin 1024) (k : Fin 5376) :
    dpAll h0 h1 (ix2 d k) = dpOf a0 a1 (ix2 d k) :=
  sum_padded (fun s => (h0 (ix2 s d) : EReal) * h1 (ix2 s k)) (fun s => (a0 (ix2 s d) : EReal) * a1 (ix2 s k))
    (fun s h => (congrArg (fun u : EReal => u * h1 (ix2 s k)) (z0 s h d)).trans (zero_mul _))
    (fun s => congrArg₂ (fun u v : EReal => u * v) (e0 s d) (e1 s k))

theorem out_eq : (dats m 0 c).arrAt 2 cfg0.N = dpOf (m (c, Proc.tc.devRef main_arg0)) (m (c, Proc.tc.devRef main_arg1)) := by
  refine (arr2 m c).trans ?_
  funext i
  obtain ⟨d, k, rfl⟩ : ∃ d k, i = ix2 d k := ⟨i 0, i 1, (ix2_eta (n0 := 1024) (n1 := 5376) i).symm⟩
  exact dp_of (row_host m c) (row_zero m c) (mat_host m c) d k

end Cert.Kernel6Ideal.Dp

namespace Cert.Proof

open Idealize.ShloMosaic Idealize.ShloMosaic.TcCoe Ix

theorem kernel6_end (m : (ℓ : Loc Cert.Kernel6Ideal.nD Cert.Kernel6Ideal.τ Cert.Kernel6Ideal.sig) → Buf (Elt Ideal) ℓ) (g : Dev Cert.Kernel6Ideal.nD → PrngReg) :
    θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = Cert.Kernel6Ideal.Dp.dpOf (m (c, Proc.tc.devRef Cert.Kernel6Ideal.main_arg0)) (m (c, Proc.tc.devRef Cert.Kernel6Ideal.main_arg1))
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)) :=
  (θ_run Cert.Kernel6Ideal.defs _ _).mono (fun _ h c => ⟨
      ((h c).1 2).trans (Cert.Kernel6Ideal.Dp.out_eq m c),
      ((h c).2 Cert.Kernel6Ideal.main_arg0 (Pipeline.mem_restRefs_of Cert.Kernel6Ideal.main_arg0 (by decide) (by decide))).trans (Cert.Kernel6Ideal.Gen.V_main_arg0 m c),
      ((h c).2 Cert.Kernel6Ideal.main_arg1 (Pipeline.mem_restRefs_of Cert.Kernel6Ideal.main_arg1 (by decide) (by decide))).trans (Cert.Kernel6Ideal.Gen.V_main_arg1 m c)⟩)
    (Cert.Kernel6Ideal.Gen.run_main m g)

theorem ref6_eq (x0 : Vec Ideal Cert.Reference6Ideal.S16400x1024 .f32) (x1 : Vec Ideal Cert.Reference6Ideal.S16400x5376 .f32) :
    Cert.Reference6Ideal.Read.val_main_v3 (F := Ideal) x0 x1 = Cert.Kernel6Ideal.Dp.dpOf x0 x1 := by
  funext i
  obtain ⟨d, f, rfl⟩ : ∃ d f, i = ix2 d f := ⟨i 0, i 1, (ix2_eta (n0 := 1024) (n1 := 5376) i).symm⟩
  refine (Cert.Reference6Ideal.Read.val_main_v3_apply x0 x1 (ix2 d f)).trans ((Cert.Reference6Ideal.Read.val_main_v2_apply x0 x1 _).trans ?_)
  refine Finset.sum_congr rfl fun k _ => ?_
  refine Eq.trans (congrArg₂ (fun u v : EReal => u * v) (congrArg x1 (a₂ := ix2 k f) (funext fun a => by fin_cases a <;> rfl)) (congrArg x0 (a₂ := ix2 k d) (funext fun a => by fin_cases a <;> rfl))) ?_
  exact mul_comm (x1 (ix2 k f) : EReal) (x0 (ix2 k d))

/-- The kernel's gradient of the projection's weights is the reference's. -/
theorem value6 : Cert.algebraic_Kernel6Ideal_Reference6Ideal := by
  intro m g m' g' hpre hargs
  refine ⟨_, kernel6_end m g, (θ_run Cert.Reference6Ideal.defs _ _).mono (fun r h c => ?_) (Cert.Reference6Ideal.Value.run (F := Ideal) m' g')⟩
  obtain ⟨a0, a1⟩ := hargs c
  obtain ⟨h0, hk⟩ := h c
  refine ⟨h0.trans ((Cert.Reference6Ideal.Read.val_main_v3_eq _ _).trans ((ref6_eq _ _).trans ?_)), hk⟩
  rw [a0, a1]

end Cert.Proof
-- ==== Proof.DownValue.lean ====
/-
  The feed-forward's last product and what is added to it: the kernel's four shards summed are the reference's product.
-/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel7Ideal.Dn7

open Idealize.ShloMosaic Idealize.ShloMosaic.TcCoe
open Cert.Kernel7Ideal Cert.Kernel7Ideal.Gen Ix

/-- Column `x` of shard `j`. -/
def fx (j : Fin 4) (x : Fin 704) : Fin 2816 := ⟨704 * j.val + x.val, by have := j.isLt; have := x.isLt; omega⟩
/-- Row `s` of the sequence behind the padding. -/
def px (s : Fin 16400) : Fin 16896 := ⟨496 + s.val, by have := s.isLt; omega⟩

/-- The factor the layer is added with. -/
def half : EReal := Scalar.ofBits (F := Ideal) .f32 0x3F000000#32

theorem pay (x0 : Vec Ideal S4x512x704 .bf16) (x1 : Vec Ideal S4x704x1024 .bf16) (x2 : Vec Ideal S512x1024 .f32) (r : Fin 512) (d : Fin 1024) :
    @Eq EReal (out0_3 (F := Ideal) x0 x1 x2 (ix2 r d)) ((x2 (ix2 r d) : EReal) + half * ∑ j : Fin 4, ∑ x : Fin 704, (x0 (ix3 j r x) : EReal) * x1 (ix3 j x d)) := by
  rw [Fin.sum_univ_four]
  unfold out0_3
  frame_out
  unfold k0_pay1
  pointwise
  rfl

theorem index0 : ∀ t : Fin cfg0.N, win0_0.index t 0 = 0 ∧ win0_0.index t 1 = t.val ∧ win0_0.index t 2 = 0 := by decide +kernel
theorem index1 : ∀ t : Fin cfg0.N, win0_1.index t 0 = 0 ∧ win0_1.index t 1 = 0 ∧ win0_1.index t 2 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel

/-- Row `y` of the block of point `t`. -/
def rx (t : Fin cfg0.N) (y : Fin 512) : Fin 16896 := ⟨512 * (t.val) + y.val, by have := t.isLt; have e : cfg0.N = 33 := N_0; have := y.isLt; omega⟩

/-- The result at a row and a column, of the three arrays the kernel takes. -/
def dnAll (h0 : Vec Ideal S4x16896x704 .bf16) (h1 : Vec Ideal S4x704x1024 .bf16) (h2 : Vec Ideal S16896x1024 .f32) : Vec Ideal S16896x1024 .f32 :=
  fun i => (h2 (ix2 (i 0) (i 1)) : EReal) + half * ∑ j : Fin 4, ∑ x : Fin 704, (h0 (ix3 j (i 0) x) : EReal) * h1 (ix3 j x (i 1))

variable (m : (ℓ : Loc nD τ sig) → Buf (Elt Ideal) ℓ) (c : Dev nD)

theorem act_host (j : Fin 4) (s : Fin 16400) (x : Fin 704) :
    (V m c main_v3 : Vec Ideal S4x16896x704 .bf16) (ix3 j (px s) x) = (m (c, Proc.tc.devRef main_arg0) : Vec Ideal S16400x2816 .f32) (ix2 s (fx j x)) := by
  have e0 : (px s).val - 496 = s.val := Nat.add_sub_cancel_left _ _
  unfold V
  after_reads_at
  rw [dif_pos ⟨⟨Nat.le_add_right _ _, by rw [e0]; exact s.isLt⟩, by have := j.isLt; have := x.isLt; omega⟩]
  exact congrArg _ (congrArg₂ ix2 (Fin.ext e0) (Fin.ext (by show j.val * 704 + x.val = 704 * j.val + x.val; omega)))

theorem w_host (j : Fin 4) (x : Fin 704) (d : Fin 1024) :
    (V m c main_v5 : Vec Ideal S4x704x1024 .bf16) (ix3 j x d) = (m (c, Proc.tc.devRef main_arg1) : Vec Ideal S2816x1024 .f32) (ix2 (fx j x) d) := by
  unfold V
  after_reads_at
  exact congrArg _ (congrArg (fun q => ix2 q d) (Fin.ext (by show j.val * 704 + x.val = 704 * j.val + x.val; omega)))

theorem res_host (s : Fin 16400) (x : Fin 1024) :
    (V m c main_v6 : Vec Ideal S16896x1024 .f32) (ix2 (px s) x) = (m (c, Proc.tc.devRef main_arg2) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem blk0 (t : Fin cfg0.N) (j : Fin 4) (y : Fin 512) (x : Fin 704) :
    (iblk m c 0 t : Vec Ideal S4x512x704 .bf16) (ix3 j y x) = (V m c main_v3 : Vec Ideal S4x16896x704 .bf16) (ix3 j (rx t y) x) := by
  have hi := index0 t
  unfold iblk
  rw [View.read_apply]
  show V m c main_v3 _ = V m c main_v3 _
  congr 1
  funext a
  apply Fin.ext
  match a with
  | ⟨0, _⟩ => show win0_0.index t 0 * 4 + 1 * j.val = j.val; rw [hi.1]; omega
  | ⟨1, _⟩ => show win0_0.index t 1 * 512 + 1 * y.val = 512 * t.val + y.val; rw [hi.2.1]; omega
  | ⟨2, _⟩ => show win0_0.index t 2 * 704 + 1 * x.val = x.val; rw [hi.2.2]; omega

theorem blk1 (t : Fin cfg0.N) (j : Fin 4) (x : Fin 704) (d : Fin 1024) :
    (iblk m c 1 t : Vec Ideal S4x704x1024 .bf16) (ix3 j x d) = (V m c main_v5 : Vec Ideal S4x704x1024 .bf16) (ix3 j x d) := by
  have hi := index1 t
  unfold iblk
  rw [View.read_apply]
  show V m c main_v5 _ = V m c main_v5 _
  congr 1
  funext a
  apply Fin.ext
  match a with
  | ⟨0, _⟩ => show win0_1.index t 0 * 4 + 1 * j.val = j.val; rw [hi.1]; omega
  | ⟨1, _⟩ => show win0_1.index t 1 * 704 + 1 * x.val = x.val; rw [hi.2.1]; omega
  | ⟨2, _⟩ => show win0_1.index t 2 * 1024 + 1 * d.val = d.val; rw [hi.2.2]; omega

theorem blk2 (t : Fin cfg0.N) (y : Fin 512) (d : Fin 1024) :
    (iblk m c 2 t : Vec Ideal S512x1024 .f32) (ix2 y d) = (V m c main_v6 : Vec Ideal S16896x1024 .f32) (ix2 (rx t y) d) := by
  have hi := index2 t
  unfold iblk
  rw [View.read_apply]
  show V m c main_v6 _ = V m c main_v6 _
  congr 1
  funext a
  apply Fin.ext
  match a with
  | ⟨0, _⟩ => show win0_2.index t 0 * 512 + 1 * y.val = 512 * t.val + y.val; rw [hi.1]; omega
  | ⟨1, _⟩ => show win0_2.index t 1 * 1024 + 1 * d.val = d.val; rw [hi.2]; omega

theorem arr3 : (dats m 0 c).arrAt 3 cfg0.N = dnAll (V m c main_v3) (V m c main_v5) (V m c main_v6) := by
  refine (dats m 0 c).arrAt_eq_of_covers 3 _ (by decide +kernel) fun t hf y => ?_
  blk_simp
  rw [after0_3]
  have hi := index3 t
  have ey : (y : S512x1024.Idx) = ix2 (y 0) (y 1) := (ix2_eta (n0 := 512) (n1 := 1024) y).symm
  have hemb : (win0_3.blk t).view.emb y = ix2 (rx t (y 0)) (y 1) := by
    funext a
    apply Fin.ext
    match a with
    | ⟨0, _⟩ => show win0_3.index t 0 * 512 + 1 * (y 0).val = 512 * t.val + (y 0).val; rw [hi.1]; omega
    | ⟨1, _⟩ => show win0_3.index t 1 * 1024 + 1 * (y 1).val = (y 1).val; rw [hi.2]; omega
  refine ((congrArg (out0_3 (F := Ideal) (iblk m c 0 t) (iblk m c 1 t) (iblk m c 2 t)) ey).trans (pay _ _ _ (y 0) (y 1))).trans ?_
  refine Eq.trans ?_ (congrArg (dnAll _ _ _) hemb.symm)
  refine congrArg₂ (fun u v : EReal => u + half * v) (blk2 m c t (y 0) (y 1)) (Finset.sum_congr rfl fun j _ => Finset.sum_congr rfl fun x _ => congrArg₂ (fun u v : EReal => u * v) ?_ ?_)
  · exact blk0 m c t j (y 0) x
  · exact blk1 m c t j x (y 1)

/-- A sum over the columns, shard by shard. -/
theorem sum_shards (f : Fin 2816 → EReal) : ∑ k : Fin 2816, f k = ∑ j : Fin 4, ∑ x : Fin 704, f (fx j x) :=
  ((Equiv.sum_comp (finProdFinEquiv (m := 4) (n := 704)) f).symm.trans (Fintype.sum_prod_type _)).trans
    (Finset.sum_congr rfl fun j _ => Finset.sum_congr rfl fun x _ => congrArg f (Fin.ext (Nat.add_comm _ _)))

/-- The result in terms of the arguments. -/
def dnOf (a0 : Vec Ideal S16400x2816 .f32) (a1 : Vec Ideal S2816x1024 .f32) (a2 : Vec Ideal S16400x1024 .f32) : Vec Ideal S16400x1024 .f32 :=
  fun i => (a2 (ix2 (i 0) (i 1)) : EReal) + half * ∑ k : Fin 2816, (a0 (ix2 (i 0) k) : EReal) * a1 (ix2 k (i 1))

theorem dn_of {h0 : Vec Ideal S4x16896x704 .bf16} {h1 : Vec Ideal S4x704x1024 .bf16} {h2 : Vec Ideal S16896x1024 .f32} {a0 : Vec Ideal S16400x2816 .f32} {a1 : Vec Ideal S2816x1024 .f32} {a2 : Vec Ideal S16400x1024 .f32}
    (e0 : ∀ j s x, h0 (ix3 j (px s) x) = a0 (ix2 s (fx j x))) (e1 : ∀ j x d, h1 (ix3 j x d) = a1 (ix2 (fx j x) d))
    (e2 : ∀ s d, h2 (ix2 (px s) d) = a2 (ix2 s d)) (s : Fin 16400) (d : Fin 1024) :
    dnAll h0 h1 h2 (ix2 (px s) d) = dnOf a0 a1 a2 (ix2 s d) :=
  congrArg₂ (fun u v : EReal => u + half * v) (e2 s d)
    ((Finset.sum_congr rfl fun j _ => Finset.sum_congr rfl fun x _ => congrArg₂ (fun u v : EReal => u * v) (e0 j s x) (e1 j x d)).trans
      (sum_shards fun k => (a0 (ix2 s k) : EReal) * a1 (ix2 k d)).symm)

theorem out_at (s : Fin 16400) (d : Fin 1024) : (Pipeline.afterTail₀ cfgs (dats m) 0 (V0 m) [hostOps1] c main_v8 : Vec Ideal S16400x1024 .f32) (ix2 s d)
    = dnAll (V m c main_v3) (V m c main_v5) (V m c main_v6) (ix2 (px s) d) := by
  have ea := congrFun ((Pipeline.withArrays_arr spec0 (by decide) c (V0 m c) (fun w => (dats m 0 c).arrAt w cfg0.N) 3).trans (arr3 m c)) (ix2 (px s) d)
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v8) : Vec Ideal S16400x1024 .f32) (ix2 s d) = (U (Proc.devRef .tc main_v7) : Vec Ideal S16896x1024 .f32) (ix2 (px s) d)
  after_reads_at
  rfl

theorem out_eq : (Pipeline.afterTail₀ cfgs (dats m) 0 (V0 m) [hostOps1] c main_v8 : Vec Ideal S16400x1024 .f32)
    = dnOf (m (c, Proc.tc.devRef main_arg0)) (m (c, Proc.tc.devRef main_arg1)) (m (c, Proc.tc.devRef main_arg2)) := by
  funext i
  obtain ⟨s, d, rfl⟩ : ∃ s d, i = ix2 s d := ⟨i 0, i 1, (ix2_eta (n0 := 16400) (n1 := 1024) i).symm⟩
  exact (out_at m c s d).trans (dn_of (act_host m c) (w_host m c) (res_host m c) s d)

end Cert.Kernel7Ideal.Dn7

namespace Cert.Proof

open Idealize.ShloMosaic Idealize.ShloMosaic.TcCoe Ix

theorem kernel7_end (m : (ℓ : Loc Cert.Kernel7Ideal.nD Cert.Kernel7Ideal.τ Cert.Kernel7Ideal.sig) → Buf (Elt Ideal) ℓ) (g : Dev Cert.Kernel7Ideal.nD → PrngReg) :
    θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = Cert.Kernel7Ideal.Dn7.dnOf (m (c, Proc.tc.devRef Cert.Kernel7Ideal.main_arg0)) (m (c, Proc.tc.devRef Cert.Kernel7Ideal.main_arg1)) (m (c, Proc.tc.devRef Cert.Kernel7Ideal.main_arg2))
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)) :=
  (θ_run Cert.Kernel7Ideal.defs _ _).mono (fun _ h c => ⟨
      ((h c).2 Cert.Kernel7Ideal.main_v8 (Pipeline.mem_restRefs_of Cert.Kernel7Ideal.main_v8 (by decide) (by decide))).trans (Cert.Kernel7Ideal.Dn7.out_eq m c),
      ((h c).2 Cert.Kernel7Ideal.main_arg0 (Pipeline.mem_restRefs_of Cert.Kernel7Ideal.main_arg0 (by decide) (by decide))).trans (Cert.Kernel7Ideal.Gen.W_main_arg0 m (Cert.Kernel7Ideal.Gen.dats m) c),
      ((h c).2 Cert.Kernel7Ideal.main_arg1 (Pipeline.mem_restRefs_of Cert.Kernel7Ideal.main_arg1 (by decide) (by decide))).trans (Cert.Kernel7Ideal.Gen.W_main_arg1 m (Cert.Kernel7Ideal.Gen.dats m) c),
      ((h c).2 Cert.Kernel7Ideal.main_arg2 (Pipeline.mem_restRefs_of Cert.Kernel7Ideal.main_arg2 (by decide) (by decide))).trans (Cert.Kernel7Ideal.Gen.W_main_arg2 m (Cert.Kernel7Ideal.Gen.dats m) c)⟩)
    (Cert.Kernel7Ideal.Gen.run_main m g)

theorem ref7_eq (x0 : Vec Ideal Cert.Reference7Ideal.S16400x2816 .f32) (x1 : Vec Ideal Cert.Reference7Ideal.S2816x1024 .f32) (x2 : Vec Ideal Cert.Reference7Ideal.S16400x1024 .f32) :
    Cert.Reference7Ideal.Read.val_main_v3 (F := Ideal) x0 x1 x2 = Cert.Kernel7Ideal.Dn7.dnOf x0 x1 x2 := by
  funext i
  obtain ⟨s, d, rfl⟩ : ∃ s d, i = ix2 s d := ⟨i 0, i 1, (ix2_eta (n0 := 16400) (n1 := 1024) i).symm⟩
  refine congrArg (fun u : EReal => x2 (ix2 s d) + Cert.Kernel7Ideal.Dn7.half * u) ((Cert.Reference7Ideal.Read.val_main_v0_apply x0 x1 (ix2 s d)).trans ?_)
  exact Finset.sum_congr rfl fun k _ => congrArg₂ (fun u v : EReal => u * v) (congrArg x0 (a₂ := ix2 s k) (funext fun a => by fin_cases a <;> rfl)) (congrArg x1 (a₂ := ix2 k d) (funext fun a => by fin_cases a <;> rfl))

/-- The kernel's last product of the feed-forward, added to the layer's input, is the reference's. -/
theorem value7 : Cert.algebraic_Kernel7Ideal_Reference7Ideal := by
  intro m g m' g' hpre hargs
  refine ⟨_, kernel7_end m g, (θ_run Cert.Reference7Ideal.defs _ _).mono (fun r h c => ?_) (Cert.Reference7Ideal.Value.run (F := Ideal) m' g')⟩
  obtain ⟨a0, a1, a2⟩ := hargs c
  obtain ⟨h0, hk⟩ := h c
  refine ⟨h0.trans ((Cert.Reference7Ideal.Read.val_main_v3_eq _ _ _).trans ((ref7_eq _ _ _).trans ?_)), hk⟩
  rw [a0, a1, a2]

end Cert.Proof
-- ==== Proof.PrValue.lean ====
/-
  The projection into the mixer: the kernel's blocks of rows and columns are the reference's product.
-/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel8Ideal.Pr

open Idealize.ShloMosaic Idealize.ShloMosaic.TcCoe
open Cert.Kernel8Ideal Cert.Kernel8Ideal.Gen Ix

/-- Row `s` of the sequence behind the padding. -/
def px (s : Fin 16400) : Fin 16896 := ⟨496 + s.val, by have := s.isLt; omega⟩

theorem pay (x0 : Vec Ideal S512x1024 .bf16) (x1 : Vec Ideal S1024x1792 .bf16) (r : Fin 512) (x : Fin 1792) :
    @Eq EReal (out0_2 (F := Ideal) x0 x1 (ix2 r x)) (∑ k : Fin 1024, (x0 (ix2 r k) : EReal) * x1 (ix2 k x)) := by
  unfold out0_2
  frame_out
  unfold k0_pay1
  pointwise

theorem index0 : ∀ t : Fin cfg0.N, win0_0.index t 0 = t.val % 33 ∧ win0_0.index t 1 = 0 := by decide +kernel
theorem index1 : ∀ t : Fin cfg0.N, win0_1.index t 0 = 0 ∧ win0_1.index t 1 = t.val / 33 := by decide +kernel
theorem index2 : ∀ t : Fin cfg0.N, win0_2.index t 0 = t.val % 33 ∧ win0_2.index t 1 = t.val / 33 := by decide +kernel

/-- Row `y` of the block of point `t`. -/
def rx (t : Fin cfg0.N) (y : Fin 512) : Fin 16896 := ⟨512 * (t.val % 33) + y.val, by have := t.isLt; have e : cfg0.N = 99 := N_0; have := y.isLt; omega⟩

/-- Column `x` of the block of point `t`. -/
def cx (t : Fin cfg0.N) (x : Fin 1792) : Fin 5376 := ⟨1792 * (t.val / 33) + x.val, by have := t.isLt; have e : cfg0.N = 99 := N_0; have := x.isLt; omega⟩

/-- The result at a row and a column, of the two arrays the kernel takes. -/
def prAll (h0 : Vec Ideal S16896x1024 .bf16) (h1 : Vec Ideal S1024x5376 .bf16) : Vec Ideal S16896x5376 .f32 :=
  fun i => ∑ k : Fin 1024, (h0 (ix2 (i 0) k) : EReal) * h1 (ix2 k (i 1))

variable (m : (ℓ : Loc nD τ sig) → Buf (Elt Ideal) ℓ) (c : Dev nD)

theorem row_host (s : Fin 16400) (x : Fin 1024) :
    (V m c main_v1 : Vec Ideal S16896x1024 .bf16) (ix2 (px s) x) = (m (c, Proc.tc.devRef main_arg0) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem mat_host (d : Fin 1024) (x : Fin 5376) :
    (V m c main_v2 : Vec Ideal S1024x5376 .bf16) (ix2 d x) = (m (c, Proc.tc.devRef main_arg1) : Vec Ideal S1024x5376 .f32) (ix2 d x) := by
  unfold V
  after_reads_at
  try rfl

theorem blk0 (t : Fin cfg0.N) (y : Fin 512) (k : Fin 1024) :
    (iblk m c 0 t : Vec Ideal S512x1024 .bf16) (ix2 y k) = (V m c main_v1 : Vec Ideal S16896x1024 .bf16) (ix2 (rx t y) k) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * (t.val % 33) + y.val; rw [hi.1]; omega
  | ⟨1, _⟩ => show win0_0.index t 1 * 1024 + 1 * k.val = k.val; rw [hi.2]; omega

theorem blk1 (t : Fin cfg0.N) (k : Fin 1024) (x : Fin 1792) :
    (iblk m c 1 t : Vec Ideal S1024x1792 .bf16) (ix2 k x) = (V m c main_v2 : Vec Ideal S1024x5376 .bf16) (ix2 k (cx t x)) := by
  have hi := index1 t
  unfold iblk
  rw [View.read_apply]
  show V m c main_v2 _ = V m c main_v2 _
  congr 1
  funext a
  apply Fin.ext
  match a with
  | ⟨0, _⟩ => show win0_1.index t 0 * 1024 + 1 * k.val = k.val; rw [hi.1]; omega
  | ⟨1, _⟩ => show win0_1.index t 1 * 1792 + 1 * x.val = 1792 * (t.val / 33) + x.val; rw [hi.2]; omega

theorem arr2 : (dats m 0 c).arrAt 2 cfg0.N = prAll (V m c main_v1) (V m c main_v2) := by
  refine (dats m 0 c).arrAt_eq_of_covers 2 _ (by decide +kernel) fun t hf y => ?_
  blk_simp
  rw [after0_2]
  have hi := index2 t
  have ey : (y : S512x1792.Idx) = ix2 (y 0) (y 1) := (ix2_eta (n0 := 512) (n1 := 1792) y).symm
  have hemb : (win0_2.blk t).view.emb y = ix2 (rx t (y 0)) (cx t (y 1)) := by
    funext a
    apply Fin.ext
    match a with
    | ⟨0, _⟩ => show win0_2.index t 0 * 512 + 1 * (y 0).val = 512 * (t.val % 33) + (y 0).val; rw [hi.1]; omega
    | ⟨1, _⟩ => show win0_2.index t 1 * 1792 + 1 * (y 1).val = 1792 * (t.val / 33) + (y 1).val; rw [hi.2]; omega
  refine ((congrArg (out0_2 (F := Ideal) (iblk m c 0 t) (iblk m c 1 t)) ey).trans (pay _ _ (y 0) (y 1))).trans ?_
  refine Eq.trans ?_ (congrArg (prAll _ _) hemb.symm)
  refine Finset.sum_congr rfl fun x _ => congrArg₂ (· * ·) ?_ ?_
  · exact blk0 m c t (y 0) x
  · exact blk1 m c t x (y 1)

/-- The result in terms of the arguments. -/
def prOf (a0 : Vec Ideal S16400x1024 .f32) (a1 : Vec Ideal S1024x5376 .f32) : Vec Ideal S16400x5376 .f32 :=
  fun i => ∑ k : Fin 1024, (a0 (ix2 (i 0) k) : EReal) * a1 (ix2 k (i 1))

theorem pr_of {h0 : Vec Ideal S16896x1024 .bf16} {h1 : Vec Ideal S1024x5376 .bf16} {a0 : Vec Ideal S16400x1024 .f32} {a1 : Vec Ideal S1024x5376 .f32}
    (e0 : ∀ s k, h0 (ix2 (px s) k) = a0 (ix2 s k)) (e1 : ∀ k x, h1 (ix2 k x) = a1 (ix2 k x)) (s : Fin 16400) (x : Fin 5376) :
    prAll h0 h1 (ix2 (px s) x) = prOf a0 a1 (ix2 s x) :=
  Finset.sum_congr rfl fun k _ => congrArg₂ (fun u v : EReal => u * v) (e0 s k) (e1 k x)

theorem out_at (s : Fin 16400) (d : Fin 5376) : (Pipeline.afterTail₀ cfgs (dats m) 0 (V0 m) [hostOps1] c main_v4 : Vec Ideal S16400x5376 .f32) (ix2 s d)
    = prAll (V m c main_v1) (V m c main_v2) (ix2 (px s) d) := by
  have ea := congrFun ((Pipeline.withArrays_arr spec0 (by decide) c (V0 m c) (fun w => (dats m 0 c).arrAt w cfg0.N) 2).trans (arr2 m c)) (ix2 (px s) d)
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v4) : Vec Ideal S16400x5376 .f32) (ix2 s d) = (U (Proc.devRef .tc main_v3) : Vec Ideal S16896x5376 .f32) (ix2 (px s) d)
  after_reads_at
  rfl

theorem out_eq : (Pipeline.afterTail₀ cfgs (dats m) 0 (V0 m) [hostOps1] c main_v4 : Vec Ideal S16400x5376 .f32)
    = prOf (m (c, Proc.tc.devRef main_arg0)) (m (c, Proc.tc.devRef main_arg1)) := by
  funext i
  obtain ⟨s, d, rfl⟩ : ∃ s d, i = ix2 s d := ⟨i 0, i 1, (ix2_eta (n0 := 16400) (n1 := 5376) i).symm⟩
  exact (out_at m c s d).trans (pr_of (row_host m c) (mat_host m c) s d)

end Cert.Kernel8Ideal.Pr

namespace Cert.Proof

open Idealize.ShloMosaic Idealize.ShloMosaic.TcCoe Ix

theorem kernel8_end (m : (ℓ : Loc Cert.Kernel8Ideal.nD Cert.Kernel8Ideal.τ Cert.Kernel8Ideal.sig) → Buf (Elt Ideal) ℓ) (g : Dev Cert.Kernel8Ideal.nD → PrngReg) :
    θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = Cert.Kernel8Ideal.Pr.prOf (m (c, Proc.tc.devRef Cert.Kernel8Ideal.main_arg0)) (m (c, Proc.tc.devRef Cert.Kernel8Ideal.main_arg1))
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)) :=
  (θ_run Cert.Kernel8Ideal.defs _ _).mono (fun _ h c => ⟨
      ((h c).2 Cert.Kernel8Ideal.main_v4 (Pipeline.mem_restRefs_of Cert.Kernel8Ideal.main_v4 (by decide) (by decide))).trans (Cert.Kernel8Ideal.Pr.out_eq m c),
      ((h c).2 Cert.Kernel8Ideal.main_arg0 (Pipeline.mem_restRefs_of Cert.Kernel8Ideal.main_arg0 (by decide) (by decide))).trans (Cert.Kernel8Ideal.Gen.W_main_arg0 m (Cert.Kernel8Ideal.Gen.dats m) c),
      ((h c).2 Cert.Kernel8Ideal.main_arg1 (Pipeline.mem_restRefs_of Cert.Kernel8Ideal.main_arg1 (by decide) (by decide))).trans (Cert.Kernel8Ideal.Gen.W_main_arg1 m (Cert.Kernel8Ideal.Gen.dats m) c)⟩)
    (Cert.Kernel8Ideal.Gen.run_main m g)

theorem ref8_eq (x0 : Vec Ideal Cert.Reference8Ideal.S16400x1024 .f32) (x1 : Vec Ideal Cert.Reference8Ideal.S1024x5376 .f32) :
    Cert.Reference8Ideal.Read.val_main_v0 (F := Ideal) x0 x1 = Cert.Kernel8Ideal.Pr.prOf x0 x1 := by
  funext i
  obtain ⟨s, d, rfl⟩ : ∃ s d, i = ix2 s d := ⟨i 0, i 1, (ix2_eta (n0 := 16400) (n1 := 5376) i).symm⟩
  refine (Cert.Reference8Ideal.Read.val_main_v0_apply x0 x1 (ix2 s d)).trans ?_
  exact Finset.sum_congr rfl fun k _ => congrArg₂ (fun u v : EReal => u * v) (congrArg x0 (a₂ := ix2 s k) (funext fun a => by fin_cases a <;> rfl)) (congrArg x1 (a₂ := ix2 k d) (funext fun a => by fin_cases a <;> rfl))

/-- The kernel's projection into the mixer is the reference's. -/
theorem value8 : Cert.algebraic_Kernel8Ideal_Reference8Ideal := by
  intro m g m' g' hpre hargs
  refine ⟨_, kernel8_end m g, (θ_run Cert.Reference8Ideal.defs _ _).mono (fun r h c => ?_) (Cert.Reference8Ideal.Value.run (F := Ideal) m' g')⟩
  obtain ⟨a0, a1⟩ := hargs c
  obtain ⟨h0, hk⟩ := h c
  refine ⟨h0.trans ((Cert.Reference8Ideal.Read.val_main_v0_eq _ _).trans ((ref8_eq _ _).trans ?_)), hk⟩
  rw [a0, a1]

end Cert.Proof
-- ==== Proof.UpValue.lean ====
/-
  The feed-forward's products into the gate: the kernel's sigmoid by the hyperbolic tangent is the reference's, and so are the gated products.
-/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel9Ideal.Up

open Idealize.ShloMosaic Idealize.ShloMosaic.TcCoe
open Cert.Kernel9Ideal Cert.Kernel9Ideal.Gen Ix

/-- Column `x` of shard `j`. -/
def fx (j : Fin 4) (x : Fin 704) : Fin 2816 := ⟨704 * j.val + x.val, by have := j.isLt; have := x.isLt; omega⟩

/-- The shard of a column. -/
def sh (f : Fin 2816) : Fin 4 := ⟨f.val / 704, by have := f.isLt; omega⟩

/-- The column inside its shard. -/
def lo (f : Fin 2816) : Fin 704 := ⟨f.val % 704, Nat.mod_lt _ (by decide)⟩

theorem fx_sh (f : Fin 2816) : fx (sh f) (lo f) = f := Fin.ext (Nat.div_add_mod f.val 704)

/-- Row `s` of the sequence behind the padding. -/
def px (s : Fin 16400) : Fin 16896 := ⟨496 + s.val, by have := s.isLt; omega⟩

/-- The constant of the kernel's sigmoid. -/
def half : EReal := Ideal.ofBits .f32 0x3F000000#32

theorem half_eq : half = ((1 / 2 : ℝ) : EReal) := by
  unfold half
  simp [Ideal.ofBits, Ideal.ieee, -EReal.coe_mul]
  norm_num

theorem tanh_half (r : ℝ) : 1 / 2 * Real.tanh (1 / 2 * r) + 1 / 2 = (1 + Real.exp (-r))⁻¹ := by
  have e1 : Real.exp (-r) = Real.exp (-(1 / 2 * r)) * Real.exp (-(1 / 2 * r)) := by rw [← Real.exp_add]; congr 1; ring
  have e2 : Real.exp (-(1 / 2 * r)) = (Real.exp (1 / 2 * r))⁻¹ := Real.exp_neg _
  have hp := Real.exp_pos (1 / 2 * r)
  rw [Real.tanh_eq_sinh_div_cosh, Real.sinh_eq, Real.cosh_eq, e1, e2]
  generalize Real.exp (1 / 2 * r) = a at hp ⊢
  have h1 : a * a + 1 ≠ 0 := by positivity
  field_simp
  ring

/-- The kernel's sigmoid is the logistic function, at the infinities too. -/
theorem sigmoid (x : EReal) : half * Ideal.tanh (half * x) + half = Ideal.logistic x := by
  rw [half_eq]
  induction x using EReal.rec with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    rw [show (1 : EReal) = ((1 : ℝ) : EReal) from rfl, ← EReal.coe_mul, ← EReal.coe_add]
    norm_num
  | coe r =>
    rw [← EReal.coe_mul, Ideal.tanh_coe, ← EReal.coe_mul, ← EReal.coe_add, Ideal.logistic_coe, tanh_half]

/-- A value times its logistic. -/
def gate (x : EReal) : EReal := x * Ideal.logistic x

theorem gate_tanh (x : EReal) : x * (half * Ideal.tanh (half * x) + half) = gate x := congrArg (fun u : EReal => x * u) (sigmoid x)

/-- The slope of the gate. -/
def slope (x : EReal) : EReal := Ideal.logistic x * (1 + x * (1 - Ideal.logistic x))

theorem slope_tanh (x : EReal) :
    (half * Ideal.tanh (half * x) + half) * (1 + x * (1 - (half * Ideal.tanh (half * x) + half))) = slope x := by
  rw [sigmoid]
  rfl

/-- The slope as the sum of the logistic and the value times the slope of the logistic, at the infinities too. -/
theorem slope_sum (x : EReal) : 1 * Ideal.logistic x + (x * 1) * (Ideal.logistic x * (1 - Ideal.logistic x)) = slope x := by
  unfold slope
  induction x using EReal.rec with
  | bot => simp [Ideal.logistic_bot]
  | top =>
    rw [Ideal.logistic_top, show (1 : EReal) - 1 = 0 from by rw [← EReal.coe_one, ← EReal.coe_sub]; norm_num]
    simp
  | coe r =>
    rw [Ideal.logistic_coe]
    generalize (1 + Real.exp (-r))⁻¹ = q
    exact_mod_cast (by ring : 1 * q + r * 1 * (q * (1 - q)) = q * (1 + r * (1 - q)))

theorem payg (x0 : Vec Ideal S768x1024 .bf16) (x1 x2 : Vec Ideal S1x1024x704 .bf16) (y : Fin 768) (x : Fin 704) :
    @Eq EReal (out0_3 (F := Ideal) x0 x1 x2 (ix3 0 y x)) ((∑ k : Fin 1024, (x0 (ix2 y k) : EReal) * x2 (ix3 0 k x)) * slope (∑ k : Fin 1024, (x0 (ix2 y k) : EReal) * x1 (ix3 0 k x))) := by
  unfold out0_3
  frame_out
  unfold k0_pay7 k0_pay5 k0_pay4 k0_pay3 k0_pay2
  pointwise
  exact congrArg (fun u : EReal => _ * u) (slope_tanh _)

theorem payu (x0 : Vec Ideal S768x1024 .bf16) (x1 x2 : Vec Ideal S1x1024x704 .bf16) (y : Fin 768) (x : Fin 704) :
    @Eq EReal (out0_4 (F := Ideal) x0 x1 x2 (ix3 0 y x)) (gate (∑ k : Fin 1024, (x0 (ix2 y k) : EReal) * x1 (ix3 0 k x))) := by
  unfold out0_4
  frame_out
  unfold k0_pay8 k0_pay6 k0_pay5 k0_pay3 k0_pay2
  pointwise
  exact gate_tanh _

theorem paya (x0 : Vec Ideal S768x1024 .bf16) (x1 x2 : Vec Ideal S1x1024x704 .bf16) (y : Fin 768) (x : Fin 704) :
    @Eq EReal (out0_5 (F := Ideal) x0 x1 x2 (ix3 0 y x)) (gate (∑ k : Fin 1024, (x0 (ix2 y k) : EReal) * x1 (ix3 0 k x)) * ∑ k : Fin 1024, (x0 (ix2 y k) : EReal) * x2 (ix3 0 k x)) := by
  unfold out0_5
  frame_out
  unfold k0_pay1 k0_pay9 k0_pay6 k0_pay5 k0_pay4 k0_pay3 k0_pay2
  pointwise
  exact congrArg (fun u : EReal => u * _) (gate_tanh _)

theorem index0 : ∀ t : Fin cfg0.N, win0_0.index t 0 = t.val % 22 ∧ win0_0.index t 1 = 0 := by decide +kernel
theorem index1 : ∀ t : Fin cfg0.N, win0_1.index t 0 = t.val / 22 ∧ win0_1.index t 1 = 0 ∧ win0_1.index t 2 = 0 := by decide +kernel
theorem index2 : ∀ t : Fin cfg0.N, win0_2.index t 0 = t.val / 22 ∧ win0_2.index t 1 = 0 ∧ win0_2.index t 2 = 0 := by decide +kernel
theorem index3 : ∀ t : Fin cfg0.N, win0_3.index t 0 = t.val / 22 ∧ win0_3.index t 1 = t.val % 22 ∧ win0_3.index t 2 = 0 := by decide +kernel
theorem index4 : ∀ t : Fin cfg0.N, win0_4.index t 0 = t.val / 22 ∧ win0_4.index t 1 = t.val % 22 ∧ win0_4.index t 2 = 0 := by decide +kernel
theorem index5 : ∀ t : Fin cfg0.N, win0_5.index t 0 = t.val / 22 ∧ win0_5.index t 1 = t.val % 22 ∧ win0_5.index t 2 = 0 := by decide +kernel

/-- Row `y` of the block of point `t`. -/
def rx (t : Fin cfg0.N) (y : Fin 768) : Fin 16896 := ⟨768 * (t.val % 22) + y.val, by have := y.isLt; omega⟩

/-- The shard of point `t`. -/
def jx (t : Fin cfg0.N) : Fin 4 := ⟨t.val / 22, by have := t.isLt.trans_eq N_0; omega⟩

/-- A product by shard, row and column, of the arrays the kernel takes. -/
def prod (h0 : Vec Ideal S16896x1024 .bf16) (h1 : Vec Ideal S4x1024x704 .bf16) (j : Fin 4) (s : Fin 16896) (x : Fin 704) : EReal :=
  ∑ k : Fin 1024, (h0 (ix2 s k) : EReal) * h1 (ix3 j k x)

/-- The gate, of the arrays the kernel takes. -/
def auAll (h0 : Vec Ideal S16896x1024 .bf16) (h1 : Vec Ideal S4x1024x704 .bf16) : Vec Ideal S4x16896x704 .bf16 :=
  fun i => gate (prod h0 h1 (i 0) (i 1) (i 2))

/-- The slope of the gate times the other product, of the arrays the kernel takes. -/
def agAll (h0 : Vec Ideal S16896x1024 .bf16) (h1 h2 : Vec Ideal S4x1024x704 .bf16) : Vec Ideal S4x16896x704 .bf16 :=
  fun i => prod h0 h2 (i 0) (i 1) (i 2) * slope (prod h0 h1 (i 0) (i 1) (i 2))

/-- The gated product, of the arrays the kernel takes. -/
def aAll (h0 : Vec Ideal S16896x1024 .bf16) (h1 h2 : Vec Ideal S4x1024x704 .bf16) : Vec Ideal S4x16896x704 .bf16 :=
  fun i => gate (prod h0 h1 (i 0) (i 1) (i 2)) * prod h0 h2 (i 0) (i 1) (i 2)

variable (m : (ℓ : Loc nD τ sig) → Buf (Elt Ideal) ℓ) (c : Dev nD)

theorem row_host (s : Fin 16400) (x : Fin 1024) :
    (V m c main_v1 : Vec Ideal S16896x1024 .bf16) (ix2 (px s) x) = (m (c, Proc.tc.devRef main_arg0) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem wg_host (j : Fin 4) (k : Fin 1024) (x : Fin 704) :
    (V m c main_v4 : Vec Ideal S4x1024x704 .bf16) (ix3 j k x) = (m (c, Proc.tc.devRef main_arg1) : Vec Ideal S1024x2816 .f32) (ix2 k (fx j x)) := by
  unfold V
  after_reads_at
  exact congrArg _ (congrArg (fun q => ix2 k q) (Fin.ext (by show j.val * 704 + x.val = 704 * j.val + x.val; omega)))

theorem wu_host (j : Fin 4) (k : Fin 1024) (x : Fin 704) :
    (V m c main_v7 : Vec Ideal S4x1024x704 .bf16) (ix3 j k x) = (m (c, Proc.tc.devRef main_arg2) : Vec Ideal S1024x2816 .f32) (ix2 k (fx j x)) := by
  unfold V
  after_reads_at
  exact congrArg _ (congrArg (fun q => ix2 k q) (Fin.ext (by show j.val * 704 + x.val = 704 * j.val + x.val; omega)))

theorem blk0 (t : Fin cfg0.N) (y : Fin 768) (k : Fin 1024) :
    (iblk m c 0 t : Vec Ideal S768x1024 .bf16) (ix2 y k) = (V m c main_v1 : Vec Ideal S16896x1024 .bf16) (ix2 (rx t y) k) := by
  have hi := index0 t
  unfold iblk
  rw [View.read_apply]
  show V m c main_v1 _ = V m c main_v1 _
  congr 1
  funext a
  apply Fin.ext
  match a with
  | ⟨0, _⟩ => show win0_0.index t 0 * 768 + 1 * y.val = 768 * (t.val % 22) + y.val; rw [hi.1]; omega
  | ⟨1, _⟩ => show win0_0.index t 1 * 1024 + 1 * k.val = k.val; rw [hi.2]; omega

theorem blk1 (t : Fin cfg0.N) (y : Fin 1024) (x : Fin 704) :
    (iblk m c 1 t : Vec Ideal S1x1024x704 .bf16) (ix3 0 y x) = (V m c main_v4 : Vec Ideal S4x1024x704 .bf16) (ix3 (jx t) y x) := by
  have hi := index1 t
  unfold iblk
  rw [View.read_apply]
  show V m c main_v4 _ = V m c main_v4 _
  congr 1
  funext a
  apply Fin.ext
  match a with
  | ⟨0, _⟩ => show win0_1.index t 0 * 1 + 1 * 0 = t.val / 22; rw [hi.1]; omega
  | ⟨1, _⟩ => show win0_1.index t 1 * 1024 + 1 * y.val = y.val; rw [hi.2.1]; omega
  | ⟨2, _⟩ => show win0_1.index t 2 * 704 + 1 * x.val = x.val; rw [hi.2.2]; omega

theorem blk2 (t : Fin cfg0.N) (y : Fin 1024) (x : Fin 704) :
    (iblk m c 2 t : Vec Ideal S1x1024x704 .bf16) (ix3 0 y x) = (V m c main_v7 : Vec Ideal S4x1024x704 .bf16) (ix3 (jx t) y x) := by
  have hi := index2 t
  unfold iblk
  rw [View.read_apply]
  show V m c main_v7 _ = V m c main_v7 _
  congr 1
  funext a
  apply Fin.ext
  match a with
  | ⟨0, _⟩ => show win0_2.index t 0 * 1 + 1 * 0 = t.val / 22; rw [hi.1]; omega
  | ⟨1, _⟩ => show win0_2.index t 1 * 1024 + 1 * y.val = y.val; rw [hi.2.1]; omega
  | ⟨2, _⟩ => show win0_2.index t 2 * 704 + 1 * x.val = x.val; rw [hi.2.2]; omega

theorem arr3 : (dats m 0 c).arrAt 3 cfg0.N = agAll (V m c main_v1) (V m c main_v4) (V m c main_v7) := by
  refine (dats m 0 c).arrAt_eq_of_covers 3 _ (by decide +kernel) fun t hf y => ?_
  blk_simp
  rw [after0_3]
  have hi := index3 t
  have ey : (y : S1x768x704.Idx) = ix3 0 (y 1) (y 2) :=
    (ix3_eta (n0 := 1) (n1 := 768) (n2 := 704) y).symm.trans (congrArg (fun q => ix3 q (y 1) (y 2)) (Subsingleton.elim (α := Fin 1) _ _))
  have hemb : (win0_3.blk t).view.emb y = ix3 (jx t) (rx t (y 1)) (y 2) := by
    funext a
    apply Fin.ext
    match a with
    | ⟨0, _⟩ => show win0_3.index t 0 * 1 + 1 * (y 0).val = t.val / 22; rw [hi.1]; have h0 : (y 0).val < 1 := (y 0).isLt; omega
    | ⟨1, _⟩ => show win0_3.index t 1 * 768 + 1 * (y 1).val = 768 * (t.val % 22) + (y 1).val; rw [hi.2.1]; omega
    | ⟨2, _⟩ => show win0_3.index t 2 * 704 + 1 * (y 2).val = (y 2).val; rw [hi.2.2]; omega
  refine ((congrArg (out0_3 (F := Ideal) (iblk m c 0 t) (iblk m c 1 t) (iblk m c 2 t)) ey).trans (payg _ _ _ (y 1) (y 2))).trans ?_
  refine Eq.trans ?_ (congrArg (agAll _ _ _) hemb.symm)
  exact congrArg₂ (fun u v : EReal => u * slope v) (Finset.sum_congr rfl fun k _ => congrArg₂ (fun u v : EReal => u * v) (blk0 m c t (y 1) k) (blk2 m c t k (y 2))) (Finset.sum_congr rfl fun k _ => congrArg₂ (fun u v : EReal => u * v) (blk0 m c t (y 1) k) (blk1 m c t k (y 2)))

theorem arr4 : (dats m 0 c).arrAt 4 cfg0.N = auAll (V m c main_v1) (V m c main_v4) := by
  refine (dats m 0 c).arrAt_eq_of_covers 4 _ (by decide +kernel) fun t hf y => ?_
  blk_simp
  rw [after0_4]
  have hi := index4 t
  have ey : (y : S1x768x704.Idx) = ix3 0 (y 1) (y 2) :=
    (ix3_eta (n0 := 1) (n1 := 768) (n2 := 704) y).symm.trans (congrArg (fun q => ix3 q (y 1) (y 2)) (Subsingleton.elim (α := Fin 1) _ _))
  have hemb : (win0_4.blk t).view.emb y = ix3 (jx t) (rx t (y 1)) (y 2) := by
    funext a
    apply Fin.ext
    match a with
    | ⟨0, _⟩ => show win0_4.index t 0 * 1 + 1 * (y 0).val = t.val / 22; rw [hi.1]; have h0 : (y 0).val < 1 := (y 0).isLt; omega
    | ⟨1, _⟩ => show win0_4.index t 1 * 768 + 1 * (y 1).val = 768 * (t.val % 22) + (y 1).val; rw [hi.2.1]; omega
    | ⟨2, _⟩ => show win0_4.index t 2 * 704 + 1 * (y 2).val = (y 2).val; rw [hi.2.2]; omega
  refine ((congrArg (out0_4 (F := Ideal) (iblk m c 0 t) (iblk m c 1 t) (iblk m c 2 t)) ey).trans (payu _ _ _ (y 1) (y 2))).trans ?_
  refine Eq.trans ?_ (congrArg (auAll _ _) hemb.symm)
  exact congrArg gate (Finset.sum_congr rfl fun k _ => congrArg₂ (fun u v : EReal => u * v) (blk0 m c t (y 1) k) (blk1 m c t k (y 2)))

theorem arr5 : (dats m 0 c).arrAt 5 cfg0.N = aAll (V m c main_v1) (V m c main_v4) (V m c main_v7) := by
  refine (dats m 0 c).arrAt_eq_of_covers 5 _ (by decide +kernel) fun t hf y => ?_
  blk_simp
  rw [after0_5]
  have hi := index5 t
  have ey : (y : S1x768x704.Idx) = ix3 0 (y 1) (y 2) :=
    (ix3_eta (n0 := 1) (n1 := 768) (n2 := 704) y).symm.trans (congrArg (fun q => ix3 q (y 1) (y 2)) (Subsingleton.elim (α := Fin 1) _ _))
  have hemb : (win0_5.blk t).view.emb y = ix3 (jx t) (rx t (y 1)) (y 2) := by
    funext a
    apply Fin.ext
    match a with
    | ⟨0, _⟩ => show win0_5.index t 0 * 1 + 1 * (y 0).val = t.val / 22; rw [hi.1]; have h0 : (y 0).val < 1 := (y 0).isLt; omega
    | ⟨1, _⟩ => show win0_5.index t 1 * 768 + 1 * (y 1).val = 768 * (t.val % 22) + (y 1).val; rw [hi.2.1]; omega
    | ⟨2, _⟩ => show win0_5.index t 2 * 704 + 1 * (y 2).val = (y 2).val; rw [hi.2.2]; omega
  refine ((congrArg (out0_5 (F := Ideal) (iblk m c 0 t) (iblk m c 1 t) (iblk m c 2 t)) ey).trans (paya _ _ _ (y 1) (y 2))).trans ?_
  refine Eq.trans ?_ (congrArg (aAll _ _ _) hemb.symm)
  exact congrArg₂ (fun u v : EReal => gate u * v) (Finset.sum_congr rfl fun k _ => congrArg₂ (fun u v : EReal => u * v) (blk0 m c t (y 1) k) (blk1 m c t k (y 2))) (Finset.sum_congr rfl fun k _ => congrArg₂ (fun u v : EReal => u * v) (blk0 m c t (y 1) k) (blk2 m c t k (y 2)))

/-- A product in terms of the arguments. -/
def prodOf (a0 : Vec Ideal S16400x1024 .f32) (a1 : Vec Ideal S1024x2816 .f32) (s : Fin 16400) (f : Fin 2816) : EReal :=
  ∑ k : Fin 1024, (a0 (ix2 s k) : EReal) * a1 (ix2 k f)

/-- The gate in terms of the arguments. -/
def auOf (a0 : Vec Ideal S16400x1024 .f32) (a1 : Vec Ideal S1024x2816 .f32) : Vec Ideal S16400x2816 .f32 :=
  fun i => gate (prodOf a0 a1 (i 0) (i 1))

/-- The slope of the gate times the other product, in terms of the arguments. -/
def agOf (a0 : Vec Ideal S16400x1024 .f32) (a1 a2 : Vec Ideal S1024x2816 .f32) : Vec Ideal S16400x2816 .f32 :=
  fun i => prodOf a0 a2 (i 0) (i 1) * slope (prodOf a0 a1 (i 0) (i 1))

/-- The gated product in terms of the arguments. -/
def aOf (a0 : Vec Ideal S16400x1024 .f32) (a1 a2 : Vec Ideal S1024x2816 .f32) : Vec Ideal S16400x2816 .f32 :=
  fun i => gate (prodOf a0 a1 (i 0) (i 1)) * prodOf a0 a2 (i 0) (i 1)

theorem prod_of {h0 : Vec Ideal S16896x1024 .bf16} {h1 : Vec Ideal S4x1024x704 .bf16} {a0 : Vec Ideal S16400x1024 .f32} {a1 : Vec Ideal S1024x2816 .f32}
    (e0 : ∀ s k, h0 (ix2 (px s) k) = a0 (ix2 s k)) (e1 : ∀ j k x, h1 (ix3 j k x) = a1 (ix2 k (fx j x))) (s : Fin 16400) (f : Fin 2816) :
    prod h0 h1 (sh f) (px s) (lo f) = prodOf a0 a1 s f :=
  Finset.sum_congr rfl fun k _ => congrArg₂ (fun u v : EReal => u * v) (e0 s k) ((e1 _ k _).trans (by rw [fx_sh]))

theorem ag_at (s : Fin 16400) (f : Fin 2816) : (Pipeline.afterTail₀ cfgs (dats m) 0 (V0 m) [hostOps1] c main_v12 : Vec Ideal S16400x2816 .f32) (ix2 s f)
    = agAll (V m c main_v1) (V m c main_v4) (V m c main_v7) (ix3 (sh f) (px s) (lo f)) := by
  have ea := congrFun ((Pipeline.withArrays_arr spec0 (by decide) c (V0 m c) (fun w => (dats m 0 c).arrAt w cfg0.N) 3).trans (arr3 m c)) (ix3 (sh f) (px s) (lo f))
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v12) : Vec Ideal S16400x2816 .f32) (ix2 s f) = (U (Proc.devRef .tc main_v8_0) : Vec Ideal S4x16896x704 .bf16) (ix3 (sh f) (px s) (lo f))
  after_reads_at
  rfl

theorem ag_eq : (Pipeline.afterTail₀ cfgs (dats m) 0 (V0 m) [hostOps1] c main_v12 : Vec Ideal S16400x2816 .f32)
    = agOf (m (c, Proc.tc.devRef main_arg0)) (m (c, Proc.tc.devRef main_arg1)) (m (c, Proc.tc.devRef main_arg2)) := by
  funext i
  obtain ⟨s, d, rfl⟩ : ∃ s d, i = ix2 s d := ⟨i 0, i 1, (ix2_eta (n0 := 16400) (n1 := 2816) i).symm⟩
  exact (ag_at m c s d).trans (congrArg₂ (fun u v : EReal => u * slope v) (prod_of (row_host m c) (wu_host m c) s d) (prod_of (row_host m c) (wg_host m c) s d))

theorem au_at (s : Fin 16400) (f : Fin 2816) : (Pipeline.afterTail₀ cfgs (dats m) 0 (V0 m) [hostOps1] c main_v16 : Vec Ideal S16400x2816 .f32) (ix2 s f)
    = auAll (V m c main_v1) (V m c main_v4) (ix3 (sh f) (px s) (lo f)) := by
  have ea := congrFun ((Pipeline.withArrays_arr spec0 (by decide) c (V0 m c) (fun w => (dats m 0 c).arrAt w cfg0.N) 4).trans (arr4 m c)) (ix3 (sh f) (px s) (lo f))
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v16) : Vec Ideal S16400x2816 .f32) (ix2 s f) = (U (Proc.devRef .tc main_v8_1) : Vec Ideal S4x16896x704 .bf16) (ix3 (sh f) (px s) (lo f))
  after_reads_at
  rfl

theorem au_eq : (Pipeline.afterTail₀ cfgs (dats m) 0 (V0 m) [hostOps1] c main_v16 : Vec Ideal S16400x2816 .f32)
    = auOf (m (c, Proc.tc.devRef main_arg0)) (m (c, Proc.tc.devRef main_arg1)) := by
  funext i
  obtain ⟨s, d, rfl⟩ : ∃ s d, i = ix2 s d := ⟨i 0, i 1, (ix2_eta (n0 := 16400) (n1 := 2816) i).symm⟩
  exact (au_at m c s d).trans (congrArg gate (prod_of (row_host m c) (wg_host m c) s d))

theorem a_at (s : Fin 16400) (f : Fin 2816) : (Pipeline.afterTail₀ cfgs (dats m) 0 (V0 m) [hostOps1] c main_v20 : Vec Ideal S16400x2816 .f32) (ix2 s f)
    = aAll (V m c main_v1) (V m c main_v4) (V m c main_v7) (ix3 (sh f) (px s) (lo f)) := by
  have ea := congrFun ((Pipeline.withArrays_arr spec0 (by decide) c (V0 m c) (fun w => (dats m 0 c).arrAt w cfg0.N) 5).trans (arr5 m c)) (ix3 (sh f) (px s) (lo f))
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v20) : Vec Ideal S16400x2816 .f32) (ix2 s f) = (U (Proc.devRef .tc main_v8_2) : Vec Ideal S4x16896x704 .bf16) (ix3 (sh f) (px s) (lo f))
  after_reads_at
  rfl

theorem a_eq : (Pipeline.afterTail₀ cfgs (dats m) 0 (V0 m) [hostOps1] c main_v20 : Vec Ideal S16400x2816 .f32)
    = aOf (m (c, Proc.tc.devRef main_arg0)) (m (c, Proc.tc.devRef main_arg1)) (m (c, Proc.tc.devRef main_arg2)) := by
  funext i
  obtain ⟨s, d, rfl⟩ : ∃ s d, i = ix2 s d := ⟨i 0, i 1, (ix2_eta (n0 := 16400) (n1 := 2816) i).symm⟩
  exact (a_at m c s d).trans (congrArg₂ (fun u v : EReal => gate u * v) (prod_of (row_host m c) (wg_host m c) s d) (prod_of (row_host m c) (wu_host m c) s d))

end Cert.Kernel9Ideal.Up

namespace Cert.Proof

open Idealize.ShloMosaic Idealize.ShloMosaic.TcCoe Ix

theorem kernel9_end (m : (ℓ : Loc Cert.Kernel9Ideal.nD Cert.Kernel9Ideal.τ Cert.Kernel9Ideal.sig) → Buf (Elt Ideal) ℓ) (g : Dev Cert.Kernel9Ideal.nD → PrngReg) :
    θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = Cert.Kernel9Ideal.Up.agOf (m (c, Proc.tc.devRef Cert.Kernel9Ideal.main_arg0)) (m (c, Proc.tc.devRef Cert.Kernel9Ideal.main_arg1)) (m (c, Proc.tc.devRef Cert.Kernel9Ideal.main_arg2))
          ∧ r.2.mem ((c.tc : Thread Cert.Kernel9Ideal.nD Cert.Kernel9Ideal.τ).loc Cert.Kernel9Ideal.main_v16) = Cert.Kernel9Ideal.Up.auOf (m (c, Proc.tc.devRef Cert.Kernel9Ideal.main_arg0)) (m (c, Proc.tc.devRef Cert.Kernel9Ideal.main_arg1))
          ∧ r.2.mem ((c.tc : Thread Cert.Kernel9Ideal.nD Cert.Kernel9Ideal.τ).loc Cert.Kernel9Ideal.main_v20) = Cert.Kernel9Ideal.Up.aOf (m (c, Proc.tc.devRef Cert.Kernel9Ideal.main_arg0)) (m (c, Proc.tc.devRef Cert.Kernel9Ideal.main_arg1)) (m (c, Proc.tc.devRef Cert.Kernel9Ideal.main_arg2))
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)) :=
  (θ_run Cert.Kernel9Ideal.defs _ _).mono (fun _ h c => ⟨
      ((h c).2 Cert.Kernel9Ideal.main_v12 (Pipeline.mem_restRefs_of Cert.Kernel9Ideal.main_v12 (by decide) (by decide))).trans (Cert.Kernel9Ideal.Up.ag_eq m c),
      ((h c).2 Cert.Kernel9Ideal.main_v16 (Pipeline.mem_restRefs_of Cert.Kernel9Ideal.main_v16 (by decide) (by decide))).trans (Cert.Kernel9Ideal.Up.au_eq m c),
      ((h c).2 Cert.Kernel9Ideal.main_v20 (Pipeline.mem_restRefs_of Cert.Kernel9Ideal.main_v20 (by decide) (by decide))).trans (Cert.Kernel9Ideal.Up.a_eq m c),
      ((h c).2 Cert.Kernel9Ideal.main_arg0 (Pipeline.mem_restRefs_of Cert.Kernel9Ideal.main_arg0 (by decide) (by decide))).trans (Cert.Kernel9Ideal.Gen.W_main_arg0 m (Cert.Kernel9Ideal.Gen.dats m) c),
      ((h c).2 Cert.Kernel9Ideal.main_arg1 (Pipeline.mem_restRefs_of Cert.Kernel9Ideal.main_arg1 (by decide) (by decide))).trans (Cert.Kernel9Ideal.Gen.W_main_arg1 m (Cert.Kernel9Ideal.Gen.dats m) c),
      ((h c).2 Cert.Kernel9Ideal.main_arg2 (Pipeline.mem_restRefs_of Cert.Kernel9Ideal.main_arg2 (by decide) (by decide))).trans (Cert.Kernel9Ideal.Gen.W_main_arg2 m (Cert.Kernel9Ideal.Gen.dats m) c)⟩)
    (Cert.Kernel9Ideal.Gen.run_main m g)

theorem ref9_g (x0 : Vec Ideal Cert.Reference9Ideal.S16400x1024 .f32) (x1 : Vec Ideal Cert.Reference9Ideal.S1024x2816 .f32) (s : Fin 16400) (f : Fin 2816) :
    @Eq EReal (Cert.Reference9Ideal.Read.val_main_v0 (F := Ideal) x0 x1 (ix2 s f)) (Cert.Kernel9Ideal.Up.prodOf x0 x1 s f) := by
  refine (Cert.Reference9Ideal.Read.val_main_v0_apply x0 x1 (ix2 s f)).trans ?_
  exact Finset.sum_congr rfl fun k _ => congrArg₂ (fun u v : EReal => u * v) (congrArg x0 (a₂ := ix2 s k) (funext fun a => by fin_cases a <;> rfl)) (congrArg x1 (a₂ := ix2 k f) (funext fun a => by fin_cases a <;> rfl))

theorem ref9_u (x0 : Vec Ideal Cert.Reference9Ideal.S16400x1024 .f32) (x1 : Vec Ideal Cert.Reference9Ideal.S1024x2816 .f32) (s : Fin 16400) (f : Fin 2816) :
    @Eq EReal (Cert.Reference9Ideal.Read.val_main_v1 (F := Ideal) x0 x1 (ix2 s f)) (Cert.Kernel9Ideal.Up.prodOf x0 x1 s f) := by
  refine (Cert.Reference9Ideal.Read.val_main_v1_apply x0 x1 (ix2 s f)).trans ?_
  exact Finset.sum_congr rfl fun k _ => congrArg₂ (fun u v : EReal => u * v) (congrArg x0 (a₂ := ix2 s k) (funext fun a => by fin_cases a <;> rfl)) (congrArg x1 (a₂ := ix2 k f) (funext fun a => by fin_cases a <;> rfl))

theorem one_eq : Ideal.ofBits .f32 0x3F800000#32 = (1 : EReal) := by
  simp [Ideal.ofBits, Ideal.ieee, -EReal.coe_mul]
  norm_num

theorem ref9_gate (x : EReal) :
    x * Ideal.div (Ideal.ofBits .f32 0x3F800000#32) (Ideal.ofBits .f32 0x3F800000#32 + Ideal.exp (-x)) = Cert.Kernel9Ideal.Up.gate x := by
  rw [one_eq]
  rfl

theorem ref9_slope (x : EReal) :
    Ideal.ofBits .f32 0x3F800000#32 * Ideal.div (Ideal.ofBits .f32 0x3F800000#32) (Ideal.ofBits .f32 0x3F800000#32 + Ideal.exp (-x))
      + (x * Ideal.ofBits .f32 0x3F800000#32) * (Ideal.div (Ideal.ofBits .f32 0x3F800000#32) (Ideal.ofBits .f32 0x3F800000#32 + Ideal.exp (-x))
        * (Ideal.ofBits .f32 0x3F800000#32 - Ideal.div (Ideal.ofBits .f32 0x3F800000#32) (Ideal.ofBits .f32 0x3F800000#32 + Ideal.exp (-x)))) = Cert.Kernel9Ideal.Up.slope x := by
  rw [one_eq]
  exact Cert.Kernel9Ideal.Up.slope_sum x

theorem ref9_ag (x0 : Vec Ideal Cert.Reference9Ideal.S16400x1024 .f32) (x1 x2 : Vec Ideal Cert.Reference9Ideal.S1024x2816 .f32) :
    Cert.Reference9Ideal.Read.val_main_v5 (F := Ideal) x0 x1 x2 = Cert.Kernel9Ideal.Up.agOf x0 x1 x2 := by
  funext i
  obtain ⟨s, d, rfl⟩ : ∃ s d, i = ix2 s d := ⟨i 0, i 1, (ix2_eta (n0 := 16400) (n1 := 2816) i).symm⟩
  refine congrArg₂ (fun u v : EReal => u * v) (ref9_u x0 x2 s d) ?_
  exact (ref9_slope (Cert.Reference9Ideal.Read.val_main_v0 (F := Ideal) x0 x1 (ix2 s d))).trans (congrArg Cert.Kernel9Ideal.Up.slope (ref9_g x0 x1 s d))

theorem ref9_au (x0 : Vec Ideal Cert.Reference9Ideal.S16400x1024 .f32) (x1 : Vec Ideal Cert.Reference9Ideal.S1024x2816 .f32) :
    Cert.Reference9Ideal.Read.val_main_v2_0 (F := Ideal) x0 x1 = Cert.Kernel9Ideal.Up.auOf x0 x1 := by
  funext i
  obtain ⟨s, d, rfl⟩ : ∃ s d, i = ix2 s d := ⟨i 0, i 1, (ix2_eta (n0 := 16400) (n1 := 2816) i).symm⟩
  exact (ref9_gate (Cert.Reference9Ideal.Read.val_main_v0 (F := Ideal) x0 x1 (ix2 s d))).trans (congrArg Cert.Kernel9Ideal.Up.gate (ref9_g x0 x1 s d))

theorem ref9_a (x0 : Vec Ideal Cert.Reference9Ideal.S16400x1024 .f32) (x1 x2 : Vec Ideal Cert.Reference9Ideal.S1024x2816 .f32) :
    Cert.Reference9Ideal.Read.val_main_v6 (F := Ideal) x0 x1 x2 = Cert.Kernel9Ideal.Up.aOf x0 x1 x2 := by
  funext i
  obtain ⟨s, d, rfl⟩ : ∃ s d, i = ix2 s d := ⟨i 0, i 1, (ix2_eta (n0 := 16400) (n1 := 2816) i).symm⟩
  exact congrArg₂ (fun u v : EReal => u * v) (congrFun (ref9_au x0 x1) (ix2 s d)) (ref9_u x0 x2 s d)

/-- The kernel's gate, the slope of the gate times the other product, and the gated product are the reference's. -/
theorem value9 : Cert.algebraic_Kernel9Ideal_Reference9Ideal := by
  intro m g m' g' hpre hargs
  refine ⟨_, _, _, kernel9_end m g, (θ_run Cert.Reference9Ideal.defs _ _).mono (fun r h c => ?_) (Cert.Reference9Ideal.Value.run (F := Ideal) m' g')⟩
  obtain ⟨a0, a1, a2⟩ := hargs c
  obtain ⟨h0, h1, h2, hk⟩ := h c
  exact ⟨h0.trans ((Cert.Reference9Ideal.Read.val_main_v5_eq _ _ _).trans ((ref9_ag _ _ _).trans (by rw [a0, a1, a2]))),
    h1.trans ((Cert.Reference9Ideal.Read.val_main_v2_0_eq _ _).trans ((ref9_au _ _).trans (by rw [a0, a1]))),
    h2.trans ((Cert.Reference9Ideal.Read.val_main_v6_eq _ _ _).trans ((ref9_a _ _ _).trans (by rw [a0, a1, a2]))), hk⟩

end Cert.Proof
-- ==== Proof.DaValue.lean ====
/-
  The gradient of the feed-forward's gate and of its other factor: the kernel's blocks are the reference's.
-/
module

public import proofs.«01_k».proof.Defs
public import proofs.«01_k».proof.Proof.Gen.Kernel10Ideal.Frame
public import proofs.«01_k».proof.Proof.Gen.Reference10Ideal.Run
public import proofs.«01_k».proof.Proof.Gen.Reference10Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel10Ideal.Da

open Idealize.ShloMosaic Idealize.ShloMosaic.TcCoe
open Cert.Kernel10Ideal Cert.Kernel10Ideal.Gen Ix

/-- Column `x` of shard `j`. -/
def fx (j : Fin 4) (x : Fin 704) : Fin 2816 := ⟨704 * j.val + x.val, by have := j.isLt; have := x.isLt; omega⟩

/-- The shard of a column. -/
def sh (f : Fin 2816) : Fin 4 := ⟨f.val / 704, by have := f.isLt; omega⟩

/-- The column inside its shard. -/
def lo (f : Fin 2816) : Fin 704 := ⟨f.val % 704, Nat.mod_lt _ (by decide)⟩

theorem fx_sh (f : Fin 2816) : fx (sh f) (lo f) = f := Fin.ext (Nat.div_add_mod f.val 704)

/-- Row `s` of the sequence behind the padding. -/
def px (s : Fin 16400) : Fin 16896 := ⟨496 + s.val, by have := s.isLt; omega⟩

/-- The factor of the half step. -/
def half : EReal := Ideal.ofBits .f32 0x3F000000#32

theorem half_eq : half = ((1 / 2 : ℝ) : EReal) := by
  unfold half
  simp [Ideal.ofBits, Ideal.ieee, -EReal.coe_mul]
  norm_num

theorem payg (x0 : Vec Ideal S768x1024 .f32) (x1 : Vec Ideal S1x704x1024 .bf16) (x2 x3 : Vec Ideal S1x768x704 .bf16) (y : Fin 768) (x : Fin 704) :
    @Eq EReal (out0_4 (F := Ideal) x0 x1 x2 x3 (ix3 0 y x)) ((half * ∑ d : Fin 1024, (x0 (ix2 y d) : EReal) * x1 (ix3 0 x d)) * x2 (ix3 0 y x)) := by
  unfold out0_4
  frame_out
  unfold k0_pay2 k0_pay1
  pointwise
  rfl

theorem payu (x0 : Vec Ideal S768x1024 .f32) (x1 : Vec Ideal S1x704x1024 .bf16) (x2 x3 : Vec Ideal S1x768x704 .bf16) (y : Fin 768) (x : Fin 704) :
    @Eq EReal (out0_5 (F := Ideal) x0 x1 x2 x3 (ix3 0 y x)) ((half * ∑ d : Fin 1024, (x0 (ix2 y d) : EReal) * x1 (ix3 0 x d)) * x3 (ix3 0 y x)) := by
  unfold out0_5
  frame_out
  unfold k0_pay3 k0_pay1
  pointwise
  rfl

theorem index0 : ∀ t : Fin cfg0.N, win0_0.index t 0 = t.val % 22 ∧ win0_0.index t 1 = 0 := by decide +kernel
theorem index1 : ∀ t : Fin cfg0.N, win0_1.index t 0 = t.val / 22 ∧ win0_1.index t 1 = 0 ∧ win0_1.index t 2 = 0 := by decide +kernel
theorem index2 : ∀ t : Fin cfg0.N, win0_2.index t 0 = t.val / 22 ∧ win0_2.index t 1 = t.val % 22 ∧ win0_2.index t 2 = 0 := by decide +kernel
theorem index3 : ∀ t : Fin cfg0.N, win0_3.index t 0 = t.val / 22 ∧ win0_3.index t 1 = t.val % 22 ∧ win0_3.index t 2 = 0 := by decide +kernel
theorem index4 : ∀ t : Fin cfg0.N, win0_4.index t 0 = t.val / 22 ∧ win0_4.index t 1 = t.val % 22 ∧ win0_4.index t 2 = 0 := by decide +kernel
theorem index5 : ∀ t : Fin cfg0.N, win0_5.index t 0 = t.val / 22 ∧ win0_5.index t 1 = t.val % 22 ∧ win0_5.index t 2 = 0 := by decide +kernel

/-- Row `y` of the block of point `t`. -/
def rx (t : Fin cfg0.N) (y : Fin 768) : Fin 16896 := ⟨768 * (t.val % 22) + y.val, by have := y.isLt; omega⟩

/-- The shard of point `t`. -/
def jx (t : Fin cfg0.N) : Fin 4 := ⟨t.val / 22, by have := t.isLt.trans_eq N_0; omega⟩

/-- A result by shard, row and column, of the arrays the kernel takes. -/
def daAll (h0 : Vec Ideal S16896x1024 .f32) (h1 : Vec Ideal S4x704x1024 .bf16) (h2 : Vec Ideal S4x16896x704 .bf16) : Vec Ideal S4x16896x704 .bf16 :=
  fun i => (half * ∑ d : Fin 1024, (h0 (ix2 (i 1) d) : EReal) * h1 (ix3 (i 0) (i 2) d)) * h2 (ix3 (i 0) (i 1) (i 2))

variable (m : (ℓ : Loc nD τ sig) → Buf (Elt Ideal) ℓ) (c : Dev nD)

theorem row_host (s : Fin 16400) (x : Fin 1024) :
    (V m c main_v0 : Vec Ideal S16896x1024 .f32) (ix2 (px s) x) = (m (c, Proc.tc.devRef main_arg0) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem w_host (j : Fin 4) (x : Fin 704) (d : Fin 1024) :
    (V m c main_v2 : Vec Ideal S4x704x1024 .bf16) (ix3 j x d) = (m (c, Proc.tc.devRef main_arg1) : Vec Ideal S2816x1024 .f32) (ix2 (fx j x) d) := by
  unfold V
  after_reads_at
  exact congrArg _ (congrArg (fun q => ix2 q d) (Fin.ext (by show j.val * 704 + x.val = 704 * j.val + x.val; omega)))

theorem ag_host (j : Fin 4) (s : Fin 16400) (x : Fin 704) :
    (V m c main_v6 : Vec Ideal S4x16896x704 .bf16) (ix3 j (px s) x) = (m (c, Proc.tc.devRef main_arg2) : Vec Ideal S16400x2816 .f32) (ix2 s (fx j x)) := by
  have e0 : (px s).val - 496 = s.val := Nat.add_sub_cancel_left _ _
  unfold V
  after_reads_at
  rw [dif_pos ⟨⟨Nat.le_add_right _ _, by rw [e0]; exact s.isLt⟩, by have := j.isLt; have := x.isLt; omega⟩]
  exact congrArg _ (congrArg₂ ix2 (Fin.ext e0) (Fin.ext (by show j.val * 704 + x.val = 704 * j.val + x.val; omega)))

theorem au_host (j : Fin 4) (s : Fin 16400) (x : Fin 704) :
    (V m c main_v10 : Vec Ideal S4x16896x704 .bf16) (ix3 j (px s) x) = (m (c, Proc.tc.devRef main_arg3) : Vec Ideal S16400x2816 .f32) (ix2 s (fx j x)) := by
  have e0 : (px s).val - 496 = s.val := Nat.add_sub_cancel_left _ _
  unfold V
  after_reads_at
  rw [dif_pos ⟨⟨Nat.le_add_right _ _, by rw [e0]; exact s.isLt⟩, by have := j.isLt; have := x.isLt; omega⟩]
  exact congrArg _ (congrArg₂ ix2 (Fin.ext e0) (Fin.ext (by show j.val * 704 + x.val = 704 * j.val + x.val; omega)))

theorem blk0 (t : Fin cfg0.N) (y : Fin 768) (k : Fin 1024) :
    (iblk m c 0 t : Vec Ideal S768x1024 .f32) (ix2 y k) = (V m c main_v0 : Vec Ideal S16896x1024 .f32) (ix2 (rx t y) k) := by
  have hi := index0 t
  unfold iblk
  rw [View.read_apply]
  show V m c main_v0 _ = V m c main_v0 _
  congr 1
  funext a
  apply Fin.ext
  match a with
  | ⟨0, _⟩ => show win0_0.index t 0 * 768 + 1 * y.val = 768 * (t.val % 22) + y.val; rw [hi.1]; omega
  | ⟨1, _⟩ => show win0_0.index t 1 * 1024 + 1 * k.val = k.val; rw [hi.2]; omega

theorem blk1 (t : Fin cfg0.N) (y : Fin 704) (x : Fin 1024) :
    (iblk m c 1 t : Vec Ideal S1x704x1024 .bf16) (ix3 0 y x) = (V m c main_v2 : Vec Ideal S4x704x1024 .bf16) (ix3 (jx t) y x) := by
  have hi := index1 t
  unfold iblk
  rw [View.read_apply]
  show V m c main_v2 _ = V m c main_v2 _
  congr 1
  funext a
  apply Fin.ext
  match a with
  | ⟨0, _⟩ => show win0_1.index t 0 * 1 + 1 * 0 = t.val / 22; rw [hi.1]; omega
  | ⟨1, _⟩ => show win0_1.index t 1 * 704 + 1 * y.val = y.val; rw [hi.2.1]; omega
  | ⟨2, _⟩ => show win0_1.index t 2 * 1024 + 1 * x.val = x.val; rw [hi.2.2]; omega

theorem blk2 (t : Fin cfg0.N) (y : Fin 768) (x : Fin 704) :
    (iblk m c 2 t : Vec Ideal S1x768x704 .bf16) (ix3 0 y x) = (V m c main_v6 : Vec Ideal S4x16896x704 .bf16) (ix3 (jx t) (rx t y) x) := by
  have hi := index2 t
  unfold iblk
  rw [View.read_apply]
  show V m c main_v6 _ = V m c main_v6 _
  congr 1
  funext a
  apply Fin.ext
  match a with
  | ⟨0, _⟩ => show win0_2.index t 0 * 1 + 1 * 0 = t.val / 22; rw [hi.1]; omega
  | ⟨1, _⟩ => show win0_2.index t 1 * 768 + 1 * y.val = 768 * (t.val % 22) + y.val; rw [hi.2.1]; omega
  | ⟨2, _⟩ => show win0_2.index t 2 * 704 + 1 * x.val = x.val; rw [hi.2.2]; omega

theorem blk3 (t : Fin cfg0.N) (y : Fin 768) (x : Fin 704) :
    (iblk m c 3 t : Vec Ideal S1x768x704 .bf16) (ix3 0 y x) = (V m c main_v10 : Vec Ideal S4x16896x704 .bf16) (ix3 (jx t) (rx t y) x) := by
  have hi := index3 t
  unfold iblk
  rw [View.read_apply]
  show V m c main_v10 _ = V m c main_v10 _
  congr 1
  funext a
  apply Fin.ext
  match a with
  | ⟨0, _⟩ => show win0_3.index t 0 * 1 + 1 * 0 = t.val / 22; rw [hi.1]; omega
  | ⟨1, _⟩ => show win0_3.index t 1 * 768 + 1 * y.val = 768 * (t.val % 22) + y.val; rw [hi.2.1]; omega
  | ⟨2, _⟩ => show win0_3.index t 2 * 704 + 1 * x.val = x.val; rw [hi.2.2]; omega

theorem arr4 : (dats m 0 c).arrAt 4 cfg0.N = daAll (V m c main_v0) (V m c main_v2) (V m c main_v6) := by
  refine (dats m 0 c).arrAt_eq_of_covers 4 _ (by decide +kernel) fun t hf y => ?_
  blk_simp
  rw [after0_4]
  have hi := index4 t
  have ey : (y : S1x768x704.Idx) = ix3 0 (y 1) (y 2) :=
    (ix3_eta (n0 := 1) (n1 := 768) (n2 := 704) y).symm.trans (congrArg (fun q => ix3 q (y 1) (y 2)) (Subsingleton.elim (α := Fin 1) _ _))
  have hemb : (win0_4.blk t).view.emb y = ix3 (jx t) (rx t (y 1)) (y 2) := by
    funext a
    apply Fin.ext
    match a with
    | ⟨0, _⟩ => show win0_4.index t 0 * 1 + 1 * (y 0).val = t.val / 22; rw [hi.1]; have h0 : (y 0).val < 1 := (y 0).isLt; omega
    | ⟨1, _⟩ => show win0_4.index t 1 * 768 + 1 * (y 1).val = 768 * (t.val % 22) + (y 1).val; rw [hi.2.1]; omega
    | ⟨2, _⟩ => show win0_4.index t 2 * 704 + 1 * (y 2).val = (y 2).val; rw [hi.2.2]; omega
  refine ((congrArg (out0_4 (F := Ideal) (iblk m c 0 t) (iblk m c 1 t) (iblk m c 2 t) (iblk m c 3 t)) ey).trans (payg _ _ _ _ (y 1) (y 2))).trans ?_
  refine Eq.trans ?_ (congrArg (daAll _ _ _) hemb.symm)
  refine congrArg₂ (fun u v : EReal => (half * u) * v) (Finset.sum_congr rfl fun d _ => congrArg₂ (fun u v : EReal => u * v) ?_ ?_) (blk2 m c t (y 1) (y 2))
  · exact blk0 m c t (y 1) d
  · exact blk1 m c t (y 2) d

theorem arr5 : (dats m 0 c).arrAt 5 cfg0.N = daAll (V m c main_v0) (V m c main_v2) (V m c main_v10) := by
  refine (dats m 0 c).arrAt_eq_of_covers 5 _ (by decide +kernel) fun t hf y => ?_
  blk_simp
  rw [after0_5]
  have hi := index5 t
  have ey : (y : S1x768x704.Idx) = ix3 0 (y 1) (y 2) :=
    (ix3_eta (n0 := 1) (n1 := 768) (n2 := 704) y).symm.trans (congrArg (fun q => ix3 q (y 1) (y 2)) (Subsingleton.elim (α := Fin 1) _ _))
  have hemb : (win0_5.blk t).view.emb y = ix3 (jx t) (rx t (y 1)) (y 2) := by
    funext a
    apply Fin.ext
    match a with
    | ⟨0, _⟩ => show win0_5.index t 0 * 1 + 1 * (y 0).val = t.val / 22; rw [hi.1]; have h0 : (y 0).val < 1 := (y 0).isLt; omega
    | ⟨1, _⟩ => show win0_5.index t 1 * 768 + 1 * (y 1).val = 768 * (t.val % 22) + (y 1).val; rw [hi.2.1]; omega
    | ⟨2, _⟩ => show win0_5.index t 2 * 704 + 1 * (y 2).val = (y 2).val; rw [hi.2.2]; omega
  refine ((congrArg (out0_5 (F := Ideal) (iblk m c 0 t) (iblk m c 1 t) (iblk m c 2 t) (iblk m c 3 t)) ey).trans (payu _ _ _ _ (y 1) (y 2))).trans ?_
  refine Eq.trans ?_ (congrArg (daAll _ _ _) hemb.symm)
  refine congrArg₂ (fun u v : EReal => (half * u) * v) (Finset.sum_congr rfl fun d _ => congrArg₂ (fun u v : EReal => u * v) ?_ ?_) (blk3 m c t (y 1) (y 2))
  · exact blk0 m c t (y 1) d
  · exact blk1 m c t (y 2) d

/-- A result in terms of the arguments. -/
def daOf (a0 : Vec Ideal S16400x1024 .f32) (a1 : Vec Ideal S2816x1024 .f32) (a2 : Vec Ideal S16400x2816 .f32) : Vec Ideal S16400x2816 .f32 :=
  fun i => (a2 (ix2 (i 0) (i 1)) : EReal) * ∑ d : Fin 1024, (half * (a0 (ix2 (i 0) d) : EReal)) * a1 (ix2 (i 1) d)

/-- The half taken of the sum is the half taken of each term. -/
theorem half_sum (f g : Fin 1024 → EReal) : half * ∑ d : Fin 1024, f d * g d = ∑ d : Fin 1024, (half * f d) * g d := by
  rw [half_eq, mul_comm, Ix.sum_mul_real _ (by norm_num)]
  refine Finset.sum_congr rfl fun d _ => ?_
  rw [mul_comm, mul_assoc]

theorem da_of {h0 : Vec Ideal S16896x1024 .f32} {h1 : Vec Ideal S4x704x1024 .bf16} {h2 : Vec Ideal S4x16896x704 .bf16} {a0 : Vec Ideal S16400x1024 .f32} {a1 : Vec Ideal S2816x1024 .f32} {a2 : Vec Ideal S16400x2816 .f32}
    (e0 : ∀ s d, h0 (ix2 (px s) d) = a0 (ix2 s d)) (e1 : ∀ j x d, h1 (ix3 j x d) = a1 (ix2 (fx j x) d))
    (e2 : ∀ j s x, h2 (ix3 j (px s) x) = a2 (ix2 s (fx j x))) (s : Fin 16400) (f : Fin 2816) :
    daAll h0 h1 h2 (ix3 (sh f) (px s) (lo f)) = daOf a0 a1 a2 (ix2 s f) := by
  have q1 : ∀ d, h1 (ix3 (sh f) (lo f) d) = a1 (ix2 f d) := fun d => (e1 _ _ d).trans (by rw [fx_sh])
  have q2 : h2 (ix3 (sh f) (px s) (lo f)) = a2 (ix2 s f) := (e2 _ _ _).trans (by rw [fx_sh])
  refine (congrArg₂ (fun u v : EReal => (half * u) * v) (Finset.sum_congr rfl fun d _ => congrArg₂ (fun u v : EReal => u * v) (e0 s d) (q1 d)) q2).trans ?_
  exact (mul_comm _ _).trans (congrArg (fun u : EReal => a2 (ix2 s f) * u) (half_sum (fun d => a0 (ix2 s d)) (fun d => a1 (ix2 f d))))

theorem dg_at (s : Fin 16400) (f : Fin 2816) : (Pipeline.afterTail₀ cfgs (dats m) 0 (V0 m) [hostOps1] c main_v15 : Vec Ideal S16400x2816 .f32) (ix2 s f)
    = daAll (V m c main_v0) (V m c main_v2) (V m c main_v6) (ix3 (sh f) (px s) (lo f)) := by
  have ea := congrFun ((Pipeline.withArrays_arr spec0 (by decide) c (V0 m c) (fun w => (dats m 0 c).arrAt w cfg0.N) 4).trans (arr4 m c)) (ix3 (sh f) (px s) (lo f))
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v15) : Vec Ideal S16400x2816 .f32) (ix2 s f) = (U (Proc.devRef .tc main_v11_0) : Vec Ideal S4x16896x704 .bf16) (ix3 (sh f) (px s) (lo f))
  after_reads_at
  rfl

theorem dg_eq : (Pipeline.afterTail₀ cfgs (dats m) 0 (V0 m) [hostOps1] c main_v15 : Vec Ideal S16400x2816 .f32)
    = daOf (m (c, Proc.tc.devRef main_arg0)) (m (c, Proc.tc.devRef main_arg1)) (m (c, Proc.tc.devRef main_arg2)) := by
  funext i
  obtain ⟨s, d, rfl⟩ : ∃ s d, i = ix2 s d := ⟨i 0, i 1, (ix2_eta (n0 := 16400) (n1 := 2816) i).symm⟩
  exact (dg_at m c s d).trans (da_of (row_host m c) (w_host m c) (ag_host m c) s d)

theorem du_at (s : Fin 16400) (f : Fin 2816) : (Pipeline.afterTail₀ cfgs (dats m) 0 (V0 m) [hostOps1] c main_v19 : Vec Ideal S16400x2816 .f32) (ix2 s f)
    = daAll (V m c main_v0) (V m c main_v2) (V m c main_v10) (ix3 (sh f) (px s) (lo f)) := by
  have ea := congrFun ((Pipeline.withArrays_arr spec0 (by decide) c (V0 m c) (fun w => (dats m 0 c).arrAt w cfg0.N) 5).trans (arr5 m c)) (ix3 (sh f) (px s) (lo f))
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v19) : Vec Ideal S16400x2816 .f32) (ix2 s f) = (U (Proc.devRef .tc main_v11_1) : Vec Ideal S4x16896x704 .bf16) (ix3 (sh f) (px s) (lo f))
  after_reads_at
  rfl

theorem du_eq : (Pipeline.afterTail₀ cfgs (dats m) 0 (V0 m) [hostOps1] c main_v19 : Vec Ideal S16400x2816 .f32)
    = daOf (m (c, Proc.tc.devRef main_arg0)) (m (c, Proc.tc.devRef main_arg1)) (m (c, Proc.tc.devRef main_arg3)) := by
  funext i
  obtain ⟨s, d, rfl⟩ : ∃ s d, i = ix2 s d := ⟨i 0, i 1, (ix2_eta (n0 := 16400) (n1 := 2816) i).symm⟩
  exact (du_at m c s d).trans (da_of (row_host m c) (w_host m c) (au_host m c) s d)

end Cert.Kernel10Ideal.Da

namespace Cert.Proof

open Idealize.ShloMosaic Idealize.ShloMosaic.TcCoe Ix

theorem kernel10_end (m : (ℓ : Loc Cert.Kernel10Ideal.nD Cert.Kernel10Ideal.τ Cert.Kernel10Ideal.sig) → Buf (Elt Ideal) ℓ) (g : Dev Cert.Kernel10Ideal.nD → PrngReg) :
    θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = Cert.Kernel10Ideal.Da.daOf (m (c, Proc.tc.devRef Cert.Kernel10Ideal.main_arg0)) (m (c, Proc.tc.devRef Cert.Kernel10Ideal.main_arg1)) (m (c, Proc.tc.devRef Cert.Kernel10Ideal.main_arg2))
          ∧ r.2.mem ((c.tc : Thread Cert.Kernel10Ideal.nD Cert.Kernel10Ideal.τ).loc Cert.Kernel10Ideal.main_v19) = Cert.Kernel10Ideal.Da.daOf (m (c, Proc.tc.devRef Cert.Kernel10Ideal.main_arg0)) (m (c, Proc.tc.devRef Cert.Kernel10Ideal.main_arg1)) (m (c, Proc.tc.devRef Cert.Kernel10Ideal.main_arg3))
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)) :=
  (θ_run Cert.Kernel10Ideal.defs _ _).mono (fun _ h c => ⟨
      ((h c).2 Cert.Kernel10Ideal.main_v15 (Pipeline.mem_restRefs_of Cert.Kernel10Ideal.main_v15 (by decide) (by decide))).trans (Cert.Kernel10Ideal.Da.dg_eq m c),
      ((h c).2 Cert.Kernel10Ideal.main_v19 (Pipeline.mem_restRefs_of Cert.Kernel10Ideal.main_v19 (by decide) (by decide))).trans (Cert.Kernel10Ideal.Da.du_eq m c),
      ((h c).2 Cert.Kernel10Ideal.main_arg0 (Pipeline.mem_restRefs_of Cert.Kernel10Ideal.main_arg0 (by decide) (by decide))).trans (Cert.Kernel10Ideal.Gen.W_main_arg0 m (Cert.Kernel10Ideal.Gen.dats m) c),
      ((h c).2 Cert.Kernel10Ideal.main_arg1 (Pipeline.mem_restRefs_of Cert.Kernel10Ideal.main_arg1 (by decide) (by decide))).trans (Cert.Kernel10Ideal.Gen.W_main_arg1 m (Cert.Kernel10Ideal.Gen.dats m) c),
      ((h c).2 Cert.Kernel10Ideal.main_arg2 (Pipeline.mem_restRefs_of Cert.Kernel10Ideal.main_arg2 (by decide) (by decide))).trans (Cert.Kernel10Ideal.Gen.W_main_arg2 m (Cert.Kernel10Ideal.Gen.dats m) c),
      ((h c).2 Cert.Kernel10Ideal.main_arg3 (Pipeline.mem_restRefs_of Cert.Kernel10Ideal.main_arg3 (by decide) (by decide))).trans (Cert.Kernel10Ideal.Gen.W_main_arg3 m (Cert.Kernel10Ideal.Gen.dats m) c)⟩)
    (Cert.Kernel10Ideal.Gen.run_main m g)

theorem ref10_sum (x0 : Vec Ideal Cert.Reference10Ideal.S16400x1024 .f32) (x1 : Vec Ideal Cert.Reference10Ideal.S2816x1024 .f32) (s : Fin 16400) (f : Fin 2816) :
    @Eq EReal (Cert.Reference10Ideal.Read.val_main_v9 (F := Ideal) x0 x1 (ix2 s f)) (∑ d : Fin 1024, (Cert.Kernel10Ideal.Da.half * (x0 (ix2 s d) : EReal)) * x1 (ix2 f d)) := by
  refine (Cert.Reference10Ideal.Read.val_main_v9_apply x0 x1 (ix2 s f)).trans ?_
  exact Finset.sum_congr rfl fun k _ => congrArg₂ (fun u v : EReal => u * v) (congrArg (fun q => Cert.Kernel10Ideal.Da.half * (x0 q : EReal)) (a₂ := ix2 s k) (funext fun a => by fin_cases a <;> rfl)) (congrArg x1 (a₂ := ix2 f k) (funext fun a => by fin_cases a <;> rfl))

theorem ref10_g (x0 : Vec Ideal Cert.Reference10Ideal.S16400x1024 .f32) (x1 : Vec Ideal Cert.Reference10Ideal.S2816x1024 .f32) (x2 : Vec Ideal Cert.Reference10Ideal.S16400x2816 .f32) :
    Cert.Reference10Ideal.Read.val_main_v11 (F := Ideal) x0 x1 x2 = Cert.Kernel10Ideal.Da.daOf x0 x1 x2 := by
  funext i
  obtain ⟨s, d, rfl⟩ : ∃ s d, i = ix2 s d := ⟨i 0, i 1, (ix2_eta (n0 := 16400) (n1 := 2816) i).symm⟩
  exact congrArg (fun u : EReal => x2 (ix2 s d) * u) (ref10_sum x0 x1 s d)

theorem ref10_u (x0 : Vec Ideal Cert.Reference10Ideal.S16400x1024 .f32) (x1 : Vec Ideal Cert.Reference10Ideal.S2816x1024 .f32) (x2 : Vec Ideal Cert.Reference10Ideal.S16400x2816 .f32) :
    Cert.Reference10Ideal.Read.val_main_v10 (F := Ideal) x0 x1 x2 = Cert.Kernel10Ideal.Da.daOf x0 x1 x2 := by
  funext i
  obtain ⟨s, d, rfl⟩ : ∃ s d, i = ix2 s d := ⟨i 0, i 1, (ix2_eta (n0 := 16400) (n1 := 2816) i).symm⟩
  exact congrArg (fun u : EReal => x2 (ix2 s d) * u) (ref10_sum x0 x1 s d)

/-- The kernel's gradients of the gate and of the other factor are the reference's. -/
theorem value10 : Cert.algebraic_Kernel10Ideal_Reference10Ideal := by
  intro m g m' g' hpre hargs
  refine ⟨_, _, kernel10_end m g, (θ_run Cert.Reference10Ideal.defs _ _).mono (fun r h c => ?_) (Cert.Reference10Ideal.Value.run (F := Ideal) m' g')⟩
  obtain ⟨a0, a1, a2, a3⟩ := hargs c
  obtain ⟨h0, h1, hk⟩ := h c
  exact ⟨h0.trans ((Cert.Reference10Ideal.Read.val_main_v11_eq _ _ _).trans ((ref10_g _ _ _).trans (by rw [a0, a1, a2]))),
    h1.trans ((Cert.Reference10Ideal.Read.val_main_v10_eq _ _ _).trans ((ref10_u _ _ _).trans (by rw [a0, a1, a3]))), hk⟩

end Cert.Proof
-- ==== Proof.WoValue.lean ====
/-
  The gradient of the weights out of the mixers: the kernel adds 33 blocks of rows; that is the reference's product.
-/
module

public import proofs.«01_k».proof.Defs
public import proofs.«01_k».proof.Proof.Gen.Kernel11Ideal.Frame
public import proofs.«01_k».proof.Proof.Gen.Reference11Ideal.Run
public import proofs.«01_k».proof.Proof.Gen.Reference11Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel11Ideal.Wo

open Idealize.ShloMosaic Idealize.ShloMosaic.TcCoe
open Cert.Kernel11Ideal Cert.Kernel11Ideal.Gen Ix

/-- Row `s` of the sequence behind the padding. -/
def px (s : Fin 16400) : Fin 16896 := ⟨496 + s.val, by have := s.isLt; omega⟩

theorem pay1_at (i : S1024x1024.Idx) : @Eq EReal (k0_pay1 (F := Ideal) i) 0 := by
  unfold k0_pay1
  pointwise

/-- What one block of rows adds. -/
def cell (v : Vec Ideal S512x1024 .bf16) (w : Vec Ideal S512x1024 .f32) (d : Fin 1024) (x : Fin 1024) : EReal :=
  ∑ y : Fin 512, (v (ix2 y d) : EReal) * w (ix2 y x)

theorem pay2_at (u : Vec Ideal S1024x1024 .f32) (v : Vec Ideal S512x1024 .bf16) (w : Vec Ideal S512x1024 .f32) (d : Fin 1024) (x : Fin 1024) :
    @Eq EReal (k0_pay2 (F := Ideal) u v w (ix2 d x)) ((u (ix2 d x) : EReal) + cell v w d x) := by
  unfold k0_pay2 cell
  pointwise

variable (m : (ℓ : Loc nD τ sig) → Buf (Elt Ideal) ℓ) (c : Dev nD)

/-- What one point adds. -/
def term (t : Fin cfg0.N) (d : Fin 1024) (x : Fin 1024) : EReal := cell (iblk m c 0 t) (iblk m c 1 t) d x

theorem tA (t : Fin cfg0.N) (h0 : t.val % 33 = 0) (d : Fin 1024) (x : Fin 1024) :
    @Eq EReal ((outsAt0 m c t.val t.isLt).2 (ix2 d x)) (0 + term m c t d x) := by
  rw [outsAt0_A m c t h0 (by omega)]
  dsimp only
  frame_out
  exact (pay2_at _ _ _ d x).trans (congrArg (fun u : EReal => u + _) (pay1_at _))

theorem tB (t : Fin cfg0.N) (h0 : ¬t.val % 33 = 0) (d : Fin 1024) (x : Fin 1024) :
    @Eq EReal ((outsAt0 m c t.val t.isLt).2 (ix2 d x)) ((outsAt0 m c (t.val - 1) (Nat.lt_of_le_of_lt (Nat.sub_le _ _) t.isLt)).2 (ix2 d x) + term m c t d x) := by
  by_cases h1 : t.val % 33 = 32
  · rw [outsAt0_C m c t h0 h1]
    dsimp only
    frame_out
    exact (pay2_at _ _ _ d x).trans (congrArg (fun u : EReal => u + _) (congrFun (Memref.IsWhole.read_unread _ _) (ix2 d x)))
  · rw [outsAt0_B m c t h0 h1]
    dsimp only
    frame_out
    exact (pay2_at _ _ _ d x).trans (congrArg (fun u : EReal => u + _) (congrFun (Memref.IsWhole.read_unread _ _) (ix2 d x)))

theorem tC (t : Fin cfg0.N) (h1 : t.val % 33 = 32) (d : Fin 1024) (x : Fin 1024) :
    @Eq EReal ((outsAt0 m c t.val t.isLt).1 (ix2 d x)) ((outsAt0 m c (t.val - 1) (Nat.lt_of_le_of_lt (Nat.sub_le _ _) t.isLt)).2 (ix2 d x) + term m c t d x) := by
  rw [outsAt0_C m c t (by omega) h1]
  dsimp only
  frame_out
  exact (pay2_at _ _ _ d x).trans (congrArg (fun u : EReal => u + _) (congrFun (Memref.IsWhole.read_unread _ _) (ix2 d x)))

theorem row_host (s : Fin 16400) (x : Fin 1024) :
    (V m c main_v1 : Vec Ideal S16896x1024 .bf16) (ix2 (px s) x) = (m (c, Proc.tc.devRef main_arg0) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem row_zero (s : Fin 16896) (h : s.val < 496) (x : Fin 1024) :
    @Eq EReal ((V m c main_v1 : Vec Ideal S16896x1024 .bf16) (ix2 s x)) 0 := by
  unfold V
  after_reads_at
  rw [dif_neg fun e => absurd e.1 (Nat.not_le.mpr h)]

theorem mat_host (s : Fin 16400) (x : Fin 1024) :
    (V m c main_v2 : Vec Ideal S16896x1024 .f32) (ix2 (px s) x) = (m (c, Proc.tc.devRef main_arg1) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem index0 : ∀ t : Fin cfg0.N, win0_0.index t 0 = t.val % 33 ∧ win0_0.index t 1 = 0 := by decide +kernel
theorem index1 : ∀ t : Fin cfg0.N, win0_1.index t 0 = t.val % 33 ∧ win0_1.index t 1 = 0 := by decide +kernel
theorem index2 : ∀ t : Fin cfg0.N, win0_2.index t 0 = 0 ∧ win0_2.index t 1 = 0 := by decide +kernel

/-- Row `y` of the block of point `t`. -/
def rx (t : Fin cfg0.N) (y : Fin 512) : Fin 16896 := ⟨512 * (t.val % 33) + y.val, by have := t.isLt; have e : cfg0.N = 33 := N_0; have := y.isLt; omega⟩

theorem blk0 (t : Fin cfg0.N) (y : Fin 512) (d : Fin 1024) :
    (iblk m c 0 t : Vec Ideal S512x1024 .bf16) (ix2 y d) = (V m c main_v1 : Vec Ideal S16896x1024 .bf16) (ix2 (rx t y) d) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * (t.val % 33) + y.val; rw [hi.1]; omega
  | ⟨1, _⟩ => show win0_0.index t 1 * 1024 + 1 * d.val = d.val; rw [hi.2]; omega

theorem blk1 (t : Fin cfg0.N) (y : Fin 512) (x : Fin 1024) :
    (iblk m c 1 t : Vec Ideal S512x1024 .f32) (ix2 y x) = (V m c main_v2 : Vec Ideal S16896x1024 .f32) (ix2 (rx t y) x) := by
  have hi := index1 t
  unfold iblk
  rw [View.read_apply]
  show V m c main_v2 _ = V m c main_v2 _
  congr 1
  funext a
  apply Fin.ext
  match a with
  | ⟨0, _⟩ => show win0_1.index t 0 * 512 + 1 * y.val = 512 * (t.val % 33) + y.val; rw [hi.1]; omega
  | ⟨1, _⟩ => show win0_1.index t 1 * 1024 + 1 * x.val = x.val; rw [hi.2]; omega

/-- One row's share of one element. -/
def rowPart (h0 : Vec Ideal S16896x1024 .bf16) (h1 : Vec Ideal S16896x1024 .f32) (d : Fin 1024) (x : Fin 1024) (s : Fin 16896) : EReal :=
  (h0 (ix2 s d) : EReal) * h1 (ix2 s x)

theorem cell_rows {v : Vec Ideal S512x1024 .bf16} {w : Vec Ideal S512x1024 .f32} {h0 : Vec Ideal S16896x1024 .bf16} {h1 : Vec Ideal S16896x1024 .f32} {t : Fin cfg0.N}
    (e0 : ∀ y d, v (ix2 y d) = h0 (ix2 (rx t y) d)) (e1 : ∀ y x, w (ix2 y x) = h1 (ix2 (rx t y) x)) (d : Fin 1024) (x : Fin 1024) :
    cell v w d x = ∑ y : Fin 512, rowPart h0 h1 d x (rx t y) :=
  Finset.sum_congr rfl fun y _ => congrArg₂ (fun a b : EReal => a * b) (e0 y d) (e1 y x)

/-- The result, of the two arrays the kernel takes. -/
def dwAll (h0 : Vec Ideal S16896x1024 .bf16) (h1 : Vec Ideal S16896x1024 .f32) : Vec Ideal S1024x1024 .f32 :=
  fun i => ∑ s : Fin 16896, (h0 (ix2 s (i 0)) : EReal) * h1 (ix2 s (i 1))

theorem point_lt {n : ℕ} (h : n < 33) : n < cfg0.N := h.trans_eq N_0.symm

theorem term_rows (n : ℕ) (h : n < 33) (d : Fin 1024) (x : Fin 1024) :
    term m c ⟨n, point_lt h⟩ d x = ∑ y : Fin 512, rowPart (V m c main_v1) (V m c main_v2) d x ⟨512 * n + y.val, by have := y.isLt; omega⟩ := by
  refine (cell_rows (blk0 m c _) (blk1 m c _) d x).trans (Finset.sum_congr rfl fun y _ => congrArg (rowPart _ _ d x) (Fin.ext ?_))
  show 512 * (n % 33) + y.val = 512 * n + y.val
  omega

theorem held (d : Fin 1024) (x : Fin 1024) :
    @Eq EReal ((outsAt0 m c 32 (point_lt (by decide))).2 (ix2 d x)) (dwAll (V m c main_v1) (V m c main_v2) (ix2 d x)) :=
  steps_rows rfl (fun n h => (outsAt0 m c n (point_lt h)).2 (ix2 d x)) (fun t => term m c ⟨t.val, point_lt t.isLt⟩ d x) (rowPart (V m c main_v1) (V m c main_v2) d x)
    (fun t => term_rows m c t.val t.isLt d x)
    (fun h => tA m c ⟨0, point_lt h⟩ rfl d x)
    (fun n h => tB m c ⟨n + 1, point_lt h⟩ (by show ¬ (n + 1) % 33 = 0; omega) d x) (by decide)

theorem same {n n' : ℕ} (h : n < cfg0.N) (h' : n' < cfg0.N) (e : n = n') : outsAt0 m c n h = outsAt0 m c n' h' := by
  subst e
  rfl

theorem last_at (t : Fin cfg0.N) (h1 : t.val % 33 = 32) (d : Fin 1024) (x : Fin 1024) :
    @Eq EReal ((outsAt0 m c t.val t.isLt).1 (ix2 d x)) (dwAll (V m c main_v1) (V m c main_v2) (ix2 d x)) := by
  refine ((tC m c t h1 d x).trans (tB m c t (by omega) d x).symm).trans ?_
  have hl := t.isLt.trans_eq N_0
  exact (congrArg (fun o : Vec Ideal S1024x1024 .f32 × Vec Ideal S1024x1024 .f32 => o.2 (ix2 d x)) (same m c t.isLt (point_lt (by decide)) (by omega))).trans (held m c d x)

theorem arr2 : (dats m 0 c).arrAt 2 cfg0.N = dwAll (V m c main_v1) (V m c main_v2) := by
  refine (dats m 0 c).arrAt_eq_of_covers 2 _ (by decide +kernel) fun t hf y => ?_
  blk_simp
  rw [after0_2]
  have hi := index2 t
  have ey : (y : S1024x1024.Idx) = ix2 (y 0) (y 1) := (ix2_eta (n0 := 1024) (n1 := 1024) y).symm
  have hemb : (win0_2.blk t).view.emb y = ix2 (y 0) (y 1) := by
    funext a
    apply Fin.ext
    match a with
    | ⟨0, _⟩ => show win0_2.index t 0 * 1024 + 1 * (y 0).val = (y 0).val; rw [hi.1]; omega
    | ⟨1, _⟩ => show win0_2.index t 1 * 1024 + 1 * (y 1).val = (y 1).val; rw [hi.2]; omega
  refine ((congrArg (outsAt0 m c t.val t.isLt).1 ey).trans (last_at m c t ((flush0_2 t).mp hf) (y 0) (y 1))).trans ?_
  exact congrArg (dwAll _ _) hemb.symm

/-- The result in terms of the arguments. -/
def dwOf (a0 : Vec Ideal S16400x1024 .f32) (a1 : Vec Ideal S16400x1024 .f32) : Vec Ideal S1024x1024 .f32 :=
  fun i => ∑ s : Fin 16400, (a0 (ix2 s (i 0)) : EReal) * a1 (ix2 s (i 1))

theorem dw_of {h0 : Vec Ideal S16896x1024 .bf16} {h1 : Vec Ideal S16896x1024 .f32} {a0 : Vec Ideal S16400x1024 .f32} {a1 : Vec Ideal S16400x1024 .f32}
    (e0 : ∀ s d, h0 (ix2 (px s) d) = a0 (ix2 s d)) (z0 : ∀ (s : Fin 16896), s.val < 496 → ∀ d, @Eq EReal (h0 (ix2 s d)) 0)
    (e1 : ∀ s k, h1 (ix2 (px s) k) = a1 (ix2 s k)) (d : Fin 1024) (k : Fin 1024) :
    dwAll h0 h1 (ix2 d k) = dwOf a0 a1 (ix2 d k) :=
  sum_padded (fun s => (h0 (ix2 s d) : EReal) * h1 (ix2 s k)) (fun s => (a0 (ix2 s d) : EReal) * a1 (ix2 s k))
    (fun s h => (congrArg (fun u : EReal => u * h1 (ix2 s k)) (z0 s h d)).trans (zero_mul _))
    (fun s => congrArg₂ (fun u v : EReal => u * v) (e0 s d) (e1 s k))

theorem out_eq : (dats m 0 c).arrAt 2 cfg0.N = dwOf (m (c, Proc.tc.devRef main_arg0)) (m (c, Proc.tc.devRef main_arg1)) := by
  refine (arr2 m c).trans ?_
  funext i
  obtain ⟨d, k, rfl⟩ : ∃ d k, i = ix2 d k := ⟨i 0, i 1, (ix2_eta (n0 := 1024) (n1 := 1024) i).symm⟩
  exact dw_of (row_host m c) (row_zero m c) (mat_host m c) d k

end Cert.Kernel11Ideal.Wo

namespace Cert.Proof

open Idealize.ShloMosaic Idealize.ShloMosaic.TcCoe Ix

theorem kernel11_end (m : (ℓ : Loc Cert.Kernel11Ideal.nD Cert.Kernel11Ideal.τ Cert.Kernel11Ideal.sig) → Buf (Elt Ideal) ℓ) (g : Dev Cert.Kernel11Ideal.nD → PrngReg) :
    θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = Cert.Kernel11Ideal.Wo.dwOf (m (c, Proc.tc.devRef Cert.Kernel11Ideal.main_arg0)) (m (c, Proc.tc.devRef Cert.Kernel11Ideal.main_arg1))
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)) :=
  (θ_run Cert.Kernel11Ideal.defs _ _).mono (fun _ h c => ⟨
      ((h c).1 2).trans (Cert.Kernel11Ideal.Wo.out_eq m c),
      ((h c).2 Cert.Kernel11Ideal.main_arg0 (Pipeline.mem_restRefs_of Cert.Kernel11Ideal.main_arg0 (by decide) (by decide))).trans (Cert.Kernel11Ideal.Gen.V_main_arg0 m c),
      ((h c).2 Cert.Kernel11Ideal.main_arg1 (Pipeline.mem_restRefs_of Cert.Kernel11Ideal.main_arg1 (by decide) (by decide))).trans (Cert.Kernel11Ideal.Gen.V_main_arg1 m c)⟩)
    (Cert.Kernel11Ideal.Gen.run_main m g)

theorem ref11_eq (x0 : Vec Ideal Cert.Reference11Ideal.S16400x1024 .f32) (x1 : Vec Ideal Cert.Reference11Ideal.S16400x1024 .f32) :
    Cert.Reference11Ideal.Read.val_main_v3 (F := Ideal) x0 x1 = Cert.Kernel11Ideal.Wo.dwOf x0 x1 := by
  funext i
  obtain ⟨d, f, rfl⟩ : ∃ d f, i = ix2 d f := ⟨i 0, i 1, (ix2_eta (n0 := 1024) (n1 := 1024) i).symm⟩
  refine (Cert.Reference11Ideal.Read.val_main_v3_apply x0 x1 (ix2 d f)).trans ((Cert.Reference11Ideal.Read.val_main_v2_apply x0 x1 _).trans ?_)
  refine Finset.sum_congr rfl fun k _ => ?_
  refine Eq.trans (congrArg₂ (fun u v : EReal => u * v) (congrArg x1 (a₂ := ix2 k f) (funext fun a => by fin_cases a <;> rfl)) (congrArg x0 (a₂ := ix2 k d) (funext fun a => by fin_cases a <;> rfl))) ?_
  exact mul_comm (x1 (ix2 k f) : EReal) (x0 (ix2 k d))

/-- The kernel's gradient of the weights out of the mixers is the reference's. -/
theorem value11 : Cert.algebraic_Kernel11Ideal_Reference11Ideal := by
  intro m g m' g' hpre hargs
  refine ⟨_, kernel11_end m g, (θ_run Cert.Reference11Ideal.defs _ _).mono (fun r h c => ?_) (Cert.Reference11Ideal.Value.run (F := Ideal) m' g')⟩
  obtain ⟨a0, a1⟩ := hargs c
  obtain ⟨h0, hk⟩ := h c
  refine ⟨h0.trans ((Cert.Reference11Ideal.Read.val_main_v3_eq _ _).trans ((ref11_eq _ _).trans ?_)), hk⟩
  rw [a0, a1]

end Cert.Proof
-- ==== Proof.DyValue.lean ====
/-
  The gradient of a mixer's result: the kernel's blocks of rows are the reference's product.
-/
module

public import proofs.«01_k».proof.Defs
public import proofs.«01_k».proof.Proof.Gen.Kernel12Ideal.Frame
public import proofs.«01_k».proof.Proof.Gen.Reference12Ideal.Run
public import proofs.«01_k».proof.Proof.Gen.Reference12Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel12Ideal.Dy

open Idealize.ShloMosaic Idealize.ShloMosaic.TcCoe
open Cert.Kernel12Ideal Cert.Kernel12Ideal.Gen Ix

/-- Row `s` of the sequence behind the padding. -/
def px (s : Fin 16400) : Fin 16896 := ⟨496 + s.val, by have := s.isLt; omega⟩

theorem pay (x0 : Vec Ideal S512x1024 .bf16) (x1 : Vec Ideal S512x1024 .bf16) (r : Fin 512) (x : Fin 512) :
    @Eq EReal (out0_2 (F := Ideal) x0 x1 (ix2 r x)) (∑ k : Fin 1024, (x0 (ix2 r k) : EReal) * x1 (ix2 x k)) := by
  unfold out0_2
  frame_out
  unfold k0_pay1
  pointwise

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- Row `y` of the block of point `t`. -/
def rx (t : Fin cfg0.N) (y : Fin 512) : Fin 16896 := ⟨512 * (t.val) + y.val, by have := t.isLt; have e : cfg0.N = 33 := N_0; have := y.isLt; omega⟩

/-- The result at a row and a column, of the arrays the kernel takes. -/
def prAll (h0 : Vec Ideal S16896x1024 .bf16) (h1 : Vec Ideal S512x1024 .bf16) : Vec Ideal S16896x512 .f32 :=
  fun i => ∑ k : Fin 1024, (h0 (ix2 (i 0) k) : EReal) * h1 (ix2 (i 1) k)

variable (m : (ℓ : Loc nD τ sig) → Buf (Elt Ideal) ℓ) (c : Dev nD)

theorem row_host (s : Fin 16400) (x : Fin 1024) :
    (V m c main_v1 : Vec Ideal S16896x1024 .bf16) (ix2 (px s) x) = (m (c, Proc.tc.devRef main_arg0) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem mat_host (d : Fin 512) (x : Fin 1024) :
    (V m c main_v2 : Vec Ideal S512x1024 .bf16) (ix2 d x) = (m (c, Proc.tc.devRef main_arg1) : Vec Ideal S512x1024 .f32) (ix2 d x) := by
  unfold V
  after_reads_at
  try rfl

theorem blk0 (t : Fin cfg0.N) (y : Fin 512) (k : Fin 1024) :
    (iblk m c 0 t : Vec Ideal S512x1024 .bf16) (ix2 y k) = (V m c main_v1 : Vec Ideal S16896x1024 .bf16) (ix2 (rx t y) k) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * t.val + y.val; rw [hi.1]; omega
  | ⟨1, _⟩ => show win0_0.index t 1 * 1024 + 1 * k.val = k.val; rw [hi.2]; omega

theorem blk1 (t : Fin cfg0.N) (d : Fin 512) (x : Fin 1024) :
    (iblk m c 1 t : Vec Ideal S512x1024 .bf16) (ix2 d x) = (V m c main_v2 : Vec Ideal S512x1024 .bf16) (ix2 d x) := by
  have hi := index1 t
  unfold iblk
  rw [View.read_apply]
  show V m c main_v2 _ = V m c main_v2 _
  congr 1
  funext a
  apply Fin.ext
  match a with
  | ⟨0, _⟩ => show win0_1.index t 0 * 512 + 1 * d.val = d.val; rw [hi.1]; omega
  | ⟨1, _⟩ => show win0_1.index t 1 * 1024 + 1 * x.val = x.val; rw [hi.2]; omega

theorem arr2 : (dats m 0 c).arrAt 2 cfg0.N = prAll (V m c main_v1) (V m c main_v2) := by
  refine (dats m 0 c).arrAt_eq_of_covers 2 _ (by decide +kernel) fun t hf y => ?_
  blk_simp
  rw [after0_2]
  have hi := index2 t
  have ey : (y : S512x512.Idx) = ix2 (y 0) (y 1) := (ix2_eta (n0 := 512) (n1 := 512) y).symm
  have hemb : (win0_2.blk t).view.emb y = ix2 (rx t (y 0)) (y 1) := by
    funext a
    apply Fin.ext
    match a with
    | ⟨0, _⟩ => show win0_2.index t 0 * 512 + 1 * (y 0).val = 512 * t.val + (y 0).val; rw [hi.1]; omega
    | ⟨1, _⟩ => show win0_2.index t 1 * 512 + 1 * (y 1).val = (y 1).val; rw [hi.2]; omega
  refine ((congrArg (out0_2 (F := Ideal) (iblk m c 0 t) (iblk m c 1 t)) ey).trans (pay _ _ (y 0) (y 1))).trans ?_
  refine Eq.trans ?_ (congrArg (prAll _ _) hemb.symm)
  exact (Finset.sum_congr rfl fun k _ => congrArg₂ (fun u v : EReal => u * v) (blk0 m c t (y 0) k) (blk1 m c t (y 1) k))

/-- The result in terms of the arguments. -/
def prOf (a0 : Vec Ideal S16400x1024 .f32) (a1 : Vec Ideal S512x1024 .f32) : Vec Ideal S16400x512 .f32 :=
  fun i => ∑ k : Fin 1024, (a0 (ix2 (i 0) k) : EReal) * a1 (ix2 (i 1) k)

theorem pr_of {h0 : Vec Ideal S16896x1024 .bf16} {h1 : Vec Ideal S512x1024 .bf16} {a0 : Vec Ideal S16400x1024 .f32} {a1 : Vec Ideal S512x1024 .f32}
    (e0 : ∀ s k, h0 (ix2 (px s) k) = a0 (ix2 s k)) (e1 : ∀ x k, h1 (ix2 x k) = a1 (ix2 x k)) (s : Fin 16400) (x : Fin 512) :
    prAll h0 h1 (ix2 (px s) x) = prOf a0 a1 (ix2 s x) :=
  Finset.sum_congr rfl fun k _ => congrArg₂ (fun u v : EReal => u * v) (e0 s k) (e1 x k)

theorem out_at (s : Fin 16400) (d : Fin 512) : (Pipeline.afterTail₀ cfgs (dats m) 0 (V0 m) [hostOps1] c main_v4 : Vec Ideal S16400x512 .f32) (ix2 s d)
    = prAll (V m c main_v1) (V m c main_v2) (ix2 (px s) d) := by
  have ea := congrFun ((Pipeline.withArrays_arr spec0 (by decide) c (V0 m c) (fun w => (dats m 0 c).arrAt w cfg0.N) 2).trans (arr2 m c)) (ix2 (px s) d)
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v4) : Vec Ideal S16400x512 .f32) (ix2 s d) = (U (Proc.devRef .tc main_v3) : Vec Ideal S16896x512 .f32) (ix2 (px s) d)
  after_reads_at
  rfl

theorem out_eq : (Pipeline.afterTail₀ cfgs (dats m) 0 (V0 m) [hostOps1] c main_v4 : Vec Ideal S16400x512 .f32)
    = prOf (m (c, Proc.tc.devRef main_arg0)) (m (c, Proc.tc.devRef main_arg1)) := by
  funext i
  obtain ⟨s, d, rfl⟩ : ∃ s d, i = ix2 s d := ⟨i 0, i 1, (ix2_eta (n0 := 16400) (n1 := 512) i).symm⟩
  exact (out_at m c s d).trans (pr_of (row_host m c) (mat_host m c) s d)

end Cert.Kernel12Ideal.Dy

namespace Cert.Proof

open Idealize.ShloMosaic Idealize.ShloMosaic.TcCoe Ix

theorem kernel12_end (m : (ℓ : Loc Cert.Kernel12Ideal.nD Cert.Kernel12Ideal.τ Cert.Kernel12Ideal.sig) → Buf (Elt Ideal) ℓ) (g : Dev Cert.Kernel12Ideal.nD → PrngReg) :
    θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = Cert.Kernel12Ideal.Dy.prOf (m (c, Proc.tc.devRef Cert.Kernel12Ideal.main_arg0)) (m (c, Proc.tc.devRef Cert.Kernel12Ideal.main_arg1))
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)) :=
  (θ_run Cert.Kernel12Ideal.defs _ _).mono (fun _ h c => ⟨
      ((h c).2 Cert.Kernel12Ideal.main_v4 (Pipeline.mem_restRefs_of Cert.Kernel12Ideal.main_v4 (by decide) (by decide))).trans (Cert.Kernel12Ideal.Dy.out_eq m c),
      ((h c).2 Cert.Kernel12Ideal.main_arg0 (Pipeline.mem_restRefs_of Cert.Kernel12Ideal.main_arg0 (by decide) (by decide))).trans (Cert.Kernel12Ideal.Gen.W_main_arg0 m (Cert.Kernel12Ideal.Gen.dats m) c),
      ((h c).2 Cert.Kernel12Ideal.main_arg1 (Pipeline.mem_restRefs_of Cert.Kernel12Ideal.main_arg1 (by decide) (by decide))).trans (Cert.Kernel12Ideal.Gen.W_main_arg1 m (Cert.Kernel12Ideal.Gen.dats m) c)⟩)
    (Cert.Kernel12Ideal.Gen.run_main m g)

theorem ref12_eq (x0 : Vec Ideal Cert.Reference12Ideal.S16400x1024 .f32) (x1 : Vec Ideal Cert.Reference12Ideal.S512x1024 .f32) :
    Cert.Reference12Ideal.Read.val_main_v2 (F := Ideal) x0 x1 = Cert.Kernel12Ideal.Dy.prOf x0 x1 := by
  funext i
  obtain ⟨s, d, rfl⟩ : ∃ s d, i = ix2 s d := ⟨i 0, i 1, (ix2_eta (n0 := 16400) (n1 := 512) i).symm⟩
  refine (Cert.Reference12Ideal.Read.val_main_v2_apply x0 x1 (ix2 s d)).trans ?_
  exact Finset.sum_congr rfl fun k _ => congrArg₂ (fun u v : EReal => u * v) (congrArg x0 (a₂ := ix2 s k) (funext fun a => by fin_cases a <;> rfl)) (congrArg x1 (a₂ := ix2 d k) (funext fun a => by fin_cases a <;> rfl))

/-- The kernel's gradient of a mixer's result is the reference's. -/
theorem value12 : Cert.algebraic_Kernel12Ideal_Reference12Ideal := by
  intro m g m' g' hpre hargs
  refine ⟨_, kernel12_end m g, (θ_run Cert.Reference12Ideal.defs _ _).mono (fun r h c => ?_) (Cert.Reference12Ideal.Value.run (F := Ideal) m' g')⟩
  obtain ⟨a0, a1⟩ := hargs c
  obtain ⟨h0, hk⟩ := h c
  refine ⟨h0.trans ((Cert.Reference12Ideal.Read.val_main_v2_eq _ _).trans ((ref12_eq _ _).trans ?_)), hk⟩
  rw [a0, a1]

end Cert.Proof
-- ==== Proof.WuValue.lean ====
/-
  The gradient of the weights of a mixer's product: the kernel adds 33 blocks of rows; that is the reference's product.
-/
module

public import proofs.«01_k».proof.Defs
public import proofs.«01_k».proof.Proof.Gen.Kernel13Ideal.Frame
public import proofs.«01_k».proof.Proof.Gen.Reference13Ideal.Run
public import proofs.«01_k».proof.Proof.Gen.Reference13Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel13Ideal.Wu

open Idealize.ShloMosaic Idealize.ShloMosaic.TcCoe
open Cert.Kernel13Ideal Cert.Kernel13Ideal.Gen Ix

/-- Row `s` of the sequence behind the padding. -/
def px (s : Fin 16400) : Fin 16896 := ⟨496 + s.val, by have := s.isLt; omega⟩

theorem pay1_at (i : S512x1024.Idx) : @Eq EReal (k0_pay1 (F := Ideal) i) 0 := by
  unfold k0_pay1
  pointwise

/-- What one block of rows adds. -/
def cell (v : Vec Ideal S512x512 .bf16) (w : Vec Ideal S512x1024 .bf16) (d : Fin 512) (x : Fin 1024) : EReal :=
  ∑ y : Fin 512, (v (ix2 y d) : EReal) * w (ix2 y x)

theorem pay2_at (u : Vec Ideal S512x1024 .f32) (v : Vec Ideal S512x512 .bf16) (w : Vec Ideal S512x1024 .bf16) (d : Fin 512) (x : Fin 1024) :
    @Eq EReal (k0_pay2 (F := Ideal) u v w (ix2 d x)) ((u (ix2 d x) : EReal) + cell v w d x) := by
  unfold k0_pay2 cell
  pointwise

variable (m : (ℓ : Loc nD τ sig) → Buf (Elt Ideal) ℓ) (c : Dev nD)

/-- What one point adds. -/
def term (t : Fin cfg0.N) (d : Fin 512) (x : Fin 1024) : EReal := cell (iblk m c 0 t) (iblk m c 1 t) d x

theorem tA (t : Fin cfg0.N) (h0 : t.val % 33 = 0) (d : Fin 512) (x : Fin 1024) :
    @Eq EReal ((outsAt0 m c t.val t.isLt).2 (ix2 d x)) (0 + term m c t d x) := by
  rw [outsAt0_A m c t h0 (by omega)]
  dsimp only
  frame_out
  exact (pay2_at _ _ _ d x).trans (congrArg (fun u : EReal => u + _) (pay1_at _))

theorem tB (t : Fin cfg0.N) (h0 : ¬t.val % 33 = 0) (d : Fin 512) (x : Fin 1024) :
    @Eq EReal ((outsAt0 m c t.val t.isLt).2 (ix2 d x)) ((outsAt0 m c (t.val - 1) (Nat.lt_of_le_of_lt (Nat.sub_le _ _) t.isLt)).2 (ix2 d x) + term m c t d x) := by
  by_cases h1 : t.val % 33 = 32
  · rw [outsAt0_C m c t h0 h1]
    dsimp only
    frame_out
    exact (pay2_at _ _ _ d x).trans (congrArg (fun u : EReal => u + _) (congrFun (Memref.IsWhole.read_unread _ _) (ix2 d x)))
  · rw [outsAt0_B m c t h0 h1]
    dsimp only
    frame_out
    exact (pay2_at _ _ _ d x).trans (congrArg (fun u : EReal => u + _) (congrFun (Memref.IsWhole.read_unread _ _) (ix2 d x)))

theorem tC (t : Fin cfg0.N) (h1 : t.val % 33 = 32) (d : Fin 512) (x : Fin 1024) :
    @Eq EReal ((outsAt0 m c t.val t.isLt).1 (ix2 d x)) ((outsAt0 m c (t.val - 1) (Nat.lt_of_le_of_lt (Nat.sub_le _ _) t.isLt)).2 (ix2 d x) + term m c t d x) := by
  rw [outsAt0_C m c t (by omega) h1]
  dsimp only
  frame_out
  exact (pay2_at _ _ _ d x).trans (congrArg (fun u : EReal => u + _) (congrFun (Memref.IsWhole.read_unread _ _) (ix2 d x)))

theorem row_host (s : Fin 16400) (x : Fin 512) :
    (V m c main_v1 : Vec Ideal S16896x512 .bf16) (ix2 (px s) x) = (m (c, Proc.tc.devRef main_arg0) : Vec Ideal S16400x512 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem row_zero (s : Fin 16896) (h : s.val < 496) (x : Fin 512) :
    @Eq EReal ((V m c main_v1 : Vec Ideal S16896x512 .bf16) (ix2 s x)) 0 := by
  unfold V
  after_reads_at
  rw [dif_neg fun e => absurd e.1 (Nat.not_le.mpr h)]

theorem mat_host (s : Fin 16400) (x : Fin 1024) :
    (V m c main_v3 : Vec Ideal S16896x1024 .bf16) (ix2 (px s) x) = (m (c, Proc.tc.devRef main_arg1) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem index0 : ∀ t : Fin cfg0.N, win0_0.index t 0 = t.val % 33 ∧ win0_0.index t 1 = 0 := by decide +kernel
theorem index1 : ∀ t : Fin cfg0.N, win0_1.index t 0 = t.val % 33 ∧ win0_1.index t 1 = 0 := by decide +kernel
theorem index2 : ∀ t : Fin cfg0.N, win0_2.index t 0 = 0 ∧ win0_2.index t 1 = 0 := by decide +kernel

/-- Row `y` of the block of point `t`. -/
def rx (t : Fin cfg0.N) (y : Fin 512) : Fin 16896 := ⟨512 * (t.val % 33) + y.val, by have := t.isLt; have e : cfg0.N = 33 := N_0; have := y.isLt; omega⟩

theorem blk0 (t : Fin cfg0.N) (y : Fin 512) (d : Fin 512) :
    (iblk m c 0 t : Vec Ideal S512x512 .bf16) (ix2 y d) = (V m c main_v1 : Vec Ideal S16896x512 .bf16) (ix2 (rx t y) d) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * (t.val % 33) + y.val; rw [hi.1]; omega
  | ⟨1, _⟩ => show win0_0.index t 1 * 512 + 1 * d.val = d.val; rw [hi.2]; omega

theorem blk1 (t : Fin cfg0.N) (y : Fin 512) (x : Fin 1024) :
    (iblk m c 1 t : Vec Ideal S512x1024 .bf16) (ix2 y x) = (V m c main_v3 : Vec Ideal S16896x1024 .bf16) (ix2 (rx t y) x) := by
  have hi := index1 t
  unfold iblk
  rw [View.read_apply]
  show V m c main_v3 _ = V m c main_v3 _
  congr 1
  funext a
  apply Fin.ext
  match a with
  | ⟨0, _⟩ => show win0_1.index t 0 * 512 + 1 * y.val = 512 * (t.val % 33) + y.val; rw [hi.1]; omega
  | ⟨1, _⟩ => show win0_1.index t 1 * 1024 + 1 * x.val = x.val; rw [hi.2]; omega

/-- One row's share of one element. -/
def rowPart (h0 : Vec Ideal S16896x512 .bf16) (h1 : Vec Ideal S16896x1024 .bf16) (d : Fin 512) (x : Fin 1024) (s : Fin 16896) : EReal :=
  (h0 (ix2 s d) : EReal) * h1 (ix2 s x)

theorem cell_rows {v : Vec Ideal S512x512 .bf16} {w : Vec Ideal S512x1024 .bf16} {h0 : Vec Ideal S16896x512 .bf16} {h1 : Vec Ideal S16896x1024 .bf16} {t : Fin cfg0.N}
    (e0 : ∀ y d, v (ix2 y d) = h0 (ix2 (rx t y) d)) (e1 : ∀ y x, w (ix2 y x) = h1 (ix2 (rx t y) x)) (d : Fin 512) (x : Fin 1024) :
    cell v w d x = ∑ y : Fin 512, rowPart h0 h1 d x (rx t y) :=
  Finset.sum_congr rfl fun y _ => congrArg₂ (fun a b : EReal => a * b) (e0 y d) (e1 y x)

/-- The result, of the two arrays the kernel takes. -/
def dwAll (h0 : Vec Ideal S16896x512 .bf16) (h1 : Vec Ideal S16896x1024 .bf16) : Vec Ideal S512x1024 .f32 :=
  fun i => ∑ s : Fin 16896, (h0 (ix2 s (i 0)) : EReal) * h1 (ix2 s (i 1))

theorem point_lt {n : ℕ} (h : n < 33) : n < cfg0.N := h.trans_eq N_0.symm

theorem term_rows (n : ℕ) (h : n < 33) (d : Fin 512) (x : Fin 1024) :
    term m c ⟨n, point_lt h⟩ d x = ∑ y : Fin 512, rowPart (V m c main_v1) (V m c main_v3) d x ⟨512 * n + y.val, by have := y.isLt; omega⟩ := by
  refine (cell_rows (blk0 m c _) (blk1 m c _) d x).trans (Finset.sum_congr rfl fun y _ => congrArg (rowPart _ _ d x) (Fin.ext ?_))
  show 512 * (n % 33) + y.val = 512 * n + y.val
  omega

theorem held (d : Fin 512) (x : Fin 1024) :
    @Eq EReal ((outsAt0 m c 32 (point_lt (by decide))).2 (ix2 d x)) (dwAll (V m c main_v1) (V m c main_v3) (ix2 d x)) :=
  steps_rows rfl (fun n h => (outsAt0 m c n (point_lt h)).2 (ix2 d x)) (fun t => term m c ⟨t.val, point_lt t.isLt⟩ d x) (rowPart (V m c main_v1) (V m c main_v3) d x)
    (fun t => term_rows m c t.val t.isLt d x)
    (fun h => tA m c ⟨0, point_lt h⟩ rfl d x)
    (fun n h => tB m c ⟨n + 1, point_lt h⟩ (by show ¬ (n + 1) % 33 = 0; omega) d x) (by decide)

theorem same {n n' : ℕ} (h : n < cfg0.N) (h' : n' < cfg0.N) (e : n = n') : outsAt0 m c n h = outsAt0 m c n' h' := by
  subst e
  rfl

theorem last_at (t : Fin cfg0.N) (h1 : t.val % 33 = 32) (d : Fin 512) (x : Fin 1024) :
    @Eq EReal ((outsAt0 m c t.val t.isLt).1 (ix2 d x)) (dwAll (V m c main_v1) (V m c main_v3) (ix2 d x)) := by
  refine ((tC m c t h1 d x).trans (tB m c t (by omega) d x).symm).trans ?_
  have hl := t.isLt.trans_eq N_0
  exact (congrArg (fun o : Vec Ideal S512x1024 .f32 × Vec Ideal S512x1024 .f32 => o.2 (ix2 d x)) (same m c t.isLt (point_lt (by decide)) (by omega))).trans (held m c d x)

theorem arr2 : (dats m 0 c).arrAt 2 cfg0.N = dwAll (V m c main_v1) (V m c main_v3) := by
  refine (dats m 0 c).arrAt_eq_of_covers 2 _ (by decide +kernel) fun t hf y => ?_
  blk_simp
  rw [after0_2]
  have hi := index2 t
  have ey : (y : S512x1024.Idx) = ix2 (y 0) (y 1) := (ix2_eta (n0 := 512) (n1 := 1024) y).symm
  have hemb : (win0_2.blk t).view.emb y = ix2 (y 0) (y 1) := by
    funext a
    apply Fin.ext
    match a with
    | ⟨0, _⟩ => show win0_2.index t 0 * 512 + 1 * (y 0).val = (y 0).val; rw [hi.1]; omega
    | ⟨1, _⟩ => show win0_2.index t 1 * 1024 + 1 * (y 1).val = (y 1).val; rw [hi.2]; omega
  refine ((congrArg (outsAt0 m c t.val t.isLt).1 ey).trans (last_at m c t ((flush0_2 t).mp hf) (y 0) (y 1))).trans ?_
  exact congrArg (dwAll _ _) hemb.symm

/-- The result in terms of the arguments. -/
def dwOf (a0 : Vec Ideal S16400x512 .f32) (a1 : Vec Ideal S16400x1024 .f32) : Vec Ideal S512x1024 .f32 :=
  fun i => ∑ s : Fin 16400, (a0 (ix2 s (i 0)) : EReal) * a1 (ix2 s (i 1))

theorem dw_of {h0 : Vec Ideal S16896x512 .bf16} {h1 : Vec Ideal S16896x1024 .bf16} {a0 : Vec Ideal S16400x512 .f32} {a1 : Vec Ideal S16400x1024 .f32}
    (e0 : ∀ s d, h0 (ix2 (px s) d) = a0 (ix2 s d)) (z0 : ∀ (s : Fin 16896), s.val < 496 → ∀ d, @Eq EReal (h0 (ix2 s d)) 0)
    (e1 : ∀ s k, h1 (ix2 (px s) k) = a1 (ix2 s k)) (d : Fin 512) (k : Fin 1024) :
    dwAll h0 h1 (ix2 d k) = dwOf a0 a1 (ix2 d k) :=
  sum_padded (fun s => (h0 (ix2 s d) : EReal) * h1 (ix2 s k)) (fun s => (a0 (ix2 s d) : EReal) * a1 (ix2 s k))
    (fun s h => (congrArg (fun u : EReal => u * h1 (ix2 s k)) (z0 s h d)).trans (zero_mul _))
    (fun s => congrArg₂ (fun u v : EReal => u * v) (e0 s d) (e1 s k))

theorem out_eq : (dats m 0 c).arrAt 2 cfg0.N = dwOf (m (c, Proc.tc.devRef main_arg0)) (m (c, Proc.tc.devRef main_arg1)) := by
  refine (arr2 m c).trans ?_
  funext i
  obtain ⟨d, k, rfl⟩ : ∃ d k, i = ix2 d k := ⟨i 0, i 1, (ix2_eta (n0 := 512) (n1 := 1024) i).symm⟩
  exact dw_of (row_host m c) (row_zero m c) (mat_host m c) d k

end Cert.Kernel13Ideal.Wu

namespace Cert.Proof

open Idealize.ShloMosaic Idealize.ShloMosaic.TcCoe Ix

theorem kernel13_end (m : (ℓ : Loc Cert.Kernel13Ideal.nD Cert.Kernel13Ideal.τ Cert.Kernel13Ideal.sig) → Buf (Elt Ideal) ℓ) (g : Dev Cert.Kernel13Ideal.nD → PrngReg) :
    θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = Cert.Kernel13Ideal.Wu.dwOf (m (c, Proc.tc.devRef Cert.Kernel13Ideal.main_arg0)) (m (c, Proc.tc.devRef Cert.Kernel13Ideal.main_arg1))
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)) :=
  (θ_run Cert.Kernel13Ideal.defs _ _).mono (fun _ h c => ⟨
      ((h c).1 2).trans (Cert.Kernel13Ideal.Wu.out_eq m c),
      ((h c).2 Cert.Kernel13Ideal.main_arg0 (Pipeline.mem_restRefs_of Cert.Kernel13Ideal.main_arg0 (by decide) (by decide))).trans (Cert.Kernel13Ideal.Gen.V_main_arg0 m c),
      ((h c).2 Cert.Kernel13Ideal.main_arg1 (Pipeline.mem_restRefs_of Cert.Kernel13Ideal.main_arg1 (by decide) (by decide))).trans (Cert.Kernel13Ideal.Gen.V_main_arg1 m c)⟩)
    (Cert.Kernel13Ideal.Gen.run_main m g)

theorem ref13_eq (x0 : Vec Ideal Cert.Reference13Ideal.S16400x512 .f32) (x1 : Vec Ideal Cert.Reference13Ideal.S16400x1024 .f32) :
    Cert.Reference13Ideal.Read.val_main_v3 (F := Ideal) x0 x1 = Cert.Kernel13Ideal.Wu.dwOf x0 x1 := by
  funext i
  obtain ⟨d, f, rfl⟩ : ∃ d f, i = ix2 d f := ⟨i 0, i 1, (ix2_eta (n0 := 512) (n1 := 1024) i).symm⟩
  refine (Cert.Reference13Ideal.Read.val_main_v3_apply x0 x1 (ix2 d f)).trans ((Cert.Reference13Ideal.Read.val_main_v2_apply x0 x1 _).trans ?_)
  refine Finset.sum_congr rfl fun k _ => ?_
  refine Eq.trans (congrArg₂ (fun u v : EReal => u * v) (congrArg x1 (a₂ := ix2 k f) (funext fun a => by fin_cases a <;> rfl)) (congrArg x0 (a₂ := ix2 k d) (funext fun a => by fin_cases a <;> rfl))) ?_
  exact mul_comm (x1 (ix2 k f) : EReal) (x0 (ix2 k d))

/-- The kernel's gradient of the weights of a mixer's product is the reference's. -/
theorem value13 : Cert.algebraic_Kernel13Ideal_Reference13Ideal := by
  intro m g m' g' hpre hargs
  refine ⟨_, kernel13_end m g, (θ_run Cert.Reference13Ideal.defs _ _).mono (fun r h c => ?_) (Cert.Reference13Ideal.Value.run (F := Ideal) m' g')⟩
  obtain ⟨a0, a1⟩ := hargs c
  obtain ⟨h0, hk⟩ := h c
  refine ⟨h0.trans ((Cert.Reference13Ideal.Read.val_main_v3_eq _ _).trans ((ref13_eq _ _).trans ?_)), hk⟩
  rw [a0, a1]

end Cert.Proof
-- ==== Proof.OpValue.lean ====
/-
  The product out of the mixers and what is added to it: the kernel's blocks of rows are the reference's.
-/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import proofs.«01_k».proof.Proof.Member
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel14Ideal.Op

open Idealize.ShloMosaic Idealize.ShloMosaic.TcCoe
open Cert.Kernel14Ideal Cert.Kernel14Ideal.Gen Ix

/-- Row `s` of the sequence behind the padding. -/
def px (s : Fin 16400) : Fin 16896 := ⟨496 + s.val, by have := s.isLt; omega⟩

theorem pay (x0 : Vec Ideal S512x1024 .bf16) (x1 : Vec Ideal S1024x1024 .bf16) (x2 : Vec Ideal S512x1024 .f32) (r : Fin 512) (x : Fin 1024) :
    @Eq EReal (out0_3 (F := Ideal) x0 x1 x2 (ix2 r x)) ((x2 (ix2 r x) : EReal) + ∑ k : Fin 1024, (x0 (ix2 r k) : EReal) * x1 (ix2 k x)) := by
  unfold out0_3
  frame_out
  unfold k0_pay1
  pointwise

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel

/-- Row `y` of the block of point `t`. -/
def rx (t : Fin cfg0.N) (y : Fin 512) : Fin 16896 := ⟨512 * (t.val) + y.val, by have := t.isLt; have e : cfg0.N = 33 := N_0; have := y.isLt; omega⟩

/-- The result at a row and a column, of the arrays the kernel takes. -/
def prAll (h0 : Vec Ideal S16896x1024 .bf16) (h1 : Vec Ideal S1024x1024 .bf16) (h2 : Vec Ideal S16896x1024 .f32) : Vec Ideal S16896x1024 .f32 :=
  fun i => (h2 (ix2 (i 0) (i 1)) : EReal) + ∑ k : Fin 1024, (h0 (ix2 (i 0) k) : EReal) * h1 (ix2 k (i 1))

variable (m : (ℓ : Loc nD τ sig) → Buf (Elt Ideal) ℓ) (c : Dev nD)

theorem row_host (s : Fin 16400) (x : Fin 1024) :
    (V m c main_v1 : Vec Ideal S16896x1024 .bf16) (ix2 (px s) x) = (m (c, Proc.tc.devRef main_arg0) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem mat_host (d : Fin 1024) (x : Fin 1024) :
    (V m c main_v2 : Vec Ideal S1024x1024 .bf16) (ix2 d x) = (m (c, Proc.tc.devRef main_arg1) : Vec Ideal S1024x1024 .f32) (ix2 d x) := by
  unfold V
  after_reads_at
  try rfl

theorem res_host (s : Fin 16400) (x : Fin 1024) :
    (V m c main_v3 : Vec Ideal S16896x1024 .f32) (ix2 (px s) x) = (m (c, Proc.tc.devRef main_arg2) : Vec Ideal S16400x1024 .f32) (ix2 s x) := by
  have e0 : (px s).val - 496 = s.val := Nat.add_sub_cancel_left _ _
  unfold V
  after_reads_at
  rw [dif_pos ⟨Nat.le_add_right _ _, by rw [e0]; exact s.isLt⟩]
  exact congrArg _ (congrArg (fun q => ix2 q x) (Fin.ext e0))

theorem blk0 (t : Fin cfg0.N) (y : Fin 512) (k : Fin 1024) :
    (iblk m c 0 t : Vec Ideal S512x1024 .bf16) (ix2 y k) = (V m c main_v1 : Vec Ideal S16896x1024 .bf16) (ix2 (rx t y) k) := by
  have hi := index0 t
  unfold iblk
  rw [View.read_apply]
  show V m c main_v1 _ = V m c main_v1 _
  congr 1
  funext a
  apply Fin.ext
  match a with
  | ⟨0, _⟩ => show win0_0.index t 0 * 512 + 1 * y.val = 512 * t.val + y.val; rw [hi.1]; omega
  | ⟨1, _⟩ => show win0_0.index t 1 * 1024 + 1 * k.val = k.val; rw [hi.2]; omega

theorem blk1 (t : Fin cfg0.N) (d : Fin 1024) (x : Fin 1024) :
    (iblk m c 1 t : Vec Ideal S1024x1024 .bf16) (ix2 d x) = (V m c main_v2 : Vec Ideal S1024x1024 .bf16) (ix2 d x) := by
  have hi := index1 t
  unfold iblk
  rw [View.read_apply]
  show V m c main_v2 _ = V m c main_v2 _
  congr 1
  funext a
  apply Fin.ext
  match a with
  | ⟨0, _⟩ => show win0_1.index t 0 * 1024 + 1 * d.val = d.val; rw [hi.1]; omega
  | ⟨1, _⟩ => show win0_1.index t 1 * 1024 + 1 * x.val = x.val; rw [hi.2]; omega

theorem blk2 (t : Fin cfg0.N) (y : Fin 512) (x : Fin 1024) :
    (iblk m c 2 t : Vec Ideal S512x1024 .f32) (ix2 y x) = (V m c main_v3 : Vec Ideal S16896x1024 .f32) (ix2 (rx t y) x) := by
  have hi := index2 t
  unfold iblk
  rw [View.read_apply]
  show V m c main_v3 _ = V m c main_v3 _
  congr 1
  funext a
  apply Fin.ext
  match a with
  | ⟨0, _⟩ => show win0_2.index t 0 * 512 + 1 * y.val = 512 * t.val + y.val; rw [hi.1]; omega
  | ⟨1, _⟩ => show win0_2.index t 1 * 1024 + 1 * x.val = x.val; rw [hi.2]; omega

theorem arr3 : (dats m 0 c).arrAt 3 cfg0.N = prAll (V m c main_v1) (V m c main_v2) (V m c main_v3) := by
  refine (dats m 0 c).arrAt_eq_of_covers 3 _ (by decide +kernel) fun t hf y => ?_
  blk_simp
  rw [after0_3]
  have hi := index3 t
  have ey : (y : S512x1024.Idx) = ix2 (y 0) (y 1) := (ix2_eta (n0 := 512) (n1 := 1024) y).symm
  have hemb : (win0_3.blk t).view.emb y = ix2 (rx t (y 0)) (y 1) := by
    funext a
    apply Fin.ext
    match a with
    | ⟨0, _⟩ => show win0_3.index t 0 * 512 + 1 * (y 0).val = 512 * t.val + (y 0).val; rw [hi.1]; omega
    | ⟨1, _⟩ => show win0_3.index t 1 * 1024 + 1 * (y 1).val = (y 1).val; rw [hi.2]; omega
  refine ((congrArg (out0_3 (F := Ideal) (iblk m c 0 t) (iblk m c 1 t) (iblk m c 2 t)) ey).trans (pay _ _ _ (y 0) (y 1))).trans ?_
  refine Eq.trans ?_ (congrArg (prAll _ _ _) hemb.symm)
  exact congrArg₂ (fun u v : EReal => u + v) (blk2 m c t (y 0) (y 1)) (Finset.sum_congr rfl fun k _ => congrArg₂ (fun u v : EReal => u * v) (blk0 m c t (y 0) k) (blk1 m c t k (y 1)))

/-- The result in terms of the arguments. -/
def prOf (a0 : Vec Ideal S16400x1024 .f32) (a1 : Vec Ideal S1024x1024 .f32) (a2 : Vec Ideal S16400x1024 .f32) : Vec Ideal S16400x1024 .f32 :=
  fun i => (a2 (ix2 (i 0) (i 1)) : EReal) + ∑ k : Fin 1024, (a0 (ix2 (i 0) k) : EReal) * a1 (ix2 k (i 1))

theorem pr_of {h0 : Vec Ideal S16896x1024 .bf16} {h1 : Vec Ideal S1024x1024 .bf16} {a0 : Vec Ideal S16400x1024 .f32} {a1 : Vec Ideal S1024x1024 .f32} {h2 : Vec Ideal S16896x1024 .f32} {a2 : Vec Ideal S16400x1024 .f32}
    (e0 : ∀ s k, h0 (ix2 (px s) k) = a0 (ix2 s k)) (e1 : ∀ x k, h1 (ix2 x k) = a1 (ix2 x k)) (e2 : ∀ s x, h2 (ix2 (px s) x) = a2 (ix2 s x)) (s : Fin 16400) (x : Fin 1024) :
    prAll h0 h1 h2 (ix2 (px s) x) = prOf a0 a1 a2 (ix2 s x) :=
  congrArg₂ (fun u v : EReal => u + v) (e2 s x) (Finset.sum_congr rfl fun k _ => congrArg₂ (fun u v : EReal => u * v) (e0 s k) (e1 k x))

theorem out_at (s : Fin 16400) (d : Fin 1024) : (Pipeline.afterTail₀ cfgs (dats m) 0 (V0 m) [hostOps1] c main_v5 : Vec Ideal S16400x1024 .f32) (ix2 s d)
    = prAll (V m c main_v1) (V m c main_v2) (V m c main_v3) (ix2 (px s) d) := by
  have ea := congrFun ((Pipeline.withArrays_arr spec0 (by decide) c (V0 m c) (fun w => (dats m 0 c).arrAt w cfg0.N) 3).trans (arr3 m c)) (ix2 (px s) d)
  refine Eq.trans ?_ ea
  unfold Pipeline.afterTail₀
  generalize Pipeline.withArrays spec0 c (V0 m c) (fun w => (dats m 0 c).arrAt w cfg0.N) = U
  show (StableHlo.after (List.flatten [hostOps1]) U (Proc.devRef .tc main_v5) : Vec Ideal S16400x1024 .f32) (ix2 s d) = (U (Proc.devRef .tc main_v4) : Vec Ideal S16896x1024 .f32) (ix2 (px s) d)
  after_reads_at
  rfl

theorem out_eq : (Pipeline.afterTail₀ cfgs (dats m) 0 (V0 m) [hostOps1] c main_v5 : Vec Ideal S16400x1024 .f32)
    = prOf (m (c, Proc.tc.devRef main_arg0)) (m (c, Proc.tc.devRef main_arg1)) (m (c, Proc.tc.devRef main_arg2)) := by
  funext i
  obtain ⟨s, d, rfl⟩ : ∃ s d, i = ix2 s d := ⟨i 0, i 1, (ix2_eta (n0 := 16400) (n1 := 1024) i).symm⟩
  exact (out_at m c s d).trans (pr_of (row_host m c) (mat_host m c) (res_host m c) s d)

end Cert.Kernel14Ideal.Op

namespace Cert.Proof

open Idealize.ShloMosaic Idealize.ShloMosaic.TcCoe Ix

theorem kernel14_end (m : (ℓ : Loc Cert.Kernel14Ideal.nD Cert.Kernel14Ideal.τ Cert.Kernel14Ideal.sig) → Buf (Elt Ideal) ℓ) (g : Dev Cert.Kernel14Ideal.nD → PrngReg) :
    θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = Cert.Kernel14Ideal.Op.prOf (m (c, Proc.tc.devRef Cert.Kernel14Ideal.main_arg0)) (m (c, Proc.tc.devRef Cert.Kernel14Ideal.main_arg1)) (m (c, Proc.tc.devRef Cert.Kernel14Ideal.main_arg2))
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)) :=
  (θ_run Cert.Kernel14Ideal.defs _ _).mono (fun _ h c => ⟨
      ((h c).2 Cert.Kernel14Ideal.main_v5 (Pipeline.mem_restRefs_of Cert.Kernel14Ideal.main_v5 (by decide) (by decide))).trans (Cert.Kernel14Ideal.Op.out_eq m c),
      ((h c).2 Cert.Kernel14Ideal.main_arg0 (Pipeline.mem_restRefs_of Cert.Kernel14Ideal.main_arg0 (by decide) (by decide))).trans (Cert.Kernel14Ideal.Gen.W_main_arg0 m (Cert.Kernel14Ideal.Gen.dats m) c),
      ((h c).2 Cert.Kernel14Ideal.main_arg1 (Pipeline.mem_restRefs_of Cert.Kernel14Ideal.main_arg1 (by decide) (by decide))).trans (Cert.Kernel14Ideal.Gen.W_main_arg1 m (Cert.Kernel14Ideal.Gen.dats m) c),
      ((h c).2 Cert.Kernel14Ideal.main_arg2 (Pipeline.mem_restRefs_of Cert.Kernel14Ideal.main_arg2 (by decide) (by decide))).trans (Cert.Kernel14Ideal.Gen.W_main_arg2 m (Cert.Kernel14Ideal.Gen.dats m) c)⟩)
    (Cert.Kernel14Ideal.Gen.run_main m g)

theorem ref14_eq (x0 : Vec Ideal Cert.Reference14Ideal.S16400x1024 .f32) (x1 : Vec Ideal Cert.Reference14Ideal.S1024x1024 .f32) (x2 : Vec Ideal Cert.Reference14Ideal.S16400x1024 .f32) :
    Cert.Reference14Ideal.Read.val_main_v1 (F := Ideal) x0 x1 x2 = Cert.Kernel14Ideal.Op.prOf x0 x1 x2 := by
  funext i
  obtain ⟨s, d, rfl⟩ : ∃ s d, i = ix2 s d := ⟨i 0, i 1, (ix2_eta (n0 := 16400) (n1 := 1024) i).symm⟩
  refine congrArg (fun u : EReal => x2 (ix2 s d) + u) ((Cert.Reference14Ideal.Read.val_main_v0_apply x0 x1 (ix2 s d)).trans ?_)
  exact Finset.sum_congr rfl fun k _ => congrArg₂ (fun u v : EReal => u * v) (congrArg x0 (a₂ := ix2 s k) (funext fun a => by fin_cases a <;> rfl)) (congrArg x1 (a₂ := ix2 k d) (funext fun a => by fin_cases a <;> rfl))

/-- The kernel's product out of the mixers, added to the layer's input, is the reference's. -/
theorem value14 : Cert.algebraic_Kernel14Ideal_Reference14Ideal := by
  intro m g m' g' hpre hargs
  refine ⟨_, kernel14_end m g, (θ_run Cert.Reference14Ideal.defs _ _).mono (fun r h c => ?_) (Cert.Reference14Ideal.Value.run (F := Ideal) m' g')⟩
  obtain ⟨a0, a1, a2⟩ := hargs c
  obtain ⟨h0, hk⟩ := h c
  refine ⟨h0.trans ((Cert.Reference14Ideal.Read.val_main_v1_eq _ _ _).trans ((ref14_eq _ _ _).trans ?_)), hk⟩
  rw [a0, a1, a2]

end Cert.Proof
-- ==== Proof.lean ====
/- The certificate: the frames, the named constant and the value claim, from the modules under Proof/. -/
module

public import proofs.«01_k».proof.Defs
public import proofs.«01_k».proof.Proof.Gen.Kernel
public import proofs.«01_k».proof.Proof.Gen.KernelIdeal
public import proofs.«01_k».proof.Proof.KValue
public import proofs.«01_k».proof.Proof.BFrame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.DnValue
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.DwValue
public import proofs.«01_k».proof.Proof.Gen.Kernel3Ideal
public import proofs.«01_k».proof.Proof.Gen.Reference3Ideal
public import proofs.«01_k».proof.Proof.Gen.Kernel4
public import proofs.«01_k».proof.Proof.Gen.Kernel4.Frame
public import proofs.«01_k».proof.Proof.DdValue
public import proofs.«01_k».proof.Proof.Gen.Kernel4Ideal
public import proofs.«01_k».proof.Proof.Gen.Reference4Ideal
public import proofs.«01_k».proof.Proof.Gen.Kernel5
public import proofs.«01_k».proof.Proof.Gen.Kernel5.Frame
public import proofs.«01_k».proof.Proof.DuValue
public import proofs.«01_k».proof.Proof.Gen.Kernel5Ideal
public import proofs.«01_k».proof.Proof.Gen.Reference5Ideal
public import proofs.«01_k».proof.Proof.Gen.Kernel6
public import proofs.«01_k».proof.Proof.Gen.Kernel6.Frame
public import proofs.«01_k».proof.Proof.DpValue
public import proofs.«01_k».proof.Proof.Gen.Kernel6Ideal
public import proofs.«01_k».proof.Proof.Gen.Reference6Ideal
public import proofs.«01_k».proof.Proof.Gen.Kernel7
public import proofs.«01_k».proof.Proof.Gen.Kernel7.Frame
public import proofs.«01_k».proof.Proof.DownValue
public import proofs.«01_k».proof.Proof.Gen.Kernel7Ideal
public import proofs.«01_k».proof.Proof.Gen.Reference7Ideal
public import proofs.«01_k».proof.Proof.Gen.Kernel8
public import proofs.«01_k».proof.Proof.Gen.Kernel8.Frame
public import proofs.«01_k».proof.Proof.PrValue
public import proofs.«01_k».proof.Proof.Gen.Kernel8Ideal
public import proofs.«01_k».proof.Proof.Gen.Reference8Ideal
public import proofs.«01_k».proof.Proof.Gen.Kernel9
public import proofs.«01_k».proof.Proof.Gen.Kernel9.Frame
public import proofs.«01_k».proof.Proof.UpValue
public import proofs.«01_k».proof.Proof.Gen.Kernel9Ideal
public import proofs.«01_k».proof.Proof.Gen.Reference9Ideal
public import proofs.«01_k».proof.Proof.Gen.Kernel10
public import proofs.«01_k».proof.Proof.Gen.Kernel10.Frame
public import proofs.«01_k».proof.Proof.DaValue
public import proofs.«01_k».proof.Proof.Gen.Kernel10Ideal
public import proofs.«01_k».proof.Proof.Gen.Reference10Ideal
public import proofs.«01_k».proof.Proof.Gen.Kernel11
public import proofs.«01_k».proof.Proof.Gen.Kernel11.Frame
public import proofs.«01_k».proof.Proof.WoValue
public import proofs.«01_k».proof.Proof.Gen.Kernel11Ideal
public import proofs.«01_k».proof.Proof.Gen.Reference11Ideal
public import proofs.«01_k».proof.Proof.Gen.Kernel12
public import proofs.«01_k».proof.Proof.Gen.Kernel12.Frame
public import proofs.«01_k».proof.Proof.DyValue
public import proofs.«01_k».proof.Proof.Gen.Kernel12Ideal
public import proofs.«01_k».proof.Proof.Gen.Reference12Ideal
public import proofs.«01_k».proof.Proof.Gen.Kernel13
public import proofs.«01_k».proof.Proof.Gen.Kernel13.Frame
public import proofs.«01_k».proof.Proof.WuValue
public import proofs.«01_k».proof.Proof.Gen.Kernel13Ideal
public import proofs.«01_k».proof.Proof.Gen.Reference13Ideal
public import proofs.«01_k».proof.Proof.Gen.Kernel14
public import proofs.«01_k».proof.Proof.Gen.Kernel14.Frame
public import proofs.«01_k».proof.Proof.OpValue
public import proofs.«01_k».proof.Proof.Gen.Kernel14Ideal
public import proofs.«01_k».proof.Proof.Gen.Reference14Ideal
public import Idealize.ShloMosaic.Adequacy
public import Idealize.ShloMosaic.Init

@[expose] public section

noncomputable section

namespace Cert.Proof

open Idealize.ShloMosaic Idealize.SL.Sem Cert.Kernel

/-- The reference's run reads its arguments and leaves them; it declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

theorem frame_ref2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

theorem frame_ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m g)

theorem frame_ref4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run (F := Ideal) m g)

theorem frame_ref5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, Idealize.ShloMosaic.sem_eq_zero_of_no_sems (by decide) r.2⟩)
    (Cert.Reference5Ideal.Value.run (F := Ideal) m g)

theorem frame_ref6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono (fun r h => ⟨fun c => (h c).2, Idealize.ShloMosaic.sem_eq_zero_of_no_sems (by decide) r.2⟩)
    (Cert.Reference6Ideal.Value.run (F := Ideal) m g)

theorem frame_ref7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2, Idealize.ShloMosaic.sem_eq_zero_of_no_sems (by decide) r.2⟩)
    (Cert.Reference7Ideal.Value.run (F := Ideal) m g)

theorem frame_ref8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono (fun r h => ⟨fun c => (h c).2, Idealize.ShloMosaic.sem_eq_zero_of_no_sems (by decide) r.2⟩)
    (Cert.Reference8Ideal.Value.run (F := Ideal) m g)

theorem frame_ref9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0) :=
  (θ_run Cert.Reference9Ideal.defs _ _).mono (fun r h => ⟨fun c => (h c).2.2.2, Idealize.ShloMosaic.sem_eq_zero_of_no_sems (by decide) r.2⟩)
    (Cert.Reference9Ideal.Value.run (F := Ideal) m g)

theorem frame_ref10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0) :=
  (θ_run Cert.Reference10Ideal.defs _ _).mono (fun r h => ⟨fun c => (h c).2.2, Idealize.ShloMosaic.sem_eq_zero_of_no_sems (by decide) r.2⟩)
    (Cert.Reference10Ideal.Value.run (F := Ideal) m g)

theorem frame_ref11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono (fun r h => ⟨fun c => (h c).2, Idealize.ShloMosaic.sem_eq_zero_of_no_sems (by decide) r.2⟩)
    (Cert.Reference11Ideal.Value.run (F := Ideal) m g)

theorem frame_ref12 (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run Cert.Reference12Ideal.defs _ _).mono (fun r h => ⟨fun c => (h c).2, Idealize.ShloMosaic.sem_eq_zero_of_no_sems (by decide) r.2⟩)
    (Cert.Reference12Ideal.Value.run (F := Ideal) m g)

theorem frame_ref13 (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run Cert.Reference13Ideal.defs _ _).mono (fun r h => ⟨fun c => (h c).2, Idealize.ShloMosaic.sem_eq_zero_of_no_sems (by decide) r.2⟩)
    (Cert.Reference13Ideal.Value.run (F := Ideal) m g)

theorem frame_ref14 (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0) :=
  (θ_run Cert.Reference14Ideal.defs _ _).mono (fun r h => ⟨fun c => (h c).2, Idealize.ShloMosaic.sem_eq_zero_of_no_sems (by decide) r.2⟩)
    (Cert.Reference14Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.Att.facts,
  fun m ρ _ => Cert.Kernel.Att.frame_run m ρ, fun m ρ _ => Cert.KernelIdeal.Att.frame_run m ρ, fun m ρ _ => Cert.KernelIdeal.Att.frame_run m ρ,
  fun m ρ _ => frame_ref m ρ, fun m ρ _ => frame_ref m ρ,
  fun m ρ _ => Cert.Kernel2.Gen.frame m ρ, fun m ρ _ => Cert.Kernel2Ideal.Gen.frame m ρ, fun m ρ _ => frame_ref2 m ρ,
  fun m ρ _ => Cert.Kernel3.Gen.frame m ρ, fun m ρ _ => Cert.Kernel3Ideal.Gen.frame m ρ, fun m ρ _ => frame_ref3 m ρ,
  fun m ρ _ => Cert.Kernel4.Gen.frame m ρ, fun m ρ _ => Cert.Kernel4Ideal.Gen.frame m ρ, fun m ρ _ => frame_ref4 m ρ,
  fun m ρ _ => Cert.Kernel5.Gen.frame m ρ, fun m ρ _ => Cert.Kernel5Ideal.Gen.frame m ρ, fun m ρ _ => frame_ref5 m ρ,
  fun m ρ _ => Cert.Kernel6.Gen.frame m ρ, fun m ρ _ => Cert.Kernel6Ideal.Gen.frame m ρ, fun m ρ _ => frame_ref6 m ρ,
  fun m ρ _ => Cert.Kernel7.Gen.frame m ρ, fun m ρ _ => Cert.Kernel7Ideal.Gen.frame m ρ, fun m ρ _ => frame_ref7 m ρ,
  fun m ρ _ => Cert.Kernel8.Gen.frame m ρ, fun m ρ _ => Cert.Kernel8Ideal.Gen.frame m ρ, fun m ρ _ => frame_ref8 m ρ,
  fun m ρ _ => Cert.Kernel9.Gen.frame m ρ, fun m ρ _ => Cert.Kernel9Ideal.Gen.frame m ρ, fun m ρ _ => frame_ref9 m ρ,
  fun m ρ _ => Cert.Kernel10.Gen.frame m ρ, fun m ρ _ => Cert.Kernel10Ideal.Gen.frame m ρ, fun m ρ _ => frame_ref10 m ρ,
  fun m ρ _ => Cert.Kernel11.Gen.frame m ρ, fun m ρ _ => Cert.Kernel11Ideal.Gen.frame m ρ, fun m ρ _ => frame_ref11 m ρ,
  fun m ρ _ => Cert.Kernel12.Gen.frame m ρ, fun m ρ _ => Cert.Kernel12Ideal.Gen.frame m ρ, fun m ρ _ => frame_ref12 m ρ,
  fun m ρ _ => Cert.Kernel13.Gen.frame m ρ, fun m ρ _ => Cert.Kernel13Ideal.Gen.frame m ρ, fun m ρ _ => frame_ref13 m ρ,
  fun m ρ _ => Cert.Kernel14.Gen.frame m ρ, fun m ρ _ => Cert.Kernel14Ideal.Gen.frame m ρ, fun m ρ _ => frame_ref14 m ρ,
  Idealize.ShloMosaic.IdealRules.named_const.statement Cert.KernelIdeal.κ "mask" .f32 0xF149F2CA#32 ⊥ rfl, Cert.Proof.value,
  trivial, Cert.Proof.value2,
  trivial, Cert.Proof.value3,
  trivial, Cert.Proof.value4,
  trivial, Cert.Proof.value5,
  trivial, Cert.Proof.value6,
  trivial, Cert.Proof.value7,
  trivial, Cert.Proof.value8,
  trivial, Cert.Proof.value9,
  trivial, Cert.Proof.value10,
  trivial, Cert.Proof.value11,
  trivial, Cert.Proof.value12,
  trivial, Cert.Proof.value13,
  trivial, Cert.Proof.value14⟩

end Cert.Proof

end
